-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_KernelPA (m : (ℓ : Loc Cert.KernelPA.nD Cert.KernelPA.τ Cert.KernelPA.sig) → Buf (Elt Bits) ℓ) : Prop :=
  True

def Pre_KernelPAIdeal (m : (ℓ : Loc Cert.KernelPAIdeal.nD Cert.KernelPAIdeal.τ Cert.KernelPAIdeal.sig) → Buf (Elt Ideal) ℓ) : Prop :=
  True

def Pre_ReferencePAIdeal (m : (ℓ : Loc Cert.ReferencePAIdeal.nD Cert.ReferencePAIdeal.τ Cert.ReferencePAIdeal.sig) → Buf (Elt Ideal) ℓ) : Prop :=
  True

def Pre_KernelPB (m : (ℓ : Loc Cert.KernelPB.nD Cert.KernelPB.τ Cert.KernelPB.sig) → Buf (Elt Bits) ℓ) : Prop :=
  True

def Pre_KernelPBIdeal (m : (ℓ : Loc Cert.KernelPBIdeal.nD Cert.KernelPBIdeal.τ Cert.KernelPBIdeal.sig) → Buf (Elt Ideal) ℓ) : Prop :=
  True

def Pre_ReferencePBIdeal (m : (ℓ : Loc Cert.ReferencePBIdeal.nD Cert.ReferencePBIdeal.τ Cert.ReferencePBIdeal.sig) → Buf (Elt Ideal) ℓ) : Prop :=
  True

def Pre_KernelPC (m : (ℓ : Loc Cert.KernelPC.nD Cert.KernelPC.τ Cert.KernelPC.sig) → Buf (Elt Bits) ℓ) : Prop :=
  True

def Pre_KernelPCIdeal (m : (ℓ : Loc Cert.KernelPCIdeal.nD Cert.KernelPCIdeal.τ Cert.KernelPCIdeal.sig) → Buf (Elt Ideal) ℓ) : Prop :=
  True

def Pre_ReferencePCIdeal (m : (ℓ : Loc Cert.ReferencePCIdeal.nD Cert.ReferencePCIdeal.τ Cert.ReferencePCIdeal.sig) → Buf (Elt Ideal) ℓ) : Prop :=
  True

def Pre_KernelPG (m : (ℓ : Loc Cert.KernelPG.nD Cert.KernelPG.τ Cert.KernelPG.sig) → Buf (Elt Bits) ℓ) : Prop :=
  True

def Pre_KernelPGIdeal (m : (ℓ : Loc Cert.KernelPGIdeal.nD Cert.KernelPGIdeal.τ Cert.KernelPGIdeal.sig) → Buf (Elt Ideal) ℓ) : Prop :=
  True

def Pre_ReferencePGIdeal (m : (ℓ : Loc Cert.ReferencePGIdeal.nD Cert.ReferencePGIdeal.τ Cert.ReferencePGIdeal.sig) → Buf (Elt Ideal) ℓ) : Prop :=
  True

def Pre_KernelM (m : (ℓ : Loc Cert.KernelM.nD Cert.KernelM.τ Cert.KernelM.sig) → Buf (Elt Bits) ℓ) : Prop :=
  True

def Pre_KernelMIdeal (m : (ℓ : Loc Cert.KernelMIdeal.nD Cert.KernelMIdeal.τ Cert.KernelMIdeal.sig) → Buf (Elt Ideal) ℓ) : Prop :=
  True

def Pre_ReferenceMIdeal (m : (ℓ : Loc Cert.ReferenceMIdeal.nD Cert.ReferenceMIdeal.τ Cert.ReferenceMIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelD (m : (ℓ : Loc Cert.KernelD.nD Cert.KernelD.τ Cert.KernelD.sig) → Buf (Elt Bits) ℓ) : Prop :=
  True

def Pre_KernelDIdeal (m : (ℓ : Loc Cert.KernelDIdeal.nD Cert.KernelDIdeal.τ Cert.KernelDIdeal.sig) → Buf (Elt Ideal) ℓ) : Prop :=
  True

def Pre_ReferenceDIdeal (m : (ℓ : Loc Cert.ReferenceDIdeal.nD Cert.ReferenceDIdeal.τ Cert.ReferenceDIdeal.sig) → Buf (Elt Ideal) ℓ) : Prop :=
  True

def Pre_KernelN (m : (ℓ : Loc Cert.KernelN.nD Cert.KernelN.τ Cert.KernelN.sig) → Buf (Elt Bits) ℓ) : Prop :=
  True

def Pre_KernelNIdeal (m : (ℓ : Loc Cert.KernelNIdeal.nD Cert.KernelNIdeal.τ Cert.KernelNIdeal.sig) → Buf (Elt Ideal) ℓ) : Prop :=
  True

def Pre_ReferenceNIdeal (m : (ℓ : Loc Cert.ReferenceNIdeal.nD Cert.ReferenceNIdeal.τ Cert.ReferenceNIdeal.sig) → Buf (Elt Ideal) ℓ) : Prop :=
  True

def Pre_KernelF (m : (ℓ : Loc Cert.KernelF.nD Cert.KernelF.τ Cert.KernelF.sig) → Buf (Elt Bits) ℓ) : Prop :=
  True

def Pre_KernelFIdeal (m : (ℓ : Loc Cert.KernelFIdeal.nD Cert.KernelFIdeal.τ Cert.KernelFIdeal.sig) → Buf (Elt Ideal) ℓ) : Prop :=
  True

def Pre_ReferenceFIdeal (m : (ℓ : Loc Cert.ReferenceFIdeal.nD Cert.ReferenceFIdeal.τ Cert.ReferenceFIdeal.sig) → Buf (Elt Ideal) ℓ) : Prop :=
  True

def Pre_KernelR (m : (ℓ : Loc Cert.KernelR.nD Cert.KernelR.τ Cert.KernelR.sig) → Buf (Elt Bits) ℓ) : Prop :=
  True

def Pre_KernelRIdeal (m : (ℓ : Loc Cert.KernelRIdeal.nD Cert.KernelRIdeal.τ Cert.KernelRIdeal.sig) → Buf (Elt Ideal) ℓ) : Prop :=
  True

def Pre_ReferenceRIdeal (m : (ℓ : Loc Cert.ReferenceRIdeal.nD Cert.ReferenceRIdeal.τ Cert.ReferenceRIdeal.sig) → Buf (Elt Ideal) ℓ) : Prop :=
  True

def Pre_KernelCA (m : (ℓ : Loc Cert.KernelCA.nD Cert.KernelCA.τ Cert.KernelCA.sig) → Buf (Elt Bits) ℓ) : Prop :=
  True

def Pre_KernelCAIdeal (m : (ℓ : Loc Cert.KernelCAIdeal.nD Cert.KernelCAIdeal.τ Cert.KernelCAIdeal.sig) → Buf (Elt Ideal) ℓ) : Prop :=
  True

def Pre_ReferenceCAIdeal (m : (ℓ : Loc Cert.ReferenceCAIdeal.nD Cert.ReferenceCAIdeal.τ Cert.ReferenceCAIdeal.sig) → Buf (Elt Ideal) ℓ) : Prop :=
  True

def Pre_KernelCC (m : (ℓ : Loc Cert.KernelCC.nD Cert.KernelCC.τ Cert.KernelCC.sig) → Buf (Elt Bits) ℓ) : Prop :=
  True

def Pre_KernelCCIdeal (m : (ℓ : Loc Cert.KernelCCIdeal.nD Cert.KernelCCIdeal.τ Cert.KernelCCIdeal.sig) → Buf (Elt Ideal) ℓ) : Prop :=
  True

def Pre_ReferenceCCIdeal (m : (ℓ : Loc Cert.ReferenceCCIdeal.nD Cert.ReferenceCCIdeal.τ Cert.ReferenceCCIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelPA [hKernelPA : Cert.KernelPA.Facts] : Prop :=
  ∀ (m : (ℓ : Loc Cert.KernelPA.nD Cert.KernelPA.τ Cert.KernelPA.sig) → Buf (Elt Bits) ℓ) (g : Dev Cert.KernelPA.nD → PrngReg), Pre_KernelPA m →
    θ_run (Cert.KernelPA.defs (F := Bits)) (onTc (τ := Cert.KernelPA.τ) (Cert.KernelPA.main (F := Bits))) ⟨m, fun _ => 0, g⟩ (fun r => (∀ c : Dev Cert.KernelPA.nD,
      r.2.mem ((c.tc : Thread Cert.KernelPA.nD Cert.KernelPA.τ).loc Cert.KernelPA.main_arg0) = m ((c.tc : Thread Cert.KernelPA.nD Cert.KernelPA.τ).loc Cert.KernelPA.main_arg0)
      ∧ r.2.mem ((c.tc : Thread Cert.KernelPA.nD Cert.KernelPA.τ).loc Cert.KernelPA.main_arg1) = m ((c.tc : Thread Cert.KernelPA.nD Cert.KernelPA.τ).loc Cert.KernelPA.main_arg1))
      ∧ r.2.sem = fun _ => 0)

def quiescent_KernelPAIdeal [hKernelPAIdeal : Cert.KernelPAIdeal.Facts] : Prop :=
  ∀ (m : (ℓ : Loc Cert.KernelPAIdeal.nD Cert.KernelPAIdeal.τ Cert.KernelPAIdeal.sig) → Buf (Elt Ideal) ℓ) (g : Dev Cert.KernelPAIdeal.nD → PrngReg), Pre_KernelPAIdeal m →
    θ_run (Cert.KernelPAIdeal.defs (F := Ideal)) (onTc (τ := Cert.KernelPAIdeal.τ) (Cert.KernelPAIdeal.main (F := Ideal))) ⟨m, fun _ => 0, g⟩ (fun r => (∀ c : Dev Cert.KernelPAIdeal.nD,
      r.2.mem ((c.tc : Thread Cert.KernelPAIdeal.nD Cert.KernelPAIdeal.τ).loc Cert.KernelPAIdeal.main_arg0) = m ((c.tc : Thread Cert.KernelPAIdeal.nD Cert.KernelPAIdeal.τ).loc Cert.KernelPAIdeal.main_arg0)
      ∧ r.2.mem ((c.tc : Thread Cert.KernelPAIdeal.nD Cert.KernelPAIdeal.τ).loc Cert.KernelPAIdeal.main_arg1) = m ((c.tc : Thread Cert.KernelPAIdeal.nD Cert.KernelPAIdeal.τ).loc Cert.KernelPAIdeal.main_arg1))
      ∧ r.2.sem = fun _ => 0)

def quiescent_ReferencePAIdeal [hReferencePAIdeal : Cert.ReferencePAIdeal.Facts] : Prop :=
  ∀ (m : (ℓ : Loc Cert.ReferencePAIdeal.nD Cert.ReferencePAIdeal.τ Cert.ReferencePAIdeal.sig) → Buf (Elt Ideal) ℓ) (g : Dev Cert.ReferencePAIdeal.nD → PrngReg), Pre_ReferencePAIdeal m →
    θ_run (Cert.ReferencePAIdeal.defs (F := Ideal)) (onTc (τ := Cert.ReferencePAIdeal.τ) (Cert.ReferencePAIdeal.main (F := Ideal))) ⟨m, fun _ => 0, g⟩ (fun r => (∀ c : Dev Cert.ReferencePAIdeal.nD,
      r.2.mem ((c.tc : Thread Cert.ReferencePAIdeal.nD Cert.ReferencePAIdeal.τ).loc Cert.ReferencePAIdeal.main_arg0) = m ((c.tc : Thread Cert.ReferencePAIdeal.nD Cert.ReferencePAIdeal.τ).loc Cert.ReferencePAIdeal.main_arg0)
      ∧ r.2.mem ((c.tc : Thread Cert.ReferencePAIdeal.nD Cert.ReferencePAIdeal.τ).loc Cert.ReferencePAIdeal.main_arg1) = m ((c.tc : Thread Cert.ReferencePAIdeal.nD Cert.ReferencePAIdeal.τ).loc Cert.ReferencePAIdeal.main_arg1))
      ∧ r.2.sem = fun _ => 0)

def quiescent_KernelPB [hKernelPB : Cert.KernelPB.Facts] : Prop :=
  ∀ (m : (ℓ : Loc Cert.KernelPB.nD Cert.KernelPB.τ Cert.KernelPB.sig) → Buf (Elt Bits) ℓ) (g : Dev Cert.KernelPB.nD → PrngReg), Pre_KernelPB m →
    θ_run (Cert.KernelPB.defs (F := Bits)) (onTc (τ := Cert.KernelPB.τ) (Cert.KernelPB.main (F := Bits))) ⟨m, fun _ => 0, g⟩ (fun r => (∀ c : Dev Cert.KernelPB.nD,
      r.2.mem ((c.tc : Thread Cert.KernelPB.nD Cert.KernelPB.τ).loc Cert.KernelPB.main_arg0) = m ((c.tc : Thread Cert.KernelPB.nD Cert.KernelPB.τ).loc Cert.KernelPB.main_arg0)
      ∧ r.2.mem ((c.tc : Thread Cert.KernelPB.nD Cert.KernelPB.τ).loc Cert.KernelPB.main_arg1) = m ((c.tc : Thread Cert.KernelPB.nD Cert.KernelPB.τ).loc Cert.KernelPB.main_arg1))
      ∧ r.2.sem = fun _ => 0)

def quiescent_KernelPBIdeal [hKernelPBIdeal : Cert.KernelPBIdeal.Facts] : Prop :=
  ∀ (m : (ℓ : Loc Cert.KernelPBIdeal.nD Cert.KernelPBIdeal.τ Cert.KernelPBIdeal.sig) → Buf (Elt Ideal) ℓ) (g : Dev Cert.KernelPBIdeal.nD → PrngReg), Pre_KernelPBIdeal m →
    θ_run (Cert.KernelPBIdeal.defs (F := Ideal)) (onTc (τ := Cert.KernelPBIdeal.τ) (Cert.KernelPBIdeal.main (F := Ideal))) ⟨m, fun _ => 0, g⟩ (fun r => (∀ c : Dev Cert.KernelPBIdeal.nD,
      r.2.mem ((c.tc : Thread Cert.KernelPBIdeal.nD Cert.KernelPBIdeal.τ).loc Cert.KernelPBIdeal.main_arg0) = m ((c.tc : Thread Cert.KernelPBIdeal.nD Cert.KernelPBIdeal.τ).loc Cert.KernelPBIdeal.main_arg0)
      ∧ r.2.mem ((c.tc : Thread Cert.KernelPBIdeal.nD Cert.KernelPBIdeal.τ).loc Cert.KernelPBIdeal.main_arg1) = m ((c.tc : Thread Cert.KernelPBIdeal.nD Cert.KernelPBIdeal.τ).loc Cert.KernelPBIdeal.main_arg1))
      ∧ r.2.sem = fun _ => 0)

def quiescent_ReferencePBIdeal [hReferencePBIdeal : Cert.ReferencePBIdeal.Facts] : Prop :=
  ∀ (m : (ℓ : Loc Cert.ReferencePBIdeal.nD Cert.ReferencePBIdeal.τ Cert.ReferencePBIdeal.sig) → Buf (Elt Ideal) ℓ) (g : Dev Cert.ReferencePBIdeal.nD → PrngReg), Pre_ReferencePBIdeal m →
    θ_run (Cert.ReferencePBIdeal.defs (F := Ideal)) (onTc (τ := Cert.ReferencePBIdeal.τ) (Cert.ReferencePBIdeal.main (F := Ideal))) ⟨m, fun _ => 0, g⟩ (fun r => (∀ c : Dev Cert.ReferencePBIdeal.nD,
      r.2.mem ((c.tc : Thread Cert.ReferencePBIdeal.nD Cert.ReferencePBIdeal.τ).loc Cert.ReferencePBIdeal.main_arg0) = m ((c.tc : Thread Cert.ReferencePBIdeal.nD Cert.ReferencePBIdeal.τ).loc Cert.ReferencePBIdeal.main_arg0)
      ∧ r.2.mem ((c.tc : Thread Cert.ReferencePBIdeal.nD Cert.ReferencePBIdeal.τ).loc Cert.ReferencePBIdeal.main_arg1) = m ((c.tc : Thread Cert.ReferencePBIdeal.nD Cert.ReferencePBIdeal.τ).loc Cert.ReferencePBIdeal.main_arg1))
      ∧ r.2.sem = fun _ => 0)

def quiescent_KernelPC [hKernelPC : Cert.KernelPC.Facts] : Prop :=
  ∀ (m : (ℓ : Loc Cert.KernelPC.nD Cert.KernelPC.τ Cert.KernelPC.sig) → Buf (Elt Bits) ℓ) (g : Dev Cert.KernelPC.nD → PrngReg), Pre_KernelPC m →
    θ_run (Cert.KernelPC.defs (F := Bits)) (onTc (τ := Cert.KernelPC.τ) (Cert.KernelPC.main (F := Bits))) ⟨m, fun _ => 0, g⟩ (fun r => (∀ c : Dev Cert.KernelPC.nD,
      r.2.mem ((c.tc : Thread Cert.KernelPC.nD Cert.KernelPC.τ).loc Cert.KernelPC.main_arg0) = m ((c.tc : Thread Cert.KernelPC.nD Cert.KernelPC.τ).loc Cert.KernelPC.main_arg0)
      ∧ r.2.mem ((c.tc : Thread Cert.KernelPC.nD Cert.KernelPC.τ).loc Cert.KernelPC.main_arg1) = m ((c.tc : Thread Cert.KernelPC.nD Cert.KernelPC.τ).loc Cert.KernelPC.main_arg1))
      ∧ r.2.sem = fun _ => 0)

def quiescent_KernelPCIdeal [hKernelPCIdeal : Cert.KernelPCIdeal.Facts] : Prop :=
  ∀ (m : (ℓ : Loc Cert.KernelPCIdeal.nD Cert.KernelPCIdeal.τ Cert.KernelPCIdeal.sig) → Buf (Elt Ideal) ℓ) (g : Dev Cert.KernelPCIdeal.nD → PrngReg), Pre_KernelPCIdeal m →
    θ_run (Cert.KernelPCIdeal.defs (F := Ideal)) (onTc (τ := Cert.KernelPCIdeal.τ) (Cert.KernelPCIdeal.main (F := Ideal))) ⟨m, fun _ => 0, g⟩ (fun r => (∀ c : Dev Cert.KernelPCIdeal.nD,
      r.2.mem ((c.tc : Thread Cert.KernelPCIdeal.nD Cert.KernelPCIdeal.τ).loc Cert.KernelPCIdeal.main_arg0) = m ((c.tc : Thread Cert.KernelPCIdeal.nD Cert.KernelPCIdeal.τ).loc Cert.KernelPCIdeal.main_arg0)
      ∧ r.2.mem ((c.tc : Thread Cert.KernelPCIdeal.nD Cert.KernelPCIdeal.τ).loc Cert.KernelPCIdeal.main_arg1) = m ((c.tc : Thread Cert.KernelPCIdeal.nD Cert.KernelPCIdeal.τ).loc Cert.KernelPCIdeal.main_arg1))
      ∧ r.2.sem = fun _ => 0)

def quiescent_ReferencePCIdeal [hReferencePCIdeal : Cert.ReferencePCIdeal.Facts] : Prop :=
  ∀ (m : (ℓ : Loc Cert.ReferencePCIdeal.nD Cert.ReferencePCIdeal.τ Cert.ReferencePCIdeal.sig) → Buf (Elt Ideal) ℓ) (g : Dev Cert.ReferencePCIdeal.nD → PrngReg), Pre_ReferencePCIdeal m →
    θ_run (Cert.ReferencePCIdeal.defs (F := Ideal)) (onTc (τ := Cert.ReferencePCIdeal.τ) (Cert.ReferencePCIdeal.main (F := Ideal))) ⟨m, fun _ => 0, g⟩ (fun r => (∀ c : Dev Cert.ReferencePCIdeal.nD,
      r.2.mem ((c.tc : Thread Cert.ReferencePCIdeal.nD Cert.ReferencePCIdeal.τ).loc Cert.ReferencePCIdeal.main_arg0) = m ((c.tc : Thread Cert.ReferencePCIdeal.nD Cert.ReferencePCIdeal.τ).loc Cert.ReferencePCIdeal.main_arg0)
      ∧ r.2.mem ((c.tc : Thread Cert.ReferencePCIdeal.nD Cert.ReferencePCIdeal.τ).loc Cert.ReferencePCIdeal.main_arg1) = m ((c.tc : Thread Cert.ReferencePCIdeal.nD Cert.ReferencePCIdeal.τ).loc Cert.ReferencePCIdeal.main_arg1))
      ∧ r.2.sem = fun _ => 0)

def quiescent_KernelPG [hKernelPG : Cert.KernelPG.Facts] : Prop :=
  ∀ (m : (ℓ : Loc Cert.KernelPG.nD Cert.KernelPG.τ Cert.KernelPG.sig) → Buf (Elt Bits) ℓ) (g : Dev Cert.KernelPG.nD → PrngReg), Pre_KernelPG m →
    θ_run (Cert.KernelPG.defs (F := Bits)) (onTc (τ := Cert.KernelPG.τ) (Cert.KernelPG.main (F := Bits))) ⟨m, fun _ => 0, g⟩ (fun r => (∀ c : Dev Cert.KernelPG.nD,
      r.2.mem ((c.tc : Thread Cert.KernelPG.nD Cert.KernelPG.τ).loc Cert.KernelPG.main_arg0) = m ((c.tc : Thread Cert.KernelPG.nD Cert.KernelPG.τ).loc Cert.KernelPG.main_arg0)
      ∧ r.2.mem ((c.tc : Thread Cert.KernelPG.nD Cert.KernelPG.τ).loc Cert.KernelPG.main_arg1) = m ((c.tc : Thread Cert.KernelPG.nD Cert.KernelPG.τ).loc Cert.KernelPG.main_arg1))
      ∧ r.2.sem = fun _ => 0)

def quiescent_KernelPGIdeal [hKernelPGIdeal : Cert.KernelPGIdeal.Facts] : Prop :=
  ∀ (m : (ℓ : Loc Cert.KernelPGIdeal.nD Cert.KernelPGIdeal.τ Cert.KernelPGIdeal.sig) → Buf (Elt Ideal) ℓ) (g : Dev Cert.KernelPGIdeal.nD → PrngReg), Pre_KernelPGIdeal m →
    θ_run (Cert.KernelPGIdeal.defs (F := Ideal)) (onTc (τ := Cert.KernelPGIdeal.τ) (Cert.KernelPGIdeal.main (F := Ideal))) ⟨m, fun _ => 0, g⟩ (fun r => (∀ c : Dev Cert.KernelPGIdeal.nD,
      r.2.mem ((c.tc : Thread Cert.KernelPGIdeal.nD Cert.KernelPGIdeal.τ).loc Cert.KernelPGIdeal.main_arg0) = m ((c.tc : Thread Cert.KernelPGIdeal.nD Cert.KernelPGIdeal.τ).loc Cert.KernelPGIdeal.main_arg0)
      ∧ r.2.mem ((c.tc : Thread Cert.KernelPGIdeal.nD Cert.KernelPGIdeal.τ).loc Cert.KernelPGIdeal.main_arg1) = m ((c.tc : Thread Cert.KernelPGIdeal.nD Cert.KernelPGIdeal.τ).loc Cert.KernelPGIdeal.main_arg1))
      ∧ r.2.sem = fun _ => 0)

def quiescent_ReferencePGIdeal [hReferencePGIdeal : Cert.ReferencePGIdeal.Facts] : Prop :=
  ∀ (m : (ℓ : Loc Cert.ReferencePGIdeal.nD Cert.ReferencePGIdeal.τ Cert.ReferencePGIdeal.sig) → Buf (Elt Ideal) ℓ) (g : Dev Cert.ReferencePGIdeal.nD → PrngReg), Pre_ReferencePGIdeal m →
    θ_run (Cert.ReferencePGIdeal.defs (F := Ideal)) (onTc (τ := Cert.ReferencePGIdeal.τ) (Cert.ReferencePGIdeal.main (F := Ideal))) ⟨m, fun _ => 0, g⟩ (fun r => (∀ c : Dev Cert.ReferencePGIdeal.nD,
      r.2.mem ((c.tc : Thread Cert.ReferencePGIdeal.nD Cert.ReferencePGIdeal.τ).loc Cert.ReferencePGIdeal.main_arg0) = m ((c.tc : Thread Cert.ReferencePGIdeal.nD Cert.ReferencePGIdeal.τ).loc Cert.ReferencePGIdeal.main_arg0)
      ∧ r.2.mem ((c.tc : Thread Cert.ReferencePGIdeal.nD Cert.ReferencePGIdeal.τ).loc Cert.ReferencePGIdeal.main_arg1) = m ((c.tc : Thread Cert.ReferencePGIdeal.nD Cert.ReferencePGIdeal.τ).loc Cert.ReferencePGIdeal.main_arg1))
      ∧ r.2.sem = fun _ => 0)

def quiescent_KernelM [hKernelM : Cert.KernelM.Facts] : Prop :=
  ∀ (m : (ℓ : Loc Cert.KernelM.nD Cert.KernelM.τ Cert.KernelM.sig) → Buf (Elt Bits) ℓ) (g : Dev Cert.KernelM.nD → PrngReg), Pre_KernelM m →
    θ_run (Cert.KernelM.defs (F := Bits)) (onTc (τ := Cert.KernelM.τ) (Cert.KernelM.main (F := Bits))) ⟨m, fun _ => 0, g⟩ (fun r => (∀ c : Dev Cert.KernelM.nD,
      r.2.mem ((c.tc : Thread Cert.KernelM.nD Cert.KernelM.τ).loc Cert.KernelM.main_arg0) = m ((c.tc : Thread Cert.KernelM.nD Cert.KernelM.τ).loc Cert.KernelM.main_arg0)
      ∧ r.2.mem ((c.tc : Thread Cert.KernelM.nD Cert.KernelM.τ).loc Cert.KernelM.main_arg1) = m ((c.tc : Thread Cert.KernelM.nD Cert.KernelM.τ).loc Cert.KernelM.main_arg1)
      ∧ r.2.mem ((c.tc : Thread Cert.KernelM.nD Cert.KernelM.τ).loc Cert.KernelM.main_arg2) = m ((c.tc : Thread Cert.KernelM.nD Cert.KernelM.τ).loc Cert.KernelM.main_arg2)
      ∧ r.2.mem ((c.tc : Thread Cert.KernelM.nD Cert.KernelM.τ).loc Cert.KernelM.main_arg3) = m ((c.tc : Thread Cert.KernelM.nD Cert.KernelM.τ).loc Cert.KernelM.main_arg3)
      ∧ r.2.mem ((c.tc : Thread Cert.KernelM.nD Cert.KernelM.τ).loc Cert.KernelM.main_arg4) = m ((c.tc : Thread Cert.KernelM.nD Cert.KernelM.τ).loc Cert.KernelM.main_arg4)
      ∧ r.2.mem ((c.tc : Thread Cert.KernelM.nD Cert.KernelM.τ).loc Cert.KernelM.main_arg5) = m ((c.tc : Thread Cert.KernelM.nD Cert.KernelM.τ).loc Cert.KernelM.main_arg5)
      ∧ r.2.mem ((c.tc : Thread Cert.KernelM.nD Cert.KernelM.τ).loc Cert.KernelM.main_arg6) = m ((c.tc : Thread Cert.KernelM.nD Cert.KernelM.τ).loc Cert.KernelM.main_arg6))
      ∧ r.2.sem = fun _ => 0)

def quiescent_KernelMIdeal [hKernelMIdeal : Cert.KernelMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg), Pre_KernelMIdeal m →
    θ_run (Cert.KernelMIdeal.defs (F := Ideal)) (onTc (τ := Cert.KernelMIdeal.τ) (Cert.KernelMIdeal.main (F := Ideal))) ⟨m, fun _ => 0, g⟩ (fun r => (∀ c : Dev Cert.KernelMIdeal.nD,
      r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
      ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
      ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
      ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
      ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4)
      ∧ r.2.mem ((c.tc : Thread Cert.KernelMIdeal.nD Cert.KernelMIdeal.τ).loc Cert.KernelMIdeal.main_arg5) = m ((c.tc : Thread Cert.KernelMIdeal.nD Cert.KernelMIdeal.τ).loc Cert.KernelMIdeal.main_arg5)
      ∧ r.2.mem ((c.tc : Thread Cert.KernelMIdeal.nD Cert.KernelMIdeal.τ).loc Cert.KernelMIdeal.main_arg6) = m ((c.tc : Thread Cert.KernelMIdeal.nD Cert.KernelMIdeal.τ).loc Cert.KernelMIdeal.main_arg6))
      ∧ r.2.sem = fun _ => 0)

def quiescent_ReferenceMIdeal [hReferenceMIdeal : Cert.ReferenceMIdeal.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1)
      ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2)
      ∧ r.2.mem ((c.tc : Thread Cert.ReferenceMIdeal.nD Cert.ReferenceMIdeal.τ).loc Cert.ReferenceMIdeal.main_arg3) = m ((c.tc : Thread Cert.ReferenceMIdeal.nD Cert.ReferenceMIdeal.τ).loc Cert.ReferenceMIdeal.main_arg3)
      ∧ r.2.mem ((c.tc : Thread Cert.ReferenceMIdeal.nD Cert.ReferenceMIdeal.τ).loc Cert.ReferenceMIdeal.main_arg4) = m ((c.tc : Thread Cert.ReferenceMIdeal.nD Cert.ReferenceMIdeal.τ).loc Cert.ReferenceMIdeal.main_arg4)
      ∧ r.2.mem ((c.tc : Thread Cert.ReferenceMIdeal.nD Cert.ReferenceMIdeal.τ).loc Cert.ReferenceMIdeal.main_arg5) = m ((c.tc : Thread Cert.ReferenceMIdeal.nD Cert.ReferenceMIdeal.τ).loc Cert.ReferenceMIdeal.main_arg5)
      ∧ r.2.mem ((c.tc : Thread Cert.ReferenceMIdeal.nD Cert.ReferenceMIdeal.τ).loc Cert.ReferenceMIdeal.main_arg6) = m ((c.tc : Thread Cert.ReferenceMIdeal.nD Cert.ReferenceMIdeal.τ).loc Cert.ReferenceMIdeal.main_arg6))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3)
      ∧ r.2.mem ((c.tc : Thread Cert.KernelO.nD Cert.KernelO.τ).loc Cert.KernelO.main_arg4) = m ((c.tc : Thread Cert.KernelO.nD Cert.KernelO.τ).loc Cert.KernelO.main_arg4)
      ∧ r.2.mem ((c.tc : Thread Cert.KernelO.nD Cert.KernelO.τ).loc Cert.KernelO.main_arg5) = m ((c.tc : Thread Cert.KernelO.nD Cert.KernelO.τ).loc Cert.KernelO.main_arg5))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
      ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
      ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3)
      ∧ r.2.mem ((c.tc : Thread Cert.ReferenceOIdeal.nD Cert.ReferenceOIdeal.τ).loc Cert.ReferenceOIdeal.main_arg4) = m ((c.tc : Thread Cert.ReferenceOIdeal.nD Cert.ReferenceOIdeal.τ).loc Cert.ReferenceOIdeal.main_arg4)
      ∧ r.2.mem ((c.tc : Thread Cert.ReferenceOIdeal.nD Cert.ReferenceOIdeal.τ).loc Cert.ReferenceOIdeal.main_arg5) = m ((c.tc : Thread Cert.ReferenceOIdeal.nD Cert.ReferenceOIdeal.τ).loc Cert.ReferenceOIdeal.main_arg5))
      ∧ r.2.sem = fun _ => 0)

def quiescent_KernelD [hKernelD : Cert.KernelD.Facts] : Prop :=
  ∀ (m : (ℓ : Loc Cert.KernelD.nD Cert.KernelD.τ Cert.KernelD.sig) → Buf (Elt Bits) ℓ) (g : Dev Cert.KernelD.nD → PrngReg), Pre_KernelD m →
    θ_run (Cert.KernelD.defs (F := Bits)) (onTc (τ := Cert.KernelD.τ) (Cert.KernelD.main (F := Bits))) ⟨m, fun _ => 0, g⟩ (fun r => (∀ c : Dev Cert.KernelD.nD,
      r.2.mem ((c.tc : Thread Cert.KernelD.nD Cert.KernelD.τ).loc Cert.KernelD.main_arg0) = m ((c.tc : Thread Cert.KernelD.nD Cert.KernelD.τ).loc Cert.KernelD.main_arg0)
      ∧ r.2.mem ((c.tc : Thread Cert.KernelD.nD Cert.KernelD.τ).loc Cert.KernelD.main_arg1) = m ((c.tc : Thread Cert.KernelD.nD Cert.KernelD.τ).loc Cert.KernelD.main_arg1)
      ∧ r.2.mem ((c.tc : Thread Cert.KernelD.nD Cert.KernelD.τ).loc Cert.KernelD.main_arg2) = m ((c.tc : Thread Cert.KernelD.nD Cert.KernelD.τ).loc Cert.KernelD.main_arg2))
      ∧ r.2.sem = fun _ => 0)

def quiescent_KernelDIdeal [hKernelDIdeal : Cert.KernelDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg), Pre_KernelDIdeal m →
    θ_run (Cert.KernelDIdeal.defs (F := Ideal)) (onTc (τ := Cert.KernelDIdeal.τ) (Cert.KernelDIdeal.main (F := Ideal))) ⟨m, fun _ => 0, g⟩ (fun r => (∀ c : Dev Cert.KernelDIdeal.nD,
      r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
      ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
      ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2))
      ∧ r.2.sem = fun _ => 0)

def quiescent_ReferenceDIdeal [hReferenceDIdeal : Cert.ReferenceDIdeal.Facts] : Prop :=
  ∀ (m : (ℓ : Loc Cert.ReferenceDIdeal.nD Cert.ReferenceDIdeal.τ Cert.ReferenceDIdeal.sig) → Buf (Elt Ideal) ℓ) (g : Dev Cert.ReferenceDIdeal.nD → PrngReg), Pre_ReferenceDIdeal m →
    θ_run (Cert.ReferenceDIdeal.defs (F := Ideal)) (onTc (τ := Cert.ReferenceDIdeal.τ) (Cert.ReferenceDIdeal.main (F := Ideal))) ⟨m, fun _ => 0, g⟩ (fun r => (∀ c : Dev Cert.ReferenceDIdeal.nD,
      r.2.mem ((c.tc : Thread Cert.ReferenceDIdeal.nD Cert.ReferenceDIdeal.τ).loc Cert.ReferenceDIdeal.main_arg0) = m ((c.tc : Thread Cert.ReferenceDIdeal.nD Cert.ReferenceDIdeal.τ).loc Cert.ReferenceDIdeal.main_arg0)
      ∧ r.2.mem ((c.tc : Thread Cert.ReferenceDIdeal.nD Cert.ReferenceDIdeal.τ).loc Cert.ReferenceDIdeal.main_arg1) = m ((c.tc : Thread Cert.ReferenceDIdeal.nD Cert.ReferenceDIdeal.τ).loc Cert.ReferenceDIdeal.main_arg1)
      ∧ r.2.mem ((c.tc : Thread Cert.ReferenceDIdeal.nD Cert.ReferenceDIdeal.τ).loc Cert.ReferenceDIdeal.main_arg2) = m ((c.tc : Thread Cert.ReferenceDIdeal.nD Cert.ReferenceDIdeal.τ).loc Cert.ReferenceDIdeal.main_arg2))
      ∧ r.2.sem = fun _ => 0)

def quiescent_KernelN [hKernelN : Cert.KernelN.Facts] : Prop :=
  ∀ (m : (ℓ : Loc Cert.KernelN.nD Cert.KernelN.τ Cert.KernelN.sig) → Buf (Elt Bits) ℓ) (g : Dev Cert.KernelN.nD → PrngReg), Pre_KernelN m →
    θ_run (Cert.KernelN.defs (F := Bits)) (onTc (τ := Cert.KernelN.τ) (Cert.KernelN.main (F := Bits))) ⟨m, fun _ => 0, g⟩ (fun r => (∀ c : Dev Cert.KernelN.nD,
      r.2.mem ((c.tc : Thread Cert.KernelN.nD Cert.KernelN.τ).loc Cert.KernelN.main_arg0) = m ((c.tc : Thread Cert.KernelN.nD Cert.KernelN.τ).loc Cert.KernelN.main_arg0)
      ∧ r.2.mem ((c.tc : Thread Cert.KernelN.nD Cert.KernelN.τ).loc Cert.KernelN.main_arg1) = m ((c.tc : Thread Cert.KernelN.nD Cert.KernelN.τ).loc Cert.KernelN.main_arg1)
      ∧ r.2.mem ((c.tc : Thread Cert.KernelN.nD Cert.KernelN.τ).loc Cert.KernelN.main_arg2) = m ((c.tc : Thread Cert.KernelN.nD Cert.KernelN.τ).loc Cert.KernelN.main_arg2)
      ∧ r.2.mem ((c.tc : Thread Cert.KernelN.nD Cert.KernelN.τ).loc Cert.KernelN.main_arg3) = m ((c.tc : Thread Cert.KernelN.nD Cert.KernelN.τ).loc Cert.KernelN.main_arg3)
      ∧ r.2.mem ((c.tc : Thread Cert.KernelN.nD Cert.KernelN.τ).loc Cert.KernelN.main_arg4) = m ((c.tc : Thread Cert.KernelN.nD Cert.KernelN.τ).loc Cert.KernelN.main_arg4)
      ∧ r.2.mem ((c.tc : Thread Cert.KernelN.nD Cert.KernelN.τ).loc Cert.KernelN.main_arg5) = m ((c.tc : Thread Cert.KernelN.nD Cert.KernelN.τ).loc Cert.KernelN.main_arg5))
      ∧ r.2.sem = fun _ => 0)

def quiescent_KernelNIdeal [hKernelNIdeal : Cert.KernelNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg), Pre_KernelNIdeal m →
    θ_run (Cert.KernelNIdeal.defs (F := Ideal)) (onTc (τ := Cert.KernelNIdeal.τ) (Cert.KernelNIdeal.main (F := Ideal))) ⟨m, fun _ => 0, g⟩ (fun r => (∀ c : Dev Cert.KernelNIdeal.nD,
      r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
      ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1)
      ∧ r.2.mem ((c.tc : Thread Cert.KernelNIdeal.nD Cert.KernelNIdeal.τ).loc Cert.KernelNIdeal.main_arg2) = m ((c.tc : Thread Cert.KernelNIdeal.nD Cert.KernelNIdeal.τ).loc Cert.KernelNIdeal.main_arg2)
      ∧ r.2.mem ((c.tc : Thread Cert.KernelNIdeal.nD Cert.KernelNIdeal.τ).loc Cert.KernelNIdeal.main_arg3) = m ((c.tc : Thread Cert.KernelNIdeal.nD Cert.KernelNIdeal.τ).loc Cert.KernelNIdeal.main_arg3)
      ∧ r.2.mem ((c.tc : Thread Cert.KernelNIdeal.nD Cert.KernelNIdeal.τ).loc Cert.KernelNIdeal.main_arg4) = m ((c.tc : Thread Cert.KernelNIdeal.nD Cert.KernelNIdeal.τ).loc Cert.KernelNIdeal.main_arg4)
      ∧ r.2.mem ((c.tc : Thread Cert.KernelNIdeal.nD Cert.KernelNIdeal.τ).loc Cert.KernelNIdeal.main_arg5) = m ((c.tc : Thread Cert.KernelNIdeal.nD Cert.KernelNIdeal.τ).loc Cert.KernelNIdeal.main_arg5))
      ∧ r.2.sem = fun _ => 0)

def quiescent_ReferenceNIdeal [hReferenceNIdeal : Cert.ReferenceNIdeal.Facts] : Prop :=
  ∀ (m : (ℓ : Loc Cert.ReferenceNIdeal.nD Cert.ReferenceNIdeal.τ Cert.ReferenceNIdeal.sig) → Buf (Elt Ideal) ℓ) (g : Dev Cert.ReferenceNIdeal.nD → PrngReg), Pre_ReferenceNIdeal m →
    θ_run (Cert.ReferenceNIdeal.defs (F := Ideal)) (onTc (τ := Cert.ReferenceNIdeal.τ) (Cert.ReferenceNIdeal.main (F := Ideal))) ⟨m, fun _ => 0, g⟩ (fun r => (∀ c : Dev Cert.ReferenceNIdeal.nD,
      r.2.mem ((c.tc : Thread Cert.ReferenceNIdeal.nD Cert.ReferenceNIdeal.τ).loc Cert.ReferenceNIdeal.main_arg0) = m ((c.tc : Thread Cert.ReferenceNIdeal.nD Cert.ReferenceNIdeal.τ).loc Cert.ReferenceNIdeal.main_arg0)
      ∧ r.2.mem ((c.tc : Thread Cert.ReferenceNIdeal.nD Cert.ReferenceNIdeal.τ).loc Cert.ReferenceNIdeal.main_arg1) = m ((c.tc : Thread Cert.ReferenceNIdeal.nD Cert.ReferenceNIdeal.τ).loc Cert.ReferenceNIdeal.main_arg1)
      ∧ r.2.mem ((c.tc : Thread Cert.ReferenceNIdeal.nD Cert.ReferenceNIdeal.τ).loc Cert.ReferenceNIdeal.main_arg2) = m ((c.tc : Thread Cert.ReferenceNIdeal.nD Cert.ReferenceNIdeal.τ).loc Cert.ReferenceNIdeal.main_arg2)
      ∧ r.2.mem ((c.tc : Thread Cert.ReferenceNIdeal.nD Cert.ReferenceNIdeal.τ).loc Cert.ReferenceNIdeal.main_arg3) = m ((c.tc : Thread Cert.ReferenceNIdeal.nD Cert.ReferenceNIdeal.τ).loc Cert.ReferenceNIdeal.main_arg3)
      ∧ r.2.mem ((c.tc : Thread Cert.ReferenceNIdeal.nD Cert.ReferenceNIdeal.τ).loc Cert.ReferenceNIdeal.main_arg4) = m ((c.tc : Thread Cert.ReferenceNIdeal.nD Cert.ReferenceNIdeal.τ).loc Cert.ReferenceNIdeal.main_arg4)
      ∧ r.2.mem ((c.tc : Thread Cert.ReferenceNIdeal.nD Cert.ReferenceNIdeal.τ).loc Cert.ReferenceNIdeal.main_arg5) = m ((c.tc : Thread Cert.ReferenceNIdeal.nD Cert.ReferenceNIdeal.τ).loc Cert.ReferenceNIdeal.main_arg5))
      ∧ r.2.sem = fun _ => 0)

def quiescent_KernelF [hKernelF : Cert.KernelF.Facts] : Prop :=
  ∀ (m : (ℓ : Loc Cert.KernelF.nD Cert.KernelF.τ Cert.KernelF.sig) → Buf (Elt Bits) ℓ) (g : Dev Cert.KernelF.nD → PrngReg), Pre_KernelF m →
    θ_run (Cert.KernelF.defs (F := Bits)) (onTc (τ := Cert.KernelF.τ) (Cert.KernelF.main (F := Bits))) ⟨m, fun _ => 0, g⟩ (fun r => (∀ c : Dev Cert.KernelF.nD,
      r.2.mem ((c.tc : Thread Cert.KernelF.nD Cert.KernelF.τ).loc Cert.KernelF.main_arg0) = m ((c.tc : Thread Cert.KernelF.nD Cert.KernelF.τ).loc Cert.KernelF.main_arg0)
      ∧ r.2.mem ((c.tc : Thread Cert.KernelF.nD Cert.KernelF.τ).loc Cert.KernelF.main_arg1) = m ((c.tc : Thread Cert.KernelF.nD Cert.KernelF.τ).loc Cert.KernelF.main_arg1)
      ∧ r.2.mem ((c.tc : Thread Cert.KernelF.nD Cert.KernelF.τ).loc Cert.KernelF.main_arg2) = m ((c.tc : Thread Cert.KernelF.nD Cert.KernelF.τ).loc Cert.KernelF.main_arg2)
      ∧ r.2.mem ((c.tc : Thread Cert.KernelF.nD Cert.KernelF.τ).loc Cert.KernelF.main_arg3) = m ((c.tc : Thread Cert.KernelF.nD Cert.KernelF.τ).loc Cert.KernelF.main_arg3)
      ∧ r.2.mem ((c.tc : Thread Cert.KernelF.nD Cert.KernelF.τ).loc Cert.KernelF.main_arg4) = m ((c.tc : Thread Cert.KernelF.nD Cert.KernelF.τ).loc Cert.KernelF.main_arg4))
      ∧ r.2.sem = fun _ => 0)

def quiescent_KernelFIdeal [hKernelFIdeal : Cert.KernelFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
      ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
      ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4))
      ∧ r.2.sem = fun _ => 0)

def quiescent_ReferenceFIdeal [hReferenceFIdeal : Cert.ReferenceFIdeal.Facts] : Prop :=
  ∀ (m : (ℓ : Loc Cert.ReferenceFIdeal.nD Cert.ReferenceFIdeal.τ Cert.ReferenceFIdeal.sig) → Buf (Elt Ideal) ℓ) (g : Dev Cert.ReferenceFIdeal.nD → PrngReg), Pre_ReferenceFIdeal m →
    θ_run (Cert.ReferenceFIdeal.defs (F := Ideal)) (onTc (τ := Cert.ReferenceFIdeal.τ) (Cert.ReferenceFIdeal.main (F := Ideal))) ⟨m, fun _ => 0, g⟩ (fun r => (∀ c : Dev Cert.ReferenceFIdeal.nD,
      r.2.mem ((c.tc : Thread Cert.ReferenceFIdeal.nD Cert.ReferenceFIdeal.τ).loc Cert.ReferenceFIdeal.main_arg0) = m ((c.tc : Thread Cert.ReferenceFIdeal.nD Cert.ReferenceFIdeal.τ).loc Cert.ReferenceFIdeal.main_arg0)
      ∧ r.2.mem ((c.tc : Thread Cert.ReferenceFIdeal.nD Cert.ReferenceFIdeal.τ).loc Cert.ReferenceFIdeal.main_arg1) = m ((c.tc : Thread Cert.ReferenceFIdeal.nD Cert.ReferenceFIdeal.τ).loc Cert.ReferenceFIdeal.main_arg1)
      ∧ r.2.mem ((c.tc : Thread Cert.ReferenceFIdeal.nD Cert.ReferenceFIdeal.τ).loc Cert.ReferenceFIdeal.main_arg2) = m ((c.tc : Thread Cert.ReferenceFIdeal.nD Cert.ReferenceFIdeal.τ).loc Cert.ReferenceFIdeal.main_arg2)
      ∧ r.2.mem ((c.tc : Thread Cert.ReferenceFIdeal.nD Cert.ReferenceFIdeal.τ).loc Cert.ReferenceFIdeal.main_arg3) = m ((c.tc : Thread Cert.ReferenceFIdeal.nD Cert.ReferenceFIdeal.τ).loc Cert.ReferenceFIdeal.main_arg3)
      ∧ r.2.mem ((c.tc : Thread Cert.ReferenceFIdeal.nD Cert.ReferenceFIdeal.τ).loc Cert.ReferenceFIdeal.main_arg4) = m ((c.tc : Thread Cert.ReferenceFIdeal.nD Cert.ReferenceFIdeal.τ).loc Cert.ReferenceFIdeal.main_arg4))
      ∧ r.2.sem = fun _ => 0)

def quiescent_KernelR [hKernelR : Cert.KernelR.Facts] : Prop :=
  ∀ (m : (ℓ : Loc Cert.KernelR.nD Cert.KernelR.τ Cert.KernelR.sig) → Buf (Elt Bits) ℓ) (g : Dev Cert.KernelR.nD → PrngReg), Pre_KernelR m →
    θ_run (Cert.KernelR.defs (F := Bits)) (onTc (τ := Cert.KernelR.τ) (Cert.KernelR.main (F := Bits))) ⟨m, fun _ => 0, g⟩ (fun r => (∀ c : Dev Cert.KernelR.nD,
      r.2.mem ((c.tc : Thread Cert.KernelR.nD Cert.KernelR.τ).loc Cert.KernelR.main_arg0) = m ((c.tc : Thread Cert.KernelR.nD Cert.KernelR.τ).loc Cert.KernelR.main_arg0)
      ∧ r.2.mem ((c.tc : Thread Cert.KernelR.nD Cert.KernelR.τ).loc Cert.KernelR.main_arg1) = m ((c.tc : Thread Cert.KernelR.nD Cert.KernelR.τ).loc Cert.KernelR.main_arg1)
      ∧ r.2.mem ((c.tc : Thread Cert.KernelR.nD Cert.KernelR.τ).loc Cert.KernelR.main_arg2) = m ((c.tc : Thread Cert.KernelR.nD Cert.KernelR.τ).loc Cert.KernelR.main_arg2))
      ∧ r.2.sem = fun _ => 0)

def quiescent_KernelRIdeal [hKernelRIdeal : Cert.KernelRIdeal.Facts] : Prop :=
  ∀ (m : (ℓ : Loc Cert.KernelRIdeal.nD Cert.KernelRIdeal.τ Cert.KernelRIdeal.sig) → Buf (Elt Ideal) ℓ) (g : Dev Cert.KernelRIdeal.nD → PrngReg), Pre_KernelRIdeal m →
    θ_run (Cert.KernelRIdeal.defs (F := Ideal)) (onTc (τ := Cert.KernelRIdeal.τ) (Cert.KernelRIdeal.main (F := Ideal))) ⟨m, fun _ => 0, g⟩ (fun r => (∀ c : Dev Cert.KernelRIdeal.nD,
      r.2.mem ((c.tc : Thread Cert.KernelRIdeal.nD Cert.KernelRIdeal.τ).loc Cert.KernelRIdeal.main_arg0) = m ((c.tc : Thread Cert.KernelRIdeal.nD Cert.KernelRIdeal.τ).loc Cert.KernelRIdeal.main_arg0)
      ∧ r.2.mem ((c.tc : Thread Cert.KernelRIdeal.nD Cert.KernelRIdeal.τ).loc Cert.KernelRIdeal.main_arg1) = m ((c.tc : Thread Cert.KernelRIdeal.nD Cert.KernelRIdeal.τ).loc Cert.KernelRIdeal.main_arg1)
      ∧ r.2.mem ((c.tc : Thread Cert.KernelRIdeal.nD Cert.KernelRIdeal.τ).loc Cert.KernelRIdeal.main_arg2) = m ((c.tc : Thread Cert.KernelRIdeal.nD Cert.KernelRIdeal.τ).loc Cert.KernelRIdeal.main_arg2))
      ∧ r.2.sem = fun _ => 0)

def quiescent_ReferenceRIdeal [hReferenceRIdeal : Cert.ReferenceRIdeal.Facts] : Prop :=
  ∀ (m : (ℓ : Loc Cert.ReferenceRIdeal.nD Cert.ReferenceRIdeal.τ Cert.ReferenceRIdeal.sig) → Buf (Elt Ideal) ℓ) (g : Dev Cert.ReferenceRIdeal.nD → PrngReg), Pre_ReferenceRIdeal m →
    θ_run (Cert.ReferenceRIdeal.defs (F := Ideal)) (onTc (τ := Cert.ReferenceRIdeal.τ) (Cert.ReferenceRIdeal.main (F := Ideal))) ⟨m, fun _ => 0, g⟩ (fun r => (∀ c : Dev Cert.ReferenceRIdeal.nD,
      r.2.mem ((c.tc : Thread Cert.ReferenceRIdeal.nD Cert.ReferenceRIdeal.τ).loc Cert.ReferenceRIdeal.main_arg0) = m ((c.tc : Thread Cert.ReferenceRIdeal.nD Cert.ReferenceRIdeal.τ).loc Cert.ReferenceRIdeal.main_arg0)
      ∧ r.2.mem ((c.tc : Thread Cert.ReferenceRIdeal.nD Cert.ReferenceRIdeal.τ).loc Cert.ReferenceRIdeal.main_arg1) = m ((c.tc : Thread Cert.ReferenceRIdeal.nD Cert.ReferenceRIdeal.τ).loc Cert.ReferenceRIdeal.main_arg1)
      ∧ r.2.mem ((c.tc : Thread Cert.ReferenceRIdeal.nD Cert.ReferenceRIdeal.τ).loc Cert.ReferenceRIdeal.main_arg2) = m ((c.tc : Thread Cert.ReferenceRIdeal.nD Cert.ReferenceRIdeal.τ).loc Cert.ReferenceRIdeal.main_arg2))
      ∧ r.2.sem = fun _ => 0)

def quiescent_KernelCA [hKernelCA : Cert.KernelCA.Facts] : Prop :=
  ∀ (m : (ℓ : Loc Cert.KernelCA.nD Cert.KernelCA.τ Cert.KernelCA.sig) → Buf (Elt Bits) ℓ) (g : Dev Cert.KernelCA.nD → PrngReg), Pre_KernelCA m →
    θ_run (Cert.KernelCA.defs (F := Bits)) (onTc (τ := Cert.KernelCA.τ) (Cert.KernelCA.main (F := Bits))) ⟨m, fun _ => 0, g⟩ (fun r => (∀ c : Dev Cert.KernelCA.nD,
      r.2.mem ((c.tc : Thread Cert.KernelCA.nD Cert.KernelCA.τ).loc Cert.KernelCA.main_arg0) = m ((c.tc : Thread Cert.KernelCA.nD Cert.KernelCA.τ).loc Cert.KernelCA.main_arg0)
      ∧ r.2.mem ((c.tc : Thread Cert.KernelCA.nD Cert.KernelCA.τ).loc Cert.KernelCA.main_arg1) = m ((c.tc : Thread Cert.KernelCA.nD Cert.KernelCA.τ).loc Cert.KernelCA.main_arg1))
      ∧ r.2.sem = fun _ => 0)

def quiescent_KernelCAIdeal [hKernelCAIdeal : Cert.KernelCAIdeal.Facts] : Prop :=
  ∀ (m : (ℓ : Loc Cert.KernelCAIdeal.nD Cert.KernelCAIdeal.τ Cert.KernelCAIdeal.sig) → Buf (Elt Ideal) ℓ) (g : Dev Cert.KernelCAIdeal.nD → PrngReg), Pre_KernelCAIdeal m →
    θ_run (Cert.KernelCAIdeal.defs (F := Ideal)) (onTc (τ := Cert.KernelCAIdeal.τ) (Cert.KernelCAIdeal.main (F := Ideal))) ⟨m, fun _ => 0, g⟩ (fun r => (∀ c : Dev Cert.KernelCAIdeal.nD,
      r.2.mem ((c.tc : Thread Cert.KernelCAIdeal.nD Cert.KernelCAIdeal.τ).loc Cert.KernelCAIdeal.main_arg0) = m ((c.tc : Thread Cert.KernelCAIdeal.nD Cert.KernelCAIdeal.τ).loc Cert.KernelCAIdeal.main_arg0)
      ∧ r.2.mem ((c.tc : Thread Cert.KernelCAIdeal.nD Cert.KernelCAIdeal.τ).loc Cert.KernelCAIdeal.main_arg1) = m ((c.tc : Thread Cert.KernelCAIdeal.nD Cert.KernelCAIdeal.τ).loc Cert.KernelCAIdeal.main_arg1))
      ∧ r.2.sem = fun _ => 0)

def quiescent_ReferenceCAIdeal [hReferenceCAIdeal : Cert.ReferenceCAIdeal.Facts] : Prop :=
  ∀ (m : (ℓ : Loc Cert.ReferenceCAIdeal.nD Cert.ReferenceCAIdeal.τ Cert.ReferenceCAIdeal.sig) → Buf (Elt Ideal) ℓ) (g : Dev Cert.ReferenceCAIdeal.nD → PrngReg), Pre_ReferenceCAIdeal m →
    θ_run (Cert.ReferenceCAIdeal.defs (F := Ideal)) (onTc (τ := Cert.ReferenceCAIdeal.τ) (Cert.ReferenceCAIdeal.main (F := Ideal))) ⟨m, fun _ => 0, g⟩ (fun r => (∀ c : Dev Cert.ReferenceCAIdeal.nD,
      r.2.mem ((c.tc : Thread Cert.ReferenceCAIdeal.nD Cert.ReferenceCAIdeal.τ).loc Cert.ReferenceCAIdeal.main_arg0) = m ((c.tc : Thread Cert.ReferenceCAIdeal.nD Cert.ReferenceCAIdeal.τ).loc Cert.ReferenceCAIdeal.main_arg0)
      ∧ r.2.mem ((c.tc : Thread Cert.ReferenceCAIdeal.nD Cert.ReferenceCAIdeal.τ).loc Cert.ReferenceCAIdeal.main_arg1) = m ((c.tc : Thread Cert.ReferenceCAIdeal.nD Cert.ReferenceCAIdeal.τ).loc Cert.ReferenceCAIdeal.main_arg1))
      ∧ r.2.sem = fun _ => 0)

def quiescent_KernelCC [hKernelCC : Cert.KernelCC.Facts] : Prop :=
  ∀ (m : (ℓ : Loc Cert.KernelCC.nD Cert.KernelCC.τ Cert.KernelCC.sig) → Buf (Elt Bits) ℓ) (g : Dev Cert.KernelCC.nD → PrngReg), Pre_KernelCC m →
    θ_run (Cert.KernelCC.defs (F := Bits)) (onTc (τ := Cert.KernelCC.τ) (Cert.KernelCC.main (F := Bits))) ⟨m, fun _ => 0, g⟩ (fun r => (∀ c : Dev Cert.KernelCC.nD,
      r.2.mem ((c.tc : Thread Cert.KernelCC.nD Cert.KernelCC.τ).loc Cert.KernelCC.main_arg0) = m ((c.tc : Thread Cert.KernelCC.nD Cert.KernelCC.τ).loc Cert.KernelCC.main_arg0)
      ∧ r.2.mem ((c.tc : Thread Cert.KernelCC.nD Cert.KernelCC.τ).loc Cert.KernelCC.main_arg1) = m ((c.tc : Thread Cert.KernelCC.nD Cert.KernelCC.τ).loc Cert.KernelCC.main_arg1)
      ∧ r.2.mem ((c.tc : Thread Cert.KernelCC.nD Cert.KernelCC.τ).loc Cert.KernelCC.main_arg2) = m ((c.tc : Thread Cert.KernelCC.nD Cert.KernelCC.τ).loc Cert.KernelCC.main_arg2))
      ∧ r.2.sem = fun _ => 0)

def quiescent_KernelCCIdeal [hKernelCCIdeal : Cert.KernelCCIdeal.Facts] : Prop :=
  ∀ (m : (ℓ : Loc Cert.KernelCCIdeal.nD Cert.KernelCCIdeal.τ Cert.KernelCCIdeal.sig) → Buf (Elt Ideal) ℓ) (g : Dev Cert.KernelCCIdeal.nD → PrngReg), Pre_KernelCCIdeal m →
    θ_run (Cert.KernelCCIdeal.defs (F := Ideal)) (onTc (τ := Cert.KernelCCIdeal.τ) (Cert.KernelCCIdeal.main (F := Ideal))) ⟨m, fun _ => 0, g⟩ (fun r => (∀ c : Dev Cert.KernelCCIdeal.nD,
      r.2.mem ((c.tc : Thread Cert.KernelCCIdeal.nD Cert.KernelCCIdeal.τ).loc Cert.KernelCCIdeal.main_arg0) = m ((c.tc : Thread Cert.KernelCCIdeal.nD Cert.KernelCCIdeal.τ).loc Cert.KernelCCIdeal.main_arg0)
      ∧ r.2.mem ((c.tc : Thread Cert.KernelCCIdeal.nD Cert.KernelCCIdeal.τ).loc Cert.KernelCCIdeal.main_arg1) = m ((c.tc : Thread Cert.KernelCCIdeal.nD Cert.KernelCCIdeal.τ).loc Cert.KernelCCIdeal.main_arg1)
      ∧ r.2.mem ((c.tc : Thread Cert.KernelCCIdeal.nD Cert.KernelCCIdeal.τ).loc Cert.KernelCCIdeal.main_arg2) = m ((c.tc : Thread Cert.KernelCCIdeal.nD Cert.KernelCCIdeal.τ).loc Cert.KernelCCIdeal.main_arg2))
      ∧ r.2.sem = fun _ => 0)

def quiescent_ReferenceCCIdeal [hReferenceCCIdeal : Cert.ReferenceCCIdeal.Facts] : Prop :=
  ∀ (m : (ℓ : Loc Cert.ReferenceCCIdeal.nD Cert.ReferenceCCIdeal.τ Cert.ReferenceCCIdeal.sig) → Buf (Elt Ideal) ℓ) (g : Dev Cert.ReferenceCCIdeal.nD → PrngReg), Pre_ReferenceCCIdeal m →
    θ_run (Cert.ReferenceCCIdeal.defs (F := Ideal)) (onTc (τ := Cert.ReferenceCCIdeal.τ) (Cert.ReferenceCCIdeal.main (F := Ideal))) ⟨m, fun _ => 0, g⟩ (fun r => (∀ c : Dev Cert.ReferenceCCIdeal.nD,
      r.2.mem ((c.tc : Thread Cert.ReferenceCCIdeal.nD Cert.ReferenceCCIdeal.τ).loc Cert.ReferenceCCIdeal.main_arg0) = m ((c.tc : Thread Cert.ReferenceCCIdeal.nD Cert.ReferenceCCIdeal.τ).loc Cert.ReferenceCCIdeal.main_arg0)
      ∧ r.2.mem ((c.tc : Thread Cert.ReferenceCCIdeal.nD Cert.ReferenceCCIdeal.τ).loc Cert.ReferenceCCIdeal.main_arg1) = m ((c.tc : Thread Cert.ReferenceCCIdeal.nD Cert.ReferenceCCIdeal.τ).loc Cert.ReferenceCCIdeal.main_arg1)
      ∧ r.2.mem ((c.tc : Thread Cert.ReferenceCCIdeal.nD Cert.ReferenceCCIdeal.τ).loc Cert.ReferenceCCIdeal.main_arg2) = m ((c.tc : Thread Cert.ReferenceCCIdeal.nD Cert.ReferenceCCIdeal.τ).loc Cert.ReferenceCCIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelPA_KernelPAIdeal : Prop :=
  True

def algebraic_KernelPAIdeal_ReferencePAIdeal [hKernelPAIdeal : Cert.KernelPAIdeal.Facts] [hReferencePAIdeal : Cert.ReferencePAIdeal.Facts] : Prop :=
  ∀ (m : (ℓ : Loc Cert.KernelPAIdeal.nD Cert.KernelPAIdeal.τ Cert.KernelPAIdeal.sig) → Buf (Elt Ideal) ℓ) (g : Dev Cert.KernelPAIdeal.nD → PrngReg)
    (m' : (ℓ : Loc Cert.ReferencePAIdeal.nD Cert.ReferencePAIdeal.τ Cert.ReferencePAIdeal.sig) → Buf (Elt Ideal) ℓ) (g' : Dev Cert.ReferencePAIdeal.nD → PrngReg), Pre_KernelPAIdeal m →
    (∀ c : Dev Cert.KernelPAIdeal.nD,
      m' ((c.tc : Thread Cert.ReferencePAIdeal.nD Cert.ReferencePAIdeal.τ).loc Cert.ReferencePAIdeal.main_arg0) = m ((c.tc : Thread Cert.KernelPAIdeal.nD Cert.KernelPAIdeal.τ).loc Cert.KernelPAIdeal.main_arg0)
      ∧ m' ((c.tc : Thread Cert.ReferencePAIdeal.nD Cert.ReferencePAIdeal.τ).loc Cert.ReferencePAIdeal.main_arg1) = m ((c.tc : Thread Cert.KernelPAIdeal.nD Cert.KernelPAIdeal.τ).loc Cert.KernelPAIdeal.main_arg1)) →
    ∃ (v0 : (c : Dev Cert.KernelPAIdeal.nD) → Buf (Elt Ideal) ((c.tc : Thread Cert.KernelPAIdeal.nD Cert.KernelPAIdeal.τ).loc Cert.KernelPAIdeal.main_v5)),
      θ_run (Cert.KernelPAIdeal.defs (F := Ideal)) (onTc (τ := Cert.KernelPAIdeal.τ) (Cert.KernelPAIdeal.main (F := Ideal))) ⟨m, fun _ => 0, g⟩ (fun r => ∀ c : Dev Cert.KernelPAIdeal.nD,
          r.2.mem ((c.tc : Thread Cert.KernelPAIdeal.nD Cert.KernelPAIdeal.τ).loc Cert.KernelPAIdeal.main_v5) = v0 c
          ∧ r.2.mem ((c.tc : Thread Cert.KernelPAIdeal.nD Cert.KernelPAIdeal.τ).loc Cert.KernelPAIdeal.main_arg0) = m ((c.tc : Thread Cert.KernelPAIdeal.nD Cert.KernelPAIdeal.τ).loc Cert.KernelPAIdeal.main_arg0)
          ∧ r.2.mem ((c.tc : Thread Cert.KernelPAIdeal.nD Cert.KernelPAIdeal.τ).loc Cert.KernelPAIdeal.main_arg1) = m ((c.tc : Thread Cert.KernelPAIdeal.nD Cert.KernelPAIdeal.τ).loc Cert.KernelPAIdeal.main_arg1))
      ∧ θ_run (Cert.ReferencePAIdeal.defs (F := Ideal)) (onTc (τ := Cert.ReferencePAIdeal.τ) (Cert.ReferencePAIdeal.main (F := Ideal))) ⟨m', fun _ => 0, g'⟩ (fun r => ∀ c : Dev Cert.ReferencePAIdeal.nD,
          r.2.mem ((c.tc : Thread Cert.ReferencePAIdeal.nD Cert.ReferencePAIdeal.τ).loc Cert.ReferencePAIdeal.main_v5) = v0 c
          ∧ r.2.mem ((c.tc : Thread Cert.ReferencePAIdeal.nD Cert.ReferencePAIdeal.τ).loc Cert.ReferencePAIdeal.main_arg0) = m' ((c.tc : Thread Cert.ReferencePAIdeal.nD Cert.ReferencePAIdeal.τ).loc Cert.ReferencePAIdeal.main_arg0)
          ∧ r.2.mem ((c.tc : Thread Cert.ReferencePAIdeal.nD Cert.ReferencePAIdeal.τ).loc Cert.ReferencePAIdeal.main_arg1) = m' ((c.tc : Thread Cert.ReferencePAIdeal.nD Cert.ReferencePAIdeal.τ).loc Cert.ReferencePAIdeal.main_arg1))

def preserves_KernelPB_KernelPBIdeal : Prop :=
  True

def algebraic_KernelPBIdeal_ReferencePBIdeal [hKernelPBIdeal : Cert.KernelPBIdeal.Facts] [hReferencePBIdeal : Cert.ReferencePBIdeal.Facts] : Prop :=
  ∀ (m : (ℓ : Loc Cert.KernelPBIdeal.nD Cert.KernelPBIdeal.τ Cert.KernelPBIdeal.sig) → Buf (Elt Ideal) ℓ) (g : Dev Cert.KernelPBIdeal.nD → PrngReg)
    (m' : (ℓ : Loc Cert.ReferencePBIdeal.nD Cert.ReferencePBIdeal.τ Cert.ReferencePBIdeal.sig) → Buf (Elt Ideal) ℓ) (g' : Dev Cert.ReferencePBIdeal.nD → PrngReg), Pre_KernelPBIdeal m →
    (∀ c : Dev Cert.KernelPBIdeal.nD,
      m' ((c.tc : Thread Cert.ReferencePBIdeal.nD Cert.ReferencePBIdeal.τ).loc Cert.ReferencePBIdeal.main_arg0) = m ((c.tc : Thread Cert.KernelPBIdeal.nD Cert.KernelPBIdeal.τ).loc Cert.KernelPBIdeal.main_arg0)
      ∧ m' ((c.tc : Thread Cert.ReferencePBIdeal.nD Cert.ReferencePBIdeal.τ).loc Cert.ReferencePBIdeal.main_arg1) = m ((c.tc : Thread Cert.KernelPBIdeal.nD Cert.KernelPBIdeal.τ).loc Cert.KernelPBIdeal.main_arg1)) →
    ∃ (v0 : (c : Dev Cert.KernelPBIdeal.nD) → Buf (Elt Ideal) ((c.tc : Thread Cert.KernelPBIdeal.nD Cert.KernelPBIdeal.τ).loc Cert.KernelPBIdeal.main_v2)),
      θ_run (Cert.KernelPBIdeal.defs (F := Ideal)) (onTc (τ := Cert.KernelPBIdeal.τ) (Cert.KernelPBIdeal.main (F := Ideal))) ⟨m, fun _ => 0, g⟩ (fun r => ∀ c : Dev Cert.KernelPBIdeal.nD,
          r.2.mem ((c.tc : Thread Cert.KernelPBIdeal.nD Cert.KernelPBIdeal.τ).loc Cert.KernelPBIdeal.main_v2) = v0 c
          ∧ r.2.mem ((c.tc : Thread Cert.KernelPBIdeal.nD Cert.KernelPBIdeal.τ).loc Cert.KernelPBIdeal.main_arg0) = m ((c.tc : Thread Cert.KernelPBIdeal.nD Cert.KernelPBIdeal.τ).loc Cert.KernelPBIdeal.main_arg0)
          ∧ r.2.mem ((c.tc : Thread Cert.KernelPBIdeal.nD Cert.KernelPBIdeal.τ).loc Cert.KernelPBIdeal.main_arg1) = m ((c.tc : Thread Cert.KernelPBIdeal.nD Cert.KernelPBIdeal.τ).loc Cert.KernelPBIdeal.main_arg1))
      ∧ θ_run (Cert.ReferencePBIdeal.defs (F := Ideal)) (onTc (τ := Cert.ReferencePBIdeal.τ) (Cert.ReferencePBIdeal.main (F := Ideal))) ⟨m', fun _ => 0, g'⟩ (fun r => ∀ c : Dev Cert.ReferencePBIdeal.nD,
          r.2.mem ((c.tc : Thread Cert.ReferencePBIdeal.nD Cert.ReferencePBIdeal.τ).loc Cert.ReferencePBIdeal.main_v2) = v0 c
          ∧ r.2.mem ((c.tc : Thread Cert.ReferencePBIdeal.nD Cert.ReferencePBIdeal.τ).loc Cert.ReferencePBIdeal.main_arg0) = m' ((c.tc : Thread Cert.ReferencePBIdeal.nD Cert.ReferencePBIdeal.τ).loc Cert.ReferencePBIdeal.main_arg0)
          ∧ r.2.mem ((c.tc : Thread Cert.ReferencePBIdeal.nD Cert.ReferencePBIdeal.τ).loc Cert.ReferencePBIdeal.main_arg1) = m' ((c.tc : Thread Cert.ReferencePBIdeal.nD Cert.ReferencePBIdeal.τ).loc Cert.ReferencePBIdeal.main_arg1))

def preserves_KernelPC_KernelPCIdeal : Prop :=
  True

def algebraic_KernelPCIdeal_ReferencePCIdeal [hKernelPCIdeal : Cert.KernelPCIdeal.Facts] [hReferencePCIdeal : Cert.ReferencePCIdeal.Facts] : Prop :=
  ∀ (m : (ℓ : Loc Cert.KernelPCIdeal.nD Cert.KernelPCIdeal.τ Cert.KernelPCIdeal.sig) → Buf (Elt Ideal) ℓ) (g : Dev Cert.KernelPCIdeal.nD → PrngReg)
    (m' : (ℓ : Loc Cert.ReferencePCIdeal.nD Cert.ReferencePCIdeal.τ Cert.ReferencePCIdeal.sig) → Buf (Elt Ideal) ℓ) (g' : Dev Cert.ReferencePCIdeal.nD → PrngReg), Pre_KernelPCIdeal m →
    (∀ c : Dev Cert.KernelPCIdeal.nD,
      m' ((c.tc : Thread Cert.ReferencePCIdeal.nD Cert.ReferencePCIdeal.τ).loc Cert.ReferencePCIdeal.main_arg0) = m ((c.tc : Thread Cert.KernelPCIdeal.nD Cert.KernelPCIdeal.τ).loc Cert.KernelPCIdeal.main_arg0)
      ∧ m' ((c.tc : Thread Cert.ReferencePCIdeal.nD Cert.ReferencePCIdeal.τ).loc Cert.ReferencePCIdeal.main_arg1) = m ((c.tc : Thread Cert.KernelPCIdeal.nD Cert.KernelPCIdeal.τ).loc Cert.KernelPCIdeal.main_arg1)) →
    ∃ (v0 : (c : Dev Cert.KernelPCIdeal.nD) → Buf (Elt Ideal) ((c.tc : Thread Cert.KernelPCIdeal.nD Cert.KernelPCIdeal.τ).loc Cert.KernelPCIdeal.main_v2)),
      θ_run (Cert.KernelPCIdeal.defs (F := Ideal)) (onTc (τ := Cert.KernelPCIdeal.τ) (Cert.KernelPCIdeal.main (F := Ideal))) ⟨m, fun _ => 0, g⟩ (fun r => ∀ c : Dev Cert.KernelPCIdeal.nD,
          r.2.mem ((c.tc : Thread Cert.KernelPCIdeal.nD Cert.KernelPCIdeal.τ).loc Cert.KernelPCIdeal.main_v2) = v0 c
          ∧ r.2.mem ((c.tc : Thread Cert.KernelPCIdeal.nD Cert.KernelPCIdeal.τ).loc Cert.KernelPCIdeal.main_arg0) = m ((c.tc : Thread Cert.KernelPCIdeal.nD Cert.KernelPCIdeal.τ).loc Cert.KernelPCIdeal.main_arg0)
          ∧ r.2.mem ((c.tc : Thread Cert.KernelPCIdeal.nD Cert.KernelPCIdeal.τ).loc Cert.KernelPCIdeal.main_arg1) = m ((c.tc : Thread Cert.KernelPCIdeal.nD Cert.KernelPCIdeal.τ).loc Cert.KernelPCIdeal.main_arg1))
      ∧ θ_run (Cert.ReferencePCIdeal.defs (F := Ideal)) (onTc (τ := Cert.ReferencePCIdeal.τ) (Cert.ReferencePCIdeal.main (F := Ideal))) ⟨m', fun _ => 0, g'⟩ (fun r => ∀ c : Dev Cert.ReferencePCIdeal.nD,
          r.2.mem ((c.tc : Thread Cert.ReferencePCIdeal.nD Cert.ReferencePCIdeal.τ).loc Cert.ReferencePCIdeal.main_v2) = v0 c
          ∧ r.2.mem ((c.tc : Thread Cert.ReferencePCIdeal.nD Cert.ReferencePCIdeal.τ).loc Cert.ReferencePCIdeal.main_arg0) = m' ((c.tc : Thread Cert.ReferencePCIdeal.nD Cert.ReferencePCIdeal.τ).loc Cert.ReferencePCIdeal.main_arg0)
          ∧ r.2.mem ((c.tc : Thread Cert.ReferencePCIdeal.nD Cert.ReferencePCIdeal.τ).loc Cert.ReferencePCIdeal.main_arg1) = m' ((c.tc : Thread Cert.ReferencePCIdeal.nD Cert.ReferencePCIdeal.τ).loc Cert.ReferencePCIdeal.main_arg1))

def preserves_KernelPG_KernelPGIdeal : Prop :=
  True

def algebraic_KernelPGIdeal_ReferencePGIdeal [hKernelPGIdeal : Cert.KernelPGIdeal.Facts] [hReferencePGIdeal : Cert.ReferencePGIdeal.Facts] : Prop :=
  ∀ (m : (ℓ : Loc Cert.KernelPGIdeal.nD Cert.KernelPGIdeal.τ Cert.KernelPGIdeal.sig) → Buf (Elt Ideal) ℓ) (g : Dev Cert.KernelPGIdeal.nD → PrngReg)
    (m' : (ℓ : Loc Cert.ReferencePGIdeal.nD Cert.ReferencePGIdeal.τ Cert.ReferencePGIdeal.sig) → Buf (Elt Ideal) ℓ) (g' : Dev Cert.ReferencePGIdeal.nD → PrngReg), Pre_KernelPGIdeal m →
    (∀ c : Dev Cert.KernelPGIdeal.nD,
      m' ((c.tc : Thread Cert.ReferencePGIdeal.nD Cert.ReferencePGIdeal.τ).loc Cert.ReferencePGIdeal.main_arg0) = m ((c.tc : Thread Cert.KernelPGIdeal.nD Cert.KernelPGIdeal.τ).loc Cert.KernelPGIdeal.main_arg0)
      ∧ m' ((c.tc : Thread Cert.ReferencePGIdeal.nD Cert.ReferencePGIdeal.τ).loc Cert.ReferencePGIdeal.main_arg1) = m ((c.tc : Thread Cert.KernelPGIdeal.nD Cert.KernelPGIdeal.τ).loc Cert.KernelPGIdeal.main_arg1)) →
    ∃ (v0 : (c : Dev Cert.KernelPGIdeal.nD) → Buf (Elt Ideal) ((c.tc : Thread Cert.KernelPGIdeal.nD Cert.KernelPGIdeal.τ).loc Cert.KernelPGIdeal.main_v2)),
      θ_run (Cert.KernelPGIdeal.defs (F := Ideal)) (onTc (τ := Cert.KernelPGIdeal.τ) (Cert.KernelPGIdeal.main (F := Ideal))) ⟨m, fun _ => 0, g⟩ (fun r => ∀ c : Dev Cert.KernelPGIdeal.nD,
          r.2.mem ((c.tc : Thread Cert.KernelPGIdeal.nD Cert.KernelPGIdeal.τ).loc Cert.KernelPGIdeal.main_v2) = v0 c
          ∧ r.2.mem ((c.tc : Thread Cert.KernelPGIdeal.nD Cert.KernelPGIdeal.τ).loc Cert.KernelPGIdeal.main_arg0) = m ((c.tc : Thread Cert.KernelPGIdeal.nD Cert.KernelPGIdeal.τ).loc Cert.KernelPGIdeal.main_arg0)
          ∧ r.2.mem ((c.tc : Thread Cert.KernelPGIdeal.nD Cert.KernelPGIdeal.τ).loc Cert.KernelPGIdeal.main_arg1) = m ((c.tc : Thread Cert.KernelPGIdeal.nD Cert.KernelPGIdeal.τ).loc Cert.KernelPGIdeal.main_arg1))
      ∧ θ_run (Cert.ReferencePGIdeal.defs (F := Ideal)) (onTc (τ := Cert.ReferencePGIdeal.τ) (Cert.ReferencePGIdeal.main (F := Ideal))) ⟨m', fun _ => 0, g'⟩ (fun r => ∀ c : Dev Cert.ReferencePGIdeal.nD,
          r.2.mem ((c.tc : Thread Cert.ReferencePGIdeal.nD Cert.ReferencePGIdeal.τ).loc Cert.ReferencePGIdeal.main_v2) = v0 c
          ∧ r.2.mem ((c.tc : Thread Cert.ReferencePGIdeal.nD Cert.ReferencePGIdeal.τ).loc Cert.ReferencePGIdeal.main_arg0) = m' ((c.tc : Thread Cert.ReferencePGIdeal.nD Cert.ReferencePGIdeal.τ).loc Cert.ReferencePGIdeal.main_arg0)
          ∧ r.2.mem ((c.tc : Thread Cert.ReferencePGIdeal.nD Cert.ReferencePGIdeal.τ).loc Cert.ReferencePGIdeal.main_arg1) = m' ((c.tc : Thread Cert.ReferencePGIdeal.nD Cert.ReferencePGIdeal.τ).loc Cert.ReferencePGIdeal.main_arg1))

def preserves_KernelM_KernelMIdeal : Prop :=
  True

def algebraic_KernelMIdeal_ReferenceMIdeal [hKernelMIdeal : Cert.KernelMIdeal.Facts] [hReferenceMIdeal : Cert.ReferenceMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg)
    (m' : (ℓ : Loc Cert.ReferenceMIdeal.nD Cert.ReferenceMIdeal.τ Cert.ReferenceMIdeal.sig) → Buf (Elt Ideal) ℓ) (g' : Dev Cert.ReferenceMIdeal.nD → PrngReg), Pre_KernelMIdeal m →
    (∀ c : Dev Cert.KernelMIdeal.nD,
      m' ((c.tc : Thread Cert.ReferenceMIdeal.nD Cert.ReferenceMIdeal.τ).loc Cert.ReferenceMIdeal.main_arg0) = m ((c.tc : Thread Cert.KernelMIdeal.nD Cert.KernelMIdeal.τ).loc Cert.KernelMIdeal.main_arg0)
      ∧ m' ((c.tc : Thread Cert.ReferenceMIdeal.nD Cert.ReferenceMIdeal.τ).loc Cert.ReferenceMIdeal.main_arg1) = m ((c.tc : Thread Cert.KernelMIdeal.nD Cert.KernelMIdeal.τ).loc Cert.KernelMIdeal.main_arg1)
      ∧ m' ((c.tc : Thread Cert.ReferenceMIdeal.nD Cert.ReferenceMIdeal.τ).loc Cert.ReferenceMIdeal.main_arg2) = m ((c.tc : Thread Cert.KernelMIdeal.nD Cert.KernelMIdeal.τ).loc Cert.KernelMIdeal.main_arg2)
      ∧ m' ((c.tc : Thread Cert.ReferenceMIdeal.nD Cert.ReferenceMIdeal.τ).loc Cert.ReferenceMIdeal.main_arg3) = m ((c.tc : Thread Cert.KernelMIdeal.nD Cert.KernelMIdeal.τ).loc Cert.KernelMIdeal.main_arg3)
      ∧ m' ((c.tc : Thread Cert.ReferenceMIdeal.nD Cert.ReferenceMIdeal.τ).loc Cert.ReferenceMIdeal.main_arg4) = m ((c.tc : Thread Cert.KernelMIdeal.nD Cert.KernelMIdeal.τ).loc Cert.KernelMIdeal.main_arg4)
      ∧ m' ((c.tc : Thread Cert.ReferenceMIdeal.nD Cert.ReferenceMIdeal.τ).loc Cert.ReferenceMIdeal.main_arg5) = m ((c.tc : Thread Cert.KernelMIdeal.nD Cert.KernelMIdeal.τ).loc Cert.KernelMIdeal.main_arg5)
      ∧ m' ((c.tc : Thread Cert.ReferenceMIdeal.nD Cert.ReferenceMIdeal.τ).loc Cert.ReferenceMIdeal.main_arg6) = m ((c.tc : Thread Cert.KernelMIdeal.nD Cert.KernelMIdeal.τ).loc Cert.KernelMIdeal.main_arg6)) →
    ∃ (v0 : (c : Dev Cert.KernelMIdeal.nD) → Buf (Elt Ideal) ((c.tc : Thread Cert.KernelMIdeal.nD Cert.KernelMIdeal.τ).loc Cert.KernelMIdeal.main_v3)),
      θ_run (Cert.KernelMIdeal.defs (F := Ideal)) (onTc (τ := Cert.KernelMIdeal.τ) (Cert.KernelMIdeal.main (F := Ideal))) ⟨m, fun _ => 0, g⟩ (fun r => ∀ c : Dev Cert.KernelMIdeal.nD,
          r.2.mem ((c.tc : Thread Cert.KernelMIdeal.nD Cert.KernelMIdeal.τ).loc Cert.KernelMIdeal.main_v3) = v0 c
          ∧ r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
          ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
          ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2)
          ∧ r.2.mem ((c.tc : Thread Cert.KernelMIdeal.nD Cert.KernelMIdeal.τ).loc Cert.KernelMIdeal.main_arg3) = m ((c.tc : Thread Cert.KernelMIdeal.nD Cert.KernelMIdeal.τ).loc Cert.KernelMIdeal.main_arg3)
          ∧ r.2.mem ((c.tc : Thread Cert.KernelMIdeal.nD Cert.KernelMIdeal.τ).loc Cert.KernelMIdeal.main_arg4) = m ((c.tc : Thread Cert.KernelMIdeal.nD Cert.KernelMIdeal.τ).loc Cert.KernelMIdeal.main_arg4)
          ∧ r.2.mem ((c.tc : Thread Cert.KernelMIdeal.nD Cert.KernelMIdeal.τ).loc Cert.KernelMIdeal.main_arg5) = m ((c.tc : Thread Cert.KernelMIdeal.nD Cert.KernelMIdeal.τ).loc Cert.KernelMIdeal.main_arg5)
          ∧ r.2.mem ((c.tc : Thread Cert.KernelMIdeal.nD Cert.KernelMIdeal.τ).loc Cert.KernelMIdeal.main_arg6) = m ((c.tc : Thread Cert.KernelMIdeal.nD Cert.KernelMIdeal.τ).loc Cert.KernelMIdeal.main_arg6))
      ∧ θ_run (Cert.ReferenceMIdeal.defs (F := Ideal)) (onTc (τ := Cert.ReferenceMIdeal.τ) (Cert.ReferenceMIdeal.main (F := Ideal))) ⟨m', fun _ => 0, g'⟩ (fun r => ∀ c : Dev Cert.ReferenceMIdeal.nD,
          r.2.mem ((c.tc : Thread Cert.ReferenceMIdeal.nD Cert.ReferenceMIdeal.τ).loc Cert.ReferenceMIdeal.main_v32) = v0 c
          ∧ r.2.mem ((c.tc : Thread Cert.ReferenceMIdeal.nD Cert.ReferenceMIdeal.τ).loc Cert.ReferenceMIdeal.main_arg0) = m' ((c.tc : Thread Cert.ReferenceMIdeal.nD Cert.ReferenceMIdeal.τ).loc Cert.ReferenceMIdeal.main_arg0)
          ∧ r.2.mem ((c.tc : Thread Cert.ReferenceMIdeal.nD Cert.ReferenceMIdeal.τ).loc Cert.ReferenceMIdeal.main_arg1) = m' ((c.tc : Thread Cert.ReferenceMIdeal.nD Cert.ReferenceMIdeal.τ).loc Cert.ReferenceMIdeal.main_arg1)
          ∧ r.2.mem ((c.tc : Thread Cert.ReferenceMIdeal.nD Cert.ReferenceMIdeal.τ).loc Cert.ReferenceMIdeal.main_arg2) = m' ((c.tc : Thread Cert.ReferenceMIdeal.nD Cert.ReferenceMIdeal.τ).loc Cert.ReferenceMIdeal.main_arg2)
          ∧ r.2.mem ((c.tc : Thread Cert.ReferenceMIdeal.nD Cert.ReferenceMIdeal.τ).loc Cert.ReferenceMIdeal.main_arg3) = m' ((c.tc : Thread Cert.ReferenceMIdeal.nD Cert.ReferenceMIdeal.τ).loc Cert.ReferenceMIdeal.main_arg3)
          ∧ r.2.mem ((c.tc : Thread Cert.ReferenceMIdeal.nD Cert.ReferenceMIdeal.τ).loc Cert.ReferenceMIdeal.main_arg4) = m' ((c.tc : Thread Cert.ReferenceMIdeal.nD Cert.ReferenceMIdeal.τ).loc Cert.ReferenceMIdeal.main_arg4)
          ∧ r.2.mem ((c.tc : Thread Cert.ReferenceMIdeal.nD Cert.ReferenceMIdeal.τ).loc Cert.ReferenceMIdeal.main_arg5) = m' ((c.tc : Thread Cert.ReferenceMIdeal.nD Cert.ReferenceMIdeal.τ).loc Cert.ReferenceMIdeal.main_arg5)
          ∧ r.2.mem ((c.tc : Thread Cert.ReferenceMIdeal.nD Cert.ReferenceMIdeal.τ).loc Cert.ReferenceMIdeal.main_arg6) = m' ((c.tc : Thread Cert.ReferenceMIdeal.nD Cert.ReferenceMIdeal.τ).loc Cert.ReferenceMIdeal.main_arg6))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)
      ∧ m' ((c.tc : Thread Cert.ReferenceOIdeal.nD Cert.ReferenceOIdeal.τ).loc Cert.ReferenceOIdeal.main_arg4) = m ((c.tc : Thread Cert.KernelOIdeal.nD Cert.KernelOIdeal.τ).loc Cert.KernelOIdeal.main_arg4)
      ∧ m' ((c.tc : Thread Cert.ReferenceOIdeal.nD Cert.ReferenceOIdeal.τ).loc Cert.ReferenceOIdeal.main_arg5) = m ((c.tc : Thread Cert.KernelOIdeal.nD Cert.KernelOIdeal.τ).loc Cert.KernelOIdeal.main_arg5)) →
    ∃ (v0 : (c : Dev Cert.KernelOIdeal.nD) → Buf (Elt Ideal) ((c.tc : Thread Cert.KernelOIdeal.nD Cert.KernelOIdeal.τ).loc Cert.KernelOIdeal.main_v5)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v5) = v0 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
          ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
          ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v29) = v0 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3)
          ∧ r.2.mem ((c.tc : Thread Cert.ReferenceOIdeal.nD Cert.ReferenceOIdeal.τ).loc Cert.ReferenceOIdeal.main_arg4) = m' ((c.tc : Thread Cert.ReferenceOIdeal.nD Cert.ReferenceOIdeal.τ).loc Cert.ReferenceOIdeal.main_arg4)
          ∧ r.2.mem ((c.tc : Thread Cert.ReferenceOIdeal.nD Cert.ReferenceOIdeal.τ).loc Cert.ReferenceOIdeal.main_arg5) = m' ((c.tc : Thread Cert.ReferenceOIdeal.nD Cert.ReferenceOIdeal.τ).loc Cert.ReferenceOIdeal.main_arg5))

def preserves_KernelD_KernelDIdeal : Prop :=
  True

def algebraic_KernelDIdeal_ReferenceDIdeal [hKernelDIdeal : Cert.KernelDIdeal.Facts] [hReferenceDIdeal : Cert.ReferenceDIdeal.Facts] : Prop :=
  ∀ (m : (ℓ : Loc Cert.KernelDIdeal.nD Cert.KernelDIdeal.τ Cert.KernelDIdeal.sig) → Buf (Elt Ideal) ℓ) (g : Dev Cert.KernelDIdeal.nD → PrngReg)
    (m' : (ℓ : Loc Cert.ReferenceDIdeal.nD Cert.ReferenceDIdeal.τ Cert.ReferenceDIdeal.sig) → Buf (Elt Ideal) ℓ) (g' : Dev Cert.ReferenceDIdeal.nD → PrngReg), Pre_KernelDIdeal m →
    (∀ c : Dev Cert.KernelDIdeal.nD,
      m' ((c.tc : Thread Cert.ReferenceDIdeal.nD Cert.ReferenceDIdeal.τ).loc Cert.ReferenceDIdeal.main_arg0) = m ((c.tc : Thread Cert.KernelDIdeal.nD Cert.KernelDIdeal.τ).loc Cert.KernelDIdeal.main_arg0)
      ∧ m' ((c.tc : Thread Cert.ReferenceDIdeal.nD Cert.ReferenceDIdeal.τ).loc Cert.ReferenceDIdeal.main_arg1) = m ((c.tc : Thread Cert.KernelDIdeal.nD Cert.KernelDIdeal.τ).loc Cert.KernelDIdeal.main_arg1)
      ∧ m' ((c.tc : Thread Cert.ReferenceDIdeal.nD Cert.ReferenceDIdeal.τ).loc Cert.ReferenceDIdeal.main_arg2) = m ((c.tc : Thread Cert.KernelDIdeal.nD Cert.KernelDIdeal.τ).loc Cert.KernelDIdeal.main_arg2)) →
    ∃ (v0 : (c : Dev Cert.KernelDIdeal.nD) → Buf (Elt Ideal) ((c.tc : Thread Cert.KernelDIdeal.nD Cert.KernelDIdeal.τ).loc Cert.KernelDIdeal.main_v4)),
      θ_run (Cert.KernelDIdeal.defs (F := Ideal)) (onTc (τ := Cert.KernelDIdeal.τ) (Cert.KernelDIdeal.main (F := Ideal))) ⟨m, fun _ => 0, g⟩ (fun r => ∀ c : Dev Cert.KernelDIdeal.nD,
          r.2.mem ((c.tc : Thread Cert.KernelDIdeal.nD Cert.KernelDIdeal.τ).loc Cert.KernelDIdeal.main_v4) = v0 c
          ∧ r.2.mem ((c.tc : Thread Cert.KernelDIdeal.nD Cert.KernelDIdeal.τ).loc Cert.KernelDIdeal.main_arg0) = m ((c.tc : Thread Cert.KernelDIdeal.nD Cert.KernelDIdeal.τ).loc Cert.KernelDIdeal.main_arg0)
          ∧ r.2.mem ((c.tc : Thread Cert.KernelDIdeal.nD Cert.KernelDIdeal.τ).loc Cert.KernelDIdeal.main_arg1) = m ((c.tc : Thread Cert.KernelDIdeal.nD Cert.KernelDIdeal.τ).loc Cert.KernelDIdeal.main_arg1)
          ∧ r.2.mem ((c.tc : Thread Cert.KernelDIdeal.nD Cert.KernelDIdeal.τ).loc Cert.KernelDIdeal.main_arg2) = m ((c.tc : Thread Cert.KernelDIdeal.nD Cert.KernelDIdeal.τ).loc Cert.KernelDIdeal.main_arg2))
      ∧ θ_run (Cert.ReferenceDIdeal.defs (F := Ideal)) (onTc (τ := Cert.ReferenceDIdeal.τ) (Cert.ReferenceDIdeal.main (F := Ideal))) ⟨m', fun _ => 0, g'⟩ (fun r => ∀ c : Dev Cert.ReferenceDIdeal.nD,
          r.2.mem ((c.tc : Thread Cert.ReferenceDIdeal.nD Cert.ReferenceDIdeal.τ).loc Cert.ReferenceDIdeal.main_v10) = v0 c
          ∧ r.2.mem ((c.tc : Thread Cert.ReferenceDIdeal.nD Cert.ReferenceDIdeal.τ).loc Cert.ReferenceDIdeal.main_arg0) = m' ((c.tc : Thread Cert.ReferenceDIdeal.nD Cert.ReferenceDIdeal.τ).loc Cert.ReferenceDIdeal.main_arg0)
          ∧ r.2.mem ((c.tc : Thread Cert.ReferenceDIdeal.nD Cert.ReferenceDIdeal.τ).loc Cert.ReferenceDIdeal.main_arg1) = m' ((c.tc : Thread Cert.ReferenceDIdeal.nD Cert.ReferenceDIdeal.τ).loc Cert.ReferenceDIdeal.main_arg1)
          ∧ r.2.mem ((c.tc : Thread Cert.ReferenceDIdeal.nD Cert.ReferenceDIdeal.τ).loc Cert.ReferenceDIdeal.main_arg2) = m' ((c.tc : Thread Cert.ReferenceDIdeal.nD Cert.ReferenceDIdeal.τ).loc Cert.ReferenceDIdeal.main_arg2))

def preserves_KernelN_KernelNIdeal : Prop :=
  True

def algebraic_KernelNIdeal_ReferenceNIdeal [hKernelNIdeal : Cert.KernelNIdeal.Facts] [hReferenceNIdeal : Cert.ReferenceNIdeal.Facts] : Prop :=
  ∀ (m : (ℓ : Loc Cert.KernelNIdeal.nD Cert.KernelNIdeal.τ Cert.KernelNIdeal.sig) → Buf (Elt Ideal) ℓ) (g : Dev Cert.KernelNIdeal.nD → PrngReg)
    (m' : (ℓ : Loc Cert.ReferenceNIdeal.nD Cert.ReferenceNIdeal.τ Cert.ReferenceNIdeal.sig) → Buf (Elt Ideal) ℓ) (g' : Dev Cert.ReferenceNIdeal.nD → PrngReg), Pre_KernelNIdeal m →
    (∀ c : Dev Cert.KernelNIdeal.nD,
      m' ((c.tc : Thread Cert.ReferenceNIdeal.nD Cert.ReferenceNIdeal.τ).loc Cert.ReferenceNIdeal.main_arg0) = m ((c.tc : Thread Cert.KernelNIdeal.nD Cert.KernelNIdeal.τ).loc Cert.KernelNIdeal.main_arg0)
      ∧ m' ((c.tc : Thread Cert.ReferenceNIdeal.nD Cert.ReferenceNIdeal.τ).loc Cert.ReferenceNIdeal.main_arg1) = m ((c.tc : Thread Cert.KernelNIdeal.nD Cert.KernelNIdeal.τ).loc Cert.KernelNIdeal.main_arg1)
      ∧ m' ((c.tc : Thread Cert.ReferenceNIdeal.nD Cert.ReferenceNIdeal.τ).loc Cert.ReferenceNIdeal.main_arg2) = m ((c.tc : Thread Cert.KernelNIdeal.nD Cert.KernelNIdeal.τ).loc Cert.KernelNIdeal.main_arg2)
      ∧ m' ((c.tc : Thread Cert.ReferenceNIdeal.nD Cert.ReferenceNIdeal.τ).loc Cert.ReferenceNIdeal.main_arg3) = m ((c.tc : Thread Cert.KernelNIdeal.nD Cert.KernelNIdeal.τ).loc Cert.KernelNIdeal.main_arg3)
      ∧ m' ((c.tc : Thread Cert.ReferenceNIdeal.nD Cert.ReferenceNIdeal.τ).loc Cert.ReferenceNIdeal.main_arg4) = m ((c.tc : Thread Cert.KernelNIdeal.nD Cert.KernelNIdeal.τ).loc Cert.KernelNIdeal.main_arg4)
      ∧ m' ((c.tc : Thread Cert.ReferenceNIdeal.nD Cert.ReferenceNIdeal.τ).loc Cert.ReferenceNIdeal.main_arg5) = m ((c.tc : Thread Cert.KernelNIdeal.nD Cert.KernelNIdeal.τ).loc Cert.KernelNIdeal.main_arg5)) →
    ∃ (v0 : (c : Dev Cert.KernelNIdeal.nD) → Buf (Elt Ideal) ((c.tc : Thread Cert.KernelNIdeal.nD Cert.KernelNIdeal.τ).loc Cert.KernelNIdeal.main_v6)),
      θ_run (Cert.KernelNIdeal.defs (F := Ideal)) (onTc (τ := Cert.KernelNIdeal.τ) (Cert.KernelNIdeal.main (F := Ideal))) ⟨m, fun _ => 0, g⟩ (fun r => ∀ c : Dev Cert.KernelNIdeal.nD,
          r.2.mem ((c.tc : Thread Cert.KernelNIdeal.nD Cert.KernelNIdeal.τ).loc Cert.KernelNIdeal.main_v6) = v0 c
          ∧ r.2.mem ((c.tc : Thread Cert.KernelNIdeal.nD Cert.KernelNIdeal.τ).loc Cert.KernelNIdeal.main_arg0) = m ((c.tc : Thread Cert.KernelNIdeal.nD Cert.KernelNIdeal.τ).loc Cert.KernelNIdeal.main_arg0)
          ∧ r.2.mem ((c.tc : Thread Cert.KernelNIdeal.nD Cert.KernelNIdeal.τ).loc Cert.KernelNIdeal.main_arg1) = m ((c.tc : Thread Cert.KernelNIdeal.nD Cert.KernelNIdeal.τ).loc Cert.KernelNIdeal.main_arg1)
          ∧ r.2.mem ((c.tc : Thread Cert.KernelNIdeal.nD Cert.KernelNIdeal.τ).loc Cert.KernelNIdeal.main_arg2) = m ((c.tc : Thread Cert.KernelNIdeal.nD Cert.KernelNIdeal.τ).loc Cert.KernelNIdeal.main_arg2)
          ∧ r.2.mem ((c.tc : Thread Cert.KernelNIdeal.nD Cert.KernelNIdeal.τ).loc Cert.KernelNIdeal.main_arg3) = m ((c.tc : Thread Cert.KernelNIdeal.nD Cert.KernelNIdeal.τ).loc Cert.KernelNIdeal.main_arg3)
          ∧ r.2.mem ((c.tc : Thread Cert.KernelNIdeal.nD Cert.KernelNIdeal.τ).loc Cert.KernelNIdeal.main_arg4) = m ((c.tc : Thread Cert.KernelNIdeal.nD Cert.KernelNIdeal.τ).loc Cert.KernelNIdeal.main_arg4)
          ∧ r.2.mem ((c.tc : Thread Cert.KernelNIdeal.nD Cert.KernelNIdeal.τ).loc Cert.KernelNIdeal.main_arg5) = m ((c.tc : Thread Cert.KernelNIdeal.nD Cert.KernelNIdeal.τ).loc Cert.KernelNIdeal.main_arg5))
      ∧ θ_run (Cert.ReferenceNIdeal.defs (F := Ideal)) (onTc (τ := Cert.ReferenceNIdeal.τ) (Cert.ReferenceNIdeal.main (F := Ideal))) ⟨m', fun _ => 0, g'⟩ (fun r => ∀ c : Dev Cert.ReferenceNIdeal.nD,
          r.2.mem ((c.tc : Thread Cert.ReferenceNIdeal.nD Cert.ReferenceNIdeal.τ).loc Cert.ReferenceNIdeal.main_v33) = v0 c
          ∧ r.2.mem ((c.tc : Thread Cert.ReferenceNIdeal.nD Cert.ReferenceNIdeal.τ).loc Cert.ReferenceNIdeal.main_arg0) = m' ((c.tc : Thread Cert.ReferenceNIdeal.nD Cert.ReferenceNIdeal.τ).loc Cert.ReferenceNIdeal.main_arg0)
          ∧ r.2.mem ((c.tc : Thread Cert.ReferenceNIdeal.nD Cert.ReferenceNIdeal.τ).loc Cert.ReferenceNIdeal.main_arg1) = m' ((c.tc : Thread Cert.ReferenceNIdeal.nD Cert.ReferenceNIdeal.τ).loc Cert.ReferenceNIdeal.main_arg1)
          ∧ r.2.mem ((c.tc : Thread Cert.ReferenceNIdeal.nD Cert.ReferenceNIdeal.τ).loc Cert.ReferenceNIdeal.main_arg2) = m' ((c.tc : Thread Cert.ReferenceNIdeal.nD Cert.ReferenceNIdeal.τ).loc Cert.ReferenceNIdeal.main_arg2)
          ∧ r.2.mem ((c.tc : Thread Cert.ReferenceNIdeal.nD Cert.ReferenceNIdeal.τ).loc Cert.ReferenceNIdeal.main_arg3) = m' ((c.tc : Thread Cert.ReferenceNIdeal.nD Cert.ReferenceNIdeal.τ).loc Cert.ReferenceNIdeal.main_arg3)
          ∧ r.2.mem ((c.tc : Thread Cert.ReferenceNIdeal.nD Cert.ReferenceNIdeal.τ).loc Cert.ReferenceNIdeal.main_arg4) = m' ((c.tc : Thread Cert.ReferenceNIdeal.nD Cert.ReferenceNIdeal.τ).loc Cert.ReferenceNIdeal.main_arg4)
          ∧ r.2.mem ((c.tc : Thread Cert.ReferenceNIdeal.nD Cert.ReferenceNIdeal.τ).loc Cert.ReferenceNIdeal.main_arg5) = m' ((c.tc : Thread Cert.ReferenceNIdeal.nD Cert.ReferenceNIdeal.τ).loc Cert.ReferenceNIdeal.main_arg5))

def preserves_KernelF_KernelFIdeal : Prop :=
  True

def algebraic_KernelFIdeal_ReferenceFIdeal [hKernelFIdeal : Cert.KernelFIdeal.Facts] [hReferenceFIdeal : Cert.ReferenceFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg)
    (m' : (ℓ : Loc Cert.ReferenceFIdeal.nD Cert.ReferenceFIdeal.τ Cert.ReferenceFIdeal.sig) → Buf (Elt Ideal) ℓ) (g' : Dev Cert.ReferenceFIdeal.nD → PrngReg), Pre_KernelFIdeal m →
    (∀ c : Dev Cert.KernelFIdeal.nD,
      m' ((c.tc : Thread Cert.ReferenceFIdeal.nD Cert.ReferenceFIdeal.τ).loc Cert.ReferenceFIdeal.main_arg0) = m ((c.tc : Thread Cert.KernelFIdeal.nD Cert.KernelFIdeal.τ).loc Cert.KernelFIdeal.main_arg0)
      ∧ m' ((c.tc : Thread Cert.ReferenceFIdeal.nD Cert.ReferenceFIdeal.τ).loc Cert.ReferenceFIdeal.main_arg1) = m ((c.tc : Thread Cert.KernelFIdeal.nD Cert.KernelFIdeal.τ).loc Cert.KernelFIdeal.main_arg1)
      ∧ m' ((c.tc : Thread Cert.ReferenceFIdeal.nD Cert.ReferenceFIdeal.τ).loc Cert.ReferenceFIdeal.main_arg2) = m ((c.tc : Thread Cert.KernelFIdeal.nD Cert.KernelFIdeal.τ).loc Cert.KernelFIdeal.main_arg2)
      ∧ m' ((c.tc : Thread Cert.ReferenceFIdeal.nD Cert.ReferenceFIdeal.τ).loc Cert.ReferenceFIdeal.main_arg3) = m ((c.tc : Thread Cert.KernelFIdeal.nD Cert.KernelFIdeal.τ).loc Cert.KernelFIdeal.main_arg3)
      ∧ m' ((c.tc : Thread Cert.ReferenceFIdeal.nD Cert.ReferenceFIdeal.τ).loc Cert.ReferenceFIdeal.main_arg4) = m ((c.tc : Thread Cert.KernelFIdeal.nD Cert.KernelFIdeal.τ).loc Cert.KernelFIdeal.main_arg4)) →
    ∃ (v0 : (c : Dev Cert.KernelFIdeal.nD) → Buf (Elt Ideal) ((c.tc : Thread Cert.KernelFIdeal.nD Cert.KernelFIdeal.τ).loc Cert.KernelFIdeal.main_v4)),
      θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
          r.2.mem ((c.tc : Thread Cert.KernelFIdeal.nD Cert.KernelFIdeal.τ).loc Cert.KernelFIdeal.main_v4) = v0 c
          ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
          ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
          ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
          ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
          ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4))
      ∧ θ_run (Cert.ReferenceFIdeal.defs (F := Ideal)) (onTc (τ := Cert.ReferenceFIdeal.τ) (Cert.ReferenceFIdeal.main (F := Ideal))) ⟨m', fun _ => 0, g'⟩ (fun r => ∀ c : Dev Cert.ReferenceFIdeal.nD,
          r.2.mem ((c.tc : Thread Cert.ReferenceFIdeal.nD Cert.ReferenceFIdeal.τ).loc Cert.ReferenceFIdeal.main_v32) = v0 c
          ∧ r.2.mem ((c.tc : Thread Cert.ReferenceFIdeal.nD Cert.ReferenceFIdeal.τ).loc Cert.ReferenceFIdeal.main_arg0) = m' ((c.tc : Thread Cert.ReferenceFIdeal.nD Cert.ReferenceFIdeal.τ).loc Cert.ReferenceFIdeal.main_arg0)
          ∧ r.2.mem ((c.tc : Thread Cert.ReferenceFIdeal.nD Cert.ReferenceFIdeal.τ).loc Cert.ReferenceFIdeal.main_arg1) = m' ((c.tc : Thread Cert.ReferenceFIdeal.nD Cert.ReferenceFIdeal.τ).loc Cert.ReferenceFIdeal.main_arg1)
          ∧ r.2.mem ((c.tc : Thread Cert.ReferenceFIdeal.nD Cert.ReferenceFIdeal.τ).loc Cert.ReferenceFIdeal.main_arg2) = m' ((c.tc : Thread Cert.ReferenceFIdeal.nD Cert.ReferenceFIdeal.τ).loc Cert.ReferenceFIdeal.main_arg2)
          ∧ r.2.mem ((c.tc : Thread Cert.ReferenceFIdeal.nD Cert.ReferenceFIdeal.τ).loc Cert.ReferenceFIdeal.main_arg3) = m' ((c.tc : Thread Cert.ReferenceFIdeal.nD Cert.ReferenceFIdeal.τ).loc Cert.ReferenceFIdeal.main_arg3)
          ∧ r.2.mem ((c.tc : Thread Cert.ReferenceFIdeal.nD Cert.ReferenceFIdeal.τ).loc Cert.ReferenceFIdeal.main_arg4) = m' ((c.tc : Thread Cert.ReferenceFIdeal.nD Cert.ReferenceFIdeal.τ).loc Cert.ReferenceFIdeal.main_arg4))

def preserves_KernelR_KernelRIdeal : Prop :=
  True

def algebraic_KernelRIdeal_ReferenceRIdeal [hKernelRIdeal : Cert.KernelRIdeal.Facts] [hReferenceRIdeal : Cert.ReferenceRIdeal.Facts] : Prop :=
  ∀ (m : (ℓ : Loc Cert.KernelRIdeal.nD Cert.KernelRIdeal.τ Cert.KernelRIdeal.sig) → Buf (Elt Ideal) ℓ) (g : Dev Cert.KernelRIdeal.nD → PrngReg)
    (m' : (ℓ : Loc Cert.ReferenceRIdeal.nD Cert.ReferenceRIdeal.τ Cert.ReferenceRIdeal.sig) → Buf (Elt Ideal) ℓ) (g' : Dev Cert.ReferenceRIdeal.nD → PrngReg), Pre_KernelRIdeal m →
    (∀ c : Dev Cert.KernelRIdeal.nD,
      m' ((c.tc : Thread Cert.ReferenceRIdeal.nD Cert.ReferenceRIdeal.τ).loc Cert.ReferenceRIdeal.main_arg0) = m ((c.tc : Thread Cert.KernelRIdeal.nD Cert.KernelRIdeal.τ).loc Cert.KernelRIdeal.main_arg0)
      ∧ m' ((c.tc : Thread Cert.ReferenceRIdeal.nD Cert.ReferenceRIdeal.τ).loc Cert.ReferenceRIdeal.main_arg1) = m ((c.tc : Thread Cert.KernelRIdeal.nD Cert.KernelRIdeal.τ).loc Cert.KernelRIdeal.main_arg1)
      ∧ m' ((c.tc : Thread Cert.ReferenceRIdeal.nD Cert.ReferenceRIdeal.τ).loc Cert.ReferenceRIdeal.main_arg2) = m ((c.tc : Thread Cert.KernelRIdeal.nD Cert.KernelRIdeal.τ).loc Cert.KernelRIdeal.main_arg2)) →
    ∃ (v0 : (c : Dev Cert.KernelRIdeal.nD) → Buf (Elt Ideal) ((c.tc : Thread Cert.KernelRIdeal.nD Cert.KernelRIdeal.τ).loc Cert.KernelRIdeal.main_v12_0)) (v1 : (c : Dev Cert.KernelRIdeal.nD) → Buf (Elt Ideal) ((c.tc : Thread Cert.KernelRIdeal.nD Cert.KernelRIdeal.τ).loc Cert.KernelRIdeal.main_v12_1)) (v2 : (c : Dev Cert.KernelRIdeal.nD) → Buf (Elt Ideal) ((c.tc : Thread Cert.KernelRIdeal.nD Cert.KernelRIdeal.τ).loc Cert.KernelRIdeal.main_v12_2)),
      θ_run (Cert.KernelRIdeal.defs (F := Ideal)) (onTc (τ := Cert.KernelRIdeal.τ) (Cert.KernelRIdeal.main (F := Ideal))) ⟨m, fun _ => 0, g⟩ (fun r => ∀ c : Dev Cert.KernelRIdeal.nD,
          r.2.mem ((c.tc : Thread Cert.KernelRIdeal.nD Cert.KernelRIdeal.τ).loc Cert.KernelRIdeal.main_v12_0) = v0 c
          ∧ r.2.mem ((c.tc : Thread Cert.KernelRIdeal.nD Cert.KernelRIdeal.τ).loc Cert.KernelRIdeal.main_v12_1) = v1 c
          ∧ r.2.mem ((c.tc : Thread Cert.KernelRIdeal.nD Cert.KernelRIdeal.τ).loc Cert.KernelRIdeal.main_v12_2) = v2 c
          ∧ r.2.mem ((c.tc : Thread Cert.KernelRIdeal.nD Cert.KernelRIdeal.τ).loc Cert.KernelRIdeal.main_arg0) = m ((c.tc : Thread Cert.KernelRIdeal.nD Cert.KernelRIdeal.τ).loc Cert.KernelRIdeal.main_arg0)
          ∧ r.2.mem ((c.tc : Thread Cert.KernelRIdeal.nD Cert.KernelRIdeal.τ).loc Cert.KernelRIdeal.main_arg1) = m ((c.tc : Thread Cert.KernelRIdeal.nD Cert.KernelRIdeal.τ).loc Cert.KernelRIdeal.main_arg1)
          ∧ r.2.mem ((c.tc : Thread Cert.KernelRIdeal.nD Cert.KernelRIdeal.τ).loc Cert.KernelRIdeal.main_arg2) = m ((c.tc : Thread Cert.KernelRIdeal.nD Cert.KernelRIdeal.τ).loc Cert.KernelRIdeal.main_arg2))
      ∧ θ_run (Cert.ReferenceRIdeal.defs (F := Ideal)) (onTc (τ := Cert.ReferenceRIdeal.τ) (Cert.ReferenceRIdeal.main (F := Ideal))) ⟨m', fun _ => 0, g'⟩ (fun r => ∀ c : Dev Cert.ReferenceRIdeal.nD,
          r.2.mem ((c.tc : Thread Cert.ReferenceRIdeal.nD Cert.ReferenceRIdeal.τ).loc Cert.ReferenceRIdeal.main_v46) = v0 c
          ∧ r.2.mem ((c.tc : Thread Cert.ReferenceRIdeal.nD Cert.ReferenceRIdeal.τ).loc Cert.ReferenceRIdeal.main_v47) = v1 c
          ∧ r.2.mem ((c.tc : Thread Cert.ReferenceRIdeal.nD Cert.ReferenceRIdeal.τ).loc Cert.ReferenceRIdeal.main_v49) = v2 c
          ∧ r.2.mem ((c.tc : Thread Cert.ReferenceRIdeal.nD Cert.ReferenceRIdeal.τ).loc Cert.ReferenceRIdeal.main_arg0) = m' ((c.tc : Thread Cert.ReferenceRIdeal.nD Cert.ReferenceRIdeal.τ).loc Cert.ReferenceRIdeal.main_arg0)
          ∧ r.2.mem ((c.tc : Thread Cert.ReferenceRIdeal.nD Cert.ReferenceRIdeal.τ).loc Cert.ReferenceRIdeal.main_arg1) = m' ((c.tc : Thread Cert.ReferenceRIdeal.nD Cert.ReferenceRIdeal.τ).loc Cert.ReferenceRIdeal.main_arg1)
          ∧ r.2.mem ((c.tc : Thread Cert.ReferenceRIdeal.nD Cert.ReferenceRIdeal.τ).loc Cert.ReferenceRIdeal.main_arg2) = m' ((c.tc : Thread Cert.ReferenceRIdeal.nD Cert.ReferenceRIdeal.τ).loc Cert.ReferenceRIdeal.main_arg2))

def preserves_KernelCA_KernelCAIdeal : Prop :=
  True

def algebraic_KernelCAIdeal_ReferenceCAIdeal [hKernelCAIdeal : Cert.KernelCAIdeal.Facts] [hReferenceCAIdeal : Cert.ReferenceCAIdeal.Facts] : Prop :=
  ∀ (m : (ℓ : Loc Cert.KernelCAIdeal.nD Cert.KernelCAIdeal.τ Cert.KernelCAIdeal.sig) → Buf (Elt Ideal) ℓ) (g : Dev Cert.KernelCAIdeal.nD → PrngReg)
    (m' : (ℓ : Loc Cert.ReferenceCAIdeal.nD Cert.ReferenceCAIdeal.τ Cert.ReferenceCAIdeal.sig) → Buf (Elt Ideal) ℓ) (g' : Dev Cert.ReferenceCAIdeal.nD → PrngReg), Pre_KernelCAIdeal m →
    (∀ c : Dev Cert.KernelCAIdeal.nD,
      m' ((c.tc : Thread Cert.ReferenceCAIdeal.nD Cert.ReferenceCAIdeal.τ).loc Cert.ReferenceCAIdeal.main_arg0) = m ((c.tc : Thread Cert.KernelCAIdeal.nD Cert.KernelCAIdeal.τ).loc Cert.KernelCAIdeal.main_arg0)
      ∧ m' ((c.tc : Thread Cert.ReferenceCAIdeal.nD Cert.ReferenceCAIdeal.τ).loc Cert.ReferenceCAIdeal.main_arg1) = m ((c.tc : Thread Cert.KernelCAIdeal.nD Cert.KernelCAIdeal.τ).loc Cert.KernelCAIdeal.main_arg1)) →
    ∃ (v0 : (c : Dev Cert.KernelCAIdeal.nD) → Buf (Elt Ideal) ((c.tc : Thread Cert.KernelCAIdeal.nD Cert.KernelCAIdeal.τ).loc Cert.KernelCAIdeal.main_v2)),
      θ_run (Cert.KernelCAIdeal.defs (F := Ideal)) (onTc (τ := Cert.KernelCAIdeal.τ) (Cert.KernelCAIdeal.main (F := Ideal))) ⟨m, fun _ => 0, g⟩ (fun r => ∀ c : Dev Cert.KernelCAIdeal.nD,
          r.2.mem ((c.tc : Thread Cert.KernelCAIdeal.nD Cert.KernelCAIdeal.τ).loc Cert.KernelCAIdeal.main_v2) = v0 c
          ∧ r.2.mem ((c.tc : Thread Cert.KernelCAIdeal.nD Cert.KernelCAIdeal.τ).loc Cert.KernelCAIdeal.main_arg0) = m ((c.tc : Thread Cert.KernelCAIdeal.nD Cert.KernelCAIdeal.τ).loc Cert.KernelCAIdeal.main_arg0)
          ∧ r.2.mem ((c.tc : Thread Cert.KernelCAIdeal.nD Cert.KernelCAIdeal.τ).loc Cert.KernelCAIdeal.main_arg1) = m ((c.tc : Thread Cert.KernelCAIdeal.nD Cert.KernelCAIdeal.τ).loc Cert.KernelCAIdeal.main_arg1))
      ∧ θ_run (Cert.ReferenceCAIdeal.defs (F := Ideal)) (onTc (τ := Cert.ReferenceCAIdeal.τ) (Cert.ReferenceCAIdeal.main (F := Ideal))) ⟨m', fun _ => 0, g'⟩ (fun r => ∀ c : Dev Cert.ReferenceCAIdeal.nD,
          r.2.mem ((c.tc : Thread Cert.ReferenceCAIdeal.nD Cert.ReferenceCAIdeal.τ).loc Cert.ReferenceCAIdeal.main_v49) = v0 c
          ∧ r.2.mem ((c.tc : Thread Cert.ReferenceCAIdeal.nD Cert.ReferenceCAIdeal.τ).loc Cert.ReferenceCAIdeal.main_arg0) = m' ((c.tc : Thread Cert.ReferenceCAIdeal.nD Cert.ReferenceCAIdeal.τ).loc Cert.ReferenceCAIdeal.main_arg0)
          ∧ r.2.mem ((c.tc : Thread Cert.ReferenceCAIdeal.nD Cert.ReferenceCAIdeal.τ).loc Cert.ReferenceCAIdeal.main_arg1) = m' ((c.tc : Thread Cert.ReferenceCAIdeal.nD Cert.ReferenceCAIdeal.τ).loc Cert.ReferenceCAIdeal.main_arg1))

def preserves_KernelCC_KernelCCIdeal : Prop :=
  True

def algebraic_KernelCCIdeal_ReferenceCCIdeal [hKernelCCIdeal : Cert.KernelCCIdeal.Facts] [hReferenceCCIdeal : Cert.ReferenceCCIdeal.Facts] : Prop :=
  ∀ (m : (ℓ : Loc Cert.KernelCCIdeal.nD Cert.KernelCCIdeal.τ Cert.KernelCCIdeal.sig) → Buf (Elt Ideal) ℓ) (g : Dev Cert.KernelCCIdeal.nD → PrngReg)
    (m' : (ℓ : Loc Cert.ReferenceCCIdeal.nD Cert.ReferenceCCIdeal.τ Cert.ReferenceCCIdeal.sig) → Buf (Elt Ideal) ℓ) (g' : Dev Cert.ReferenceCCIdeal.nD → PrngReg), Pre_KernelCCIdeal m →
    (∀ c : Dev Cert.KernelCCIdeal.nD,
      m' ((c.tc : Thread Cert.ReferenceCCIdeal.nD Cert.ReferenceCCIdeal.τ).loc Cert.ReferenceCCIdeal.main_arg0) = m ((c.tc : Thread Cert.KernelCCIdeal.nD Cert.KernelCCIdeal.τ).loc Cert.KernelCCIdeal.main_arg0)
      ∧ m' ((c.tc : Thread Cert.ReferenceCCIdeal.nD Cert.ReferenceCCIdeal.τ).loc Cert.ReferenceCCIdeal.main_arg1) = m ((c.tc : Thread Cert.KernelCCIdeal.nD Cert.KernelCCIdeal.τ).loc Cert.KernelCCIdeal.main_arg1)
      ∧ m' ((c.tc : Thread Cert.ReferenceCCIdeal.nD Cert.ReferenceCCIdeal.τ).loc Cert.ReferenceCCIdeal.main_arg2) = m ((c.tc : Thread Cert.KernelCCIdeal.nD Cert.KernelCCIdeal.τ).loc Cert.KernelCCIdeal.main_arg2)) →
    ∃ (v0 : (c : Dev Cert.KernelCCIdeal.nD) → Buf (Elt Ideal) ((c.tc : Thread Cert.KernelCCIdeal.nD Cert.KernelCCIdeal.τ).loc Cert.KernelCCIdeal.main_v1)),
      θ_run (Cert.KernelCCIdeal.defs (F := Ideal)) (onTc (τ := Cert.KernelCCIdeal.τ) (Cert.KernelCCIdeal.main (F := Ideal))) ⟨m, fun _ => 0, g⟩ (fun r => ∀ c : Dev Cert.KernelCCIdeal.nD,
          r.2.mem ((c.tc : Thread Cert.KernelCCIdeal.nD Cert.KernelCCIdeal.τ).loc Cert.KernelCCIdeal.main_v1) = v0 c
          ∧ r.2.mem ((c.tc : Thread Cert.KernelCCIdeal.nD Cert.KernelCCIdeal.τ).loc Cert.KernelCCIdeal.main_arg0) = m ((c.tc : Thread Cert.KernelCCIdeal.nD Cert.KernelCCIdeal.τ).loc Cert.KernelCCIdeal.main_arg0)
          ∧ r.2.mem ((c.tc : Thread Cert.KernelCCIdeal.nD Cert.KernelCCIdeal.τ).loc Cert.KernelCCIdeal.main_arg1) = m ((c.tc : Thread Cert.KernelCCIdeal.nD Cert.KernelCCIdeal.τ).loc Cert.KernelCCIdeal.main_arg1)
          ∧ r.2.mem ((c.tc : Thread Cert.KernelCCIdeal.nD Cert.KernelCCIdeal.τ).loc Cert.KernelCCIdeal.main_arg2) = m ((c.tc : Thread Cert.KernelCCIdeal.nD Cert.KernelCCIdeal.τ).loc Cert.KernelCCIdeal.main_arg2))
      ∧ θ_run (Cert.ReferenceCCIdeal.defs (F := Ideal)) (onTc (τ := Cert.ReferenceCCIdeal.τ) (Cert.ReferenceCCIdeal.main (F := Ideal))) ⟨m', fun _ => 0, g'⟩ (fun r => ∀ c : Dev Cert.ReferenceCCIdeal.nD,
          r.2.mem ((c.tc : Thread Cert.ReferenceCCIdeal.nD Cert.ReferenceCCIdeal.τ).loc Cert.ReferenceCCIdeal.main_v81) = v0 c
          ∧ r.2.mem ((c.tc : Thread Cert.ReferenceCCIdeal.nD Cert.ReferenceCCIdeal.τ).loc Cert.ReferenceCCIdeal.main_arg0) = m' ((c.tc : Thread Cert.ReferenceCCIdeal.nD Cert.ReferenceCCIdeal.τ).loc Cert.ReferenceCCIdeal.main_arg0)
          ∧ r.2.mem ((c.tc : Thread Cert.ReferenceCCIdeal.nD Cert.ReferenceCCIdeal.τ).loc Cert.ReferenceCCIdeal.main_arg1) = m' ((c.tc : Thread Cert.ReferenceCCIdeal.nD Cert.ReferenceCCIdeal.τ).loc Cert.ReferenceCCIdeal.main_arg1)
          ∧ r.2.mem ((c.tc : Thread Cert.ReferenceCCIdeal.nD Cert.ReferenceCCIdeal.τ).loc Cert.ReferenceCCIdeal.main_arg2) = m' ((c.tc : Thread Cert.ReferenceCCIdeal.nD Cert.ReferenceCCIdeal.τ).loc Cert.ReferenceCCIdeal.main_arg2))

def Claim : Prop :=
  ∃ (hKernel : Cert.Kernel.Facts) (hKernelIdeal : Cert.KernelIdeal.Facts) (hReferenceIdeal : Cert.ReferenceIdeal.Facts) (hKernelPA : Cert.KernelPA.Facts) (hKernelPAIdeal : Cert.KernelPAIdeal.Facts) (hReferencePAIdeal : Cert.ReferencePAIdeal.Facts) (hKernelPB : Cert.KernelPB.Facts) (hKernelPBIdeal : Cert.KernelPBIdeal.Facts) (hReferencePBIdeal : Cert.ReferencePBIdeal.Facts) (hKernelPC : Cert.KernelPC.Facts) (hKernelPCIdeal : Cert.KernelPCIdeal.Facts) (hReferencePCIdeal : Cert.ReferencePCIdeal.Facts) (hKernelPG : Cert.KernelPG.Facts) (hKernelPGIdeal : Cert.KernelPGIdeal.Facts) (hReferencePGIdeal : Cert.ReferencePGIdeal.Facts) (hKernelM : Cert.KernelM.Facts) (hKernelMIdeal : Cert.KernelMIdeal.Facts) (hReferenceMIdeal : Cert.ReferenceMIdeal.Facts) (hKernelO : Cert.KernelO.Facts) (hKernelOIdeal : Cert.KernelOIdeal.Facts) (hReferenceOIdeal : Cert.ReferenceOIdeal.Facts) (hKernelD : Cert.KernelD.Facts) (hKernelDIdeal : Cert.KernelDIdeal.Facts) (hReferenceDIdeal : Cert.ReferenceDIdeal.Facts) (hKernelN : Cert.KernelN.Facts) (hKernelNIdeal : Cert.KernelNIdeal.Facts) (hReferenceNIdeal : Cert.ReferenceNIdeal.Facts) (hKernelF : Cert.KernelF.Facts) (hKernelFIdeal : Cert.KernelFIdeal.Facts) (hReferenceFIdeal : Cert.ReferenceFIdeal.Facts) (hKernelR : Cert.KernelR.Facts) (hKernelRIdeal : Cert.KernelRIdeal.Facts) (hReferenceRIdeal : Cert.ReferenceRIdeal.Facts) (hKernelCA : Cert.KernelCA.Facts) (hKernelCAIdeal : Cert.KernelCAIdeal.Facts) (hReferenceCAIdeal : Cert.ReferenceCAIdeal.Facts) (hKernelCC : Cert.KernelCC.Facts) (hKernelCCIdeal : Cert.KernelCCIdeal.Facts) (hReferenceCCIdeal : Cert.ReferenceCCIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelPA (hKernelPA := hKernelPA)
    ∧ quiescent_KernelPAIdeal (hKernelPAIdeal := hKernelPAIdeal)
    ∧ quiescent_ReferencePAIdeal (hReferencePAIdeal := hReferencePAIdeal)
    ∧ quiescent_KernelPB (hKernelPB := hKernelPB)
    ∧ quiescent_KernelPBIdeal (hKernelPBIdeal := hKernelPBIdeal)
    ∧ quiescent_ReferencePBIdeal (hReferencePBIdeal := hReferencePBIdeal)
    ∧ quiescent_KernelPC (hKernelPC := hKernelPC)
    ∧ quiescent_KernelPCIdeal (hKernelPCIdeal := hKernelPCIdeal)
    ∧ quiescent_ReferencePCIdeal (hReferencePCIdeal := hReferencePCIdeal)
    ∧ quiescent_KernelPG (hKernelPG := hKernelPG)
    ∧ quiescent_KernelPGIdeal (hKernelPGIdeal := hKernelPGIdeal)
    ∧ quiescent_ReferencePGIdeal (hReferencePGIdeal := hReferencePGIdeal)
    ∧ quiescent_KernelM (hKernelM := hKernelM)
    ∧ quiescent_KernelMIdeal (hKernelMIdeal := hKernelMIdeal)
    ∧ quiescent_ReferenceMIdeal (hReferenceMIdeal := hReferenceMIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelD (hKernelD := hKernelD)
    ∧ quiescent_KernelDIdeal (hKernelDIdeal := hKernelDIdeal)
    ∧ quiescent_ReferenceDIdeal (hReferenceDIdeal := hReferenceDIdeal)
    ∧ quiescent_KernelN (hKernelN := hKernelN)
    ∧ quiescent_KernelNIdeal (hKernelNIdeal := hKernelNIdeal)
    ∧ quiescent_ReferenceNIdeal (hReferenceNIdeal := hReferenceNIdeal)
    ∧ quiescent_KernelF (hKernelF := hKernelF)
    ∧ quiescent_KernelFIdeal (hKernelFIdeal := hKernelFIdeal)
    ∧ quiescent_ReferenceFIdeal (hReferenceFIdeal := hReferenceFIdeal)
    ∧ quiescent_KernelR (hKernelR := hKernelR)
    ∧ quiescent_KernelRIdeal (hKernelRIdeal := hKernelRIdeal)
    ∧ quiescent_ReferenceRIdeal (hReferenceRIdeal := hReferenceRIdeal)
    ∧ quiescent_KernelCA (hKernelCA := hKernelCA)
    ∧ quiescent_KernelCAIdeal (hKernelCAIdeal := hKernelCAIdeal)
    ∧ quiescent_ReferenceCAIdeal (hReferenceCAIdeal := hReferenceCAIdeal)
    ∧ quiescent_KernelCC (hKernelCC := hKernelCC)
    ∧ quiescent_KernelCCIdeal (hKernelCCIdeal := hKernelCCIdeal)
    ∧ quiescent_ReferenceCCIdeal (hReferenceCCIdeal := hReferenceCCIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelPA_KernelPAIdeal
    ∧ algebraic_KernelPAIdeal_ReferencePAIdeal (hKernelPAIdeal := hKernelPAIdeal) (hReferencePAIdeal := hReferencePAIdeal)
    ∧ preserves_KernelPB_KernelPBIdeal
    ∧ algebraic_KernelPBIdeal_ReferencePBIdeal (hKernelPBIdeal := hKernelPBIdeal) (hReferencePBIdeal := hReferencePBIdeal)
    ∧ preserves_KernelPC_KernelPCIdeal
    ∧ algebraic_KernelPCIdeal_ReferencePCIdeal (hKernelPCIdeal := hKernelPCIdeal) (hReferencePCIdeal := hReferencePCIdeal)
    ∧ preserves_KernelPG_KernelPGIdeal
    ∧ algebraic_KernelPGIdeal_ReferencePGIdeal (hKernelPGIdeal := hKernelPGIdeal) (hReferencePGIdeal := hReferencePGIdeal)
    ∧ preserves_KernelM_KernelMIdeal
    ∧ algebraic_KernelMIdeal_ReferenceMIdeal (hKernelMIdeal := hKernelMIdeal) (hReferenceMIdeal := hReferenceMIdeal)
    ∧ preserves_KernelO_KernelOIdeal
    ∧ algebraic_KernelOIdeal_ReferenceOIdeal (hKernelOIdeal := hKernelOIdeal) (hReferenceOIdeal := hReferenceOIdeal)
    ∧ preserves_KernelD_KernelDIdeal
    ∧ algebraic_KernelDIdeal_ReferenceDIdeal (hKernelDIdeal := hKernelDIdeal) (hReferenceDIdeal := hReferenceDIdeal)
    ∧ preserves_KernelN_KernelNIdeal
    ∧ algebraic_KernelNIdeal_ReferenceNIdeal (hKernelNIdeal := hKernelNIdeal) (hReferenceNIdeal := hReferenceNIdeal)
    ∧ preserves_KernelF_KernelFIdeal
    ∧ algebraic_KernelFIdeal_ReferenceFIdeal (hKernelFIdeal := hKernelFIdeal) (hReferenceFIdeal := hReferenceFIdeal)
    ∧ preserves_KernelR_KernelRIdeal
    ∧ algebraic_KernelRIdeal_ReferenceRIdeal (hKernelRIdeal := hKernelRIdeal) (hReferenceRIdeal := hReferenceRIdeal)
    ∧ preserves_KernelCA_KernelCAIdeal
    ∧ algebraic_KernelCAIdeal_ReferenceCAIdeal (hKernelCAIdeal := hKernelCAIdeal) (hReferenceCAIdeal := hReferenceCAIdeal)
    ∧ preserves_KernelCC_KernelCCIdeal
    ∧ algebraic_KernelCCIdeal_ReferenceCCIdeal (hKernelCCIdeal := hKernelCCIdeal) (hReferenceCCIdeal := hReferenceCCIdeal)
-- ==== Pre_finite.lean ====
abbrev S2x1024x8448 : Shape := ⟨3, ![2, 1024, 8448]⟩
abbrev S2x8448x1024 : Shape := ⟨3, ![2, 8448, 1024]⟩
abbrev S4x64 : Shape := ⟨2, ![4, 64]⟩
abbrev S_ : Shape := ⟨0, ![]⟩
abbrev S128 : Shape := ⟨1, ![128]⟩
abbrev S1 : Shape := ⟨1, ![1]⟩
abbrev S3 : Shape := ⟨1, ![3]⟩

class Facts : Prop where
  bitsLt_bf16_f32 : FTy.bits .bf16 < FTy.bits .f32
  bcast_S_S2x1024x8448 : S_.BroadcastsInDim S2x1024x8448 (![] : Fin 0 → Fin S2x1024x8448.rank)
  reducesTo_S2x1024x8448_S_d0_1_2 : S2x1024x8448.ReducesTo [0, 1, 2] S_
  h_S_ : 0 < S_.numel
  bcast_S_S4x64 : S_.BroadcastsInDim S4x64 (![] : Fin 0 → Fin S4x64.rank)
  reducesTo_S4x64_S_d0_1 : S4x64.ReducesTo [0, 1] S_
  bcast_S_S1 : S_.BroadcastsInDim S1 (![] : Fin 0 → Fin S1.rank)
  concatenates_S1_S1_S1_S3_d0 : Shape.Concatenates [S1, S1, S1] S3 0

variable [Facts]

def fn {F : FTy → Type} [FloatOps F] (main_arg0 : FVec F S2x1024x8448 .bf16) (main_arg1 : FVec F S2x8448x1024 .bf16) (main_arg2 : FVec F S2x1024x8448 .bf16) (main_arg3 : FVec F S2x8448x1024 .f32) (main_arg4 : FVec F S4x64 .f32) (main_arg5 : FVec F S_ .f32) (main_arg6 : FVec F S128 .f32) : IVec S3 1 :=
  let main_v0 : FVec F S2x1024x8448 .f32 := (extf .f32 · bitsLt_bf16_f32) main_arg2
  let main_v1 : FVec F S2x1024x8448 .f32 := Host.absf main_v0
  let main_cst : FVec F S_ .f32 := constant S_ .f32 0x7F800000#32
  let main_v2 : FVec F S2x1024x8448 .f32 := broadcastInDim S2x1024x8448 ![] bcast_S_S2x1024x8448 main_cst
  let main_v3 : IVec S2x1024x8448 1 := cmpf .olt main_v1 main_v2
  let main_c : IVec S_ 1 := constantI S_ 1 1#1
  let main_v4 : IVec S_ 1 := (fun x v => Host.reduce IntOp.andi x v reducesTo_S2x1024x8448_S_d0_1_2 h_S_) main_v3 main_c
  let main_v5 : FVec F S4x64 .f32 := Host.absf main_arg4
  let main_cst_0 : FVec F S_ .f32 := constant S_ .f32 0x7F800000#32
  let main_v6 : FVec F S4x64 .f32 := broadcastInDim S4x64 ![] bcast_S_S4x64 main_cst_0
  let main_v7 : IVec S4x64 1 := cmpf .olt main_v5 main_v6
  let main_c_1 : IVec S_ 1 := constantI S_ 1 1#1
  let main_v8 : IVec S_ 1 := (fun x v => Host.reduce IntOp.andi x v reducesTo_S4x64_S_d0_1 h_S_) main_v7 main_c_1
  let main_v9 : FVec F S_ .f32 := Host.absf main_arg5
  let main_cst_2 : FVec F S_ .f32 := constant S_ .f32 0x7F800000#32
  let main_v10 : IVec S_ 1 := cmpf .olt main_v9 main_cst_2
  let main_v11 : IVec S1 1 := broadcastInDim S1 ![] bcast_S_S1 main_v4
  let main_v12 : IVec S1 1 := broadcastInDim S1 ![] bcast_S_S1 main_v8
  let main_v13 : IVec S1 1 := broadcastInDim S1 ![] bcast_S_S1 main_v10
  let main_v14 : IVec S3 1 := concatenate S3 0 [⟨S1, main_v11⟩, ⟨S1, main_v12⟩, ⟨S1, main_v13⟩] concatenates_S1_S1_S1_S3_d0
  main_v14
-- ==== Kernel.lean ====
abbrev S2x1024x8448 : Shape := ⟨3, ![2, 1024, 8448]⟩
abbrev S2x8448x1024 : Shape := ⟨3, ![2, 8448, 1024]⟩
abbrev S4x64 : Shape := ⟨2, ![4, 64]⟩
abbrev S_ : Shape := ⟨0, ![]⟩
abbrev S128 : Shape := ⟨1, ![128]⟩
abbrev S1x64 : Shape := ⟨2, ![1, 64]⟩
abbrev S64 : Shape := ⟨1, ![64]⟩
abbrev S2x1024x8192 : Shape := ⟨3, ![2, 1024, 8192]⟩
abbrev S2x8192x1024 : Shape := ⟨3, ![2, 8192, 1024]⟩
abbrev S1 : Shape := ⟨1, ![1]⟩
abbrev S2 : Shape := ⟨1, ![2]⟩
abbrev S1x2 : Shape := ⟨2, ![1, 2]⟩
abbrev S128x1 : Shape := ⟨2, ![128, 1]⟩
abbrev S1x128x1024 : Shape := ⟨3, ![1, 128, 1024]⟩
abbrev S1x8448x128 : Shape := ⟨3, ![1, 8448, 128]⟩
abbrev S1x128x8448 : Shape := ⟨3, ![1, 128, 8448]⟩
abbrev S1x1024x128 : Shape := ⟨3, ![1, 1024, 128]⟩
abbrev S128x2048 : Shape := ⟨2, ![128, 2048]⟩
abbrev S8x2048 : Shape := ⟨2, ![8, 2048]⟩
abbrev S128x1024 : Shape := ⟨2, ![128, 1024]⟩
abbrev S16x768 : Shape := ⟨2, ![16, 768]⟩
abbrev S1x768x128 : Shape := ⟨3, ![1, 768, 128]⟩
abbrev S768x128 : Shape := ⟨2, ![768, 128]⟩
abbrev S128x256 : Shape := ⟨2, ![128, 256]⟩
abbrev S768x256 : Shape := ⟨2, ![768, 256]⟩
abbrev S1x128x768 : Shape := ⟨3, ![1, 128, 768]⟩
abbrev S128x768 : Shape := ⟨2, ![128, 768]⟩
abbrev S144x768 : Shape := ⟨2, ![144, 768]⟩
abbrev S8x256 : Shape := ⟨2, ![8, 256]⟩
abbrev S256 : Shape := ⟨1, ![256]⟩
abbrev S1x256 : Shape := ⟨2, ![1, 256]⟩
abbrev S144x256 : Shape := ⟨2, ![144, 256]⟩
abbrev S1x2048 : Shape := ⟨2, ![1, 2048]⟩
abbrev S1x1 : Shape := ⟨2, ![1, 1]⟩
abbrev S1024 : Shape := ⟨1, ![1024]⟩
abbrev S1x1024 : Shape := ⟨2, ![1, 1024]⟩
abbrev S1024x128 : Shape := ⟨2, ![1024, 128]⟩

abbrev nBuf : Space → Nat
  | .hbm => 35
  | .vmem => 15
  | .smem => 1
  | _ => 0

abbrev bufTy : (tb : Table) → Fin (tcTables nBuf tb) → BufTy
  | .hbm, ⟨0, _⟩ => ⟨S2x1024x8448, .bf16⟩
  | .hbm, ⟨1, _⟩ => ⟨S2x8448x1024, .bf16⟩
  | .hbm, ⟨2, _⟩ => ⟨S2x1024x8448, .bf16⟩
  | .hbm, ⟨3, _⟩ => ⟨S2x8448x1024, .f32⟩
  | .hbm, ⟨4, _⟩ => ⟨S4x64, .f32⟩
  | .hbm, ⟨5, _⟩ => ⟨S_, .f32⟩
  | .hbm, ⟨6, _⟩ => ⟨S128, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2x1024x8192, .bf16⟩
  | .hbm, ⟨28, _⟩ => ⟨S2x8192x1024, .f32⟩
  | .hbm, ⟨29, _⟩ => ⟨S1, .f32⟩
  | .hbm, ⟨30, _⟩ => ⟨S1, .f32⟩
  | .hbm, ⟨31, _⟩ => ⟨S2, .f32⟩
  | .hbm, ⟨32, _⟩ => ⟨S1x2, .f32⟩
  | .hbm, ⟨33, _⟩ => ⟨S128x1, .f32⟩
  | .hbm, ⟨34, _⟩ => ⟨S2x8192x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x128x8448, .bf16⟩
  | .local _ .vmem, ⟨5, _⟩ => ⟨S1x128x8448, .bf16⟩
  | .local _ .vmem, ⟨6, _⟩ => ⟨S1x1024x128, .f32⟩
  | .local _ .vmem, ⟨7, _⟩ => ⟨S1x1024x128, .f32⟩
  | .local _ .vmem, ⟨8, _⟩ => ⟨S128x1, .f32⟩
  | .local _ .vmem, ⟨9, _⟩ => ⟨S1x1024x128, .bf16⟩
  | .local _ .vmem, ⟨10, _⟩ => ⟨S1x1024x128, .bf16⟩
  | .local _ .vmem, ⟨11, _⟩ => ⟨S128x2048, .bf16⟩
  | .local _ .vmem, ⟨12, _⟩ => ⟨S8x2048, .f32⟩
  | .local _ .vmem, ⟨13, _⟩ => ⟨S8x2048, .f32⟩
  | .local _ .vmem, ⟨14, _⟩ => ⟨S128x2048, .f32⟩
  | .local _ .smem, ⟨0, _⟩ => ⟨S1x2, .f32⟩
  | _, _ => ⟨S2x1024x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨4, ![2, 8, 8, 1], ![false, false, false, false]⟩

def k0_cond2 (i : grid0.Coords) : BitVec 1 :=
  let arg3 : BitVec 32 := BitVec.ofNat 32 (i 3).val
  let c0_i32_1547 : BitVec 32 := 0#32
  let v3051 : BitVec 1 := Scalar.cmpi .eq arg3 c0_i32_1547
  let v3052 : BitVec 32 := Scalar.extui v3051
  let c0_i32_1548 : BitVec 32 := 0#32
  let v3053 : BitVec 1 := Scalar.cmpi .ne v3052 c0_i32_1548
  v3053

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 1 → Memref sig .tc .smem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S1x128x8448 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false, false]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, false]
-- ==== ReferenceIdeal.lean ====
abbrev S2x1024x8448 : Shape := ⟨3, ![2, 1024, 8448]⟩
abbrev S2x8448x1024 : Shape := ⟨3, ![2, 8448, 1024]⟩
abbrev S4x64 : Shape := ⟨2, ![4, 64]⟩
abbrev S_ : Shape := ⟨0, ![]⟩
abbrev S128 : Shape := ⟨1, ![128]⟩
abbrev S1x64 : Shape := ⟨2, ![1, 64]⟩
abbrev S64 : Shape := ⟨1, ![64]⟩
abbrev S2x1024x8192 : Shape := ⟨3, ![2, 1024, 8192]⟩
abbrev S2x8x2x64x8192 : Shape := ⟨5, ![2, 8, 2, 64, 8192]⟩
abbrev S2x8448x8x2x64 : Shape := ⟨5, ![2, 8448, 8, 2, 64]⟩
abbrev S2x8x128x8448 : Shape := ⟨4, ![2, 8, 128, 8448]⟩
abbrev S2x8x2x8192x8448 : Shape := ⟨5, ![2, 8, 2, 8192, 8448]⟩
abbrev S2x8x2x8192 : Shape := ⟨4, ![2, 8, 2, 8192]⟩
abbrev S2x8x2x8192x1 : Shape := ⟨5, ![2, 8, 2, 8192, 1]⟩
abbrev S2x8x1x8192x8448 : Shape := ⟨5, ![2, 8, 1, 8192, 8448]⟩
abbrev S2x8x8192x8448 : Shape := ⟨4, ![2, 8, 8192, 8448]⟩
abbrev S2x8x128x8192 : Shape := ⟨4, ![2, 8, 128, 8192]⟩
abbrev S2x8192x8x128 : Shape := ⟨4, ![2, 8192, 8, 128]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S2x8192x1024 : Shape := ⟨3, ![2, 8192, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2x1024x8448, .bf16⟩
  | .hbm, ⟨1, _⟩ => ⟨S2x8448x1024, .bf16⟩
  | .hbm, ⟨2, _⟩ => ⟨S2x1024x8448, .bf16⟩
  | .hbm, ⟨3, _⟩ => ⟨S2x8448x1024, .f32⟩
  | .hbm, ⟨4, _⟩ => ⟨S4x64, .f32⟩
  | .hbm, ⟨5, _⟩ => ⟨S_, .f32⟩
  | .hbm, ⟨6, _⟩ => ⟨S128, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2x1024x8448, .f32⟩
  | .hbm, ⟨26, _⟩ => ⟨S2x1024x8192, .f32⟩
  | .hbm, ⟨27, _⟩ => ⟨S2x8x2x64x8192, .f32⟩
  | .hbm, ⟨28, _⟩ => ⟨S2x8448x1024, .f32⟩
  | .hbm, ⟨29, _⟩ => ⟨S2x8448x8x2x64, .f32⟩
  | .hbm, ⟨30, _⟩ => ⟨S2x1024x8448, .f32⟩
  | .hbm, ⟨31, _⟩ => ⟨S2x8x128x8448, .f32⟩
  | .hbm, ⟨32, _⟩ => ⟨S2x8x2x8192x8448, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2x8x2x8192x8448, .f32⟩
  | .hbm, ⟨37, _⟩ => ⟨S2x8x2x8192x8448, .f32⟩
  | .hbm, ⟨38, _⟩ => ⟨S_, .f32⟩
  | .hbm, ⟨39, _⟩ => ⟨S2x8x2x8192, .f32⟩
  | .hbm, ⟨40, _⟩ => ⟨S_, .f32⟩
  | .hbm, ⟨41, _⟩ => ⟨S2x8x2x8192, .f32⟩
  | .hbm, ⟨42, _⟩ => ⟨S2x8x2x8192, .f32⟩
  | .hbm, ⟨43, _⟩ => ⟨S2x8x2x8192x1, .f32⟩
  | .hbm, ⟨44, _⟩ => ⟨S2x8x2x8192x8448, .f32⟩
  | .hbm, ⟨45, _⟩ => ⟨S2x8x2x8192x8448, .f32⟩
  | .hbm, ⟨46, _⟩ => ⟨S2x8x2x8192x8448, .f32⟩
  | .hbm, ⟨47, _⟩ => ⟨S_, .f32⟩
  | .hbm, ⟨48, _⟩ => ⟨S2x8x2x8192, .f32⟩
  | .hbm, ⟨49, _⟩ => ⟨S2x8x2x8192x1, .f32⟩
  | .hbm, ⟨50, _⟩ => ⟨S2x8x2x8192x8448, .f32⟩
  | .hbm, ⟨51, _⟩ => ⟨S2x8x2x8192x8448, .f32⟩
  | .hbm, ⟨52, _⟩ => ⟨S2x8x1x8192x8448, .f32⟩
  | .hbm, ⟨53, _⟩ => ⟨S2x8x8192x8448, .f32⟩
  | .hbm, ⟨54, _⟩ => ⟨S2x8x1x8192x8448, .f32⟩
  | .hbm, ⟨55, _⟩ => ⟨S2x8x8192x8448, .f32⟩
  | .hbm, ⟨56, _⟩ => ⟨S2x8x8192x8448, .f32⟩
  | .hbm, ⟨57, _⟩ => ⟨S2x8x8192x8448, .f32⟩
  | .hbm, ⟨58, _⟩ => ⟨S2x8x8192x8448, .f32⟩
  | .hbm, ⟨59, _⟩ => ⟨S2x8x128x8192, .f32⟩
  | .hbm, ⟨60, _⟩ => ⟨S2x8192x8x128, .f32⟩
  | .hbm, ⟨61, _⟩ => ⟨S2x8192x8x128, .f32⟩
  | .hbm, ⟨62, _⟩ => ⟨S_, .f32⟩
  | .hbm, ⟨63, _⟩ => ⟨S2x8192x8, .f32⟩
  | .hbm, ⟨64, _⟩ => ⟨S2x8192x8x1, .f32⟩
  | .hbm, ⟨65, _⟩ => ⟨S_, .f32⟩
  | .hbm, ⟨66, _⟩ => ⟨S2x8192x8x1, .f32⟩
  | .hbm, ⟨67, _⟩ => ⟨S2x8192x8x1, .f32⟩
  | .hbm, ⟨68, _⟩ => ⟨S_, .f32⟩
  | .hbm, ⟨69, _⟩ => ⟨S2x8192x8x1, .f32⟩
  | .hbm, ⟨70, _⟩ => ⟨S2x8192x8x1, .f32⟩
  | .hbm, ⟨71, _⟩ => ⟨S2x8192x8x1, .f32⟩
  | .hbm, ⟨72, _⟩ => ⟨S2x8192x8x128, .f32⟩
  | .hbm, ⟨73, _⟩ => ⟨S2x8192x8x128, .f32⟩
  | .hbm, ⟨74, _⟩ => ⟨S1x1x1x128, .f32⟩
  | .hbm, ⟨75, _⟩ => ⟨S2x8192x8x128, .f32⟩
  | .hbm, ⟨76, _⟩ => ⟨S2x8192x8x128, .f32⟩
  | .hbm, ⟨77, _⟩ => ⟨S_, .f32⟩
  | .hbm, ⟨78, _⟩ => ⟨S_, .f32⟩
  | .hbm, ⟨79, _⟩ => ⟨S2x8192x8x128, .f32⟩
  | .hbm, ⟨80, _⟩ => ⟨S2x8192x8x128, .f32⟩
  | .hbm, ⟨81, _⟩ => ⟨S2x8192x1024, .f32⟩
  | .hbm, ⟨82, _⟩ => ⟨S2x8192x1024, .f32⟩
  | .hbm, ⟨83, _⟩ => ⟨S2x8192x1024, .f32⟩
  | .hbm, ⟨84, _⟩ => ⟨S2x8192x1024, .f32⟩
  | .hbm, ⟨85, _⟩ => ⟨S_, .f32⟩
  | .hbm, ⟨86, _⟩ => ⟨S2x8192x1024, .f32⟩
  | .hbm, ⟨87, _⟩ => ⟨S2x8192x1024, .f32⟩
  | .hbm, ⟨88, _⟩ => ⟨S_, .f32⟩
  | .hbm, ⟨89, _⟩ => ⟨S2x8192x1024, .f32⟩
  | .hbm, ⟨90, _⟩ => ⟨S2x8192x1024, .f32⟩
  | .hbm, ⟨91, _⟩ => ⟨S2x8192x1024, .f32⟩
  | .hbm, ⟨92, _⟩ => ⟨S2x8192x1024, .f32⟩
  | .hbm, ⟨93, _⟩ => ⟨S2x8192x1024, .bf16⟩
  | _, _ => ⟨S2x1024x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== KernelPA.lean ====
abbrev S16896x4096 : Shape := ⟨2, ![16896, 4096]⟩
abbrev S4096x26944 : Shape := ⟨2, ![4096, 26944]⟩
abbrev S4096x4352 : Shape := ⟨2, ![4096, 4352]⟩
abbrev S4096x64 : Shape := ⟨2, ![4096, 64]⟩
abbrev S_ : Shape := ⟨0, ![]⟩
abbrev S4096x192 : Shape := ⟨2, ![4096, 192]⟩
abbrev S4096x4608 : Shape := ⟨2, ![4096, 4608]⟩
abbrev S16896x4608 : Shape := ⟨2, ![16896, 4608]⟩
abbrev S1536x4096 : Shape := ⟨2, ![1536, 4096]⟩
abbrev S4096x512 : Shape := ⟨2, ![4096, 512]⟩
abbrev S1536x512 : Shape := ⟨2, ![1536, 512]⟩

abbrev nBuf : Space → Nat
  | .hbm => 9
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x26944, .f32⟩
  | .hbm, ⟨2, _⟩ => ⟨S4096x4352, .f32⟩
  | .hbm, ⟨3, _⟩ => ⟨S4096x64, .f32⟩
  | .hbm, ⟨4, _⟩ => ⟨S_, .f32⟩
  | .hbm, ⟨5, _⟩ => ⟨S4096x192, .f32⟩
  | .hbm, ⟨6, _⟩ => ⟨S4096x4608, .f32⟩
  | .hbm, ⟨7, _⟩ => ⟨S4096x4608, .bf16⟩
  | .hbm, ⟨8, _⟩ => ⟨S16896x4608, .f32⟩
  | .local _ .vmem, ⟨0, _⟩ => ⟨S1536x4096, .bf16⟩
  | .local _ .vmem, ⟨1, _⟩ => ⟨S1536x4096, .bf16⟩
  | .local _ .vmem, ⟨2, _⟩ => ⟨S4096x512, .bf16⟩
  | .local _ .vmem, ⟨3, _⟩ => ⟨S4096x512, .bf16⟩
  | .local _ .vmem, ⟨4, _⟩ => ⟨S1536x512, .f32⟩
  | .local _ .vmem, ⟨5, _⟩ => ⟨S1536x512, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferencePAIdeal.lean ====
abbrev S16896x4096 : Shape := ⟨2, ![16896, 4096]⟩
abbrev S4096x26944 : Shape := ⟨2, ![4096, 26944]⟩
abbrev S16896x26944 : Shape := ⟨2, ![16896, 26944]⟩
abbrev S16896x4352 : Shape := ⟨2, ![16896, 4352]⟩
abbrev S16896x64 : Shape := ⟨2, ![16896, 64]⟩
abbrev S_ : Shape := ⟨0, ![]⟩
abbrev S16896x192 : Shape := ⟨2, ![16896, 192]⟩
abbrev S16896x4608 : Shape := ⟨2, ![16896, 4608]⟩

abbrev nBuf : Space → Nat
  | .hbm => 9
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x26944, .f32⟩
  | .hbm, ⟨2, _⟩ => ⟨S16896x4096, .f32⟩
  | .hbm, ⟨3, _⟩ => ⟨S16896x26944, .f32⟩
  | .hbm, ⟨4, _⟩ => ⟨S16896x4352, .f32⟩
  | .hbm, ⟨5, _⟩ => ⟨S16896x64, .f32⟩
  | .hbm, ⟨6, _⟩ => ⟨S_, .f32⟩
  | .hbm, ⟨7, _⟩ => ⟨S16896x192, .f32⟩
  | .hbm, ⟨8, _⟩ => ⟨S16896x4608, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelPB.lean ====
abbrev S16896x4096 : Shape := ⟨2, ![16896, 4096]⟩
abbrev S4096x26944 : Shape := ⟨2, ![4096, 26944]⟩
abbrev S4096x4096 : Shape := ⟨2, ![4096, 4096]⟩
abbrev S1536x4096 : Shape := ⟨2, ![1536, 4096]⟩
abbrev S4096x512 : Shape := ⟨2, ![4096, 512]⟩
abbrev S1536x512 : Shape := ⟨2, ![1536, 512]⟩

abbrev nBuf : Space → Nat
  | .hbm => 5
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x26944, .f32⟩
  | .hbm, ⟨2, _⟩ => ⟨S4096x4096, .f32⟩
  | .hbm, ⟨3, _⟩ => ⟨S4096x4096, .bf16⟩
  | .hbm, ⟨4, _⟩ => ⟨S16896x4096, .f32⟩
  | .local _ .vmem, ⟨0, _⟩ => ⟨S1536x4096, .bf16⟩
  | .local _ .vmem, ⟨1, _⟩ => ⟨S1536x4096, .bf16⟩
  | .local _ .vmem, ⟨2, _⟩ => ⟨S4096x512, .bf16⟩
  | .local _ .vmem, ⟨3, _⟩ => ⟨S4096x512, .bf16⟩
  | .local _ .vmem, ⟨4, _⟩ => ⟨S1536x512, .f32⟩
  | .local _ .vmem, ⟨5, _⟩ => ⟨S1536x512, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferencePBIdeal.lean ====
abbrev S16896x4096 : Shape := ⟨2, ![16896, 4096]⟩
abbrev S4096x26944 : Shape := ⟨2, ![4096, 26944]⟩
abbrev S16896x26944 : Shape := ⟨2, ![16896, 26944]⟩

abbrev nBuf : Space → Nat
  | .hbm => 5
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x26944, .f32⟩
  | .hbm, ⟨2, _⟩ => ⟨S16896x4096, .f32⟩
  | .hbm, ⟨3, _⟩ => ⟨S16896x26944, .f32⟩
  | .hbm, ⟨4, _⟩ => ⟨S16896x4096, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelPC.lean ====
abbrev S16896x4096 : Shape := ⟨2, ![16896, 4096]⟩
abbrev S4096x26944 : Shape := ⟨2, ![4096, 26944]⟩
abbrev S4096x6144 : Shape := ⟨2, ![4096, 6144]⟩
abbrev S16896x6144 : Shape := ⟨2, ![16896, 6144]⟩
abbrev S1536x4096 : Shape := ⟨2, ![1536, 4096]⟩
abbrev S4096x512 : Shape := ⟨2, ![4096, 512]⟩
abbrev S1536x512 : Shape := ⟨2, ![1536, 512]⟩

abbrev nBuf : Space → Nat
  | .hbm => 5
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x26944, .f32⟩
  | .hbm, ⟨2, _⟩ => ⟨S4096x6144, .f32⟩
  | .hbm, ⟨3, _⟩ => ⟨S4096x6144, .bf16⟩
  | .hbm, ⟨4, _⟩ => ⟨S16896x6144, .f32⟩
  | .local _ .vmem, ⟨0, _⟩ => ⟨S1536x4096, .bf16⟩
  | .local _ .vmem, ⟨1, _⟩ => ⟨S1536x4096, .bf16⟩
  | .local _ .vmem, ⟨2, _⟩ => ⟨S4096x512, .bf16⟩
  | .local _ .vmem, ⟨3, _⟩ => ⟨S4096x512, .bf16⟩
  | .local _ .vmem, ⟨4, _⟩ => ⟨S1536x512, .f32⟩
  | .local _ .vmem, ⟨5, _⟩ => ⟨S1536x512, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferencePCIdeal.lean ====
abbrev S16896x4096 : Shape := ⟨2, ![16896, 4096]⟩
abbrev S4096x26944 : Shape := ⟨2, ![4096, 26944]⟩
abbrev S16896x26944 : Shape := ⟨2, ![16896, 26944]⟩
abbrev S16896x6144 : Shape := ⟨2, ![16896, 6144]⟩

abbrev nBuf : Space → Nat
  | .hbm => 5
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x26944, .f32⟩
  | .hbm, ⟨2, _⟩ => ⟨S16896x4096, .f32⟩
  | .hbm, ⟨3, _⟩ => ⟨S16896x26944, .f32⟩
  | .hbm, ⟨4, _⟩ => ⟨S16896x6144, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelPG.lean ====
abbrev S16896x4096 : Shape := ⟨2, ![16896, 4096]⟩
abbrev S4096x26944 : Shape := ⟨2, ![4096, 26944]⟩
abbrev S4096x12288 : Shape := ⟨2, ![4096, 12288]⟩
abbrev S16896x12288 : Shape := ⟨2, ![16896, 12288]⟩
abbrev S1536x4096 : Shape := ⟨2, ![1536, 4096]⟩
abbrev S4096x512 : Shape := ⟨2, ![4096, 512]⟩
abbrev S1536x512 : Shape := ⟨2, ![1536, 512]⟩

abbrev nBuf : Space → Nat
  | .hbm => 5
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x26944, .f32⟩
  | .hbm, ⟨2, _⟩ => ⟨S4096x12288, .f32⟩
  | .hbm, ⟨3, _⟩ => ⟨S4096x12288, .bf16⟩
  | .hbm, ⟨4, _⟩ => ⟨S16896x12288, .f32⟩
  | .local _ .vmem, ⟨0, _⟩ => ⟨S1536x4096, .bf16⟩
  | .local _ .vmem, ⟨1, _⟩ => ⟨S1536x4096, .bf16⟩
  | .local _ .vmem, ⟨2, _⟩ => ⟨S4096x512, .bf16⟩
  | .local _ .vmem, ⟨3, _⟩ => ⟨S4096x512, .bf16⟩
  | .local _ .vmem, ⟨4, _⟩ => ⟨S1536x512, .f32⟩
  | .local _ .vmem, ⟨5, _⟩ => ⟨S1536x512, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferencePGIdeal.lean ====
abbrev S16896x4096 : Shape := ⟨2, ![16896, 4096]⟩
abbrev S4096x26944 : Shape := ⟨2, ![4096, 26944]⟩
abbrev S16896x26944 : Shape := ⟨2, ![16896, 26944]⟩
abbrev S16896x12288 : Shape := ⟨2, ![16896, 12288]⟩

abbrev nBuf : Space → Nat
  | .hbm => 5
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x26944, .f32⟩
  | .hbm, ⟨2, _⟩ => ⟨S16896x4096, .f32⟩
  | .hbm, ⟨3, _⟩ => ⟨S16896x26944, .f32⟩
  | .hbm, ⟨4, _⟩ => ⟨S16896x12288, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelM.lean ====
abbrev S16896x1024 : Shape := ⟨2, ![16896, 1024]⟩
abbrev S16896x2048 : Shape := ⟨2, ![16896, 2048]⟩
abbrev S1024x4096 : Shape := ⟨2, ![1024, 4096]⟩
abbrev S2048x4096 : Shape := ⟨2, ![2048, 4096]⟩
abbrev S16896x12288 : Shape := ⟨2, ![16896, 12288]⟩
abbrev S16896x4096 : Shape := ⟨2, ![16896, 4096]⟩
abbrev S768x1024 : Shape := ⟨2, ![768, 1024]⟩
abbrev S768x2048 : Shape := ⟨2, ![768, 2048]⟩
abbrev S1024x512 : Shape := ⟨2, ![1024, 512]⟩
abbrev S2048x512 : Shape := ⟨2, ![2048, 512]⟩
abbrev S768x512 : Shape := ⟨2, ![768, 512]⟩

abbrev nBuf : Space → Nat
  | .hbm => 11
  | .vmem => 20
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x2048, .bf16⟩
  | .hbm, ⟨3, _⟩ => ⟨S1024x4096, .f32⟩
  | .hbm, ⟨4, _⟩ => ⟨S1024x4096, .f32⟩
  | .hbm, ⟨5, _⟩ => ⟨S2048x4096, .f32⟩
  | .hbm, ⟨6, _⟩ => ⟨S16896x12288, .f32⟩
  | .hbm, ⟨7, _⟩ => ⟨S1024x4096, .bf16⟩
  | .hbm, ⟨8, _⟩ => ⟨S1024x4096, .bf16⟩
  | .hbm, ⟨9, _⟩ => ⟨S2048x4096, .bf16⟩
  | .hbm, ⟨10, _⟩ => ⟨S16896x4096, .bf16⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S768x2048, .bf16⟩
  | .local _ .vmem, ⟨5, _⟩ => ⟨S768x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S2048x512, .bf16⟩
  | .local _ .vmem, ⟨11, _⟩ => ⟨S2048x512, .bf16⟩
  | .local _ .vmem, ⟨12, _⟩ => ⟨S768x512, .f32⟩
  | .local _ .vmem, ⟨13, _⟩ => ⟨S768x512, .f32⟩
  | .local _ .vmem, ⟨14, _⟩ => ⟨S768x512, .f32⟩
  | .local _ .vmem, ⟨15, _⟩ => ⟨S768x512, .f32⟩
  | .local _ .vmem, ⟨16, _⟩ => ⟨S768x512, .f32⟩
  | .local _ .vmem, ⟨17, _⟩ => ⟨S768x512, .f32⟩
  | .local _ .vmem, ⟨18, _⟩ => ⟨S768x512, .bf16⟩
  | .local _ .vmem, ⟨19, _⟩ => ⟨S768x512, .bf16⟩
  | _, _ => ⟨S16896x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![22, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S768x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S768x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S768x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceMIdeal.lean ====
abbrev S16896x1024 : Shape := ⟨2, ![16896, 1024]⟩
abbrev S16896x2048 : Shape := ⟨2, ![16896, 2048]⟩
abbrev S1024x4096 : Shape := ⟨2, ![1024, 4096]⟩
abbrev S2048x4096 : Shape := ⟨2, ![2048, 4096]⟩
abbrev S16896x12288 : Shape := ⟨2, ![16896, 12288]⟩
abbrev S16896x4096 : Shape := ⟨2, ![16896, 4096]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S16896x1024, .bf16⟩
  | .hbm, ⟨1, _⟩ => ⟨S16896x1024, .bf16⟩
  | .hbm, ⟨2, _⟩ => ⟨S16896x2048, .bf16⟩
  | .hbm, ⟨3, _⟩ => ⟨S1024x4096, .f32⟩
  | .hbm, ⟨4, _⟩ => ⟨S1024x4096, .f32⟩
  | .hbm, ⟨5, _⟩ => ⟨S2048x4096, .f32⟩
  | .hbm, ⟨6, _⟩ => ⟨S16896x12288, .f32⟩
  | .hbm, ⟨7, _⟩ => ⟨S16896x4096, .f32⟩
  | .hbm, ⟨8, _⟩ => ⟨S16896x4096, .f32⟩
  | .hbm, ⟨9, _⟩ => ⟨S16896x4096, .f32⟩
  | .hbm, ⟨10, _⟩ => ⟨S16896x4096, .f32⟩
  | .hbm, ⟨11, _⟩ => ⟨S16896x4096, .f32⟩
  | .hbm, ⟨12, _⟩ => ⟨S_, .f32⟩
  | .hbm, ⟨13, _⟩ => ⟨S16896x4096, .f32⟩
  | .hbm, ⟨14, _⟩ => ⟨S16896x4096, .f32⟩
  | .hbm, ⟨15, _⟩ => ⟨S_, .f32⟩
  | .hbm, ⟨16, _⟩ => ⟨S16896x4096, .f32⟩
  | .hbm, ⟨17, _⟩ => ⟨S16896x4096, .f32⟩
  | .hbm, ⟨18, _⟩ => ⟨S16896x1024, .f32⟩
  | .hbm, ⟨19, _⟩ => ⟨S16896x4096, .f32⟩
  | .hbm, ⟨20, _⟩ => ⟨S16896x4096, .f32⟩
  | .hbm, ⟨21, _⟩ => ⟨S16896x4096, .f32⟩
  | .hbm, ⟨22, _⟩ => ⟨S16896x4096, .f32⟩
  | .hbm, ⟨23, _⟩ => ⟨S_, .f32⟩
  | .hbm, ⟨24, _⟩ => ⟨S16896x4096, .f32⟩
  | .hbm, ⟨25, _⟩ => ⟨S16896x4096, .f32⟩
  | .hbm, ⟨26, _⟩ => ⟨S_, .f32⟩
  | .hbm, ⟨27, _⟩ => ⟨S16896x4096, .f32⟩
  | .hbm, ⟨28, _⟩ => ⟨S16896x4096, .f32⟩
  | .hbm, ⟨29, _⟩ => ⟨S16896x1024, .f32⟩
  | .hbm, ⟨30, _⟩ => ⟨S16896x4096, .f32⟩
  | .hbm, ⟨31, _⟩ => ⟨S16896x4096, .f32⟩
  | .hbm, ⟨32, _⟩ => ⟨S16896x4096, .f32⟩
  | .hbm, ⟨33, _⟩ => ⟨S16896x4096, .f32⟩
  | .hbm, ⟨34, _⟩ => ⟨S16896x4096, .f32⟩
  | .hbm, ⟨35, _⟩ => ⟨S_, .f32⟩
  | .hbm, ⟨36, _⟩ => ⟨S16896x4096, .f32⟩
  | .hbm, ⟨37, _⟩ => ⟨S16896x4096, .f32⟩
  | .hbm, ⟨38, _⟩ => ⟨S_, .f32⟩
  | .hbm, ⟨39, _⟩ => ⟨S16896x4096, .f32⟩
  | .hbm, ⟨40, _⟩ => ⟨S16896x4096, .f32⟩
  | .hbm, ⟨41, _⟩ => ⟨S16896x2048, .f32⟩
  | .hbm, ⟨42, _⟩ => ⟨S16896x4096, .f32⟩
  | .hbm, ⟨43, _⟩ => ⟨S16896x4096, .f32⟩
  | .hbm, ⟨44, _⟩ => ⟨S16896x4096, .f32⟩
  | .hbm, ⟨45, _⟩ => ⟨S16896x4096, .bf16⟩
  | _, _ => ⟨S16896x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== KernelO.lean ====
abbrev S16896x4096 : Shape := ⟨2, ![16896, 4096]⟩
abbrev S4096x4096 : Shape := ⟨2, ![4096, 4096]⟩
abbrev S2x8448x4096 : Shape := ⟨3, ![2, 8448, 4096]⟩
abbrev S2x4096 : Shape := ⟨2, ![2, 4096]⟩
abbrev S4096 : Shape := ⟨1, ![4096]⟩
abbrev S1x4096 : Shape := ⟨2, ![1, 4096]⟩
abbrev S3x4096 : Shape := ⟨2, ![3, 4096]⟩
abbrev S384x512 : Shape := ⟨2, ![384, 512]⟩
abbrev S512x4096 : Shape := ⟨2, ![512, 4096]⟩
abbrev S384x4096 : Shape := ⟨2, ![384, 4096]⟩
abbrev S384 : Shape := ⟨1, ![384]⟩
abbrev S384x1 : Shape := ⟨2, ![384, 1]⟩

abbrev nBuf : Space → Nat
  | .hbm => 12
  | .vmem => 11
  | .smem => 0
  | _ => 0

abbrev bufTy : (tb : Table) → Fin (tcTables nBuf tb) → BufTy
  | .hbm, ⟨0, _⟩ => ⟨S16896x4096, .bf16⟩
  | .hbm, ⟨1, _⟩ => ⟨S4096x4096, .f32⟩
  | .hbm, ⟨2, _⟩ => ⟨S2x8448x4096, .f32⟩
  | .hbm, ⟨3, _⟩ => ⟨S2x4096, .f32⟩
  | .hbm, ⟨4, _⟩ => ⟨S4096, .f32⟩
  | .hbm, ⟨5, _⟩ => ⟨S4096, .f32⟩
  | .hbm, ⟨6, _⟩ => ⟨S4096x4096, .bf16⟩
  | .hbm, ⟨7, _⟩ => ⟨S16896x4096, .f32⟩
  | .hbm, ⟨8, _⟩ => ⟨S1x4096, .f32⟩
  | .hbm, ⟨9, _⟩ => ⟨S3x4096, .f32⟩
  | .hbm, ⟨10, _⟩ => ⟨S1x4096, .f32⟩
  | .hbm, ⟨11, _⟩ => ⟨S16896x4096, .f32⟩
  | .local _ .vmem, ⟨0, _⟩ => ⟨S384x512, .bf16⟩
  | .local _ .vmem, ⟨1, _⟩ => ⟨S384x512, .bf16⟩
  | .local _ .vmem, ⟨2, _⟩ => ⟨S512x4096, .bf16⟩
  | .local _ .vmem, ⟨3, _⟩ => ⟨S512x4096, .bf16⟩
  | .local _ .vmem, ⟨4, _⟩ => ⟨S384x4096, .f32⟩
  | .local _ .vmem, ⟨5, _⟩ => ⟨S384x4096, .f32⟩
  | .local _ .vmem, ⟨6, _⟩ => ⟨S3x4096, .f32⟩
  | .local _ .vmem, ⟨7, _⟩ => ⟨S1x4096, .f32⟩
  | .local _ .vmem, ⟨8, _⟩ => ⟨S384x4096, .f32⟩
  | .local _ .vmem, ⟨9, _⟩ => ⟨S384x4096, .f32⟩
  | .local _ .vmem, ⟨10, _⟩ => ⟨S384x4096, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![44, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def k0_off1 (i : grid0.Coords) : Fin 2 → Nat :=
  let arg0 : BitVec 32 := BitVec.ofNat 32 (i 0).val
  let c0_i32_16 : BitVec 32 := 0#32
  let v31 : BitVec 1 := Scalar.cmpi .sgt arg0 c0_i32_16
  let v32 : BitVec 32 := Scalar.extui v31
  let c0_i32_17 : BitVec 32 := 0#32
  let v33 : BitVec 1 := Scalar.cmpi .slt arg0 c0_i32_17
  let v34 : BitVec 32 := Scalar.extui v33
  let v35 : BitVec 32 := Scalar.subi v32 v34
  let c22_i32 : BitVec 32 := 22#32
  let c0_i32_18 : BitVec 32 := 0#32
  let v36 : BitVec 1 := Scalar.cmpi .sgt c22_i32 c0_i32_18
  let v37 : BitVec 32 := Scalar.extui v36
  let c0_i32_19 : BitVec 32 := 0#32
  let v38 : BitVec 1 := Scalar.cmpi .slt c22_i32 c0_i32_19
  let v39 : BitVec 32 := Scalar.extui v38
  let v40 : BitVec 32 := Scalar.subi v37 v39
  let v41 : BitVec 1 := Scalar.cmpi .ne v35 v40
  let v42 : BitVec 32 := Scalar.remsi arg0 c22_i32
  let c0_i32_20 : BitVec 32 := 0#32
  let v43 : BitVec 1 := Scalar.cmpi .ne v42 c0_i32_20
  let v44 : BitVec 1 := Scalar.andi v41 v43
  let v30 : BitVec 32 := Scalar.divsi arg0 c22_i32
  let c1_i32 : BitVec 32 := 1#32
  let v45 : BitVec 32 := Scalar.subi v30 c1_i32
  let v46 : BitVec 32 := Scalar.select v44 v45 v30
  let v65 : Index := Scalar.indexCast v46
  let c0_28 : Index := 0#32
  ![v65.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S3x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S384x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceOIdeal.lean ====
abbrev S16896x4096 : Shape := ⟨2, ![16896, 4096]⟩
abbrev S4096x4096 : Shape := ⟨2, ![4096, 4096]⟩
abbrev S2x8448x4096 : Shape := ⟨3, ![2, 8448, 4096]⟩
abbrev S2x4096 : Shape := ⟨2, ![2, 4096]⟩
abbrev S4096 : Shape := ⟨1, ![4096]⟩
abbrev S_ : Shape := ⟨0, ![]⟩
abbrev S2x8448 : Shape := ⟨2, ![2, 8448]⟩
abbrev S2x8448x1 : Shape := ⟨3, ![2, 8448, 1]⟩
abbrev S1x1x4096 : Shape := ⟨3, ![1, 1, 4096]⟩
abbrev S2x256x4096 : Shape := ⟨3, ![2, 256, 4096]⟩
abbrev S2x8192x4096 : Shape := ⟨3, ![2, 8192, 4096]⟩
abbrev S2x1x4096 : Shape := ⟨3, ![2, 1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x4096, .f32⟩
  | .hbm, ⟨2, _⟩ => ⟨S2x8448x4096, .f32⟩
  | .hbm, ⟨3, _⟩ => ⟨S2x4096, .f32⟩
  | .hbm, ⟨4, _⟩ => ⟨S4096, .f32⟩
  | .hbm, ⟨5, _⟩ => ⟨S4096, .f32⟩
  | .hbm, ⟨6, _⟩ => ⟨S16896x4096, .f32⟩
  | .hbm, ⟨7, _⟩ => ⟨S16896x4096, .f32⟩
  | .hbm, ⟨8, _⟩ => ⟨S2x8448x4096, .f32⟩
  | .hbm, ⟨9, _⟩ => ⟨S2x8448x4096, .f32⟩
  | .hbm, ⟨10, _⟩ => ⟨S_, .f32⟩
  | .hbm, ⟨11, _⟩ => ⟨S2x8448, .f32⟩
  | .hbm, ⟨12, _⟩ => ⟨S2x8448x1, .f32⟩
  | .hbm, ⟨13, _⟩ => ⟨S_, .f32⟩
  | .hbm, ⟨14, _⟩ => ⟨S2x8448x1, .f32⟩
  | .hbm, ⟨15, _⟩ => ⟨S2x8448x1, .f32⟩
  | .hbm, ⟨16, _⟩ => ⟨S_, .f32⟩
  | .hbm, ⟨17, _⟩ => ⟨S2x8448x1, .f32⟩
  | .hbm, ⟨18, _⟩ => ⟨S2x8448x1, .f32⟩
  | .hbm, ⟨19, _⟩ => ⟨S2x8448x1, .f32⟩
  | .hbm, ⟨20, _⟩ => ⟨S2x8448x4096, .f32⟩
  | .hbm, ⟨21, _⟩ => ⟨S2x8448x4096, .f32⟩
  | .hbm, ⟨22, _⟩ => ⟨S1x1x4096, .f32⟩
  | .hbm, ⟨23, _⟩ => ⟨S2x8448x4096, .f32⟩
  | .hbm, ⟨24, _⟩ => ⟨S2x8448x4096, .f32⟩
  | .hbm, ⟨25, _⟩ => ⟨S2x256x4096, .f32⟩
  | .hbm, ⟨26, _⟩ => ⟨S2x256x4096, .f32⟩
  | .hbm, ⟨27, _⟩ => ⟨S1x1x4096, .f32⟩
  | .hbm, ⟨28, _⟩ => ⟨S2x256x4096, .f32⟩
  | .hbm, ⟨29, _⟩ => ⟨S2x256x4096, .f32⟩
  | .hbm, ⟨30, _⟩ => ⟨S2x256x4096, .f32⟩
  | .hbm, ⟨31, _⟩ => ⟨S2x8192x4096, .f32⟩
  | .hbm, ⟨32, _⟩ => ⟨S2x1x4096, .f32⟩
  | .hbm, ⟨33, _⟩ => ⟨S2x8192x4096, .f32⟩
  | .hbm, ⟨34, _⟩ => ⟨S2x8192x4096, .f32⟩
  | .hbm, ⟨35, _⟩ => ⟨S2x8192x4096, .f32⟩
  | .hbm, ⟨36, _⟩ => ⟨S2x8192x4096, .f32⟩
  | .hbm, ⟨37, _⟩ => ⟨S2x8448x4096, .f32⟩
  | .hbm, ⟨38, _⟩ => ⟨S16896x4096, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== KernelD.lean ====
abbrev S2x4096 : Shape := ⟨2, ![2, 4096]⟩
abbrev S4096 : Shape := ⟨1, ![4096]⟩
abbrev S4x4096x12288 : Shape := ⟨3, ![4, 4096, 12288]⟩
abbrev S1x4096 : Shape := ⟨2, ![1, 4096]⟩
abbrev S3x4096 : Shape := ⟨2, ![3, 4096]⟩
abbrev S_ : Shape := ⟨0, ![]⟩
abbrev S8x4096 : Shape := ⟨2, ![8, 4096]⟩
abbrev S8x12288 : Shape := ⟨2, ![8, 12288]⟩
abbrev S1x4096x1024 : Shape := ⟨3, ![1, 4096, 1024]⟩
abbrev S8x1024 : Shape := ⟨2, ![8, 1024]⟩
abbrev S4096x1024 : Shape := ⟨2, ![4096, 1024]⟩

abbrev nBuf : Space → Nat
  | .hbm => 18
  | .vmem => 5
  | .smem => 0
  | _ => 0

abbrev bufTy : (tb : Table) → Fin (tcTables nBuf tb) → BufTy
  | .hbm, ⟨0, _⟩ => ⟨S2x4096, .f32⟩
  | .hbm, ⟨1, _⟩ => ⟨S4096, .f32⟩
  | .hbm, ⟨2, _⟩ => ⟨S4x4096x12288, .f32⟩
  | .hbm, ⟨3, _⟩ => ⟨S1x4096, .f32⟩
  | .hbm, ⟨4, _⟩ => ⟨S3x4096, .f32⟩
  | .hbm, ⟨5, _⟩ => ⟨S3x4096, .f32⟩
  | .hbm, ⟨6, _⟩ => ⟨S3x4096, .f32⟩
  | .hbm, ⟨7, _⟩ => ⟨S_, .f32⟩
  | .hbm, ⟨8, _⟩ => ⟨S3x4096, .f32⟩
  | .hbm, ⟨9, _⟩ => ⟨S3x4096, .f32⟩
  | .hbm, ⟨10, _⟩ => ⟨S_, .f32⟩
  | .hbm, ⟨11, _⟩ => ⟨S3x4096, .f32⟩
  | .hbm, ⟨12, _⟩ => ⟨S3x4096, .f32⟩
  | .hbm, ⟨13, _⟩ => ⟨S3x4096, .f32⟩
  | .hbm, ⟨14, _⟩ => ⟨S_, .i32⟩
  | .hbm, ⟨15, _⟩ => ⟨S_, .f32⟩
  | .hbm, ⟨16, _⟩ => ⟨S8x4096, .f32⟩
  | .hbm, ⟨17, _⟩ => ⟨S8x12288, .f32⟩
  | .local _ .vmem, ⟨0, _⟩ => ⟨S8x4096, .f32⟩
  | .local _ .vmem, ⟨1, _⟩ => ⟨S1x4096x1024, .f32⟩
  | .local _ .vmem, ⟨2, _⟩ => ⟨S1x4096x1024, .f32⟩
  | .local _ .vmem, ⟨3, _⟩ => ⟨S8x1024, .f32⟩
  | .local _ .vmem, ⟨4, _⟩ => ⟨S8x1024, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_c : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDIdeal.lean ====
abbrev S2x4096 : Shape := ⟨2, ![2, 4096]⟩
abbrev S4096 : Shape := ⟨1, ![4096]⟩
abbrev S4x4096x12288 : Shape := ⟨3, ![4, 4096, 12288]⟩
abbrev S_ : Shape := ⟨0, ![]⟩
abbrev S1x4096x12288 : Shape := ⟨3, ![1, 4096, 12288]⟩
abbrev S4096x12288 : Shape := ⟨2, ![4096, 12288]⟩
abbrev S2x12288 : Shape := ⟨2, ![2, 12288]⟩
abbrev S1x4096 : Shape := ⟨2, ![1, 4096]⟩
abbrev S1x12288 : Shape := ⟨2, ![1, 12288]⟩
abbrev S5x12288 : Shape := ⟨2, ![5, 12288]⟩
abbrev S8x12288 : Shape := ⟨2, ![8, 12288]⟩

abbrev nBuf : Space → Nat
  | .hbm => 31
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S4096, .f32⟩
  | .hbm, ⟨2, _⟩ => ⟨S4x4096x12288, .f32⟩
  | .hbm, ⟨3, _⟩ => ⟨S2x4096, .f32⟩
  | .hbm, ⟨4, _⟩ => ⟨S2x4096, .f32⟩
  | .hbm, ⟨5, _⟩ => ⟨S_, .f32⟩
  | .hbm, ⟨6, _⟩ => ⟨S2x4096, .f32⟩
  | .hbm, ⟨7, _⟩ => ⟨S2x4096, .f32⟩
  | .hbm, ⟨8, _⟩ => ⟨S_, .f32⟩
  | .hbm, ⟨9, _⟩ => ⟨S2x4096, .f32⟩
  | .hbm, ⟨10, _⟩ => ⟨S2x4096, .f32⟩
  | .hbm, ⟨11, _⟩ => ⟨S2x4096, .f32⟩
  | .hbm, ⟨12, _⟩ => ⟨S1x4096x12288, .f32⟩
  | .hbm, ⟨13, _⟩ => ⟨S4096x12288, .f32⟩
  | .hbm, ⟨14, _⟩ => ⟨S2x12288, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S1x4096, .f32⟩
  | .hbm, ⟨25, _⟩ => ⟨S1x4096x12288, .f32⟩
  | .hbm, ⟨26, _⟩ => ⟨S4096x12288, .f32⟩
  | .hbm, ⟨27, _⟩ => ⟨S1x12288, .f32⟩
  | .hbm, ⟨28, _⟩ => ⟨S_, .f32⟩
  | .hbm, ⟨29, _⟩ => ⟨S5x12288, .f32⟩
  | .hbm, ⟨30, _⟩ => ⟨S8x12288, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call1_v0 : Ref sig .tc := ⟨.hbm, 15, rfl⟩
abbrev main_call1_v1 : Ref sig .tc := ⟨.hbm, 16, rfl⟩
abbrev main_call1_cst : Ref sig .tc := ⟨.hbm, 17, rfl⟩
abbrev main_call1_v2 : Ref sig .tc := ⟨.hbm, 18, rfl⟩
abbrev main_call1_v3 : Ref sig .tc := ⟨.hbm, 19, rfl⟩
abbrev main_call1_cst_0 : Ref sig .tc := ⟨.hbm, 20, rfl⟩
abbrev main_call1_v4 : Ref sig .tc := ⟨.hbm, 21, rfl⟩
abbrev main_call1_v5 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== KernelN.lean ====
abbrev S2x8448x4096 : Shape := ⟨3, ![2, 8448, 4096]⟩
abbrev S4096 : Shape := ⟨1, ![4096]⟩
abbrev S2x4096 : Shape := ⟨2, ![2, 4096]⟩
abbrev S16896x4096 : Shape := ⟨2, ![16896, 4096]⟩
abbrev S1x4096 : Shape := ⟨2, ![1, 4096]⟩
abbrev S3x4096 : Shape := ⟨2, ![3, 4096]⟩
abbrev S384x4096 : Shape := ⟨2, ![384, 4096]⟩
abbrev S384 : Shape := ⟨1, ![384]⟩
abbrev S384x1 : Shape := ⟨2, ![384, 1]⟩

abbrev nBuf : Space → Nat
  | .hbm => 13
  | .vmem => 7
  | .smem => 0
  | _ => 0

abbrev bufTy : (tb : Table) → Fin (tcTables nBuf tb) → BufTy
  | .hbm, ⟨0, _⟩ => ⟨S2x8448x4096, .f32⟩
  | .hbm, ⟨1, _⟩ => ⟨S4096, .f32⟩
  | .hbm, ⟨2, _⟩ => ⟨S2x4096, .f32⟩
  | .hbm, ⟨3, _⟩ => ⟨S4096, .f32⟩
  | .hbm, ⟨4, _⟩ => ⟨S2x4096, .f32⟩
  | .hbm, ⟨5, _⟩ => ⟨S4096, .f32⟩
  | .hbm, ⟨6, _⟩ => ⟨S16896x4096, .f32⟩
  | .hbm, ⟨7, _⟩ => ⟨S1x4096, .f32⟩
  | .hbm, ⟨8, _⟩ => ⟨S3x4096, .f32⟩
  | .hbm, ⟨9, _⟩ => ⟨S1x4096, .f32⟩
  | .hbm, ⟨10, _⟩ => ⟨S3x4096, .f32⟩
  | .hbm, ⟨11, _⟩ => ⟨S1x4096, .f32⟩
  | .hbm, ⟨12, _⟩ => ⟨S16896x4096, .bf16⟩
  | .local _ .vmem, ⟨0, _⟩ => ⟨S384x4096, .f32⟩
  | .local _ .vmem, ⟨1, _⟩ => ⟨S384x4096, .f32⟩
  | .local _ .vmem, ⟨2, _⟩ => ⟨S1x4096, .f32⟩
  | .local _ .vmem, ⟨3, _⟩ => ⟨S3x4096, .f32⟩
  | .local _ .vmem, ⟨4, _⟩ => ⟨S3x4096, .f32⟩
  | .local _ .vmem, ⟨5, _⟩ => ⟨S384x4096, .bf16⟩
  | .local _ .vmem, ⟨6, _⟩ => ⟨S384x4096, .bf16⟩
  | _, _ => ⟨S2x8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![44], ![false]⟩

def k0_off1 (i : grid0.Coords) : Fin 2 → Nat :=
  let arg0 : BitVec 32 := BitVec.ofNat 32 (i 0).val
  let c0_i32 : BitVec 32 := 0#32
  let v17 : BitVec 1 := Scalar.cmpi .sgt arg0 c0_i32
  let v18 : BitVec 32 := Scalar.extui v17
  let c0_i32_5 : BitVec 32 := 0#32
  let v19 : BitVec 1 := Scalar.cmpi .slt arg0 c0_i32_5
  let v20 : BitVec 32 := Scalar.extui v19
  let v21 : BitVec 32 := Scalar.subi v18 v20
  let c22_i32 : BitVec 32 := 22#32
  let c0_i32_6 : BitVec 32 := 0#32
  let v22 : BitVec 1 := Scalar.cmpi .sgt c22_i32 c0_i32_6
  let v23 : BitVec 32 := Scalar.extui v22
  let c0_i32_7 : BitVec 32 := 0#32
  let v24 : BitVec 1 := Scalar.cmpi .slt c22_i32 c0_i32_7
  let v25 : BitVec 32 := Scalar.extui v24
  let v26 : BitVec 32 := Scalar.subi v23 v25
  let v27 : BitVec 1 := Scalar.cmpi .ne v21 v26
  let v28 : BitVec 32 := Scalar.remsi arg0 c22_i32
  let c0_i32_8 : BitVec 32 := 0#32
  let v29 : BitVec 1 := Scalar.cmpi .ne v28 c0_i32_8
  let v30 : BitVec 1 := Scalar.andi v27 v29
  let v16 : BitVec 32 := Scalar.divsi arg0 c22_i32
  let c1_i32 : BitVec 32 := 1#32
  let v31 : BitVec 32 := Scalar.subi v16 c1_i32
  let v32 : BitVec 32 := Scalar.select v30 v31 v16
  let v51 : Index := Scalar.indexCast v32
  let c0_16 : Index := 0#32
  ![v51.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNIdeal.lean ====
abbrev S2x8448x4096 : Shape := ⟨3, ![2, 8448, 4096]⟩
abbrev S4096 : Shape := ⟨1, ![4096]⟩
abbrev S2x4096 : Shape := ⟨2, ![2, 4096]⟩
abbrev S_ : Shape := ⟨0, ![]⟩
abbrev S2x8448 : Shape := ⟨2, ![2, 8448]⟩
abbrev S2x8448x1 : Shape := ⟨3, ![2, 8448, 1]⟩
abbrev S1x1x4096 : Shape := ⟨3, ![1, 1, 4096]⟩
abbrev S2x256x4096 : Shape := ⟨3, ![2, 256, 4096]⟩
abbrev S2x8192x4096 : Shape := ⟨3, ![2, 8192, 4096]⟩
abbrev S2x1x4096 : Shape := ⟨3, ![2, 1, 4096]⟩
abbrev S16896x4096 : Shape := ⟨2, ![16896, 4096]⟩

abbrev nBuf : Space → Nat
  | .hbm => 45
  | .vmem => 0
  | .smem => 0
  | _ => 0

abbrev bufTy : (tb : Table) → Fin (tcTables nBuf tb) → BufTy
  | .hbm, ⟨0, _⟩ => ⟨S2x8448x4096, .f32⟩
  | .hbm, ⟨1, _⟩ => ⟨S4096, .f32⟩
  | .hbm, ⟨2, _⟩ => ⟨S2x4096, .f32⟩
  | .hbm, ⟨3, _⟩ => ⟨S4096, .f32⟩
  | .hbm, ⟨4, _⟩ => ⟨S2x4096, .f32⟩
  | .hbm, ⟨5, _⟩ => ⟨S4096, .f32⟩
  | .hbm, ⟨6, _⟩ => ⟨S2x8448x4096, .f32⟩
  | .hbm, ⟨7, _⟩ => ⟨S_, .f32⟩
  | .hbm, ⟨8, _⟩ => ⟨S2x8448, .f32⟩
  | .hbm, ⟨9, _⟩ => ⟨S2x8448x1, .f32⟩
  | .hbm, ⟨10, _⟩ => ⟨S_, .f32⟩
  | .hbm, ⟨11, _⟩ => ⟨S2x8448x1, .f32⟩
  | .hbm, ⟨12, _⟩ => ⟨S2x8448x1, .f32⟩
  | .hbm, ⟨13, _⟩ => ⟨S_, .f32⟩
  | .hbm, ⟨14, _⟩ => ⟨S2x8448x1, .f32⟩
  | .hbm, ⟨15, _⟩ => ⟨S2x8448x1, .f32⟩
  | .hbm, ⟨16, _⟩ => ⟨S2x8448x1, .f32⟩
  | .hbm, ⟨17, _⟩ => ⟨S2x8448x4096, .f32⟩
  | .hbm, ⟨18, _⟩ => ⟨S2x8448x4096, .f32⟩
  | .hbm, ⟨19, _⟩ => ⟨S1x1x4096, .f32⟩
  | .hbm, ⟨20, _⟩ => ⟨S2x8448x4096, .f32⟩
  | .hbm, ⟨21, _⟩ => ⟨S2x8448x4096, .f32⟩
  | .hbm, ⟨22, _⟩ => ⟨S2x256x4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S1x1x4096, .f32⟩
  | .hbm, ⟨27, _⟩ => ⟨S2x256x4096, .f32⟩
  | .hbm, ⟨28, _⟩ => ⟨S2x256x4096, .f32⟩
  | .hbm, ⟨29, _⟩ => ⟨S1x1x4096, .f32⟩
  | .hbm, ⟨30, _⟩ => ⟨S2x256x4096, .f32⟩
  | .hbm, ⟨31, _⟩ => ⟨S2x256x4096, .f32⟩
  | .hbm, ⟨32, _⟩ => ⟨S2x8192x4096, .f32⟩
  | .hbm, ⟨33, _⟩ => ⟨S2x1x4096, .f32⟩
  | .hbm, ⟨34, _⟩ => ⟨S_, .f32⟩
  | .hbm, ⟨35, _⟩ => ⟨S2x1x4096, .f32⟩
  | .hbm, ⟨36, _⟩ => ⟨S2x1x4096, .f32⟩
  | .hbm, ⟨37, _⟩ => ⟨S2x8192x4096, .f32⟩
  | .hbm, ⟨38, _⟩ => ⟨S2x8192x4096, .f32⟩
  | .hbm, ⟨39, _⟩ => ⟨S2x1x4096, .f32⟩
  | .hbm, ⟨40, _⟩ => ⟨S2x8192x4096, .f32⟩
  | .hbm, ⟨41, _⟩ => ⟨S2x8192x4096, .f32⟩
  | .hbm, ⟨42, _⟩ => ⟨S2x8448x4096, .f32⟩
  | .hbm, ⟨43, _⟩ => ⟨S16896x4096, .f32⟩
  | .hbm, ⟨44, _⟩ => ⟨S16896x4096, .bf16⟩
  | _, _ => ⟨S2x8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== KernelF.lean ====
abbrev S2x2x8448x2048 : Shape := ⟨4, ![2, 2, 8448, 2048]⟩
abbrev S2x8448x4096 : Shape := ⟨3, ![2, 8448, 4096]⟩
abbrev S2x8448x6144 : Shape := ⟨3, ![2, 8448, 6144]⟩
abbrev S32 : Shape := ⟨1, ![32]⟩
abbrev S2048 : Shape := ⟨1, ![2048]⟩
abbrev S32x64 : Shape := ⟨2, ![32, 64]⟩
abbrev S1x2048 : Shape := ⟨2, ![1, 2048]⟩
abbrev S2x8448x2048 : Shape := ⟨3, ![2, 8448, 2048]⟩
abbrev S1x2x384x1024 : Shape := ⟨4, ![1, 2, 384, 1024]⟩
abbrev S1x384x1024 : Shape := ⟨3, ![1, 384, 1024]⟩
abbrev S1x1024 : Shape := ⟨2, ![1, 1024]⟩
abbrev S384x1024 : Shape := ⟨2, ![384, 1024]⟩
abbrev S1x1x384x1024 : Shape := ⟨4, ![1, 1, 384, 1024]⟩
abbrev S384x256 : Shape := ⟨2, ![384, 256]⟩
abbrev S384 : Shape := ⟨1, ![384]⟩
abbrev S384x1 : Shape := ⟨2, ![384, 1]⟩

abbrev nBuf : Space → Nat
  | .hbm => 10
  | .vmem => 12
  | .smem => 0
  | _ => 0

abbrev bufTy : (tb : Table) → Fin (tcTables nBuf tb) → BufTy
  | .hbm, ⟨0, _⟩ => ⟨S2x2x8448x2048, .f32⟩
  | .hbm, ⟨1, _⟩ => ⟨S2x8448x4096, .f32⟩
  | .hbm, ⟨2, _⟩ => ⟨S2x8448x6144, .f32⟩
  | .hbm, ⟨3, _⟩ => ⟨S32, .f32⟩
  | .hbm, ⟨4, _⟩ => ⟨S2048, .f32⟩
  | .hbm, ⟨5, _⟩ => ⟨S32x64, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S2x8448x2048, .bf16⟩
  | .local _ .vmem, ⟨0, _⟩ => ⟨S1x2x384x1024, .f32⟩
  | .local _ .vmem, ⟨1, _⟩ => ⟨S1x2x384x1024, .f32⟩
  | .local _ .vmem, ⟨2, _⟩ => ⟨S1x384x1024, .f32⟩
  | .local _ .vmem, ⟨3, _⟩ => ⟨S1x384x1024, .f32⟩
  | .local _ .vmem, ⟨4, _⟩ => ⟨S1x384x1024, .f32⟩
  | .local _ .vmem, ⟨5, _⟩ => ⟨S1x384x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x384x1024, .bf16⟩
  | .local _ .vmem, ⟨11, _⟩ => ⟨S1x384x1024, .bf16⟩
  | _, _ => ⟨S2x2x8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 22, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x2x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceFIdeal.lean ====
abbrev S2x2x8448x2048 : Shape := ⟨4, ![2, 2, 8448, 2048]⟩
abbrev S2x8448x4096 : Shape := ⟨3, ![2, 8448, 4096]⟩
abbrev S2x8448x6144 : Shape := ⟨3, ![2, 8448, 6144]⟩
abbrev S32 : Shape := ⟨1, ![32]⟩
abbrev S2048 : Shape := ⟨1, ![2048]⟩
abbrev S2x8448x2048 : Shape := ⟨3, ![2, 8448, 2048]⟩
abbrev S2x8448x32x64 : Shape := ⟨4, ![2, 8448, 32, 64]⟩
abbrev S2x1x8448x2048 : Shape := ⟨4, ![2, 1, 8448, 2048]⟩
abbrev S32x1 : Shape := ⟨2, ![32, 1]⟩
abbrev S1x1x32x1 : Shape := ⟨4, ![1, 1, 32, 1]⟩
abbrev S_ : Shape := ⟨0, ![]⟩
abbrev S2x8448x8x256 : Shape := ⟨4, ![2, 8448, 8, 256]⟩
abbrev S2x8448x8 : Shape := ⟨3, ![2, 8448, 8]⟩
abbrev S2x8448x8x1 : Shape := ⟨4, ![2, 8448, 8, 1]⟩
abbrev S1x1x2048 : Shape := ⟨3, ![1, 1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2x2x8448x2048, .f32⟩
  | .hbm, ⟨1, _⟩ => ⟨S2x8448x4096, .f32⟩
  | .hbm, ⟨2, _⟩ => ⟨S2x8448x6144, .f32⟩
  | .hbm, ⟨3, _⟩ => ⟨S32, .f32⟩
  | .hbm, ⟨4, _⟩ => ⟨S2048, .f32⟩
  | .hbm, ⟨5, _⟩ => ⟨S2x8448x2048, .f32⟩
  | .hbm, ⟨6, _⟩ => ⟨S2x8448x32x64, .f32⟩
  | .hbm, ⟨7, _⟩ => ⟨S2x1x8448x2048, .f32⟩
  | .hbm, ⟨8, _⟩ => ⟨S2x8448x2048, .f32⟩
  | .hbm, ⟨9, _⟩ => ⟨S2x1x8448x2048, .f32⟩
  | .hbm, ⟨10, _⟩ => ⟨S2x8448x2048, .f32⟩
  | .hbm, ⟨11, _⟩ => ⟨S2x8448x2048, .f32⟩
  | .hbm, ⟨12, _⟩ => ⟨S2x8448x32x64, .f32⟩
  | .hbm, ⟨13, _⟩ => ⟨S32x1, .f32⟩
  | .hbm, ⟨14, _⟩ => ⟨S1x1x32x1, .f32⟩
  | .hbm, ⟨15, _⟩ => ⟨S2x8448x32x64, .f32⟩
  | .hbm, ⟨16, _⟩ => ⟨S2x8448x32x64, .f32⟩
  | .hbm, ⟨17, _⟩ => ⟨S2x8448x32x64, .f32⟩
  | .hbm, ⟨18, _⟩ => ⟨S2x8448x2048, .f32⟩
  | .hbm, ⟨19, _⟩ => ⟨S2x8448x2048, .f32⟩
  | .hbm, ⟨20, _⟩ => ⟨S2x8448x2048, .f32⟩
  | .hbm, ⟨21, _⟩ => ⟨S2x8448x2048, .f32⟩
  | .hbm, ⟨22, _⟩ => ⟨S_, .f32⟩
  | .hbm, ⟨23, _⟩ => ⟨S2x8448x2048, .f32⟩
  | .hbm, ⟨24, _⟩ => ⟨S2x8448x2048, .f32⟩
  | .hbm, ⟨25, _⟩ => ⟨S_, .f32⟩
  | .hbm, ⟨26, _⟩ => ⟨S2x8448x2048, .f32⟩
  | .hbm, ⟨27, _⟩ => ⟨S2x8448x2048, .f32⟩
  | .hbm, ⟨28, _⟩ => ⟨S2x8448x2048, .f32⟩
  | .hbm, ⟨29, _⟩ => ⟨S2x8448x2048, .f32⟩
  | .hbm, ⟨30, _⟩ => ⟨S2x8448x8x256, .f32⟩
  | .hbm, ⟨31, _⟩ => ⟨S2x8448x8x256, .f32⟩
  | .hbm, ⟨32, _⟩ => ⟨S_, .f32⟩
  | .hbm, ⟨33, _⟩ => ⟨S2x8448x8, .f32⟩
  | .hbm, ⟨34, _⟩ => ⟨S2x8448x8x1, .f32⟩
  | .hbm, ⟨35, _⟩ => ⟨S_, .f32⟩
  | .hbm, ⟨36, _⟩ => ⟨S2x8448x8x1, .f32⟩
  | .hbm, ⟨37, _⟩ => ⟨S2x8448x8x1, .f32⟩
  | .hbm, ⟨38, _⟩ => ⟨S_, .f32⟩
  | .hbm, ⟨39, _⟩ => ⟨S2x8448x8x1, .f32⟩
  | .hbm, ⟨40, _⟩ => ⟨S2x8448x8x1, .f32⟩
  | .hbm, ⟨41, _⟩ => ⟨S2x8448x8x1, .f32⟩
  | .hbm, ⟨42, _⟩ => ⟨S2x8448x8x256, .f32⟩
  | .hbm, ⟨43, _⟩ => ⟨S2x8448x8x256, .f32⟩
  | .hbm, ⟨44, _⟩ => ⟨S2x8448x2048, .f32⟩
  | .hbm, ⟨45, _⟩ => ⟨S1x1x2048, .f32⟩
  | .hbm, ⟨46, _⟩ => ⟨S2x8448x2048, .f32⟩
  | .hbm, ⟨47, _⟩ => ⟨S2x8448x2048, .f32⟩
  | .hbm, ⟨48, _⟩ => ⟨S2x8448x2048, .bf16⟩
  | _, _ => ⟨S2x2x8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== KernelR.lean ====
abbrev S2x8448x4096 : Shape := ⟨3, ![2, 8448, 4096]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S_ : Shape := ⟨0, ![]⟩
abbrev S256x128 : Shape := ⟨2, ![256, 128]⟩
abbrev S8448x128 : Shape := ⟨2, ![8448, 128]⟩
abbrev S2x1024x8448 : Shape := ⟨3, ![2, 1024, 8448]⟩
abbrev S2x8448x1024 : Shape := ⟨3, ![2, 8448, 1024]⟩
abbrev S1x768x128 : Shape := ⟨3, ![1, 768, 128]⟩
abbrev S768x128 : Shape := ⟨2, ![768, 128]⟩
abbrev S1x128x768 : Shape := ⟨3, ![1, 128, 768]⟩
abbrev S128x768 : Shape := ⟨2, ![128, 768]⟩

abbrev nBuf : Space → Nat
  | .hbm => 20
  | .vmem => 16
  | .smem => 0
  | _ => 0

abbrev bufTy : (tb : Table) → Fin (tcTables nBuf tb) → BufTy
  | .hbm, ⟨0, _⟩ => ⟨S2x8448x4096, .f32⟩
  | .hbm, ⟨1, _⟩ => ⟨S8192x32, .f32⟩
  | .hbm, ⟨2, _⟩ => ⟨S8192x32, .f32⟩
  | .hbm, ⟨3, _⟩ => ⟨S1x8192x1x32, .f32⟩
  | .hbm, ⟨4, _⟩ => ⟨S1x8192x4x32, .f32⟩
  | .hbm, ⟨5, _⟩ => ⟨S8192x128, .f32⟩
  | .hbm, ⟨6, _⟩ => ⟨S8192x32, .f32⟩
  | .hbm, ⟨7, _⟩ => ⟨S8192x64, .f32⟩
  | .hbm, ⟨8, _⟩ => ⟨S1x8192x1x64, .f32⟩
  | .hbm, ⟨9, _⟩ => ⟨S1x8192x2x64, .f32⟩
  | .hbm, ⟨10, _⟩ => ⟨S8192x128, .f32⟩
  | .hbm, ⟨11, _⟩ => ⟨S_, .f32⟩
  | .hbm, ⟨12, _⟩ => ⟨S256x128, .f32⟩
  | .hbm, ⟨13, _⟩ => ⟨S8448x128, .f32⟩
  | .hbm, ⟨14, _⟩ => ⟨S_, .f32⟩
  | .hbm, ⟨15, _⟩ => ⟨S256x128, .f32⟩
  | .hbm, ⟨16, _⟩ => ⟨S8448x128, .f32⟩
  | .hbm, ⟨17, _⟩ => ⟨S2x1024x8448, .bf16⟩
  | .hbm, ⟨18, _⟩ => ⟨S2x8448x1024, .bf16⟩
  | .hbm, ⟨19, _⟩ => ⟨S2x1024x8448, .bf16⟩
  | .local _ .vmem, ⟨0, _⟩ => ⟨S1x768x128, .f32⟩
  | .local _ .vmem, ⟨1, _⟩ => ⟨S1x768x128, .f32⟩
  | .local _ .vmem, ⟨2, _⟩ => ⟨S1x768x128, .f32⟩
  | .local _ .vmem, ⟨3, _⟩ => ⟨S1x768x128, .f32⟩
  | .local _ .vmem, ⟨4, _⟩ => ⟨S1x768x128, .f32⟩
  | .local _ .vmem, ⟨5, _⟩ => ⟨S1x768x128, .f32⟩
  | .local _ .vmem, ⟨6, _⟩ => ⟨S768x128, .f32⟩
  | .local _ .vmem, ⟨7, _⟩ => ⟨S768x128, .f32⟩
  | .local _ .vmem, ⟨8, _⟩ => ⟨S768x128, .f32⟩
  | .local _ .vmem, ⟨9, _⟩ => ⟨S768x128, .f32⟩
  | .local _ .vmem, ⟨10, _⟩ => ⟨S1x128x768, .bf16⟩
  | .local _ .vmem, ⟨11, _⟩ => ⟨S1x128x768, .bf16⟩
  | .local _ .vmem, ⟨12, _⟩ => ⟨S1x768x128, .bf16⟩
  | .local _ .vmem, ⟨13, _⟩ => ⟨S1x768x128, .bf16⟩
  | .local _ .vmem, ⟨14, _⟩ => ⟨S1x128x768, .bf16⟩
  | .local _ .vmem, ⟨15, _⟩ => ⟨S1x128x768, .bf16⟩
  | _, _ => ⟨S2x8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 11, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  ![arg0.toNat, arg1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  ![arg0.toNat, arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, arg1.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x768x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceRIdeal.lean ====
abbrev S2x8448x4096 : Shape := ⟨3, ![2, 8448, 4096]⟩
abbrev S8192x32 : Shape := ⟨2, ![8192, 32]⟩
abbrev S2x8448x1024 : Shape := ⟨3, ![2, 8448, 1024]⟩
abbrev S2x8448x8x2x64 : Shape := ⟨5, ![2, 8448, 8, 2, 64]⟩
abbrev S2x256x8x2x64 : Shape := ⟨5, ![2, 256, 8, 2, 64]⟩
abbrev S2x8192x8x2x64 : Shape := ⟨5, ![2, 8192, 8, 2, 64]⟩
abbrev S2x8192x8x2x32 : Shape := ⟨5, ![2, 8192, 8, 2, 32]⟩
abbrev S1x8192x1x1x32 : Shape := ⟨5, ![1, 8192, 1, 1, 32]⟩
abbrev S_ : Shape := ⟨0, ![]⟩
abbrev S2x1024x8448 : Shape := ⟨3, ![2, 1024, 8448]⟩

abbrev nBuf : Space → Nat
  | .hbm => 54
  | .vmem => 0
  | .smem => 0
  | _ => 0

abbrev bufTy : (tb : Table) → Fin (tcTables nBuf tb) → BufTy
  | .hbm, ⟨0, _⟩ => ⟨S2x8448x4096, .f32⟩
  | .hbm, ⟨1, _⟩ => ⟨S8192x32, .f32⟩
  | .hbm, ⟨2, _⟩ => ⟨S8192x32, .f32⟩
  | .hbm, ⟨3, _⟩ => ⟨S2x8448x1024, .f32⟩
  | .hbm, ⟨4, _⟩ => ⟨S2x8448x8x2x64, .f32⟩
  | .hbm, ⟨5, _⟩ => ⟨S2x256x8x2x64, .f32⟩
  | .hbm, ⟨6, _⟩ => ⟨S2x8192x8x2x64, .f32⟩
  | .hbm, ⟨7, _⟩ => ⟨S2x8192x8x2x32, .f32⟩
  | .hbm, ⟨8, _⟩ => ⟨S2x8192x8x2x32, .f32⟩
  | .hbm, ⟨9, _⟩ => ⟨S1x8192x1x1x32, .f32⟩
  | .hbm, ⟨10, _⟩ => ⟨S1x8192x1x1x32, .f32⟩
  | .hbm, ⟨11, _⟩ => ⟨S2x8192x8x2x32, .f32⟩
  | .hbm, ⟨12, _⟩ => ⟨S2x8192x8x2x32, .f32⟩
  | .hbm, ⟨13, _⟩ => ⟨S2x8192x8x2x32, .f32⟩
  | .hbm, ⟨14, _⟩ => ⟨S2x8192x8x2x32, .f32⟩
  | .hbm, ⟨15, _⟩ => ⟨S2x8192x8x2x32, .f32⟩
  | .hbm, ⟨16, _⟩ => ⟨S2x8192x8x2x32, .f32⟩
  | .hbm, ⟨17, _⟩ => ⟨S2x8192x8x2x32, .f32⟩
  | .hbm, ⟨18, _⟩ => ⟨S2x8192x8x2x32, .f32⟩
  | .hbm, ⟨19, _⟩ => ⟨S2x8192x8x2x32, .f32⟩
  | .hbm, ⟨20, _⟩ => ⟨S2x8192x8x2x32, .f32⟩
  | .hbm, ⟨21, _⟩ => ⟨S2x8192x8x2x64, .f32⟩
  | .hbm, ⟨22, _⟩ => ⟨S2x8448x8x2x64, .f32⟩
  | .hbm, ⟨23, _⟩ => ⟨S2x8448x1024, .f32⟩
  | .hbm, ⟨24, _⟩ => ⟨S_, .f32⟩
  | .hbm, ⟨25, _⟩ => ⟨S2x8448x1024, .f32⟩
  | .hbm, ⟨26, _⟩ => ⟨S2x8448x1024, .f32⟩
  | .hbm, ⟨27, _⟩ => ⟨S2x8448x1024, .f32⟩
  | .hbm, ⟨28, _⟩ => ⟨S2x8448x8x2x64, .f32⟩
  | .hbm, ⟨29, _⟩ => ⟨S2x256x8x2x64, .f32⟩
  | .hbm, ⟨30, _⟩ => ⟨S2x8192x8x2x64, .f32⟩
  | .hbm, ⟨31, _⟩ => ⟨S2x8192x8x2x32, .f32⟩
  | .hbm, ⟨32, _⟩ => ⟨S2x8192x8x2x32, .f32⟩
  | .hbm, ⟨33, _⟩ => ⟨S1x8192x1x1x32, .f32⟩
  | .hbm, ⟨34, _⟩ => ⟨S1x8192x1x1x32, .f32⟩
  | .hbm, ⟨35, _⟩ => ⟨S2x8192x8x2x32, .f32⟩
  | .hbm, ⟨36, _⟩ => ⟨S2x8192x8x2x32, .f32⟩
  | .hbm, ⟨37, _⟩ => ⟨S2x8192x8x2x32, .f32⟩
  | .hbm, ⟨38, _⟩ => ⟨S2x8192x8x2x32, .f32⟩
  | .hbm, ⟨39, _⟩ => ⟨S2x8192x8x2x32, .f32⟩
  | .hbm, ⟨40, _⟩ => ⟨S2x8192x8x2x32, .f32⟩
  | .hbm, ⟨41, _⟩ => ⟨S2x8192x8x2x32, .f32⟩
  | .hbm, ⟨42, _⟩ => ⟨S2x8192x8x2x32, .f32⟩
  | .hbm, ⟨43, _⟩ => ⟨S2x8192x8x2x32, .f32⟩
  | .hbm, ⟨44, _⟩ => ⟨S2x8192x8x2x32, .f32⟩
  | .hbm, ⟨45, _⟩ => ⟨S2x8192x8x2x64, .f32⟩
  | .hbm, ⟨46, _⟩ => ⟨S2x8448x8x2x64, .f32⟩
  | .hbm, ⟨47, _⟩ => ⟨S2x8448x1024, .f32⟩
  | .hbm, ⟨48, _⟩ => ⟨S2x8448x1024, .f32⟩
  | .hbm, ⟨49, _⟩ => ⟨S2x1024x8448, .f32⟩
  | .hbm, ⟨50, _⟩ => ⟨S2x1024x8448, .bf16⟩
  | .hbm, ⟨51, _⟩ => ⟨S2x8448x1024, .bf16⟩
  | .hbm, ⟨52, _⟩ => ⟨S2x1024x8448, .f32⟩
  | .hbm, ⟨53, _⟩ => ⟨S2x1024x8448, .bf16⟩
  | _, _ => ⟨S2x8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩

abbrev nD : Nat := 1
abbrev τ : Topo := Topo.v7x

variable {F : FTy → Type} [FloatOps F]
-- ==== KernelCA.lean ====
abbrev S2x8448x4608 : Shape := ⟨3, ![2, 8448, 4608]⟩
abbrev S3x3328 : Shape := ⟨2, ![3, 3328]⟩
abbrev S_ : Shape := ⟨0, ![]⟩
abbrev S3328 : Shape := ⟨1, ![3328]⟩
abbrev S1x3328 : Shape := ⟨2, ![1, 3328]⟩
abbrev S2x8448x3328 : Shape := ⟨3, ![2, 8448, 3328]⟩
abbrev S1x1408x256 : Shape := ⟨3, ![1, 1408, 256]⟩
abbrev S1x8x256 : Shape := ⟨3, ![1, 8, 256]⟩
abbrev S3x256 : Shape := ⟨2, ![3, 256]⟩
abbrev S1x256 : Shape := ⟨2, ![1, 256]⟩
abbrev S8x256 : Shape := ⟨2, ![8, 256]⟩
abbrev S1408x256 : Shape := ⟨2, ![1408, 256]⟩
abbrev S1424x256 : Shape := ⟨2, ![1424, 256]⟩
abbrev S1408x1 : Shape := ⟨2, ![1408, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x8448x4608, .f32⟩
  | .hbm, ⟨1, _⟩ => ⟨S3x3328, .f32⟩
  | .hbm, ⟨2, _⟩ => ⟨S_, .f32⟩
  | .hbm, ⟨3, _⟩ => ⟨S3328, .f32⟩
  | .hbm, ⟨4, _⟩ => ⟨S1x3328, .f32⟩
  | .hbm, ⟨5, _⟩ => ⟨S2x8448x3328, .f32⟩
  | .local _ .vmem, ⟨0, _⟩ => ⟨S1x1408x256, .f32⟩
  | .local _ .vmem, ⟨1, _⟩ => ⟨S1x1408x256, .f32⟩
  | .local _ .vmem, ⟨2, _⟩ => ⟨S1x8x256, .f32⟩
  | .local _ .vmem, ⟨3, _⟩ => ⟨S1x8x256, .f32⟩
  | .local _ .vmem, ⟨4, _⟩ => ⟨S1x8x256, .f32⟩
  | .local _ .vmem, ⟨5, _⟩ => ⟨S1x8x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x1408x256, .f32⟩
  | .local _ .vmem, ⟨11, _⟩ => ⟨S1x1408x256, .f32⟩
  | _, _ => ⟨S2x8448x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 6, 13], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c176_i32 : BitVec 32 := 176#32
  let v0 : BitVec 32 := Scalar.muli arg1 c176_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg2
  let c0_i32_1 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c176_i32 : BitVec 32 := 176#32
  let v1 : BitVec 32 := Scalar.muli v0 c176_i32
  let c1055_i32 : BitVec 32 := 1055#32
  let v2 : BitVec 32 := Scalar.minsi v1 c1055_i32
  let c0_i32 : BitVec 32 := 0#32
  let v3 : BitVec 32 := Scalar.addi c0_i32 arg2
  let c0_i32_0 : BitVec 32 := 0#32
  ![arg0.toNat, v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1408x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1408x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceCAIdeal.lean ====
abbrev S2x8448x4608 : Shape := ⟨3, ![2, 8448, 4608]⟩
abbrev S3x3328 : Shape := ⟨2, ![3, 3328]⟩
abbrev S2x8448x3328 : Shape := ⟨3, ![2, 8448, 3328]⟩
abbrev S2x256x3328 : Shape := ⟨3, ![2, 256, 3328]⟩
abbrev S_ : Shape := ⟨0, ![]⟩
abbrev S2x258x3328 : Shape := ⟨3, ![2, 258, 3328]⟩
abbrev S1x3328 : Shape := ⟨2, ![1, 3328]⟩
abbrev S3328 : Shape := ⟨1, ![3328]⟩
abbrev S1x1x3328 : Shape := ⟨3, ![1, 1, 3328]⟩
abbrev S2x8192x3328 : Shape := ⟨3, ![2, 8192, 3328]⟩
abbrev S2x8194x3328 : Shape := ⟨3, ![2, 8194, 3328]⟩

abbrev nBuf : Space → Nat
  | .hbm => 58
  | .vmem => 0
  | .smem => 0
  | _ => 0

abbrev bufTy : (tb : Table) → Fin (tcTables nBuf tb) → BufTy
  | .hbm, ⟨0, _⟩ => ⟨S2x8448x4608, .f32⟩
  | .hbm, ⟨1, _⟩ => ⟨S3x3328, .f32⟩
  | .hbm, ⟨2, _⟩ => ⟨S2x8448x3328, .f32⟩
  | .hbm, ⟨3, _⟩ => ⟨S2x256x3328, .f32⟩
  | .hbm, ⟨4, _⟩ => ⟨S_, .i32⟩
  | .hbm, ⟨5, _⟩ => ⟨S_, .f32⟩
  | .hbm, ⟨6, _⟩ => ⟨S2x258x3328, .f32⟩
  | .hbm, ⟨7, _⟩ => ⟨S2x256x3328, .f32⟩
  | .hbm, ⟨8, _⟩ => ⟨S1x3328, .f32⟩
  | .hbm, ⟨9, _⟩ => ⟨S3328, .f32⟩
  | .hbm, ⟨10, _⟩ => ⟨S1x1x3328, .f32⟩
  | .hbm, ⟨11, _⟩ => ⟨S2x256x3328, .f32⟩
  | .hbm, ⟨12, _⟩ => ⟨S2x256x3328, .f32⟩
  | .hbm, ⟨13, _⟩ => ⟨S_, .f32⟩
  | .hbm, ⟨14, _⟩ => ⟨S2x256x3328, .f32⟩
  | .hbm, ⟨15, _⟩ => ⟨S2x256x3328, .f32⟩
  | .hbm, ⟨16, _⟩ => ⟨S2x256x3328, .f32⟩
  | .hbm, ⟨17, _⟩ => ⟨S1x3328, .f32⟩
  | .hbm, ⟨18, _⟩ => ⟨S3328, .f32⟩
  | .hbm, ⟨19, _⟩ => ⟨S1x1x3328, .f32⟩
  | .hbm, ⟨20, _⟩ => ⟨S2x256x3328, .f32⟩
  | .hbm, ⟨21, _⟩ => ⟨S2x256x3328, .f32⟩
  | .hbm, ⟨22, _⟩ => ⟨S2x256x3328, .f32⟩
  | .hbm, ⟨23, _⟩ => ⟨S2x256x3328, .f32⟩
  | .hbm, ⟨24, _⟩ => ⟨S1x3328, .f32⟩
  | .hbm, ⟨25, _⟩ => ⟨S3328, .f32⟩
  | .hbm, ⟨26, _⟩ => ⟨S1x1x3328, .f32⟩
  | .hbm, ⟨27, _⟩ => ⟨S2x256x3328, .f32⟩
  | .hbm, ⟨28, _⟩ => ⟨S2x256x3328, .f32⟩
  | .hbm, ⟨29, _⟩ => ⟨S2x256x3328, .f32⟩
  | .hbm, ⟨30, _⟩ => ⟨S2x8192x3328, .f32⟩
  | .hbm, ⟨31, _⟩ => ⟨S_, .i32⟩
  | .hbm, ⟨32, _⟩ => ⟨S_, .f32⟩
  | .hbm, ⟨33, _⟩ => ⟨S2x8194x3328, .f32⟩
  | .hbm, ⟨34, _⟩ => ⟨S2x8192x3328, .f32⟩
  | .hbm, ⟨35, _⟩ => ⟨S1x3328, .f32⟩
  | .hbm, ⟨36, _⟩ => ⟨S3328, .f32⟩
  | .hbm, ⟨37, _⟩ => ⟨S1x1x3328, .f32⟩
  | .hbm, ⟨38, _⟩ => ⟨S2x8192x3328, .f32⟩
  | .hbm, ⟨39, _⟩ => ⟨S2x8192x3328, .f32⟩
  | .hbm, ⟨40, _⟩ => ⟨S_, .f32⟩
  | .hbm, ⟨41, _⟩ => ⟨S2x8192x3328, .f32⟩
  | .hbm, ⟨42, _⟩ => ⟨S2x8192x3328, .f32⟩
  | .hbm, ⟨43, _⟩ => ⟨S2x8192x3328, .f32⟩
  | .hbm, ⟨44, _⟩ => ⟨S1x3328, .f32⟩
  | .hbm, ⟨45, _⟩ => ⟨S3328, .f32⟩
  | .hbm, ⟨46, _⟩ => ⟨S1x1x3328, .f32⟩
  | .hbm, ⟨47, _⟩ => ⟨S2x8192x3328, .f32⟩
  | .hbm, ⟨48, _⟩ => ⟨S2x8192x3328, .f32⟩
  | .hbm, ⟨49, _⟩ => ⟨S2x8192x3328, .f32⟩
  | .hbm, ⟨50, _⟩ => ⟨S2x8192x3328, .f32⟩
  | .hbm, ⟨51, _⟩ => ⟨S1x3328, .f32⟩
  | .hbm, ⟨52, _⟩ => ⟨S3328, .f32⟩
  | .hbm, ⟨53, _⟩ => ⟨S1x1x3328, .f32⟩
  | .hbm, ⟨54, _⟩ => ⟨S2x8192x3328, .f32⟩
  | .hbm, ⟨55, _⟩ => ⟨S2x8192x3328, .f32⟩
  | .hbm, ⟨56, _⟩ => ⟨S2x8192x3328, .f32⟩
  | .hbm, ⟨57, _⟩ => ⟨S2x8448x3328, .f32⟩
  | _, _ => ⟨S2x8448x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_c_0 : Ref sig .tc := ⟨.hbm, 31, rfl⟩
abbrev main_call1_v0 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩

abbrev nD : Nat := 1
abbrev τ : Topo := Topo.v7x

variable {F : FTy → Type} [FloatOps F]
-- ==== KernelCC.lean ====
abbrev S2x8448x6144 : Shape := ⟨3, ![2, 8448, 6144]⟩
abbrev S5x4096 : Shape := ⟨2, ![5, 4096]⟩
abbrev S4096 : Shape := ⟨1, ![4096]⟩
abbrev S1x4096 : Shape := ⟨2, ![1, 4096]⟩
abbrev S2x8448x4096 : Shape := ⟨3, ![2, 8448, 4096]⟩
abbrev S1x1408x512 : Shape := ⟨3, ![1, 1408, 512]⟩
abbrev S1x8x512 : Shape := ⟨3, ![1, 8, 512]⟩
abbrev S5x512 : Shape := ⟨2, ![5, 512]⟩
abbrev S1x512 : Shape := ⟨2, ![1, 512]⟩
abbrev S8x512 : Shape := ⟨2, ![8, 512]⟩
abbrev S1408x512 : Shape := ⟨2, ![1408, 512]⟩
abbrev S1424x512 : Shape := ⟨2, ![1424, 512]⟩
abbrev S1408x1 : Shape := ⟨2, ![1408, 1]⟩

abbrev nBuf : Space → Nat
  | .hbm => 5
  | .vmem => 12
  | .smem => 0
  | _ => 0

abbrev bufTy : (tb : Table) → Fin (tcTables nBuf tb) → BufTy
  | .hbm, ⟨0, _⟩ => ⟨S2x8448x6144, .f32⟩
  | .hbm, ⟨1, _⟩ => ⟨S5x4096, .f32⟩
  | .hbm, ⟨2, _⟩ => ⟨S4096, .f32⟩
  | .hbm, ⟨3, _⟩ => ⟨S1x4096, .f32⟩
  | .hbm, ⟨4, _⟩ => ⟨S2x8448x4096, .f32⟩
  | .local _ .vmem, ⟨0, _⟩ => ⟨S1x1408x512, .f32⟩
  | .local _ .vmem, ⟨1, _⟩ => ⟨S1x1408x512, .f32⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S5x512, .f32⟩
  | .local _ .vmem, ⟨7, _⟩ => ⟨S5x512, .f32⟩
  | .local _ .vmem, ⟨8, _⟩ => ⟨S1x512, .f32⟩
  | .local _ .vmem, ⟨9, _⟩ => ⟨S1x512, .f32⟩
  | .local _ .vmem, ⟨10, _⟩ => ⟨S1x1408x512, .f32⟩
  | .local _ .vmem, ⟨11, _⟩ => ⟨S1x1408x512, .f32⟩
  | _, _ => ⟨S2x8448x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 6, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  ![arg0.toNat, arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c176_i32 : BitVec 32 := 176#32
  let v0 : BitVec 32 := Scalar.muli arg1 c176_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg2
  let c0_i32_0 : BitVec 32 := 0#32
  ![arg0.toNat, v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c176_i32 : BitVec 32 := 176#32
  let v1 : BitVec 32 := Scalar.muli v0 c176_i32
  let c1055_i32 : BitVec 32 := 1055#32
  let v2 : BitVec 32 := Scalar.minsi v1 c1055_i32
  let c4_i32 : BitVec 32 := 4#32
  let v3 : BitVec 32 := Scalar.addi c4_i32 arg2
  let c0_i32 : BitVec 32 := 0#32
  ![arg0.toNat, v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1408x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S5x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1408x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceCCIdeal.lean ====
abbrev S2x8448x6144 : Shape := ⟨3, ![2, 8448, 6144]⟩
abbrev S5x4096 : Shape := ⟨2, ![5, 4096]⟩
abbrev S4096 : Shape := ⟨1, ![4096]⟩
abbrev S2x8448x4096 : Shape := ⟨3, ![2, 8448, 4096]⟩
abbrev S2x256x4096 : Shape := ⟨3, ![2, 256, 4096]⟩
abbrev S_ : Shape := ⟨0, ![]⟩
abbrev S2x260x4096 : Shape := ⟨3, ![2, 260, 4096]⟩
abbrev S1x4096 : Shape := ⟨2, ![1, 4096]⟩
abbrev S1x1x4096 : Shape := ⟨3, ![1, 1, 4096]⟩
abbrev S2x8192x4096 : Shape := ⟨3, ![2, 8192, 4096]⟩
abbrev S2x8196x4096 : Shape := ⟨3, ![2, 8196, 4096]⟩

abbrev nBuf : Space → Nat
  | .hbm => 99
  | .vmem => 0
  | .smem => 0
  | _ => 0

abbrev bufTy : (tb : Table) → Fin (tcTables nBuf tb) → BufTy
  | .hbm, ⟨0, _⟩ => ⟨S2x8448x6144, .f32⟩
  | .hbm, ⟨1, _⟩ => ⟨S5x4096, .f32⟩
  | .hbm, ⟨2, _⟩ => ⟨S4096, .f32⟩
  | .hbm, ⟨3, _⟩ => ⟨S2x8448x4096, .f32⟩
  | .hbm, ⟨4, _⟩ => ⟨S2x256x4096, .f32⟩
  | .hbm, ⟨5, _⟩ => ⟨S_, .i32⟩
  | .hbm, ⟨6, _⟩ => ⟨S_, .f32⟩
  | .hbm, ⟨7, _⟩ => ⟨S2x260x4096, .f32⟩
  | .hbm, ⟨8, _⟩ => ⟨S2x256x4096, .f32⟩
  | .hbm, ⟨9, _⟩ => ⟨S1x4096, .f32⟩
  | .hbm, ⟨10, _⟩ => ⟨S4096, .f32⟩
  | .hbm, ⟨11, _⟩ => ⟨S1x1x4096, .f32⟩
  | .hbm, ⟨12, _⟩ => ⟨S2x256x4096, .f32⟩
  | .hbm, ⟨13, _⟩ => ⟨S2x256x4096, .f32⟩
  | .hbm, ⟨14, _⟩ => ⟨S_, .f32⟩
  | .hbm, ⟨15, _⟩ => ⟨S2x256x4096, .f32⟩
  | .hbm, ⟨16, _⟩ => ⟨S2x256x4096, .f32⟩
  | .hbm, ⟨17, _⟩ => ⟨S2x256x4096, .f32⟩
  | .hbm, ⟨18, _⟩ => ⟨S1x4096, .f32⟩
  | .hbm, ⟨19, _⟩ => ⟨S4096, .f32⟩
  | .hbm, ⟨20, _⟩ => ⟨S1x1x4096, .f32⟩
  | .hbm, ⟨21, _⟩ => ⟨S2x256x4096, .f32⟩
  | .hbm, ⟨22, _⟩ => ⟨S2x256x4096, .f32⟩
  | .hbm, ⟨23, _⟩ => ⟨S2x256x4096, .f32⟩
  | .hbm, ⟨24, _⟩ => ⟨S2x256x4096, .f32⟩
  | .hbm, ⟨25, _⟩ => ⟨S1x4096, .f32⟩
  | .hbm, ⟨26, _⟩ => ⟨S4096, .f32⟩
  | .hbm, ⟨27, _⟩ => ⟨S1x1x4096, .f32⟩
  | .hbm, ⟨28, _⟩ => ⟨S2x256x4096, .f32⟩
  | .hbm, ⟨29, _⟩ => ⟨S2x256x4096, .f32⟩
  | .hbm, ⟨30, _⟩ => ⟨S2x256x4096, .f32⟩
  | .hbm, ⟨31, _⟩ => ⟨S2x256x4096, .f32⟩
  | .hbm, ⟨32, _⟩ => ⟨S1x4096, .f32⟩
  | .hbm, ⟨33, _⟩ => ⟨S4096, .f32⟩
  | .hbm, ⟨34, _⟩ => ⟨S1x1x4096, .f32⟩
  | .hbm, ⟨35, _⟩ => ⟨S2x256x4096, .f32⟩
  | .hbm, ⟨36, _⟩ => ⟨S2x256x4096, .f32⟩
  | .hbm, ⟨37, _⟩ => ⟨S2x256x4096, .f32⟩
  | .hbm, ⟨38, _⟩ => ⟨S2x256x4096, .f32⟩
  | .hbm, ⟨39, _⟩ => ⟨S1x4096, .f32⟩
  | .hbm, ⟨40, _⟩ => ⟨S4096, .f32⟩
  | .hbm, ⟨41, _⟩ => ⟨S1x1x4096, .f32⟩
  | .hbm, ⟨42, _⟩ => ⟨S2x256x4096, .f32⟩
  | .hbm, ⟨43, _⟩ => ⟨S2x256x4096, .f32⟩
  | .hbm, ⟨44, _⟩ => ⟨S2x256x4096, .f32⟩
  | .hbm, ⟨45, _⟩ => ⟨S2x8192x4096, .f32⟩
  | .hbm, ⟨46, _⟩ => ⟨S_, .i32⟩
  | .hbm, ⟨47, _⟩ => ⟨S_, .f32⟩
  | .hbm, ⟨48, _⟩ => ⟨S2x8196x4096, .f32⟩
  | .hbm, ⟨49, _⟩ => ⟨S2x8192x4096, .f32⟩
  | .hbm, ⟨50, _⟩ => ⟨S1x4096, .f32⟩
  | .hbm, ⟨51, _⟩ => ⟨S4096, .f32⟩
  | .hbm, ⟨52, _⟩ => ⟨S1x1x4096, .f32⟩
  | .hbm, ⟨53, _⟩ => ⟨S2x8192x4096, .f32⟩
  | .hbm, ⟨54, _⟩ => ⟨S2x8192x4096, .f32⟩
  | .hbm, ⟨55, _⟩ => ⟨S_, .f32⟩
  | .hbm, ⟨56, _⟩ => ⟨S2x8192x4096, .f32⟩
  | .hbm, ⟨57, _⟩ => ⟨S2x8192x4096, .f32⟩
  | .hbm, ⟨58, _⟩ => ⟨S2x8192x4096, .f32⟩
  | .hbm, ⟨59, _⟩ => ⟨S1x4096, .f32⟩
  | .hbm, ⟨60, _⟩ => ⟨S4096, .f32⟩
  | .hbm, ⟨61, _⟩ => ⟨S1x1x4096, .f32⟩
  | .hbm, ⟨62, _⟩ => ⟨S2x8192x4096, .f32⟩
  | .hbm, ⟨63, _⟩ => ⟨S2x8192x4096, .f32⟩
  | .hbm, ⟨64, _⟩ => ⟨S2x8192x4096, .f32⟩
  | .hbm, ⟨65, _⟩ => ⟨S2x8192x4096, .f32⟩
  | .hbm, ⟨66, _⟩ => ⟨S1x4096, .f32⟩
  | .hbm, ⟨67, _⟩ => ⟨S4096, .f32⟩
  | .hbm, ⟨68, _⟩ => ⟨S1x1x4096, .f32⟩
  | .hbm, ⟨69, _⟩ => ⟨S2x8192x4096, .f32⟩
  | .hbm, ⟨70, _⟩ => ⟨S2x8192x4096, .f32⟩
  | .hbm, ⟨71, _⟩ => ⟨S2x8192x4096, .f32⟩
  | .hbm, ⟨72, _⟩ => ⟨S2x8192x4096, .f32⟩
  | .hbm, ⟨73, _⟩ => ⟨S1x4096, .f32⟩
  | .hbm, ⟨74, _⟩ => ⟨S4096, .f32⟩
  | .hbm, ⟨75, _⟩ => ⟨S1x1x4096, .f32⟩
  | .hbm, ⟨76, _⟩ => ⟨S2x8192x4096, .f32⟩
  | .hbm, ⟨77, _⟩ => ⟨S2x8192x4096, .f32⟩
  | .hbm, ⟨78, _⟩ => ⟨S2x8192x4096, .f32⟩
  | .hbm, ⟨79, _⟩ => ⟨S2x8192x4096, .f32⟩
  | .hbm, ⟨80, _⟩ => ⟨S1x4096, .f32⟩
  | .hbm, ⟨81, _⟩ => ⟨S4096, .f32⟩
  | .hbm, ⟨82, _⟩ => ⟨S1x1x4096, .f32⟩
  | .hbm, ⟨83, _⟩ => ⟨S2x8192x4096, .f32⟩
  | .hbm, ⟨84, _⟩ => ⟨S2x8192x4096, .f32⟩
  | .hbm, ⟨85, _⟩ => ⟨S2x8192x4096, .f32⟩
  | .hbm, ⟨86, _⟩ => ⟨S2x8448x4096, .f32⟩
  | .hbm, ⟨87, _⟩ => ⟨S1x1x4096, .f32⟩
  | .hbm, ⟨88, _⟩ => ⟨S2x8448x4096, .f32⟩
  | .hbm, ⟨89, _⟩ => ⟨S2x8448x4096, .f32⟩
  | .hbm, ⟨90, _⟩ => ⟨S2x8448x4096, .f32⟩
  | .hbm, ⟨91, _⟩ => ⟨S2x8448x4096, .f32⟩
  | .hbm, ⟨92, _⟩ => ⟨S_, .f32⟩
  | .hbm, ⟨93, _⟩ => ⟨S2x8448x4096, .f32⟩
  | .hbm, ⟨94, _⟩ => ⟨S2x8448x4096, .f32⟩
  | .hbm, ⟨95, _⟩ => ⟨S_, .f32⟩
  | .hbm, ⟨96, _⟩ => ⟨S2x8448x4096, .f32⟩
  | .hbm, ⟨97, _⟩ => ⟨S2x8448x4096, .f32⟩
  | .hbm, ⟨98, _⟩ => ⟨S2x8448x4096, .f32⟩
  | _, _ => ⟨S2x8448x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_c_0 : Ref sig .tc := ⟨.hbm, 46, rfl⟩
abbrev main_call1_v0 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_1 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v81 : Ref sig .tc := ⟨.hbm, 98, rfl⟩

abbrev nD : Nat := 1
abbrev τ : Topo := Topo.v7x

variable {F : FTy → Type} [FloatOps F]
-- ==== Proof.Attn.Pre.lean ====
/- The precondition, read: the values and the two parts of the second map's weight are finite. -/
module

public import Idealize.ShloMosaic.Lib.Pointwise
public import Idealize.ShloMosaic.Lib.ReduceAll
public import proofs.«01_k».proof.Proof.Gen.Pre_finite

@[expose] public section

set_option maxRecDepth 16384

noncomputable section

namespace Cert.AttnPre

open Cert.Pre_finite Cert.Pre_finite.Gen Idealize.ShloMosaic

variable (a0 : FVec Ideal S2x1024x8448 .bf16) (a1 : FVec Ideal S2x8448x1024 .bf16) (a2 : FVec Ideal S2x1024x8448 .bf16)
  (a3 : FVec Ideal S2x8448x1024 .f32) (a4 : FVec Ideal S4x64 .f32) (a5 : FVec Ideal S_ .f32) (a6 : FVec Ideal S128 .f32)

theorem ofBits_inf : Ideal.ofBits .f32 0x7F800000#32 = ⊤ := by simp [Ideal.ofBits, Ideal.ieee]

/-- A number whose absolute value is below infinity is a real. -/
theorem real_of_lt (x : EReal) (h : BitVec.ofBool (decide (FloatOps.absf (F := Ideal) (φ := .f32) x < Ideal.ofBits .f32 0x7F800000#32)) = 1#1) :
    x = ((x.toReal : ℝ) : EReal) := by
  rw [ofBits_inf] at h
  induction x with
  | bot => exact absurd h (by simp [FloatOps.absf])
  | top => exact absurd h (by simp [FloatOps.absf])
  | coe r => rfl

theorem values_real (h : fn a0 a1 a2 a3 a4 a5 a6 = fun _ => 1#1) (j : S2x1024x8448.Idx) : a2 j = (((a2 j).toReal : ℝ) : EReal) :=
  real_of_lt _ (Host.reduce_andi_all (cmpf .olt (Host.absf (extf .f32 a2 bitsLt_bf16_f32))
    (broadcastInDim S2x1024x8448 ![] bcast_S_S2x1024x8448 (constant S_ .f32 0x7F800000#32))) (constantI S_ 1 1#1)
    reducesTo_S2x1024x8448_S_d0_1_2 h_S_ ix0 (by
      have h0 := congrFun h (ix1 0)
      unfold fn at h0
      pointwise at h0
      pointwise
      exact h0) j)

theorem param_real (h : fn a0 a1 a2 a3 a4 a5 a6 = fun _ => 1#1) (j : S4x64.Idx) : a4 j = (((a4 j).toReal : ℝ) : EReal) :=
  real_of_lt _ (Host.reduce_andi_all (cmpf .olt (Host.absf a4)
    (broadcastInDim S4x64 ![] bcast_S_S4x64 (constant S_ .f32 0x7F800000#32))) (constantI S_ 1 1#1)
    reducesTo_S4x64_S_d0_1 h_S_ ix0 (by
      have h0 := congrFun h (ix1 1)
      unfold fn at h0
      pointwise at h0
      pointwise
      exact h0) j)

theorem init_real (h : fn a0 a1 a2 a3 a4 a5 a6 = fun _ => 1#1) : a5 ix0 = (((a5 ix0).toReal : ℝ) : EReal) :=
  real_of_lt _ (by
    have h0 := congrFun h (ix1 2)
    unfold fn at h0
    pointwise at h0
    exact h0)

theorem exp_sum_real (f g : Fin 64 → EReal) (hf : ∀ k, f k = (((f k).toReal : ℝ) : EReal)) (hg : ∀ k, g k = (((g k).toReal : ℝ) : EReal)) :
    ∃ r : ℝ, Ideal.exp (∑ k, f k * g k) = (r : EReal) := by
  have e : ∑ k, f k * g k = ((∑ k, (f k).toReal * (g k).toReal : ℝ) : EReal) := by
    rw [show ((∑ k, (f k).toReal * (g k).toReal : ℝ) : EReal) = ∑ k, (((f k).toReal * (g k).toReal : ℝ) : EReal) from
      map_sum (⟨⟨Real.toEReal, EReal.coe_zero⟩, EReal.coe_add⟩ : ℝ →+ EReal) _ _]
    exact Finset.sum_congr rfl fun k _ => by rw [EReal.coe_mul, ← hf, ← hg]
  exact ⟨_, by rw [e]; rfl⟩

/-- So the second map's weight is a real. -/
theorem weight_real (h : fn a0 a1 a2 a3 a4 a5 a6 = fun _ => 1#1) :
    ∃ r : ℝ, Ideal.exp (∑ x : Fin 64, a4 (ix2 0 x) * a4 (ix2 1 x)) - Ideal.exp (∑ x : Fin 64, a4 (ix2 2 x) * a4 (ix2 3 x)) + a5 ix0 = (r : EReal) := by
  have hp := param_real a0 a1 a2 a3 a4 a5 a6 h
  obtain ⟨r, hr⟩ := exp_sum_real (fun x => a4 (ix2 0 x)) (fun x => a4 (ix2 1 x)) (fun _ => hp _) (fun _ => hp _)
  obtain ⟨s, hs⟩ := exp_sum_real (fun x => a4 (ix2 2 x)) (fun x => a4 (ix2 3 x)) (fun _ => hp _) (fun _ => hp _)
  rw [hr, hs, init_real a0 a1 a2 a3 a4 a5 a6 h]
  exact ⟨r - s + (a5 ix0).toReal, by rw [EReal.coe_add, EReal.coe_sub]⟩

end Cert.AttnPre

end
-- ==== Proof.Attn.Blocks.lean ====
/- The kernel's input blocks at a grid point, entry by entry, in terms of the arguments. -/
module

public import Idealize.ShloMosaic.Lib.Pointwise
public import Idealize.ShloMosaic.Lib.Claim
public import Idealize.ShloMosaic.Lib.Pipeline.ValueKit.Point
public import proofs.«01_k».proof.Proof.Gen.KernelIdeal.Value

@[expose] public section

set_option maxRecDepth 16384

noncomputable section

namespace Cert.Attn

open Cert.KernelIdeal Cert.KernelIdeal.Gen Idealize.ShloMosaic Idealize.SL.Sem

variable (m : (ℓ : Loc nD τ sig) → Buf (Elt Ideal) ℓ) (c : Dev nD) (t : Fin grid0.N)

/-- A grid point is a batch row, a head and a tile of 1024 queries, in this order. -/
theorem idx : ∀ t : Fin grid0.N, win0_0.index t = ![0, 0] ∧ win0_1.index t = ![t.val / 64, t.val / 8 % 8, t.val % 8]
    ∧ win0_2.index t = ![t.val / 64, 0, t.val / 8 % 8] ∧ win0_3.index t = ![t.val / 64, t.val / 8 % 8, 0]
    ∧ win0_4.index t = ![t.val / 64, t.val % 8, t.val / 8 % 8] ∧ win0_5.index t = ![0, 0]
    ∧ win0_6.index t = ![t.val / 64, t.val % 8, t.val / 8 % 8] := by decide +kernel

theorem point_lt : t.val < 128 := lt_of_lt_of_eq t.isLt Gen.N_0

theorem queries (d : Fin 128) (y : Fin 1024) : iblk m c 1 t (ix3 0 d y)
    = m ((c.tc : Thread nD τ).loc main_arg0) (ix3 ⟨t.val / 64, by have := point_lt t; omega⟩ ⟨t.val / 8 % 8 * 128 + d.val, by omega⟩
      ⟨256 + (t.val % 8 * 1024 + y.val), by omega⟩) := by
  have ht := point_lt t
  blk_point [iblk, V, idx t]

theorem keys (n : Fin 8448) (d : Fin 128) : iblk m c 2 t (ix3 0 n d)
    = m ((c.tc : Thread nD τ).loc main_arg1) (ix3 ⟨t.val / 64, by have := point_lt t; omega⟩ n ⟨t.val / 8 % 8 * 128 + d.val, by omega⟩) := by
  have ht := point_lt t
  blk_point [iblk, V, idx t]

theorem values (e : Fin 128) (n : Fin 8448) : iblk m c 3 t (ix3 0 e n)
    = m ((c.tc : Thread nD τ).loc main_arg2) (ix3 ⟨t.val / 64, by have := point_lt t; omega⟩ ⟨t.val / 8 % 8 * 128 + e.val, by omega⟩ n) := by
  have ht := point_lt t
  blk_point [iblk, V, idx t]

theorem gates (q : Fin 1024) (e : Fin 128) : iblk m c 4 t (ix3 0 q e)
    = m ((c.tc : Thread nD τ).loc main_arg3) (ix3 ⟨t.val / 64, by have := point_lt t; omega⟩ ⟨256 + (t.val % 8 * 1024 + q.val), by omega⟩
      ⟨t.val / 8 % 8 * 128 + e.val, by omega⟩) := by
  have ht := point_lt t
  blk_point [iblk, V, idx t]

theorem weights (e : Fin 128) : iblk m c 5 t (ix2 e 0) = m ((c.tc : Thread nD τ).loc main_arg6) (ix1 e) := by
  have ht := point_lt t
  blk_point [iblk, V, idx t]

theorem pair (k : Fin 2) : iblk m c 0 t (ix2 0 k) = V m c main_v22 (ix2 0 k) := by
  have ht := point_lt t
  show V m c main_v22 _ = _
  refine congrArg (V m c main_v22) ?_
  blk_ext [idx t]

theorem posts : iblk m c 0 t (ix2 0 1) = Ideal.ofBits .f32 0x3F800000#32 - m ((c.tc : Thread nD τ).loc main_arg5) ix0 := by
  rw [pair]
  entry_read
  pointwise

theorem lambdas (a4 : FVec Ideal S4x64 .f32) (h4 : m ((c.tc : Thread nD τ).loc main_arg4) = a4) (a5 : FVec Ideal S_ .f32)
    (h5 : m ((c.tc : Thread nD τ).loc main_arg5) = a5) : iblk m c 0 t (ix2 0 0)
    = Ideal.exp (∑ x : Fin 64, a4 (ix2 0 x) * a4 (ix2 1 x)) - Ideal.exp (∑ x : Fin 64, a4 (ix2 2 x) * a4 (ix2 3 x)) + a5 ix0 := by
  rw [pair]
  entry_read
  subst h4 h5
  pointwise

end Cert.Attn

end
-- ==== Proof.Attn.Soft.lean ====
/- The running softmax of one query, on the extended reals. A score `f n` weighs `wt (f n) m` against a running maximum `m`; the sums
   kept with an old maximum, rescaled, are the sums with the new one; and after the last key the weighted mean is that of the
   softmax, whatever real number the maximum started from. The scores may be infinite: then every weight is zero. -/
module

public import Idealize.ShloMosaic.PureOps.Ideal
public import Idealize.ShloMosaic.PureOps.Ideal.Laws

@[expose] public section

noncomputable section

namespace Cert.Attn

open Idealize.ShloMosaic

/-- The weight of a score `s` against a maximum `m`. -/
def wt (s m : EReal) : ℝ := (Ideal.exp2 (s - m)).toReal

theorem sub_ne_top {s m : EReal} (h : s ≤ m) : s - m ≠ ⊤ := by
  induction m with
  | bot => rw [le_bot_iff.mp h]; simp [sub_eq_add_neg]
  | top => simp [sub_eq_add_neg]
  | coe b =>
    induction s with
    | bot => simp [sub_eq_add_neg]
    | top => exact absurd h (by simp)
    | coe a => rw [← EReal.coe_sub]; exact EReal.coe_ne_top _

theorem exp2_bot : Ideal.exp2 ⊥ = 0 := rfl

theorem exp2_top : Ideal.exp2 ⊤ = ⊤ := rfl

theorem exp2_coe_toReal {x : EReal} (h : x ≠ ⊤) : Ideal.exp2 x = ((Ideal.exp2 x).toReal : EReal) := by
  induction x with
  | bot => simp [exp2_bot]
  | top => exact absurd rfl h
  | coe a => rfl

theorem coe_wt {s m : EReal} (h : s ≤ m) : Ideal.exp2 (s - m) = ((wt s m : ℝ) : EReal) := exp2_coe_toReal (sub_ne_top h)

theorem wt_top (s : EReal) : wt s ⊤ = 0 := by
  have : s - ⊤ = ⊥ := by simp [sub_eq_add_neg]
  simp [wt, this, exp2_bot]

theorem wt_bot (m : EReal) : wt ⊥ m = 0 := by
  have : (⊥ : EReal) - m = ⊥ := by simp [sub_eq_add_neg]
  simp [wt, this, exp2_bot]

theorem wt_coe (a b : ℝ) : wt a b = (2 : ℝ) ^ (a - b) := by
  rw [wt, ← EReal.coe_sub]; rfl

theorem wt_nonneg (s m : EReal) : 0 ≤ wt s m := by
  unfold wt
  induction s - m with
  | bot => simp [exp2_bot]
  | top => simp [exp2_top]
  | coe a => exact (Real.rpow_nonneg (by norm_num) a : (0:ℝ) ≤ (2:ℝ) ^ a)

/-- A weight against the old maximum, rescaled, is the weight against the new one. -/
theorem rescale {s a b : EReal} (h₁ : s ≤ a) (h₂ : a ≤ b) (ha : a ≠ ⊥) : wt a b * wt s a = wt s b := by
  induction b with
  | bot => exact absurd (le_bot_iff.mp h₂) ha
  | top => rw [wt_top, wt_top, zero_mul]
  | coe b =>
    induction a with
    | bot => exact absurd rfl ha
    | top => exact absurd h₂ (by simp)
    | coe a =>
      induction s with
      | bot => rw [wt_bot, wt_bot, mul_zero]
      | top => exact absurd h₁ (by simp)
      | coe s => rw [wt_coe, wt_coe, wt_coe, ← Real.rpow_add (by norm_num)]; congr 1; ring

/-- The maximum of the first `N` scores and of the start `b`. -/
def top (b : EReal) (f : ℕ → EReal) (N : ℕ) : EReal := b ⊔ (Finset.range N).sup f

theorem le_top {b : EReal} {f : ℕ → EReal} {N n : ℕ} (h : n < N) : f n ≤ top b f N :=
  le_sup_of_le_right (Finset.le_sup (Finset.mem_range.mpr h))

theorem top_ne_bot {b : EReal} (hb : b ≠ ⊥) (f : ℕ → EReal) (N : ℕ) : top b f N ≠ ⊥ :=
  fun h => hb (le_bot_iff.mp (h ▸ (le_sup_left : b ≤ top b f N)))

theorem top_mono {b : EReal} {f : ℕ → EReal} {M N : ℕ} (h : M ≤ N) : top b f M ≤ top b f N :=
  sup_le_sup_left (Finset.sup_mono (Finset.range_mono h)) b

/-- The maximum, one tile of `w` keys further. -/
theorem top_add (b : EReal) (f : ℕ → EReal) (N w : ℕ) :
    top b f (N + w) = max (top b f N) ((Finset.univ : Finset (Fin w)).fold max ⊥ fun k => f (N + k.val)) := by
  show _ = top b f N ⊔ (Finset.univ : Finset (Fin w)).sup fun k => f (N + k.val)
  apply le_antisymm
  · refine sup_le (le_sup_of_le_left le_sup_left) (Finset.sup_le fun n hn => ?_)
    rcases lt_or_ge n N with h | h
    · exact le_sup_of_le_left (le_top h)
    · have hn' := Finset.mem_range.mp hn
      refine le_sup_of_le_right ?_
      have := Finset.le_sup (f := fun k : Fin w => f (N + k.val)) (Finset.mem_univ ⟨n - N, by omega⟩)
      simpa [Nat.add_sub_cancel' h] using this
  · refine sup_le (top_mono (Nat.le_add_right _ _)) (Finset.sup_le fun k _ => le_top (by omega))

/-- The sum, over the first `N` keys, of the weights times `v`. -/
def acc (b : EReal) (f : ℕ → EReal) (v : ℕ → ℝ) (N : ℕ) : ℝ := ∑ n ∈ Finset.range N, v n * wt (f n) (top b f N)

theorem acc_zero (b : EReal) (f : ℕ → EReal) (v : ℕ → ℝ) : acc b f v 0 = 0 := by simp [acc]

/-- The sum, one tile of `w` keys further: the old sum rescaled, and the tile's own. -/
theorem acc_add {b : EReal} (hb : b ≠ ⊥) (f : ℕ → EReal) (v : ℕ → ℝ) (N w : ℕ) :
    Ideal.exp2 (top b f N - top b f (N + w)) * ((acc b f v N : ℝ) : EReal)
      + ∑ k : Fin w, ((v (N + k.val) : ℝ) : EReal) * Ideal.exp2 (f (N + k.val) - top b f (N + w))
      = ((acc b f v (N + w) : ℝ) : EReal) := by
  have ht : ∀ k : Fin w, ((v (N + k.val) : ℝ) : EReal) * Ideal.exp2 (f (N + k.val) - top b f (N + w))
      = ((v (N + k.val) * wt (f (N + k.val)) (top b f (N + w)) : ℝ) : EReal) := fun k => by
    rw [coe_wt (le_top (by omega)), EReal.coe_mul]
  rw [Finset.sum_congr rfl fun k _ => ht k, coe_wt (top_mono (Nat.le_add_right _ _)), ← EReal.coe_mul]
  have hs : ∑ k : Fin w, ((v (N + k.val) * wt (f (N + k.val)) (top b f (N + w)) : ℝ) : EReal)
      = ((∑ k : Fin w, v (N + k.val) * wt (f (N + k.val)) (top b f (N + w)) : ℝ) : EReal) :=
    (map_sum (⟨⟨Real.toEReal, EReal.coe_zero⟩, EReal.coe_add⟩ : ℝ →+ EReal) _ _).symm
  rw [hs, ← EReal.coe_add]
  congr 1
  rw [acc, acc, Finset.sum_range_add, Finset.mul_sum]
  congr 1
  · refine Finset.sum_congr rfl fun n hn => ?_
    rw [← rescale (le_top (Finset.mem_range.mp hn)) (top_mono (Nat.le_add_right N w)) (top_ne_bot hb f N)]
    ring
  · rw [Finset.sum_range]

theorem acc_nonneg {b : EReal} {f : ℕ → EReal} {v : ℕ → ℝ} (hv : ∀ n, 0 ≤ v n) (N : ℕ) : 0 ≤ acc b f v N :=
  Finset.sum_nonneg fun n _ => mul_nonneg (hv n) (wt_nonneg _ _)

/-- The sum of the weights. -/
def den (b : EReal) (f : ℕ → EReal) (N : ℕ) : ℝ := acc b f (fun _ => 1) N

theorem den_nonneg (b : EReal) (f : ℕ → EReal) (N : ℕ) : 0 ≤ den b f N := acc_nonneg (fun _ => zero_le_one) N

/-- The share of key `n` in the sum. -/
def share (b : EReal) (f : ℕ → EReal) (N n : ℕ) : ℝ := wt (f n) (top b f N) / den b f N

theorem acc_of_den_eq_zero {b : EReal} {f : ℕ → EReal} {N : ℕ} (h : den b f N = 0) (v : ℕ → ℝ) : acc b f v N = 0 := by
  rw [den, acc, Finset.sum_eq_zero_iff_of_nonneg fun n _ => mul_nonneg zero_le_one (wt_nonneg _ _)] at h
  refine Finset.sum_eq_zero fun n hn => ?_
  have := h n hn
  rw [one_mul] at this
  rw [this, mul_zero]

theorem acc_div_den (b : EReal) (f : ℕ → EReal) (v : ℕ → ℝ) (N : ℕ) :
    acc b f v N / den b f N = ∑ n ∈ Finset.range N, v n * share b f N n := by
  rw [acc, Finset.sum_div]
  exact Finset.sum_congr rfl fun n _ => mul_div_assoc _ _ _

theorem div_coe {x y : ℝ} (hx : 0 ≤ x ∨ y ≠ 0) : Ideal.div (x : EReal) y = if y = 0 then (if 0 < x then ⊤ else ⊥) else ((x / y : ℝ) : EReal) := by
  rcases eq_or_ne y 0 with rfl | hy
  · simp [Ideal.div]
  · have : ((y : ℝ) : EReal) ≠ 0 := by exact_mod_cast hy
    rw [Ideal.div, if_neg this, if_neg hy, div_eq_mul_inv, EReal.coe_mul, EReal.coe_inv]

/-- What the kernel keeps at the end: the mean of `v`, or minus infinity where no key has weight. -/
theorem div_acc (b : EReal) (f : ℕ → EReal) (v : ℕ → ℝ) (N : ℕ) :
    Ideal.div ((acc b f v N : ℝ) : EReal) ((den b f N : ℝ) : EReal)
      = if den b f N = 0 then ⊥ else ((∑ n ∈ Finset.range N, v n * share b f N n : ℝ) : EReal) := by
  by_cases h : den b f N = 0
  · rw [acc_of_den_eq_zero h, h, if_pos rfl]; simp [Ideal.div]
  · rw [div_coe (.inr h), if_neg h, if_neg h, acc_div_den]

/-- The weights against the maximum of the scores alone are those against the running maximum, up to one positive factor. -/
theorem exists_factor (b : ℝ) (f : ℕ → EReal) (N : ℕ) :
    ∃ c : ℝ, 0 < c ∧ ∀ n < N, wt (f n) (top b f N) = c * wt (f n) ((Finset.range N).sup f) := by
  have hle : ∀ n < N, f n ≤ (Finset.range N).sup f := fun n hn => Finset.le_sup (Finset.mem_range.mpr hn)
  show ∃ c : ℝ, 0 < c ∧ ∀ n < N, wt (f n) ((b : EReal) ⊔ (Finset.range N).sup f) = _
  generalize (Finset.range N).sup f = S at hle ⊢
  induction S with
  | bot => exact ⟨1, one_pos, fun n hn => by rw [le_bot_iff.mp (hle n hn), wt_bot, wt_bot, mul_zero]⟩
  | top => exact ⟨1, one_pos, fun n hn => by rw [sup_top_eq, one_mul]⟩
  | coe S =>
    refine ⟨wt S ((b : EReal) ⊔ S), ?_, fun n hn => (rescale (hle n hn) le_sup_right (EReal.coe_ne_bot S)).symm⟩
    have : (b : EReal) ⊔ (S : EReal) = ((b ⊔ S : ℝ) : EReal) := (EReal.coe_strictMono.monotone.map_sup b S).symm
    rw [this, wt_coe]
    exact Real.rpow_pos_of_pos (by norm_num) _

/-- The softmax of the scores, at a key: the share of the key, or minus infinity where no key has weight. -/
theorem div_softmax (b : ℝ) (f : ℕ → EReal) (N n : ℕ) (hn : n < N) :
    Ideal.div (Ideal.exp2 (f n - (Finset.range N).sup f)) (∑ k : Fin N, Ideal.exp2 (f k.val - (Finset.range N).sup f))
      = if den b f N = 0 then ⊥ else ((share b f N n : ℝ) : EReal) := by
  obtain ⟨c, hc, h⟩ := exists_factor b f N
  have hle : ∀ n < N, f n ≤ (Finset.range N).sup f := fun n hn => Finset.le_sup (Finset.mem_range.mpr hn)
  have hs : ∑ k : Fin N, Ideal.exp2 (f k.val - (Finset.range N).sup f)
      = ((∑ k : Fin N, wt (f k.val) ((Finset.range N).sup f) : ℝ) : EReal) := by
    rw [Finset.sum_congr rfl fun k _ => coe_wt (hle k.val k.isLt)]
    exact (map_sum (⟨⟨Real.toEReal, EReal.coe_zero⟩, EReal.coe_add⟩ : ℝ →+ EReal) _ _).symm
  have hd : den b f N = c * ∑ k : Fin N, wt (f k.val) ((Finset.range N).sup f) := by
    rw [den, acc, Finset.sum_range, Finset.mul_sum]
    exact Finset.sum_congr rfl fun k _ => by rw [one_mul, h k.val k.isLt]
  rw [hs, coe_wt (hle n hn), div_coe (.inl (wt_nonneg _ _)), share, h n hn, hd, mul_div_mul_left _ _ hc.ne']
  have h0 : c * ∑ k : Fin N, wt (f k.val) ((Finset.range N).sup f) = 0 ↔ ∑ k : Fin N, wt (f k.val) ((Finset.range N).sup f) = 0 := by
    simp [hc.ne']
  by_cases hz : ∑ k : Fin N, wt (f k.val) ((Finset.range N).sup f) = 0
  · rw [if_pos hz, if_pos (h0.mpr hz)]
    rw [Finset.sum_eq_zero_iff_of_nonneg fun n _ => wt_nonneg _ _] at hz
    rw [hz ⟨n, hn⟩ (Finset.mem_univ _), if_neg (lt_irrefl _)]
  · rw [if_neg hz, if_neg (fun e => hz (h0.mp e))]

end Cert.Attn

end
-- ==== Proof.Attn.Chain.lean ====
/- The attention body as one loop: the kernel's eleven key tiles times eight query strips are written out one after the
   other, and here they are one step `k`, for the key tile `k / 8` and the strip `k % 8`, repeated 88 times. -/
module

public import proofs.«01_k».proof.Proof.Gen.KernelIdeal.Value

@[expose] public section

set_option maxRecDepth 16384

noncomputable section

namespace Cert.Attn

open Cert.KernelIdeal Cert.KernelIdeal.Gen Idealize.ShloMosaic

variable {F : FTy → Type} [FloatOps F]

theorem inbStat (k : ℕ) : ∀ a, (![0, 256 * (k % 8)] : Fin 2 → ℕ) a + S8x256.size a ≤ S8x2048.size a := by
  intro a
  match a with
  | ⟨0, _⟩ => exact Nat.le_refl 8
  | ⟨1, _⟩ => show 256 * (k % 8) + 256 ≤ 2048; omega

theorem inbAcc (k : ℕ) : ∀ a, (![0, 256 * (k % 8)] : Fin 2 → ℕ) a + S128x256.size a ≤ S128x2048.size a := by
  intro a
  match a with
  | ⟨0, _⟩ => exact Nat.le_refl 128
  | ⟨1, _⟩ => show 256 * (k % 8) + 256 ≤ 2048; omega

theorem inbKey (k : ℕ) : ∀ a, (![0, 768 * (k / 8 % 11), 0] : Fin 3 → ℕ) a + S1x768x128.size a ≤ S1x8448x128.size a := by
  intro a
  match a with
  | ⟨0, _⟩ => exact Nat.le_refl 1
  | ⟨1, _⟩ => show 768 * (k / 8 % 11) + 768 ≤ 8448; omega
  | ⟨2, _⟩ => exact Nat.le_refl 128

theorem inbVal (k : ℕ) : ∀ a, (![0, 0, 768 * (k / 8 % 11)] : Fin 3 → ℕ) a + S1x128x768.size a ≤ S1x128x8448.size a := by
  intro a
  match a with
  | ⟨0, _⟩ => exact Nat.le_refl 1
  | ⟨1, _⟩ => exact Nat.le_refl 128
  | ⟨2, _⟩ => show 768 * (k / 8 % 11) + 768 ≤ 8448; omega

/-- The strip of step `k` in the running maxima and in the running sums, -/
abbrev stat (k : ℕ) : Rect S8x2048 := Rect.unit ![0, 256 * (k % 8)] S8x256.size (inbStat k)
/-- in the queries and in the accumulator; -/
abbrev strip (k : ℕ) : Rect S128x2048 := Rect.unit ![0, 256 * (k % 8)] S128x256.size (inbAcc k)
/-- the tile of step `k` in the keys -/
abbrev keyTile (k : ℕ) : Rect S1x8448x128 := Rect.unit ![0, 768 * (k / 8 % 11), 0] S1x768x128.size (inbKey k)
/-- and in the values. -/
abbrev valTile (k : ℕ) : Rect S1x128x8448 := Rect.unit ![0, 0, 768 * (k / 8 % 11)] S1x128x768.size (inbVal k)

/-- One step's new maximum, -/
abbrev newM (s : FVec F S768x256 .f32) (m : Vec F S8x256 .f32) : FVec F S8x256 .f32 := k0_pay36 (k0_pay30 s m)
/-- its new sum of weights -/
abbrev newL (s : FVec F S768x256 .f32) (v : FVec F S144x768 .bf16) (m l : Vec F S8x256 .f32) : FVec F S8x256 .f32 :=
  k0_pay35 s v (k0_pay31 s m) (k0_pay32 s m) l
/-- and its new weighted sum of the values. -/
abbrev newA (s : FVec F S768x256 .f32) (v : FVec F S144x768 .bf16) (m : Vec F S8x256 .f32) (a : Vec F S128x256 .f32) :
    FVec F S128x256 .f32 :=
  k0_pay34 s v (k0_pay31 s m) (k0_pay32 s m) a

section lists

variable (c : Dev nD) (arg5 : Memref sig .tc .vmem S1x128x1024 .bf16) (harg5 : arg5.IsWhole)
  (arg6 : Memref sig .tc .vmem S1x8448x128 .bf16) (harg6 : arg6.IsWhole)
  (arg7 : Memref sig .tc .vmem S1x128x8448 .bf16) (harg7 : arg7.IsWhole)
  (arg11 : Memref sig .tc .vmem S128x2048 .bf16) (arg12 : Memref sig .tc .vmem S8x2048 .f32)
  (arg13 : Memref sig .tc .vmem S8x2048 .f32) (arg14 : Memref sig .tc .vmem S128x2048 .f32)
  (x1 : Vec F S1x128x1024 .bf16) (x2 : Vec F S1x8448x128 .bf16) (x3 : Vec F S1x128x8448 .bf16)

/-- The scores of step `k`: its keys against its queries. -/
def score (k : ℕ) : FVec F S768x256 .f32 :=
  k0_pay12 (View.readAt (Elt F) arg6.view (keyTile k).toLoadRect (harg6.unread x2))
    (arg11.view.readCov (kernelRun0_A.sl.HS0_1 c arg5 harg5 x1) (strip k).toLoadRect)

/-- The values of step `k`, with rows of ones beneath. -/
def vext (k : ℕ) : FVec F S144x768 .bf16 :=
  k0_pay29 k0_pay10 (View.readAt (Elt F) arg7.view (valTile k).toLoadRect (harg7.unread x3))

/-- The stores into the running maxima before step `k`, the last one first. -/
def mL : ℕ → List (View.Piece (Elt F) S8x2048 .f32)
  | 0 => kernelRun0_A.sl.HS1_1
  | k + 1 => ⟨stat k, newM (score c arg5 harg5 arg6 harg6 arg11 x1 x2 k) (arg12.view.readCov (mL k) (stat k).toLoadRect)⟩ :: mL k

/-- The stores into the running sums before step `k`. -/
def lL : ℕ → List (View.Piece (Elt F) S8x2048 .f32)
  | 0 => kernelRun0_A.sl.HS2_1
  | k + 1 => ⟨stat k, newL (score c arg5 harg5 arg6 harg6 arg11 x1 x2 k) (vext arg7 harg7 x3 k)
      (arg12.view.readCov (mL c arg5 harg5 arg6 harg6 arg11 arg12 x1 x2 k) (stat k).toLoadRect)
      (arg13.view.readCov (lL k) (stat k).toLoadRect)⟩ :: lL k

/-- The stores into the accumulator before step `k`. -/
def aL : ℕ → List (View.Piece (Elt F) S128x2048 .f32)
  | 0 => kernelRun0_A.sl.HS3_1
  | k + 1 => ⟨strip k, newA (score c arg5 harg5 arg6 harg6 arg11 x1 x2 k) (vext arg7 harg7 x3 k)
      (arg12.view.readCov (mL c arg5 harg5 arg6 harg6 arg11 arg12 x1 x2 k) (stat k).toLoadRect)
      (arg14.view.readCov (aL k) (strip k).toLoadRect)⟩ :: aL k

/-- The sums that the kernel's own text leaves are those of 88 steps, -/
theorem sums_eq : kernelRun0_A.sl.HS2_89 c arg5 harg5 arg6 harg6 arg7 harg7 arg11 arg12 arg13 x1 x2 x3
    = lL c arg5 harg5 arg6 harg6 arg7 harg7 arg11 arg12 arg13 x1 x2 x3 88 := by
  sl_kernel_rfl

/-- and so is the accumulator. -/
theorem acc_eq : kernelRun0_A.sl.HS3_89 c arg5 harg5 arg6 harg6 arg7 harg7 arg11 arg12 arg14 x1 x2 x3
    = aL c arg5 harg5 arg6 harg6 arg7 harg7 arg11 arg12 arg14 x1 x2 x3 88 := by
  sl_kernel_rfl

end lists

end Cert.Attn

end
-- ==== Proof.Attn.Step.lean ====
/- One step of the attention, read at an index: the scores of a key tile, the new running maximum, the new sum of weights and the
   new weighted sum of the values. -/
module

public import Idealize.ShloMosaic.Lib.Pointwise
public import proofs.«01_k».proof.Proof.Attn.Chain

@[expose] public section

set_option maxRecDepth 16384

noncomputable section

namespace Cert.Attn

open Cert.KernelIdeal Cert.KernelIdeal.Gen Idealize.ShloMosaic

theorem ofBits_neg_inf : Ideal.ofBits .f32 0xFF800000#32 = ⊥ := by simp [Ideal.ofBits, Ideal.ieee]

/-- What the running maximum starts from. -/
def start : ℝ := (Ideal.ofBits .f32 0xF149F2CA#32).toReal

theorem coe_start : Ideal.ofBits .f32 0xF149F2CA#32 = ((start : ℝ) : EReal) := by
  rw [start, EReal.coe_toReal] <;> simp [Ideal.ofBits, Ideal.ieee, ← EReal.coe_mul]

theorem newM_apply (s : FVec Ideal S768x256 .f32) (m : Vec Ideal S8x256 .f32) (r : Fin 8) (x : Fin 256) :
    newM s m (ix2 r x) = max (m (ix2 r x)) ((Finset.univ : Finset (Fin 768)).fold max ⊥ fun k => s (ix2 k x)) := by
  pointwise [newM, k0_pay36, k0_pay30]
  rw [ofBits_neg_inf]

theorem newL_apply (s : FVec Ideal S768x256 .f32) (v : FVec Ideal S144x768 .bf16) (m l : Vec Ideal S8x256 .f32) (r : Fin 8) (x : Fin 256) :
    newL s v m l (ix2 r x) = Ideal.exp2 (m (ix2 r x) - newM s m (ix2 r x)) * l (ix2 r x)
      + ∑ k : Fin 768, v (ix2 ⟨128 + r.val, by omega⟩ k) * Ideal.exp2 (s (ix2 k x) - newM s m (ix2 0 x)) := by
  pointwise [newL, k0_pay35, k0_pay31, k0_pay32, k0_pay33, newM, k0_pay36, k0_pay30]
  rfl

theorem newA_apply (s : FVec Ideal S768x256 .f32) (v : FVec Ideal S144x768 .bf16) (m : Vec Ideal S8x256 .f32) (a : Vec Ideal S128x256 .f32)
    (d : Fin 128) (x : Fin 256) :
    newA s v m a (ix2 d x) = Ideal.exp2 (m (ix2 0 x) - newM s m (ix2 0 x)) * a (ix2 d x)
      + ∑ k : Fin 768, v (ix2 ⟨d.val, by omega⟩ k) * Ideal.exp2 (s (ix2 k x) - newM s m (ix2 0 x)) := by
  pointwise [newA, k0_pay34, k0_pay31, k0_pay32, k0_pay33, newM, k0_pay36, k0_pay30]
  rfl

theorem vext_eq (v : Vec Ideal S1x128x768 .bf16) (d : Fin 144) (k : Fin 768) :
    (k0_pay29 (F := Ideal) k0_pay10 v) (ix2 d k) = if h : d.val < 128 then v (ix3 0 ⟨d.val, h⟩ k) else 1 := by
  pointwise [k0_pay29, k0_pay10]

theorem pay12_apply (x : Vec Ideal S1x768x128 .bf16) (q : Vec Ideal S128x256 .bf16) (k : Fin 768) (y : Fin 256) :
    (k0_pay12 (F := Ideal) x q) (ix2 k y) = ∑ d : Fin 128, x (ix3 0 k d) * q (ix2 d y) := by
  pointwise [k0_pay12, k0_pay11]

theorem pay6_apply (x : Vec Ideal S1x128x1024 .bf16) (d : Fin 128) (y : Fin 2048) :
    (k0_pay6 (F := Ideal) x) (ix2 d y)
      = if h : y.val < 1024 then (if d.val < 64 then x (ix3 0 d ⟨y.val, h⟩) else 0)
        else (if d.val < 64 then 0 else x (ix3 0 d ⟨y.val - 1024, by omega⟩)) := by
  have hc : ∀ a b : EReal, Scalar.select (IntOp.cmpi CmpIPredicate.slt (BitVec.ofNat 32 d.val) 64#32) a b = if d.val < 64 then a else b :=
    fun a b => by
      rw [WordCmp.cmpi_slt_ofNat (by omega) (by omega)]
      by_cases h : d.val < 64 <;> simp [h, Scalar.select]
  pointwise [k0_pay6]
  simp only [hc]

/-! ## Where a step's stores land -/

theorem stat_idx (k : ℕ) (r : Fin 8) (x : Fin 256) :
    (stat k).toLoadRect.idx (ix2 r x) = ix2 r ⟨256 * (k % 8) + x.val, by omega⟩ := by
  funext a
  match a with
  | ⟨0, _⟩ => exact Fin.ext (by show 0 + 1 * r.val = r.val; omega)
  | ⟨1, _⟩ => exact Fin.ext (by show 256 * (k % 8) + 1 * x.val = 256 * (k % 8) + x.val; omega)

theorem strip_idx (k : ℕ) (d : Fin 128) (x : Fin 256) :
    (strip k).toLoadRect.idx (ix2 d x) = ix2 d ⟨256 * (k % 8) + x.val, by omega⟩ := by
  funext a
  match a with
  | ⟨0, _⟩ => exact Fin.ext (by show 0 + 1 * d.val = d.val; omega)
  | ⟨1, _⟩ => exact Fin.ext (by show 256 * (k % 8) + 1 * x.val = 256 * (k % 8) + x.val; omega)

theorem canon_stat (k : ℕ) (w : Vec Ideal S8x256 .f32) (L : List (View.Piece (Elt Ideal) S8x2048 .f32)) (r : Fin 8) (y : Fin 2048) :
    View.canon (⟨stat k, w⟩ :: L) (ix2 r y) = if y.val / 256 = k % 8 then w (ix2 r ⟨y.val % 256, by omega⟩) else View.canon L (ix2 r y) := by
  by_cases h : y.val / 256 = k % 8
  · rw [if_pos h]
    have e : ix2 r y = (stat k).emb (ix2 r ⟨y.val % 256, by omega⟩) := by
      refine Eq.trans ?_ (stat_idx k r ⟨y.val % 256, by omega⟩).symm
      rw [show (⟨256 * (k % 8) + y.val % 256, by omega⟩ : Fin 2048) = y from Fin.ext (by show 256 * (k % 8) + y.val % 256 = y.val; omega)]
    rw [e]; exact View.canon_cons_emb (stat k) w L _
  · rw [if_neg h]
    refine View.canon_cons_of_not_mem _ L fun hm => h ?_
    have := (Rect.mem_set_unit (inb := inbStat k) |>.mp hm) ⟨1, by decide⟩
    have h₁ : 256 * (k % 8) ≤ y.val := this.1
    have h₂ : y.val < 256 * (k % 8) + 256 := this.2
    omega

theorem canon_strip (k : ℕ) (w : Vec Ideal S128x256 .f32) (L : List (View.Piece (Elt Ideal) S128x2048 .f32)) (d : Fin 128) (y : Fin 2048) :
    View.canon (⟨strip k, w⟩ :: L) (ix2 d y) = if y.val / 256 = k % 8 then w (ix2 d ⟨y.val % 256, by omega⟩) else View.canon L (ix2 d y) := by
  by_cases h : y.val / 256 = k % 8
  · rw [if_pos h]
    have e : ix2 d y = (strip k).emb (ix2 d ⟨y.val % 256, by omega⟩) := by
      refine Eq.trans ?_ (strip_idx k d ⟨y.val % 256, by omega⟩).symm
      rw [show (⟨256 * (k % 8) + y.val % 256, by omega⟩ : Fin 2048) = y from Fin.ext (by show 256 * (k % 8) + y.val % 256 = y.val; omega)]
    rw [e]; exact View.canon_cons_emb (strip k) w L _
  · rw [if_neg h]
    refine View.canon_cons_of_not_mem _ L fun hm => h ?_
    have := (Rect.mem_set_unit (inb := inbAcc k) |>.mp hm) ⟨1, by decide⟩
    have h₁ : 256 * (k % 8) ≤ y.val := this.1
    have h₂ : y.val < 256 * (k % 8) + 256 := this.2
    omega

end Cert.Attn

end
-- ==== Proof.Attn.Loop.lean ====
/- The 88 steps together: after step `k`, a strip that has seen `t` key tiles keeps the maximum, the sum of weights and the weighted
   sums of the values over the first `768 t` keys. -/
module

public import proofs.«01_k».proof.Proof.Attn.Soft
public import proofs.«01_k».proof.Proof.Attn.Step

@[expose] public section

set_option maxRecDepth 16384

noncomputable section

namespace Cert.Attn

open Cert.KernelIdeal Cert.KernelIdeal.Gen Idealize.ShloMosaic

/-- The score of key `n` for column `y`: the columns are the first map's queries and then the second map's. -/
def sc (x1 : Vec Ideal S1x128x1024 .bf16) (x2 : Vec Ideal S1x8448x128 .bf16) (y : Fin 2048) (n : ℕ) : EReal :=
  if h : n < 8448 then ∑ d : Fin 128, x2 (ix3 0 ⟨n, h⟩ d) * (k0_pay6 (F := Ideal) x1) (ix2 d y) else 0

/-- Feature `d` of the value of key `n`, as a real number. -/
def vr (x3 : Vec Ideal S1x128x8448 .bf16) (d : Fin 128) (n : ℕ) : ℝ := if h : n < 8448 then (x3 (ix3 0 d ⟨n, h⟩)).toReal else 0

section lists

variable (c : Dev nD) (arg5 : Memref sig .tc .vmem S1x128x1024 .bf16) (harg5 : arg5.IsWhole)
  (arg6 : Memref sig .tc .vmem S1x8448x128 .bf16) (harg6 : arg6.IsWhole)
  (arg7 : Memref sig .tc .vmem S1x128x8448 .bf16) (harg7 : arg7.IsWhole)
  (arg11 : Memref sig .tc .vmem S128x2048 .bf16) (arg12 : Memref sig .tc .vmem S8x2048 .f32)
  (arg13 : Memref sig .tc .vmem S8x2048 .f32) (arg14 : Memref sig .tc .vmem S128x2048 .f32)
  (x1 : Vec Ideal S1x128x1024 .bf16) (x2 : Vec Ideal S1x8448x128 .bf16) (x3 : Vec Ideal S1x128x8448 .bf16)

theorem whole_zero2 : (![0, 0] : Fin 2 → ℕ) = fun _ => 0 := by funext a; match a with | ⟨0, _⟩ => rfl | ⟨1, _⟩ => rfl

theorem whole_zero3 : (![0, 0, 0] : Fin 3 → ℕ) = fun _ => 0 := by funext a; match a with | ⟨0, _⟩ => rfl | ⟨1, _⟩ => rfl | ⟨2, _⟩ => rfl

theorem score_apply (k : ℕ) (hk : k < 88) (i : Fin 768) (x : Fin 256) :
    score c arg5 harg5 arg6 harg6 arg11 x1 x2 k (ix2 i x)
      = sc x1 x2 ⟨256 * (k % 8) + x.val, by omega⟩ (768 * (k / 8) + i.val) := by
  have hn : 768 * (k / 8) + i.val < 8448 := by omega
  rw [score, pay12_apply, sc, dif_pos hn]
  refine Finset.sum_congr rfl fun d _ => ?_
  have e₁ : View.readAt (Elt Ideal) arg6.view (keyTile k).toLoadRect (harg6.unread x2) (ix3 0 i d)
      = x2 (ix3 0 ⟨768 * (k / 8) + i.val, hn⟩ d) := by
    rw [View.readAt_eq_ld, harg6.read_unread]
    refine congrArg x2 (funext fun a => ?_)
    match a with
    | ⟨0, _⟩ => exact Fin.ext (by show 0 + 1 * 0 = 0; rfl)
    | ⟨1, _⟩ => exact Fin.ext (by show 768 * (k / 8 % 11) + 1 * i.val = 768 * (k / 8) + i.val; omega)
    | ⟨2, _⟩ => exact Fin.ext (by show 0 + 1 * d.val = d.val; omega)
  have e₂ : arg11.view.readCov (kernelRun0_A.sl.HS0_1 c arg5 harg5 x1) (strip k).toLoadRect (ix2 d x)
      = (k0_pay6 (F := Ideal) x1) (ix2 d ⟨256 * (k % 8) + x.val, by omega⟩) := by
    rw [View.readCov_eq_canon']
    show View.canon _ ((strip k).toLoadRect.idx (ix2 d x)) = _
    rw [strip_idx]
    have : View.canon (kernelRun0_A.sl.HS0_1 (F := Ideal) c arg5 harg5 x1) = k0_pay6 (F := Ideal) x1 := by
      refine (View.canon_unit_zero whole_zero2 _ _).trans (congrArg k0_pay6 ?_)
      exact (View.readAt_eq_ld _ _ _).trans ((congrArg (fun z => View.ld z _) (harg5.read_unread x1)).trans (View.ld_unit_zero whole_zero3 _ _))
    rw [this]
  rw [e₁, e₂]

theorem vext_apply (k : ℕ) (hk : k < 88) (d : Fin 144) (i : Fin 768) :
    vext arg7 harg7 x3 k (ix2 d i)
      = if h : d.val < 128 then x3 (ix3 0 ⟨d.val, h⟩ ⟨768 * (k / 8) + i.val, by omega⟩) else 1 := by
  rw [vext, vext_eq]
  by_cases h : d.val < 128
  · rw [dif_pos h, dif_pos h, View.readAt_eq_ld, harg7.read_unread]
    refine congrArg x3 (funext fun a => ?_)
    match a with
    | ⟨0, _⟩ => exact Fin.ext (by show 0 + 1 * 0 = 0; rfl)
    | ⟨1, _⟩ => exact Fin.ext (by show 0 + 1 * d.val = d.val; omega)
    | ⟨2, _⟩ => exact Fin.ext (by show 768 * (k / 8 % 11) + 1 * i.val = 768 * (k / 8) + i.val; omega)
  · rw [dif_neg h, dif_neg h]

/-- How many keys column `y` has seen before step `k`. -/
def seen (k : ℕ) (y : Fin 2048) : ℕ := 768 * ((k + 7 - y.val / 256) / 8)

theorem seen_own {k : ℕ} {y : Fin 2048} (h : y.val / 256 = k % 8) : seen k y = 768 * (k / 8) := by
  unfold seen; congr 1; omega

theorem seen_step {k : ℕ} {y : Fin 2048} (h : y.val / 256 = k % 8) : seen (k + 1) y = 768 * (k / 8) + 768 := by
  unfold seen; rw [show (k + 1 + 7 - y.val / 256) / 8 = k / 8 + 1 from by omega]; ring

theorem seen_other {k : ℕ} {y : Fin 2048} (h : y.val / 256 ≠ k % 8) : seen (k + 1) y = seen k y := by
  have := y.isLt
  unfold seen; congr 1; omega

theorem col_own {k : ℕ} {y : Fin 2048} (h : y.val / 256 = k % 8) (hlt : 256 * (k % 8) + y.val % 256 < 2048) :
    (⟨256 * (k % 8) + y.val % 256, hlt⟩ : Fin 2048) = y := Fin.ext (by show 256 * (k % 8) + y.val % 256 = y.val; omega)

theorem read_stat (v : View sig .tc .vmem S8x2048 .f32) (L : List (View.Piece (Elt Ideal) S8x2048 .f32)) (k : ℕ) (r : Fin 8) {y : Fin 2048}
    (h : y.val / 256 = k % 8) : v.readCov L (stat k).toLoadRect (ix2 r ⟨y.val % 256, by omega⟩) = View.canon L (ix2 r y) := by
  rw [View.readCov_eq_canon']
  show View.canon _ ((stat k).toLoadRect.idx (ix2 r _)) = _
  rw [stat_idx, col_own h]

theorem read_strip (v : View sig .tc .vmem S128x2048 .f32) (L : List (View.Piece (Elt Ideal) S128x2048 .f32)) (k : ℕ) (d : Fin 128) {y : Fin 2048}
    (h : y.val / 256 = k % 8) : v.readCov L (strip k).toLoadRect (ix2 d ⟨y.val % 256, by omega⟩) = View.canon L (ix2 d y) := by
  rw [View.readCov_eq_canon']
  show View.canon _ ((strip k).toLoadRect.idx (ix2 d _)) = _
  rw [strip_idx, col_own h]

theorem maxima (k : ℕ) (hk : k ≤ 88) (r : Fin 8) (y : Fin 2048) :
    View.canon (mL c arg5 harg5 arg6 harg6 arg11 arg12 x1 x2 k) (ix2 r y) = top start (sc x1 x2 y) (seen k y) := by
  induction k with
  | zero =>
    have hs : seen 0 y = 0 := by unfold seen; omega
    have : View.canon (mL (F := Ideal) c arg5 harg5 arg6 harg6 arg11 arg12 x1 x2 0) = k0_pay7 (F := Ideal) := by rw [mL]; exact View.canon_unit_zero (S := S8x2048) whole_zero2 _ _
    rw [this, hs]
    have : (k0_pay7 (F := Ideal)) (ix2 r y) = ((start : ℝ) : EReal) := by
      pointwise [k0_pay7]
      exact coe_start
    rw [this]; simp [top]
  | succ k ih =>
    rw [mL, canon_stat]
    by_cases h : y.val / 256 = k % 8
    · have ih' := ih (by omega)
      rw [seen_own h] at ih'
      rw [if_pos h, newM_apply, seen_step h, top_add, read_stat _ _ _ _ h, ih']
      simp only [score_apply c arg5 harg5 arg6 harg6 arg11 x1 x2 k (by omega), col_own h]
    · rw [if_neg h, seen_other h, ih (by omega)]

theorem start_ne_bot : ((start : ℝ) : EReal) ≠ ⊥ := EReal.coe_ne_bot _

/-- A step's new maximum in a column of its own strip. -/
theorem newM_own {k : ℕ} (hk : k < 88) (r : Fin 8) {y : Fin 2048} (h : y.val / 256 = k % 8) :
    newM (score c arg5 harg5 arg6 harg6 arg11 x1 x2 k)
        (arg12.view.readCov (mL c arg5 harg5 arg6 harg6 arg11 arg12 x1 x2 k) (stat k).toLoadRect) (ix2 r ⟨y.val % 256, by omega⟩)
      = top start (sc x1 x2 y) (768 * (k / 8) + 768) := by
  have := maxima c arg5 harg5 arg6 harg6 arg11 arg12 x1 x2 (k + 1) (by omega) r y
  rw [mL, canon_stat, if_pos h, seen_step h] at this
  exact this

/-- The maximum that the step read there. -/
theorem oldM_own {k : ℕ} (hk : k < 88) (r : Fin 8) {y : Fin 2048} (h : y.val / 256 = k % 8) :
    arg12.view.readCov (mL c arg5 harg5 arg6 harg6 arg11 arg12 x1 x2 k) (stat k).toLoadRect (ix2 r ⟨y.val % 256, by omega⟩)
      = top start (sc x1 x2 y) (768 * (k / 8)) := by
  rw [read_stat _ _ _ _ h, maxima _ _ _ _ _ _ _ _ _ _ (by omega), seen_own h]

theorem sums (k : ℕ) (hk : k ≤ 88) (r : Fin 8) (y : Fin 2048) :
    View.canon (lL c arg5 harg5 arg6 harg6 arg7 harg7 arg11 arg12 arg13 x1 x2 x3 k) (ix2 r y)
      = ((den start (sc x1 x2 y) (seen k y) : ℝ) : EReal) := by
  induction k with
  | zero =>
    have hs : seen 0 y = 0 := by unfold seen; omega
    have : View.canon (lL (F := Ideal) c arg5 harg5 arg6 harg6 arg7 harg7 arg11 arg12 arg13 x1 x2 x3 0) = k0_pay8 (F := Ideal) := by rw [lL]; exact View.canon_unit_zero (S := S8x2048) whole_zero2 _ _
    rw [this, hs, den, acc_zero]
    pointwise [k0_pay8]
    rfl
  | succ k ih =>
    rw [lL, canon_stat]
    by_cases h : y.val / 256 = k % 8
    · have ih' := ih (by omega)
      rw [seen_own h] at ih'
      rw [if_pos h, newL_apply, seen_step h, newM_own _ _ _ _ _ _ _ _ _ (by omega) r h, newM_own _ _ _ _ _ _ _ _ _ (by omega) 0 h,
        oldM_own _ _ _ _ _ _ _ _ _ (by omega) r h, read_stat _ _ _ _ h, ih', den, den, ← acc_add start_ne_bot]
      congr 1
      refine Finset.sum_congr rfl fun i _ => ?_
      rw [vext_apply _ _ _ _ (by omega), dif_neg (by show ¬ 128 + r.val < 128; omega), score_apply _ _ _ _ _ _ _ _ _ (by omega), col_own h]
      rfl
    · rw [if_neg h, seen_other h, ih (by omega)]

theorem accs (hv : ∀ j, x3 j = (((x3 j).toReal : ℝ) : EReal)) (k : ℕ) (hk : k ≤ 88) (d : Fin 128) (y : Fin 2048) :
    View.canon (aL c arg5 harg5 arg6 harg6 arg7 harg7 arg11 arg12 arg14 x1 x2 x3 k) (ix2 d y)
      = ((acc start (sc x1 x2 y) (vr x3 d) (seen k y) : ℝ) : EReal) := by
  induction k with
  | zero =>
    have hs : seen 0 y = 0 := by unfold seen; omega
    have : View.canon (aL (F := Ideal) c arg5 harg5 arg6 harg6 arg7 harg7 arg11 arg12 arg14 x1 x2 x3 0) = k0_pay9 (F := Ideal) := by rw [aL]; exact View.canon_unit_zero (S := S128x2048) whole_zero2 _ _
    rw [this, hs, acc_zero]
    pointwise [k0_pay9]
    rfl
  | succ k ih =>
    rw [aL, canon_strip]
    by_cases h : y.val / 256 = k % 8
    · have ih' := ih (by omega)
      rw [seen_own h] at ih'
      rw [if_pos h, newA_apply, seen_step h, newM_own _ _ _ _ _ _ _ _ _ (by omega) 0 h,
        oldM_own _ _ _ _ _ _ _ _ _ (by omega) 0 h, read_strip _ _ _ _ h, ih', ← acc_add start_ne_bot]
      congr 1
      refine Finset.sum_congr rfl fun i _ => ?_
      rw [vext_apply _ _ _ _ (by omega), dif_pos (by exact d.isLt), score_apply _ _ _ _ _ _ _ _ _ (by omega), col_own h, hv, vr,
        dif_pos (show 768 * (k / 8) + i.val < 8448 by omega)]
    · rw [if_neg h, seen_other h, ih (by omega)]

end lists

end Cert.Attn

end
-- ==== Proof.Attn.Out.lean ====
/- What one grid point leaves in its block of the output, as a function of its input blocks. -/
module

public import proofs.«01_k».proof.Proof.Attn.Loop

@[expose] public section

set_option maxRecDepth 16384

noncomputable section

namespace Cert.Attn

open Cert.KernelIdeal Cert.KernelIdeal.Gen Idealize.ShloMosaic

/-- The reciprocal root mean square of the 128 features, with the kernel's epsilon. -/
def rootMean (o : Fin 128 → EReal) : EReal :=
  Ideal.rsqrt (Ideal.div (∑ d : Fin 128, o d * o d) (Ideal.ofBits .f32 0x43000000#32) + Ideal.ofBits .f32 0x358637BD#32)

/-- The gate's `g · sigmoid g`. -/
def gate (g : EReal) : EReal := g * Ideal.div 1 (1 + Ideal.exp (0 - g))

theorem pay5_apply (a : Vec Ideal S128x2048 .f32) (l : Vec Ideal S1x2048 .f32) (lam : EReal) (w : Vec Ideal S128x1 .f32) (post : EReal)
    (g : Vec Ideal S1x1024x128 .f32) (q : Fin 1024) (e : Fin 128) (o : Fin 128 → EReal)
    (ho : ∀ d, o d = Ideal.div (a (ix2 d ⟨q.val, by omega⟩)) (l (ix2 0 ⟨q.val, by omega⟩))
      - lam * Ideal.div (a (ix2 d ⟨1024 + q.val, by omega⟩)) (l (ix2 0 ⟨1024 + q.val, by omega⟩))) :
    (k0_pay4 (F := Ideal) (k0_pay5 a l lam w post g)) (ix3 0 q e)
      = (o e * rootMean o) * (w (ix2 e 0) * post) * gate (g (ix3 0 q e)) := by
  unfold rootMean gate
  simp only [ho]
  pointwise [k0_pay4, k0_pay5]

section block

variable (c : Dev nD) (i : grid0.Coords) (arg4 : Memref sig .tc .smem S1x2 .f32) (harg4 : arg4.IsWhole)
  (arg5 : Memref sig .tc .vmem S1x128x1024 .bf16) (harg5 : arg5.IsWhole)
  (arg6 : Memref sig .tc .vmem S1x8448x128 .bf16) (harg6 : arg6.IsWhole)
  (arg7 : Memref sig .tc .vmem S1x128x8448 .bf16) (harg7 : arg7.IsWhole)
  (arg8 : Memref sig .tc .vmem S1x1024x128 .f32) (harg8 : arg8.IsWhole) (arg9 : Memref sig .tc .vmem S128x1 .f32) (harg9 : arg9.IsWhole)
  (arg10 : Memref sig .tc .vmem S1x1024x128 .bf16) (harg10 : arg10.IsWhole)
  (arg11 : Memref sig .tc .vmem S128x2048 .bf16) (harg11 : arg11.IsWhole) (arg12 : Memref sig .tc .vmem S8x2048 .f32) (harg12 : arg12.IsWhole)
  (arg13 : Memref sig .tc .vmem S8x2048 .f32) (harg13 : arg13.IsWhole) (arg14 : Memref sig .tc .vmem S128x2048 .f32) (harg14 : arg14.IsWhole)
  (hc0 : cond0_0 i) (hc1 : cond0_1 i)
  (x0 : Vec Ideal S1x2 .f32) (x1 : Vec Ideal S1x128x1024 .bf16) (x2 : Vec Ideal S1x8448x128 .bf16) (x3 : Vec Ideal S1x128x8448 .bf16)
  (x4 : Vec Ideal S1x1024x128 .f32) (x5 : Vec Ideal S128x1 .f32)

theorem store_eq : (kernelRun0_A (F := Ideal) c i arg4 harg4 arg5 harg5 arg6 harg6 arg7 harg7 arg8 harg8 arg9 harg9 arg10 harg10 arg11 harg11
      arg12 harg12 arg13 harg13 arg14 harg14 hc0 hc1 x0 x1 x2 x3 x4 x5).1
    = [⟨Rect.unit ![0, 0, 0] S1x1024x128.size inb_S1x1024x128_S1x1024x128_0_0_0, k0_pay4 (kernelRun0_A.sl.r_283 c arg4 harg4 arg5 harg5
        arg6 harg6 arg7 harg7 arg8 harg8 arg9 harg9 arg11 arg12 arg13 arg14 x0 x1 x2 x3 x4 x5)⟩] := rfl

theorem factor0 : kernelRun0_A.sl.r_281 (F := Ideal) c arg4 harg4 x0 = x0 (ix2 0 0) := by
  show View.readAt _ _ _ _ _ = _
  rw [View.readAt_eq_ld, harg4.read_unread]
  refine congrArg x0 (funext fun a => ?_)
  match a with
  | ⟨0, _⟩ => rfl
  | ⟨1, _⟩ => rfl

theorem factor1 : kernelRun0_A.sl.r_282 (F := Ideal) c arg4 harg4 x0 = x0 (ix2 0 1) := by
  show View.readAt _ _ _ _ _ = _
  rw [View.readAt_eq_ld, harg4.read_unread]
  refine congrArg x0 (funext fun a => ?_)
  match a with
  | ⟨0, _⟩ => rfl
  | ⟨1, _⟩ => rfl

theorem seen_all (y : Fin 2048) : seen 88 y = 8448 := by
  have := y.isLt
  unfold seen; omega

theorem acc_all (hv : ∀ j, x3 j = (((x3 j).toReal : ℝ) : EReal)) (d : Fin 128) (y : Fin 2048) :
    kernelRun0_A.sl.v3054 (F := Ideal) c arg5 harg5 arg6 harg6 arg7 harg7 arg11 arg12 arg14 x1 x2 x3 (ix2 d y)
      = ((acc start (sc x1 x2 y) (vr x3 d) 8448 : ℝ) : EReal) := by
  show View.readCov _ (kernelRun0_A.sl.HS3_89 (F := Ideal) c arg5 harg5 arg6 harg6 arg7 harg7 arg11 arg12 arg14 x1 x2 x3) _ _ = _
  rw [acc_eq, View.readCov_eq_canon']
  refine Eq.trans (congrArg _ (a₂ := ix2 d y) (funext fun a => ?_)) ((accs _ _ _ _ _ _ _ _ _ _ _ _ _ hv 88 (le_refl _) d y).trans (by rw [seen_all]))
  match a with
  | ⟨0, _⟩ => exact Fin.ext (by show 0 + 1 * d.val = d.val; omega)
  | ⟨1, _⟩ => exact Fin.ext (by show 0 + 1 * y.val = y.val; omega)

theorem den_all (y : Fin 2048) :
    kernelRun0_A.sl.v3055 (F := Ideal) c arg5 harg5 arg6 harg6 arg7 harg7 arg11 arg12 arg13 x1 x2 x3 (ix2 0 y)
      = ((den start (sc x1 x2 y) 8448 : ℝ) : EReal) := by
  show View.readCov _ (kernelRun0_A.sl.HS2_89 (F := Ideal) c arg5 harg5 arg6 harg6 arg7 harg7 arg11 arg12 arg13 x1 x2 x3) _ _ = _
  rw [sums_eq, View.readCov_eq_canon']
  refine Eq.trans (congrArg _ (a₂ := ix2 0 y) (funext fun a => ?_)) ((sums _ _ _ _ _ _ _ _ _ _ _ _ _ 88 (le_refl _) 0 y).trans (by rw [seen_all]))
  match a with
  | ⟨0, _⟩ => rfl
  | ⟨1, _⟩ => exact Fin.ext (by show 0 + 1 * y.val = y.val; omega)

/-- The mean of the values' feature `d` under one softmax: minus infinity where no key has weight. -/
def mean (f : ℕ → EReal) (v : ℕ → ℝ) : EReal :=
  if den start f 8448 = 0 then ⊥ else ((∑ n ∈ Finset.range 8448, v n * share start f 8448 n : ℝ) : EReal)

theorem out_apply (hv : ∀ j, x3 j = (((x3 j).toReal : ℝ) : EReal)) (q : Fin 1024) (e : Fin 128) (o : Fin 128 → EReal)
    (ho : ∀ d, o d = mean (sc x1 x2 ⟨q.val, by omega⟩) (vr x3 d) - x0 (ix2 0 0) * mean (sc x1 x2 ⟨1024 + q.val, by omega⟩) (vr x3 d)) :
    out0_A_6 (F := Ideal) c i arg4 harg4 arg5 harg5 arg6 harg6 arg7 harg7 arg8 harg8 arg9 harg9 arg10 harg10 arg11 harg11
      arg12 harg12 arg13 harg13 arg14 harg14 hc0 hc1 x0 x1 x2 x3 x4 x5 (ix3 0 q e)
      = (o e * rootMean o) * (x5 (ix2 e 0) * x0 (ix2 0 1)) * gate (x4 (ix3 0 q e)) := by
  rw [out0_A_6, View.read_writes_junk_eq_canon, store_eq, View.canon_unit_zero (S := S1x1024x128) whole_zero3, kernelRun0_A.sl.r_283,
    factor0, factor1]
  have e₉ : View.readAt (Elt Ideal) arg9.view (Rect.unit ![0, 0] S128x1.size inb_S128x1_S128x1_0_0).toLoadRect (harg9.unread x5) = x5 :=
    (View.readAt_eq_ld _ _ _).trans ((congrArg (fun z => View.ld z _) (harg9.read_unread x5)).trans (View.ld_unit_zero whole_zero2 _ _))
  have e₈ : View.readAt (Elt Ideal) arg8.view (Rect.unit ![0, 0, 0] S1x1024x128.size inb_S1x1024x128_S1x1024x128_0_0_0).toLoadRect (harg8.unread x4) = x4 :=
    (View.readAt_eq_ld _ _ _).trans ((congrArg (fun z => View.ld z _) (harg8.read_unread x4)).trans (View.ld_unit_zero whole_zero3 _ _))
  rw [e₈, e₉]
  refine pay5_apply _ _ _ _ _ _ q e o fun d => ?_
  rw [acc_all _ _ _ _ _ _ _ _ _ _ _ _ _ hv, acc_all _ _ _ _ _ _ _ _ _ _ _ _ _ hv, den_all, den_all, div_acc, div_acc, ho]
  rfl

end block

end Cert.Attn

end
-- ==== Proof.Attn.Meet.lean ====
/- Two softmaxes, their difference against the values, and the norm: the kernel takes the difference of the two means and the reference
   the mean under the difference. They agree, or every feature is infinite on one side and zero or infinite on the other, and then the
   norm makes both zero. -/
module

public import proofs.«01_k».proof.Proof.Attn.Out

@[expose] public section

set_option maxRecDepth 16384

noncomputable section

namespace Cert.Attn

open Idealize.ShloMosaic

theorem log_two : Ideal.log ((2 : ℝ) : EReal) = ((Real.log 2 : ℝ) : EReal) := by
  show (if (2 : ℝ) ≤ 0 then ⊥ else ((Real.log 2 : ℝ) : EReal)) = _
  rw [if_neg (by norm_num)]

theorem log_two_pos : 0 < Real.log 2 := Real.log_pos (by norm_num)

theorem top_mul_log : (⊤ : EReal) * ((Real.log 2 : ℝ) : EReal) = ⊤ := EReal.top_mul_coe_of_pos log_two_pos

theorem bot_mul_log : (⊥ : EReal) * ((Real.log 2 : ℝ) : EReal) = ⊥ := EReal.bot_mul_coe_of_pos log_two_pos

theorem mul_log_mono : Monotone fun x : EReal => x * ((Real.log 2 : ℝ) : EReal) := fun x y h =>
  mul_le_mul_of_nonneg_right h (by exact_mod_cast log_two_pos.le)

theorem coe_sub_top (x : ℝ) : (x : EReal) - ⊤ = ⊥ := by simp [sub_eq_add_neg]

/-- A natural exponential of scores times log 2 is a power of two of the scores. -/
theorem exp_log (x y : EReal) :
    Ideal.exp (x * ((Real.log 2 : ℝ) : EReal) - y * ((Real.log 2 : ℝ) : EReal)) = Ideal.exp2 (x - y) := by
  induction x with
  | bot => rw [bot_mul_log, sub_eq_add_neg, sub_eq_add_neg, EReal.bot_add, EReal.bot_add]; rfl
  | top =>
    induction y with
    | bot => rw [top_mul_log, bot_mul_log]; rfl
    | top => rw [top_mul_log]; rfl
    | coe b => rw [top_mul_log, ← EReal.coe_mul, EReal.top_sub_coe, EReal.top_sub_coe]; rfl
  | coe a =>
    induction y with
    | bot => rw [bot_mul_log, ← EReal.coe_mul, EReal.coe_sub_bot, EReal.coe_sub_bot]; rfl
    | top => rw [top_mul_log, ← EReal.coe_mul, coe_sub_top, coe_sub_top]; rfl
    | coe b =>
      rw [← EReal.coe_mul, ← EReal.coe_mul, ← EReal.coe_sub, ← EReal.coe_sub]
      show ((Real.exp (a * Real.log 2 - b * Real.log 2) : ℝ) : EReal) = (((2 : ℝ) ^ (a - b) : ℝ) : EReal)
      rw [Real.rpow_def_of_pos (by norm_num)]
      congr 2
      ring

theorem sup_fin (f : ℕ → EReal) (N : ℕ) : ((Finset.univ : Finset (Fin N)).sup fun k => f k.val) = (Finset.range N).sup f := by
  apply le_antisymm
  · exact Finset.sup_le fun k _ => Finset.le_sup (Finset.mem_range.mpr k.isLt)
  · exact Finset.sup_le fun n hn => Finset.le_sup (f := fun k : Fin N => f k.val) (Finset.mem_univ ⟨n, Finset.mem_range.mp hn⟩)

/-- The reference's softmax at a key: the share of the key, or minus infinity where no key has weight. -/
theorem softmax_eq (f : ℕ → EReal) (N : ℕ) (s : Fin N → EReal) (hs : ∀ k, s k = f k.val * ((Real.log 2 : ℝ) : EReal)) (n : Fin N) :
    Ideal.div (Ideal.exp (s n - Finset.univ.sup s)) (∑ k : Fin N, Ideal.exp (s k - Finset.univ.sup s))
      = if den start f N = 0 then ⊥ else ((share start f N n.val : ℝ) : EReal) := by
  have hsup : Finset.univ.sup s = (Finset.range N).sup f * ((Real.log 2 : ℝ) : EReal) := by
    rw [← sup_fin, Finset.comp_sup_eq_sup_comp_of_is_total (fun x : EReal => x * ((Real.log 2 : ℝ) : EReal)) mul_log_mono bot_mul_log]
    exact Finset.sup_congr rfl fun k _ => hs k
  have he : ∀ k, Ideal.exp (s k - Finset.univ.sup s) = Ideal.exp2 (f k.val - (Finset.range N).sup f) := fun k => by
    rw [hsup, hs, exp_log]
  rw [he, Finset.sum_congr rfl fun k _ => he k]
  exact div_softmax start f N n.val n.isLt

theorem coe_sum {ι : Type*} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) _ _).symm

/-- A number that is zero or infinite. -/
def Extreme (x : EReal) : Prop := x = 0 ∨ x = ⊤ ∨ x = ⊥

theorem Extreme.add {x y : EReal} (hx : Extreme x) (hy : Extreme y) : Extreme (x + y) := by
  rcases hx with rfl | rfl | rfl <;> rcases hy with rfl | rfl | rfl <;> simp [Extreme]

theorem Extreme.coe_mul (r : ℝ) {z : EReal} (hz : z = ⊤ ∨ z = ⊥) : Extreme ((r : EReal) * z) := by
  rcases hz with rfl | rfl <;> rcases lt_trichotomy r 0 with h | rfl | h
  · exact .inr (.inr (EReal.coe_mul_top_of_neg h))
  · exact .inl (by simp)
  · exact .inr (.inl (EReal.coe_mul_top_of_pos h))
  · exact .inr (.inl (EReal.coe_mul_bot_of_neg h))
  · exact .inl (by simp)
  · exact .inr (.inr (EReal.coe_mul_bot_of_pos h))

theorem Extreme.sum {ι : Type*} (s : Finset ι) (f : ι → EReal) (h : ∀ i ∈ s, Extreme (f i)) : Extreme (∑ i ∈ s, f i) :=
  Finset.sum_induction f Extreme (fun _ _ => Extreme.add) (.inl rfl) h

theorem ofBits_128 : Ideal.ofBits .f32 0x43000000#32 = ((128 : ℝ) : EReal) := by
  simp [Ideal.ofBits, Ideal.ieee, ← EReal.coe_mul]
  norm_num

theorem eps_ne_bot : Ideal.ofBits .f32 0x358637BD#32 ≠ ⊥ := by
  simp [Ideal.ofBits, Ideal.ieee, ← EReal.coe_mul]

/-- Features that are all zero or infinite are normalised to zero. -/
theorem normed_extreme (o : Fin 128 → EReal) (h : ∀ d, Extreme (o d)) (e : Fin 128) : o e * rootMean o = 0 := by
  by_cases hz : ∀ d, o d = 0
  · rw [hz e, zero_mul]
  · push Not at hz
    obtain ⟨d₀, hd₀⟩ := hz
    have hsq : ∀ d, 0 ≤ o d * o d := fun d => by
      rcases h d with e | e | e <;> rw [e] <;> simp
    have htop : o d₀ * o d₀ = ⊤ := by
      rcases h d₀ with e | e | e
      · exact absurd e hd₀
      · rw [e]; simp
      · rw [e]; simp
    have hsum : ∑ d : Fin 128, o d * o d = ⊤ :=
      top_le_iff.mp (htop ▸ Finset.single_le_sum (f := fun d => o d * o d) (fun d _ => hsq d) (Finset.mem_univ d₀))
    have h128 : Ideal.div ⊤ ((128 : ℝ) : EReal) = ⊤ := by
      have : ((128 : ℝ) : EReal) ≠ 0 := by exact_mod_cast (by norm_num : (128 : ℝ) ≠ 0)
      rw [Ideal.div, if_neg this, ← EReal.coe_inv, EReal.top_mul_coe_of_pos (by norm_num)]
    rw [rootMean, hsum, ofBits_128, h128, EReal.top_add_of_ne_bot eps_ne_bot]
    exact mul_zero _

section mix

variable (f₀ f₁ : ℕ → EReal) (v : Fin 128 → ℕ → ℝ) (lam : ℝ)

/-- The softmax at a key, as both programs have it. -/
def soft (f : ℕ → EReal) (n : ℕ) : EReal := if den start f 8448 = 0 then ⊥ else ((share start f 8448 n : ℝ) : EReal)

/-- The kernel's difference of the means. -/
def diffOfMeans (d : Fin 128) : EReal := mean f₀ (v d) - lam * mean f₁ (v d)

/-- The reference's mean under the difference. -/
def meanOfDiff (d : Fin 128) : EReal := ∑ n : Fin 8448, ((v d n.val : ℝ) : EReal) * (soft f₀ n.val - lam * soft f₁ n.val)

theorem mix_cases : (∀ d, diffOfMeans f₀ f₁ v lam d = meanOfDiff f₀ f₁ v lam d)
    ∨ ∃ z : EReal, (z = ⊤ ∨ z = ⊥) ∧ (∀ d, diffOfMeans f₀ f₁ v lam d = z)
      ∧ ∀ d, meanOfDiff f₀ f₁ v lam d = ∑ n : Fin 8448, ((v d n.val : ℝ) : EReal) * z := by
  by_cases h₀ : den start f₀ 8448 = 0
  · refine .inr ⟨⊥, .inr rfl, fun d => ?_, fun d => ?_⟩
    · rw [diffOfMeans, mean, if_pos h₀, sub_eq_add_neg, EReal.bot_add]
    · refine Finset.sum_congr rfl fun n _ => ?_
      rw [soft, if_pos h₀, sub_eq_add_neg, EReal.bot_add]
  · by_cases h₁ : den start f₁ 8448 = 0
    · rcases eq_or_ne lam 0 with rfl | hl
      · refine .inl fun d => ?_
        rw [diffOfMeans, mean, if_neg h₀, meanOfDiff, EReal.coe_zero, zero_mul, sub_zero, Finset.sum_range, ← coe_sum]
        refine Finset.sum_congr rfl fun n _ => ?_
        rw [soft, if_neg h₀, zero_mul, sub_zero, EReal.coe_mul]
      · have hz : ((lam : ℝ) : EReal) * ⊥ = ⊤ ∨ ((lam : ℝ) : EReal) * ⊥ = ⊥ := by
          rcases lt_or_gt_of_ne hl with h | h
          · exact .inl (EReal.coe_mul_bot_of_neg h)
          · exact .inr (EReal.coe_mul_bot_of_pos h)
        have hsub : ∃ z : EReal, (z = ⊤ ∨ z = ⊥) ∧ ∀ x : ℝ, (x : EReal) - lam * ⊥ = z := by
          rcases hz with h | h
          · exact ⟨⊥, .inr rfl, fun x => by rw [h, coe_sub_top]⟩
          · exact ⟨⊤, .inl rfl, fun x => by rw [h, EReal.coe_sub_bot]⟩
        obtain ⟨z, hz, hx⟩ := hsub
        refine .inr ⟨z, hz, fun d => ?_, fun d => ?_⟩
        · rw [diffOfMeans, mean, mean, if_neg h₀, if_pos h₁, hx]
        · refine Finset.sum_congr rfl fun n _ => ?_
          rw [soft, soft, if_neg h₀, if_pos h₁, hx]
    · refine .inl fun d => ?_
      rw [diffOfMeans, mean, mean, if_neg h₀, if_neg h₁, meanOfDiff, ← EReal.coe_mul, ← EReal.coe_sub, Finset.mul_sum, ← Finset.sum_sub_distrib,
        Finset.sum_range, ← coe_sum]
      refine Finset.sum_congr rfl fun n _ => ?_
      rw [soft, soft, if_neg h₀, if_neg h₁, ← EReal.coe_mul, ← EReal.coe_sub, ← EReal.coe_mul]
      congr 1
      ring

/-- Normalised, the two are equal. -/
theorem normed_eq (e : Fin 128) :
    diffOfMeans f₀ f₁ v lam e * rootMean (diffOfMeans f₀ f₁ v lam) = meanOfDiff f₀ f₁ v lam e * rootMean (meanOfDiff f₀ f₁ v lam) := by
  rcases mix_cases f₀ f₁ v lam with h | ⟨z, hz, h, h'⟩
  · rw [funext h]
  · rw [normed_extreme _ (fun d => by rw [h]; exact .inr hz) e,
      normed_extreme _ (fun d => by rw [h']; exact Extreme.sum _ _ fun n _ => Extreme.coe_mul _ hz) e]

end mix

end Cert.Attn

end
-- ==== Proof.Attn.Ref.lean ====
/- The reference's result read at an index: the softmax of a query's scores, the difference of the two maps against the values, the
   root mean square, the gate. -/
module

public import Idealize.ShloMosaic.Lib.Pointwise
public import Idealize.ShloMosaic.Lib.Tactic.CleanTypes
public import proofs.«01_k».proof.Proof.Gen.ReferenceIdeal.Run

@[expose] public section

set_option maxRecDepth 16384

noncomputable section

namespace Cert.AttnRef

open Cert.ReferenceIdeal Cert.ReferenceIdeal.Gen Idealize.ShloMosaic

variable {F : FTy → Type} [FloatOps F]

/-- The scores, times log 2. -/
def scores (a0 : FVec F S2x1024x8448 .bf16) (a1 : FVec F S2x8448x1024 .bf16) : FVec F S2x8x2x8192x8448 .f32 :=
  mulf (Host.dotGeneral dot_S2x8x2x64x8192_S2x8448x8x2x64_S2x8x2x8192x8448_3_4_4_1_012_023 none (shapeCast _ (extractStridedSlice S2x1024x8192 ![0, 0, 256] (extf .f32 a0 bitsLt_bf16_f32) slices_S2x1024x8448_S2x1024x8192_0_0_256) shapeCasts_S2x1024x8192_S2x8x2x64x8192) (shapeCast _ (extf .f32 a1 bitsLt_bf16_f32) shapeCasts_S2x8448x1024_S2x8448x8x2x64)) (broadcastInDim S2x8x2x8192x8448 ![] bcast_S_S2x8x2x8192x8448 (id (Host.log (constant S_ .f32 0x40000000#32))))

/-- The scores' maximum over the keys. -/
def rowMax (s : FVec F S2x8x2x8192x8448 .f32) : FVec F S2x8x2x8192 .f32 :=
  Host.reduce FloatOps.maximumf s (constant S_ .f32 0xFF800000#32) reducesTo_S2x8x2x8192x8448_S2x8x2x8192_d4 h_S_

/-- The exponentials of the scores below their maximum. -/
def exps (s : FVec F S2x8x2x8192x8448 .f32) : FVec F S2x8x2x8192x8448 .f32 :=
  Host.exp (subf s (broadcastInDim S2x8x2x8192x8448 ![0, 1, 2, 3, 4] bcast_S2x8x2x8192x1_S2x8x2x8192x8448_0_1_2_3_4 (broadcastInDim S2x8x2x8192x1 ![0, 1, 2, 3] bcast_S2x8x2x8192_S2x8x2x8192x1_0_1_2_3 (maximumf (broadcastInDim S2x8x2x8192 ![] bcast_S_S2x8x2x8192 (constant S_ .f32 0xFF800000#32)) (rowMax s)))))

/-- The softmax. -/
def probs (e : FVec F S2x8x2x8192x8448 .f32) : FVec F S2x8x2x8192x8448 .f32 :=
  Host.divf e (broadcastInDim S2x8x2x8192x8448 ![0, 1, 2, 3, 4] bcast_S2x8x2x8192x1_S2x8x2x8192x8448_0_1_2_3_4 (broadcastInDim S2x8x2x8192x1 ![0, 1, 2, 3] bcast_S2x8x2x8192_S2x8x2x8192x1_0_1_2_3 (Host.reduceAdd e (constant S_ .f32 0x00000000#32) reducesTo_S2x8x2x8192x8448_S2x8x2x8192_d4 h_S_)))

/-- The weight of the second map. -/
def lambda (a4 : FVec F S4x64 .f32) (a5 : FVec F S_ .f32) : FVec F S_ .f32 :=
  addf (subf (Host.exp (Host.reduceAdd (mulf (shapeCast _ (extractStridedSlice S1x64 ![0, 0] a4 slices_S4x64_S1x64_0_0) shapeCasts_S1x64_S64) (shapeCast _ (extractStridedSlice S1x64 ![1, 0] a4 slices_S4x64_S1x64_1_0) shapeCasts_S1x64_S64)) (constant S_ .f32 0x00000000#32) reducesTo_S64_S_d0 h_S_)) (Host.exp (Host.reduceAdd (mulf (shapeCast _ (extractStridedSlice S1x64 ![2, 0] a4 slices_S4x64_S1x64_2_0) shapeCasts_S1x64_S64) (shapeCast _ (extractStridedSlice S1x64 ![3, 0] a4 slices_S4x64_S1x64_3_0) shapeCasts_S1x64_S64)) (constant S_ .f32 0x00000000#32) reducesTo_S64_S_d0 h_S_))) a5

/-- The values under the difference of the two maps. -/
def mixed (p : FVec F S2x8x2x8192x8448 .f32) (a2 : FVec F S2x1024x8448 .bf16) (l : FVec F S_ .f32) : FVec F S2x8192x8x128 .f32 :=
  transpose S2x8192x8x128 [0, 3, 1, 2] (Host.dotGeneral dot_S2x8x128x8448_S2x8x8192x8448_S2x8x128x8192_3_3_2_2_01_01 none (shapeCast _ (extf .f32 a2 bitsLt_bf16_f32) shapeCasts_S2x1024x8448_S2x8x128x8448) (subf (shapeCast _ (extractStridedSlice S2x8x1x8192x8448 ![0, 0, 0, 0, 0] p slices_S2x8x2x8192x8448_S2x8x1x8192x8448_0_0_0_0_0) shapeCasts_S2x8x1x8192x8448_S2x8x8192x8448) (mulf (broadcastInDim S2x8x8192x8448 ![] bcast_S_S2x8x8192x8448 l) (shapeCast _ (extractStridedSlice S2x8x1x8192x8448 ![0, 0, 1, 0, 0] p slices_S2x8x2x8192x8448_S2x8x1x8192x8448_0_0_1_0_0) shapeCasts_S2x8x1x8192x8448_S2x8x8192x8448)))) transposes_S2x8x128x8192_S2x8192x8x128_0_3_1_2

/-- The norm, the scale and the gate. -/
def gated (o : FVec F S2x8192x8x128 .f32) (a3 : FVec F S2x8448x1024 .f32) (a5 : FVec F S_ .f32) (a6 : FVec F S128 .f32) : FVec F S2x8192x1024 .bf16 :=
  truncf .bf16 (mulf (shapeCast _ (mulf (mulf (mulf o (broadcastInDim S2x8192x8x128 ![0, 1, 2, 3] bcast_S2x8192x8x1_S2x8192x8x128_0_1_2_3 (Host.rsqrt (addf (Host.divf (broadcastInDim S2x8192x8x1 ![0, 1, 2] bcast_S2x8192x8_S2x8192x8x1_0_1_2 (Host.reduceAdd (mulf o o) (constant S_ .f32 0x00000000#32) reducesTo_S2x8192x8x128_S2x8192x8_d3 h_S_)) (broadcastInDim S2x8192x8x1 ![] bcast_S_S2x8192x8x1 (constant S_ .f32 0x43000000#32))) (broadcastInDim S2x8192x8x1 ![] bcast_S_S2x8192x8x1 (constant S_ .f32 0x358637BD#32)))))) (broadcastInDim S2x8192x8x128 ![0, 1, 2, 3] bcast_S1x1x1x128_S2x8192x8x128_0_1_2_3 (broadcastInDim S1x1x1x128 ![3] bcast_S128_S1x1x1x128_3 a6))) (broadcastInDim S2x8192x8x128 ![] bcast_S_S2x8192x8x128 (subf (constant S_ .f32 0x3F800000#32) a5))) shapeCasts_S2x8192x8x128_S2x8192x1024) (mulf (extractStridedSlice S2x8192x1024 ![0, 256, 0] a3 slices_S2x8448x1024_S2x8192x1024_0_256_0) (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 256, 0] a3 slices_S2x8448x1024_S2x8192x1024_0_256_0))))))) bitsLt_bf16_f32

/-- The reference's result, of its arguments. -/
def result (a0 : FVec F S2x1024x8448 .bf16) (a1 : FVec F S2x8448x1024 .bf16) (a2 : FVec F S2x1024x8448 .bf16) (a3 : FVec F S2x8448x1024 .f32)
    (a4 : FVec F S4x64 .f32) (a5 : FVec F S_ .f32) (a6 : FVec F S128 .f32) : FVec F S2x8192x1024 .bf16 :=
  gated (mixed (probs (exps (scores a0 a1))) a2 (lambda a4 a5)) a3 a5 a6

theorem result_eq (m : (ℓ : Loc nD τ sig) → Buf (Elt F) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

theorem ofBits_neg_inf : Ideal.ofBits .f32 0xFF800000#32 = ⊥ := by simp [Ideal.ofBits, Ideal.ieee]

theorem ofBits_two : Ideal.ofBits .f32 0x40000000#32 = ((2 : ℝ) : EReal) := by
  simp [Ideal.ofBits, Ideal.ieee, ← EReal.coe_mul]
  norm_num

theorem scores_apply (a0 : FVec Ideal S2x1024x8448 .bf16) (a1 : FVec Ideal S2x8448x1024 .bf16) (b : Fin 2) (h : Fin 8) (j : Fin 2)
    (q : Fin 8192) (n : Fin 8448) :
    scores a0 a1 (ix5 b h j q n) = (∑ d : Fin 64, a0 (ix3 b ⟨h.val * 128 + j.val * 64 + d.val, by omega⟩ ⟨256 + q.val, by omega⟩)
      * a1 (ix3 b n ⟨h.val * 128 + j.val * 64 + d.val, by omega⟩)) * Ideal.log ((2 : ℝ) : EReal) := by
  pointwise [scores]
  show _ * Ideal.log (Ideal.ofBits .f32 0x40000000#32) = _
  rw [ofBits_two]

theorem fold_eq_sup {n : ℕ} (f : Fin n → EReal) :
    (Finset.univ : Finset (Fin n)).fold (FloatOps.maximumf (F := Ideal) (φ := .f32)) (⊥ : EReal) f = Finset.univ.sup f := rfl

theorem rowMax_fold (s : FVec Ideal S2x8x2x8192x8448 .f32) (b : Fin 2) (h : Fin 8) (j : Fin 2) (q : Fin 8192) :
    rowMax s (ix4 b h j q)
      = (Finset.univ : Finset (Fin 8448)).fold FloatOps.maximumf (Ideal.ofBits .f32 0xFF800000#32 : Ideal .f32) fun k => s (ix5 b h j q k) := by
  rw [rowMax, Host.reduce_eq_fold, Shape.ReducesTo.fold_fiber_r5_a4]
  rfl

theorem rowMax_apply (s : FVec Ideal S2x8x2x8192x8448 .f32) (b : Fin 2) (h : Fin 8) (j : Fin 2) (q : Fin 8192) :
    rowMax s (ix4 b h j q) = (Finset.univ : Finset (Fin 8448)).sup fun k => s (ix5 b h j q k) :=
  (rowMax_fold s b h j q).trans ((congrArg (fun z => Finset.fold _ z _ _) ofBits_neg_inf).trans (fold_eq_sup fun k => s (ix5 b h j q k)))

theorem exps_max (s : FVec Ideal S2x8x2x8192x8448 .f32) (M : FVec Ideal S2x8x2x8192 .f32) (hm : rowMax s = M) (b : Fin 2) (h : Fin 8)
    (j : Fin 2) (q : Fin 8192) (n : Fin 8448) :
    exps s (ix5 b h j q n) = Ideal.exp (s (ix5 b h j q n) - max (Ideal.ofBits .f32 0xFF800000#32) (M (ix4 b h j q))) := by
  unfold exps
  rw [hm]
  pointwise

theorem exps_apply (s : FVec Ideal S2x8x2x8192x8448 .f32) (b : Fin 2) (h : Fin 8) (j : Fin 2) (q : Fin 8192) (n : Fin 8448) :
    exps s (ix5 b h j q n) = Ideal.exp (s (ix5 b h j q n) - (Finset.univ : Finset (Fin 8448)).sup fun k => s (ix5 b h j q k)) := by
  rw [exps_max s _ rfl, ofBits_neg_inf, max_eq_right bot_le, rowMax_apply]

theorem probs_apply (e : FVec Ideal S2x8x2x8192x8448 .f32) (b : Fin 2) (h : Fin 8) (j : Fin 2) (q : Fin 8192) (n : Fin 8448) :
    probs e (ix5 b h j q n) = Ideal.div (e (ix5 b h j q n)) (∑ k : Fin 8448, e (ix5 b h j q k)) := by
  pointwise [probs]

theorem mixed_apply (p : FVec Ideal S2x8x2x8192x8448 .f32) (a2 : FVec Ideal S2x1024x8448 .bf16) (l : FVec Ideal S_ .f32)
    (b : Fin 2) (q : Fin 8192) (h : Fin 8) (e : Fin 128) :
    mixed p a2 l (ix4 b q h e) = ∑ n : Fin 8448, a2 (ix3 b ⟨h.val * 128 + e.val, by omega⟩ n)
      * (p (ix5 b h 0 q n) - l ix0 * p (ix5 b h 1 q n)) := by
  pointwise [mixed]

theorem gated_apply (o : FVec Ideal S2x8192x8x128 .f32) (a3 : FVec Ideal S2x8448x1024 .f32) (a5 : FVec Ideal S_ .f32) (a6 : FVec Ideal S128 .f32)
    (b : Fin 2) (q : Fin 8192) (h : Fin 8) (e : Fin 128) :
    gated o a3 a5 a6 (ix3 b q ⟨h.val * 128 + e.val, by omega⟩)
      = o (ix4 b q h e) * Ideal.rsqrt (Ideal.div (∑ d : Fin 128, o (ix4 b q h d) * o (ix4 b q h d)) (Ideal.ofBits .f32 0x43000000#32)
          + Ideal.ofBits .f32 0x358637BD#32) * a6 (ix1 e) * (1 - a5 ix0)
        * (a3 (ix3 b ⟨256 + q.val, by omega⟩ ⟨h.val * 128 + e.val, by omega⟩)
          * Ideal.div 1 (1 + Ideal.exp (-a3 (ix3 b ⟨256 + q.val, by omega⟩ ⟨h.val * 128 + e.val, by omega⟩)))) := by
  pointwise [gated]

theorem lambda_apply (a4 : FVec Ideal S4x64 .f32) (a5 : FVec Ideal S_ .f32) : lambda a4 a5 ix0
    = Ideal.exp (∑ x : Fin 64, a4 (ix2 0 x) * a4 (ix2 1 x)) - Ideal.exp (∑ x : Fin 64, a4 (ix2 2 x) * a4 (ix2 3 x)) + a5 ix0 := by
  pointwise [lambda]

end Cert.AttnRef

end
-- ==== Proof.Attn.Value.lean ====
/- The kernel's result is the reference's: each grid point's block, then the whole array. -/
module

public import proofs.«01_k».proof.Proof.Attn.Blocks
public import proofs.«01_k».proof.Proof.Attn.Meet
public import proofs.«01_k».proof.Proof.Attn.Ref

@[expose] public section

set_option maxRecDepth 16384

noncomputable section

namespace Cert.Attn

open Cert.KernelIdeal Cert.KernelIdeal.Gen Idealize.ShloMosaic Idealize.SL.Sem

theorem sum_halves (f : Fin 128 → EReal) : ∑ d, f d = (∑ d : Fin 64, f ⟨d.val, by omega⟩) + ∑ d : Fin 64, f ⟨64 + d.val, by omega⟩ :=
  Fin.sum_univ_add (a := 64) (b := 64) f

/-- A stacked score of the first map contracts the first 64 features. -/
theorem sc_first (x1 : Vec Ideal S1x128x1024 .bf16) (x2 : Vec Ideal S1x8448x128 .bf16) (q : Fin 1024) (n : Fin 8448) :
    sc x1 x2 ⟨q.val, by omega⟩ n.val = ∑ d : Fin 64, x1 (ix3 0 ⟨d.val, by omega⟩ q) * x2 (ix3 0 n ⟨d.val, by omega⟩) := by
  rw [sc, dif_pos n.isLt, sum_halves]
  refine (congrArg₂ (· + ·) ?_ (Finset.sum_eq_zero ?_)).trans (add_zero _)
  · refine Finset.sum_congr rfl fun d _ => ?_
    rw [pay6_apply, dif_pos (show q.val < 1024 from q.isLt), if_pos (show d.val < 64 from d.isLt), mul_comm]
  · intro d _
    rw [pay6_apply, dif_pos (show q.val < 1024 from q.isLt), if_neg (show ¬ (64 + d.val < 64) by omega), mul_zero]

/-- A stacked score of the second map contracts the other 64 features. -/
theorem sc_second (x1 : Vec Ideal S1x128x1024 .bf16) (x2 : Vec Ideal S1x8448x128 .bf16) (q : Fin 1024) (n : Fin 8448) :
    sc x1 x2 ⟨1024 + q.val, by omega⟩ n.val
      = ∑ d : Fin 64, x1 (ix3 0 ⟨64 + d.val, by omega⟩ q) * x2 (ix3 0 n ⟨64 + d.val, by omega⟩) := by
  rw [sc, dif_pos n.isLt, sum_halves]
  refine (congrArg₂ (· + ·) (Finset.sum_eq_zero ?_) ?_).trans (zero_add _)
  · intro d _
    rw [pay6_apply, dif_neg (show ¬ 1024 + q.val < 1024 by omega), if_pos (show d.val < 64 from d.isLt), mul_zero]
  · refine Finset.sum_congr rfl fun d _ => ?_
    rw [pay6_apply, dif_neg (show ¬ 1024 + q.val < 1024 by omega), if_neg (show ¬ 64 + d.val < 64 by omega), mul_comm]
    exact congrArg (fun y : Fin 1024 => x1 (ix3 0 _ y) * _) (Fin.ext (Nat.add_sub_cancel_left ..))

/-- The reference's mean, given its scores, values and weight. -/
theorem mixed_eq (a0 : FVec Ideal S2x1024x8448 .bf16) (a1 : FVec Ideal S2x8448x1024 .bf16) (a2 : FVec Ideal S2x1024x8448 .bf16)
    (l : FVec Ideal S_ .f32) (b : Fin 2) (h : Fin 8) (Q : Fin 8192) (f₀ f₁ : ℕ → EReal) (v : Fin 128 → ℕ → ℝ) (lam : ℝ)
    (h₀ : ∀ n, AttnRef.scores a0 a1 (ix5 b h 0 Q n) = f₀ n.val * ((Real.log 2 : ℝ) : EReal))
    (h₁ : ∀ n, AttnRef.scores a0 a1 (ix5 b h 1 Q n) = f₁ n.val * ((Real.log 2 : ℝ) : EReal))
    (hv : ∀ (d : Fin 128) n, a2 (ix3 b ⟨h.val * 128 + d.val, by omega⟩ n) = ((v d n.val : ℝ) : EReal))
    (hl : l ix0 = ((lam : ℝ) : EReal)) (d : Fin 128) :
    AttnRef.mixed (AttnRef.probs (AttnRef.exps (AttnRef.scores a0 a1))) a2 l (ix4 b Q h d) = meanOfDiff f₀ f₁ v lam d := by
  have p : ∀ (j : Fin 2) (f : ℕ → EReal), (∀ n, AttnRef.scores a0 a1 (ix5 b h j Q n) = f n.val * ((Real.log 2 : ℝ) : EReal)) →
      ∀ n, AttnRef.probs (AttnRef.exps (AttnRef.scores a0 a1)) (ix5 b h j Q n) = soft f n.val := fun j f hf n => by
    rw [AttnRef.probs_apply, Finset.sum_congr rfl fun k _ => AttnRef.exps_apply _ b h j Q k, AttnRef.exps_apply]
    exact softmax_eq f 8448 (fun k => AttnRef.scores a0 a1 (ix5 b h j Q k)) hf n
  rw [AttnRef.mixed_apply, meanOfDiff]
  exact Finset.sum_congr rfl fun n _ => by rw [hv, p 0 f₀ h₀, p 1 f₁ h₁, hl]

theorem ofBits_one : Ideal.ofBits .f32 0x3F800000#32 = 1 := by
  simp [Ideal.ofBits, Ideal.ieee, ← EReal.coe_mul]
  norm_num

theorem idx_strip (j : S1x128x8448.Idx) : ∃ (d : Fin 128) (n : Fin 8448), j = ix3 0 d n :=
  ⟨j 1, j 2, funext fun a => match a with
    | ⟨0, _⟩ => Subsingleton.elim (α := Fin 1) _ _
    | ⟨1, _⟩ => rfl
    | ⟨2, _⟩ => rfl⟩

theorem idx_block (j : S1x1024x128.Idx) : ∃ (q : Fin 1024) (e : Fin 128), j = ix3 0 q e :=
  ⟨j 1, j 2, funext fun a => match a with
    | ⟨0, _⟩ => Subsingleton.elim (α := Fin 1) _ _
    | ⟨1, _⟩ => rfl
    | ⟨2, _⟩ => rfl⟩

section entry

variable (m : (ℓ : Loc nD τ sig) → Buf (Elt Ideal) ℓ) (c : Dev nD) (t : Fin grid0.N)
  (a0 : FVec Ideal S2x1024x8448 .bf16) (a1 : FVec Ideal S2x8448x1024 .bf16) (a2 : FVec Ideal S2x1024x8448 .bf16)
  (a3 : FVec Ideal S2x8448x1024 .f32) (a4 : FVec Ideal S4x64 .f32) (a5 : FVec Ideal S_ .f32) (a6 : FVec Ideal S128 .f32)
  (h0 : m ((c.tc : Thread nD τ).loc main_arg0) = a0) (h1 : m ((c.tc : Thread nD τ).loc main_arg1) = a1)
  (h2 : m ((c.tc : Thread nD τ).loc main_arg2) = a2) (h3 : m ((c.tc : Thread nD τ).loc main_arg3) = a3)
  (h4 : m ((c.tc : Thread nD τ).loc main_arg4) = a4) (h5 : m ((c.tc : Thread nD τ).loc main_arg5) = a5)
  (h6 : m ((c.tc : Thread nD τ).loc main_arg6) = a6)

include h0 h1 in
theorem scores_first (q : Fin 1024) (n : Fin 8448) : AttnRef.scores a0 a1 (ix5 ⟨t.val / 64, by have := point_lt t; omega⟩
      ⟨t.val / 8 % 8, by omega⟩ 0 ⟨t.val % 8 * 1024 + q.val, by omega⟩ n)
    = sc (iblk m c 1 t) (iblk m c 2 t) ⟨q.val, by omega⟩ n.val * ((Real.log 2 : ℝ) : EReal) := by
  rw [AttnRef.scores_apply, sc_first, log_two]
  refine congrArg (· * _) (Finset.sum_congr rfl fun d _ => ?_)
  rw [queries, keys, h0, h1]
  congr 3 <;> exact Fin.ext (by simp)

include h0 h1 in
theorem scores_second (q : Fin 1024) (n : Fin 8448) : AttnRef.scores a0 a1 (ix5 ⟨t.val / 64, by have := point_lt t; omega⟩
      ⟨t.val / 8 % 8, by omega⟩ 1 ⟨t.val % 8 * 1024 + q.val, by omega⟩ n)
    = sc (iblk m c 1 t) (iblk m c 2 t) ⟨1024 + q.val, by omega⟩ n.val * ((Real.log 2 : ℝ) : EReal) := by
  rw [AttnRef.scores_apply, sc_second, log_two]
  refine congrArg (· * _) (Finset.sum_congr rfl fun d _ => ?_)
  rw [queries, keys, h0, h1]
  congr 3 <;> exact Fin.ext (by simp; omega)

include h0 h1 h2 h3 h4 h5 h6 in
/-- What a grid point writes at an entry of its block is the reference's result there. -/
theorem entry (hv : ∀ j, a2 j = (((a2 j).toReal : ℝ) : EReal)) (lam : ℝ) (hl : AttnRef.lambda a4 a5 ix0 = ((lam : ℝ) : EReal))
    (q : Fin 1024) (e : Fin 128) :
    out0_A_6 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) scM0_1 (Memref.isWhole_whole _)
      scM0_2 (Memref.isWhole_whole _) scM0_3 (Memref.isWhole_whole _) (hcond0_0 t) (hcond0_1 t)
      (iblk m c 0 t) (iblk m c 1 t) (iblk m c 2 t) (iblk m c 3 t) (iblk m c 4 t) (iblk m c 5 t) (ix3 0 q e)
      = AttnRef.result a0 a1 a2 a3 a4 a5 a6 (ix3 ⟨t.val / 64, by have := point_lt t; omega⟩ ⟨t.val % 8 * 1024 + q.val, by omega⟩
          ⟨t.val / 8 % 8 * 128 + e.val, by omega⟩) := by
  have hx3 : ∀ (d : Fin 128) (n : Fin 8448), iblk m c 3 t (ix3 0 d n) = a2 (ix3 ⟨t.val / 64, by have := point_lt t; omega⟩
      ⟨t.val / 8 % 8 * 128 + d.val, by omega⟩ n) := fun d n => by rw [values, h2]
  have hx0 : iblk m c 0 t (ix2 0 0) = ((lam : ℝ) : EReal) := by
    rw [lambdas m c t a4 h4 a5 h5, ← hl, AttnRef.lambda_apply]
  have hreal : ∀ j : S1x128x8448.Idx, iblk m c 3 t j = (((iblk m c 3 t j).toReal : ℝ) : EReal) := fun j => by
    obtain ⟨d, n, rfl⟩ := idx_strip j
    rw [hx3]
    exact hv _
  rw [out_apply c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) scM0_1 (Memref.isWhole_whole _)
      scM0_2 (Memref.isWhole_whole _) scM0_3 (Memref.isWhole_whole _) (hcond0_0 t) (hcond0_1 t)
      (iblk m c 0 t) (iblk m c 1 t) (iblk m c 2 t) (iblk m c 3 t) (iblk m c 4 t) (iblk m c 5 t) hreal q e
      (diffOfMeans (sc (iblk m c 1 t) (iblk m c 2 t) ⟨q.val, by omega⟩) (sc (iblk m c 1 t) (iblk m c 2 t) ⟨1024 + q.val, by omega⟩)
        (vr (iblk m c 3 t)) lam) (fun d => by rw [hx0]; rfl),
    normed_eq, weights, posts, gates, h3, h5, h6, ofBits_one]
  have hm := mixed_eq a0 a1 a2 (AttnRef.lambda a4 a5) ⟨t.val / 64, by have := point_lt t; omega⟩ ⟨t.val / 8 % 8, by omega⟩
    ⟨t.val % 8 * 1024 + q.val, by omega⟩ _ _ (vr (iblk m c 3 t)) lam (scores_first m c t a0 a1 h0 h1 q) (scores_second m c t a0 a1 h0 h1 q)
    (fun d n => by rw [vr, dif_pos n.isLt, hx3]; exact hv _) hl
  rw [AttnRef.result, AttnRef.gated_apply _ a3 a5 a6 ⟨t.val / 64, by have := point_lt t; omega⟩ ⟨t.val % 8 * 1024 + q.val, by omega⟩
    ⟨t.val / 8 % 8, by omega⟩ e]
  simp only [hm]
  rw [gate, sub_eq_add_neg (0 : EReal), zero_add, ← mul_assoc (_ * rootMean _)]
  rfl

/-- An array that has every point's block at its place is the output array after the run. -/
theorem array_of (G : FVec Ideal S2x8192x1024 .bf16) (hG : ∀ (t : Fin grid0.N) (q : Fin 1024) (e : Fin 128),
    outsAt0 m c t (ix3 0 q e) = G (ix3 ⟨t.val / 64, by have := point_lt t; omega⟩ ⟨t.val % 8 * 1024 + q.val, by omega⟩
          ⟨t.val / 8 % 8 * 128 + e.val, by omega⟩)) : (dats m 0 c).arrAt 6 cfg0.N = G := by
  refine (dats m 0 c).arrAt_eq_of_covers 6 _ (by decide +kernel) fun t hf y => ?_
  have ht := point_lt t
  blk_simp
  rw [after0_6]
  obtain ⟨q, e, rfl⟩ := idx_block y
  refine (hG t q e).trans (congrArg G ?_)
  blk_ext [idx t]

include h0 h1 h2 h3 h4 h5 h6 in
/-- The output array after the run is the reference's result. -/
theorem array_eq (hv : ∀ j, a2 j = (((a2 j).toReal : ℝ) : EReal)) (lam : ℝ) (hl : AttnRef.lambda a4 a5 ix0 = ((lam : ℝ) : EReal)) :
    (dats m 0 c).arrAt 6 cfg0.N = AttnRef.result a0 a1 a2 a3 a4 a5 a6 := by
  refine array_of m c _ fun t q e => ?_
  exact entry m c t a0 a1 a2 a3 a4 a5 a6 h0 h1 h2 h3 h4 h5 h6 hv lam hl q e

end entry

end Cert.Attn

end
-- ==== Proof.Attn.Final.lean ====
/- The algebraic claim. -/
module

public import proofs.«01_k».proof.Defs
public import proofs.«01_k».proof.Proof.Attn.Pre
public import Idealize.ShloMosaic.Lib.Quiescent
public import proofs.«01_k».proof.Proof.Attn.Value

@[expose] public section

noncomputable section

namespace Cert.Proof

open Idealize.ShloMosaic Idealize.SL.Sem

theorem frame_reference : Cert.quiescent_ReferenceIdeal := fun m g _ =>
  (θ_run _ _ _).mono (fun r h => ⟨fun c => (h c).2, sem_eq_zero_of_no_sems (by decide) _⟩) (Cert.ReferenceIdeal.Value.run m g)

open Cert.ReferenceIdeal in
theorem result_congr {a0 b0 : FVec Ideal S2x1024x8448 .bf16} {a1 b1 : FVec Ideal S2x8448x1024 .bf16} {a2 b2 : FVec Ideal S2x1024x8448 .bf16}
    {a3 b3 : FVec Ideal S2x8448x1024 .f32} {a4 b4 : FVec Ideal S4x64 .f32} {a5 b5 : FVec Ideal S_ .f32} {a6 b6 : FVec Ideal S128 .f32}
    (h0 : a0 = b0) (h1 : a1 = b1) (h2 : a2 = b2) (h3 : a3 = b3) (h4 : a4 = b4) (h5 : a5 = b5) (h6 : a6 = b6) :
    AttnRef.result a0 a1 a2 a3 a4 a5 a6 = AttnRef.result b0 b1 b2 b3 b4 b5 b6 := by
  rw [h0, h1, h2, h3, h4, h5, h6]

theorem algebraic : Cert.algebraic_KernelIdeal_ReferenceIdeal_pre_finite := by
  intro m g m' g' hpre hagree
  refine ⟨fun c => (Cert.KernelIdeal.Gen.dats m 0 c).arrAt 6 Cert.KernelIdeal.cfg0.N, Cert.KernelIdeal.Value.run_blocks m g, ?_⟩
  refine (θ_run _ _ _).mono (fun r h c => ⟨(h c).1.trans ?_, (h c).2⟩) (Cert.ReferenceIdeal.Value.run m' g')
  obtain ⟨e0, e1, e2, e3, e4, e5, e6⟩ := hagree c
  obtain ⟨lam, hl⟩ := Cert.AttnPre.weight_real _ _ _ _ _ _ _ (hpre c)
  have hv := Cert.AttnPre.values_real _ _ _ _ _ _ _ (hpre c)
  have hfin := Cert.Attn.array_eq m c _ _ _ _ _ _ _ rfl rfl rfl rfl rfl rfl rfl hv lam ((Cert.AttnRef.lambda_apply _ _).trans hl)
  have hres := result_congr e0 e1 e2 e3 e4 e5 e6
  exact (Cert.AttnRef.result_eq m' c).trans (hres.trans hfin.symm)

end Cert.Proof

end
-- ==== Proof.Proj.Basic.lean ====
/- What the projections' proofs share: whole-buffer offsets, indices of a matrix, the arithmetic instance. -/
module

public import Idealize.ShloMosaic.Lib.Pointwise
public import Idealize.ShloMosaic.Lib.Claim
public import Idealize.ShloMosaic.Lib.Quiescent
public import Idealize.ShloMosaic.Lib.Pipeline.ValueKit.Point
public import proofs.«01_k».proof.Defs

@[expose] public section

namespace Cert.Proj

open Idealize.ShloMosaic

theorem whole : (![0, 0] : Fin 2 → ℕ) = fun _ => 0 := by decide

/-- An index of a matrix is a row and a column. -/
theorem idx_matrix {a b : ℕ} (j : (⟨2, ![a, b]⟩ : Shape).Idx) : ∃ (r : Fin a) (k : Fin b), j = ix2 r k :=
  ⟨j 0, j 1, funext fun x => match x with
    | ⟨0, _⟩ => rfl
    | ⟨1, _⟩ => rfl⟩

end Cert.Proj

end
-- ==== Proof.Proj.B.lean ====
/- The second column group of the combined input projection: the attention's queries, keys, values and gate. -/
module

public import proofs.«01_k».proof.Proof.Proj.Basic
public import proofs.«01_k».proof.Proof.Gen.KernelPBIdeal.Value
public import proofs.«01_k».proof.Proof.Gen.ReferencePBIdeal.Run

@[expose] public section

set_option maxRecDepth 16384

noncomputable section

namespace Cert.ProjB

open Cert.KernelPBIdeal Cert.KernelPBIdeal.Gen Idealize.ShloMosaic Idealize.SL.Sem

variable (m : (ℓ : Loc nD τ sig) → Buf (Elt Ideal) ℓ) (c : Dev nD) (t : Fin grid0.N)

/-- A grid point is a tile of 1536 rows and one of 512 columns, in this order. -/
theorem idx : ∀ t : Fin grid0.N, win0_0.index t = ![t.val / 8, 0] ∧ win0_1.index t = ![0, t.val % 8]
    ∧ win0_2.index t = ![t.val / 8, t.val % 8] := by decide +kernel

theorem point_lt : t.val < 88 := lt_of_lt_of_eq t.isLt Gen.N_0

theorem tile_apply (x0 : Vec Ideal S1536x4096 .bf16) (x1 : Vec Ideal S4096x512 .bf16) (r : Fin 1536) (k : Fin 512) :
    out0_2 x0 x1 (ix2 r k) = ∑ d : Fin 4096, x0 (ix2 r d) * x1 (ix2 d k) := by
  rw [out0_2, View.canon_unit_zero (S := S1536x512) Proj.whole, View.ld_unit_zero Proj.whole, View.ld_unit_zero Proj.whole]
  pointwise [k0_pay1]

theorem rows (r : Fin 1536) (d : Fin 4096) : iblk m c 0 t (ix2 r d)
    = m ((c.tc : Thread nD τ).loc main_arg0) (ix2 ⟨t.val / 8 * 1536 + r.val, by have := point_lt t; omega⟩ d) := by
  have ht := point_lt t
  blk_point [iblk, V, idx t]

theorem cols (d : Fin 4096) (k : Fin 512) : iblk m c 1 t (ix2 d k)
    = m ((c.tc : Thread nD τ).loc main_arg1) (ix2 d ⟨4352 + (t.val % 8 * 512 + k.val), by omega⟩) := by
  have ht := point_lt t
  blk_point [iblk, V, idx t]

/-- An array that has every point's tile at its place is the output array after the run. -/
theorem array_of (G : FVec Ideal S16896x4096 .f32) (hG : ∀ (t : Fin grid0.N) (r : Fin 1536) (k : Fin 512),
    out0_2 (iblk m c 0 t) (iblk m c 1 t) (ix2 r k) = G (ix2 ⟨t.val / 8 * 1536 + r.val, by have := point_lt t; omega⟩
      ⟨t.val % 8 * 512 + k.val, by omega⟩)) : (dats m 0 c).arrAt 2 cfg0.N = G := by
  refine (dats m 0 c).arrAt_eq_of_covers 2 _ (by decide +kernel) fun t hf y => ?_
  have ht := point_lt t
  blk_simp
  rw [after0_2]
  obtain ⟨r, k, rfl⟩ := Proj.idx_matrix y
  refine (hG t r k).trans (congrArg G ?_)
  blk_ext [idx t]

/-- The reference's result. -/
def result (a0 : FVec Ideal S16896x4096 .bf16) (a1 : FVec Ideal S4096x26944 .f32) : FVec Ideal S16896x4096 .f32 :=
  extractStridedSlice S16896x4096 ![0, 4352] (Host.dotGeneral Cert.ReferencePBIdeal.dot_S16896x4096_S4096x26944_S16896x26944_1_0_0_1_n_n (φ₁ := .f32) (φ₂ := .f32) none (extf .f32 a0 Cert.ReferencePBIdeal.Facts₀.bitsLt_bf16_f32) a1) Cert.ReferencePBIdeal.Facts₀.slices_S16896x26944_S16896x4096_0_4352

theorem result_apply (a0 : FVec Ideal S16896x4096 .bf16) (a1 : FVec Ideal S4096x26944 .f32) (r : Fin 16896) (k : Fin 4096) :
    result a0 a1 (ix2 r k) = ∑ d : Fin 4096, a0 (ix2 r d) * a1 (ix2 d ⟨4352 + k.val, by omega⟩) := by
  pointwise [result]

theorem array_eq : (dats m 0 c).arrAt 2 cfg0.N = result (m ((c.tc : Thread nD τ).loc main_arg0)) (m ((c.tc : Thread nD τ).loc main_arg1)) := by
  refine array_of m c _ fun t r k => ?_
  rw [tile_apply, result_apply]
  exact Finset.sum_congr rfl fun d _ => by rw [rows, cols]

theorem frame_reference : Cert.quiescent_ReferencePBIdeal := fun m g _ =>
  (θ_run _ _ _).mono (fun r h => ⟨fun c => (h c).2, sem_eq_zero_of_no_sems (by decide) _⟩) (Cert.ReferencePBIdeal.Value.run m g)

theorem algebraic : Cert.algebraic_KernelPBIdeal_ReferencePBIdeal := by
  intro m g m' g' hpre hagree
  refine ⟨fun c => (Cert.KernelPBIdeal.Gen.dats m 0 c).arrAt 2 Cert.KernelPBIdeal.cfg0.N, Cert.KernelPBIdeal.Value.run_blocks m g, ?_⟩
  refine (θ_run _ _ _).mono (fun r h c => ⟨(h c).1.trans ?_, (h c).2⟩) (Cert.ReferencePBIdeal.Value.run m' g')
  obtain ⟨e0, e1⟩ := hagree c
  exact (congrArg₂ result e0 e1).trans (array_eq m c).symm

end Cert.ProjB

end
-- ==== Proof.Proj.A.lean ====
/- The first column group of the combined input projection: the RWKV branch's inputs, the SSD branch's step sizes, and zero columns up to a whole tile. -/
module

public import proofs.«01_k».proof.Proof.Proj.B
public import proofs.«01_k».proof.Proof.Gen.KernelPAIdeal.Value
public import proofs.«01_k».proof.Proof.Gen.ReferencePAIdeal.Run

@[expose] public section

set_option maxRecDepth 16384

noncomputable section

namespace Cert.ProjA

open Cert.KernelPAIdeal Cert.KernelPAIdeal.Gen Idealize.ShloMosaic Idealize.SL.Sem

variable (m : (ℓ : Loc nD τ sig) → Buf (Elt Ideal) ℓ) (c : Dev nD) (t : Fin grid0.N)

/-- A grid point is a tile of 1536 rows and one of 512 columns, in this order. -/
theorem idx : ∀ t : Fin grid0.N, win0_0.index t = ![t.val / 9, 0] ∧ win0_1.index t = ![0, t.val % 9]
    ∧ win0_2.index t = ![t.val / 9, t.val % 9] := by decide +kernel

theorem point_lt : t.val < 99 := lt_of_lt_of_eq t.isLt Gen.N_0

theorem tile_apply (x0 : Vec Ideal S1536x4096 .bf16) (x1 : Vec Ideal S4096x512 .bf16) (r : Fin 1536) (k : Fin 512) :
    out0_2 x0 x1 (ix2 r k) = ∑ d : Fin 4096, x0 (ix2 r d) * x1 (ix2 d k) := by
  exact ProjB.tile_apply x0 x1 r k

theorem rows (r : Fin 1536) (d : Fin 4096) : iblk m c 0 t (ix2 r d)
    = m ((c.tc : Thread nD τ).loc main_arg0) (ix2 ⟨t.val / 9 * 1536 + r.val, by have := point_lt t; omega⟩ d) := by
  have ht := point_lt t
  blk_point [iblk, V, idx t]

/-- A weight of the group: a column of the RWKV branch, a step size's column, or zero. -/
def weight (a1 : FVec Ideal S4096x26944 .f32) (d : Fin 4096) (k : Fin 4608) : EReal :=
  if h : k.val < 4352 then a1 (ix2 d ⟨k.val, by omega⟩) else if h' : k.val - 4352 < 64 then a1 (ix2 d ⟨14592 + (k.val - 4352), by omega⟩) else 0

def group (a1 : FVec Ideal S4096x26944 .f32) : FVec Ideal S4096x4608 .bf16 :=
  truncf .bf16 (concatenate S4096x4608 1 [⟨S4096x4352, extractStridedSlice S4096x4352 ![0, 0] a1 Facts₀.slices_S4096x26944_S4096x4352_0_0⟩, ⟨S4096x64, extractStridedSlice S4096x64 ![0, 14592] a1 Facts₀.slices_S4096x26944_S4096x64_0_14592⟩, ⟨S4096x192, broadcastInDim S4096x192 ![] Facts₀.bcast_S_S4096x192 (constant (F := Ideal) S_ .f32 0x00000000#32)⟩] Facts₀.concatenates_S4096x4352_S4096x64_S4096x192_S4096x4608_d1) Facts₀.bitsLt_bf16_f32

theorem weights (a1 : FVec Ideal S4096x26944 .f32) (h1 : m ((c.tc : Thread nD τ).loc main_arg1) = a1) (d : Fin 4096) (k : Fin 4608) :
    V m c main_v4 (ix2 d k) = weight a1 d k := by
  have e : V m c main_v4 = group a1 := by
    subst h1
    simp only [V, hostOps0, List.flatten_cons, List.flatten_nil, List.append_nil, List.cons_append, List.nil_append]
    after_results
    rfl
  rw [e]
  pointwise [group, weight]

theorem cols (d : Fin 4096) (k : Fin 512) : iblk m c 1 t (ix2 d k) = V m c main_v4 (ix2 d ⟨t.val % 9 * 512 + k.val, by omega⟩) := by
  have ht := point_lt t
  show V m c main_v4 _ = _
  refine congrArg (V m c main_v4) ?_
  blk_ext [idx t]

/-- An array that has every point's tile at its place is the output array after the run. -/
theorem array_of (G : FVec Ideal S16896x4608 .f32) (hG : ∀ (t : Fin grid0.N) (r : Fin 1536) (k : Fin 512),
    out0_2 (iblk m c 0 t) (iblk m c 1 t) (ix2 r k) = G (ix2 ⟨t.val / 9 * 1536 + r.val, by have := point_lt t; omega⟩
      ⟨t.val % 9 * 512 + k.val, by omega⟩)) : (dats m 0 c).arrAt 2 cfg0.N = G := by
  refine (dats m 0 c).arrAt_eq_of_covers 2 _ (by decide +kernel) fun t hf y => ?_
  have ht := point_lt t
  blk_simp
  rw [after0_2]
  obtain ⟨r, k, rfl⟩ := Proj.idx_matrix y
  refine (hG t r k).trans (congrArg G ?_)
  blk_ext [idx t]

/-- The reference's product with every column. -/
def product (a0 : FVec Ideal S16896x4096 .bf16) (a1 : FVec Ideal S4096x26944 .f32) : FVec Ideal Cert.ReferencePAIdeal.S16896x26944 .f32 :=
  Host.dotGeneral Cert.ReferencePAIdeal.dot_S16896x4096_S4096x26944_S16896x26944_1_0_0_1_n_n (φ₁ := .f32) (φ₂ := .f32) none (extf .f32 a0 Cert.ReferencePAIdeal.Facts₀.bitsLt_bf16_f32) a1

/-- The reference's result. -/
def result (a0 : FVec Ideal S16896x4096 .bf16) (a1 : FVec Ideal S4096x26944 .f32) : FVec Ideal S16896x4608 .f32 :=
  concatenate S16896x4608 1 [⟨Cert.ReferencePAIdeal.S16896x4352, extractStridedSlice Cert.ReferencePAIdeal.S16896x4352 ![0, 0] (product a0 a1) Cert.ReferencePAIdeal.Facts₀.slices_S16896x26944_S16896x4352_0_0⟩, ⟨Cert.ReferencePAIdeal.S16896x64, extractStridedSlice Cert.ReferencePAIdeal.S16896x64 ![0, 14592] (product a0 a1) Cert.ReferencePAIdeal.Facts₀.slices_S16896x26944_S16896x64_0_14592⟩, ⟨Cert.ReferencePAIdeal.S16896x192, broadcastInDim Cert.ReferencePAIdeal.S16896x192 ![] Cert.ReferencePAIdeal.Facts₀.bcast_S_S16896x192 (constant S_ .f32 0x00000000#32)⟩] Cert.ReferencePAIdeal.Facts₀.concatenates_S16896x4352_S16896x64_S16896x192_S16896x4608_d1

theorem product_apply (a0 : FVec Ideal S16896x4096 .bf16) (a1 : FVec Ideal S4096x26944 .f32) (r : Fin 16896) (k : Fin 26944) :
    product a0 a1 (ix2 r k) = ∑ d : Fin 4096, a0 (ix2 r d) * a1 (ix2 d k) := by
  pointwise [product]

theorem result_apply (a0 : FVec Ideal S16896x4096 .bf16) (a1 : FVec Ideal S4096x26944 .f32) (r : Fin 16896) (k : Fin 4608) :
    result a0 a1 (ix2 r k) = ∑ d : Fin 4096, a0 (ix2 r d) * weight a1 d k := by
  have e : result a0 a1 (ix2 r k) = if h : k.val < 4352 then product a0 a1 (ix2 r ⟨k.val, by omega⟩)
      else if h' : k.val - 4352 < 64 then product a0 a1 (ix2 r ⟨14592 + (k.val - 4352), by omega⟩) else 0 := by
    pointwise [result]
  rw [e]
  unfold weight
  split
  · exact product_apply ..
  · split
    · exact product_apply ..
    · simp

theorem array_eq : (dats m 0 c).arrAt 2 cfg0.N = result (m ((c.tc : Thread nD τ).loc main_arg0)) (m ((c.tc : Thread nD τ).loc main_arg1)) := by
  refine array_of m c _ fun t r k => ?_
  rw [tile_apply, result_apply]
  exact Finset.sum_congr rfl fun d _ => by rw [rows, cols, weights m c _ rfl]

theorem frame_reference : Cert.quiescent_ReferencePAIdeal := fun m g _ =>
  (θ_run _ _ _).mono (fun r h => ⟨fun c => (h c).2, sem_eq_zero_of_no_sems (by decide) _⟩) (Cert.ReferencePAIdeal.Value.run m g)

theorem algebraic : Cert.algebraic_KernelPAIdeal_ReferencePAIdeal := by
  intro m g m' g' hpre hagree
  refine ⟨fun c => (Cert.KernelPAIdeal.Gen.dats m 0 c).arrAt 2 Cert.KernelPAIdeal.cfg0.N, Cert.KernelPAIdeal.Value.run_blocks m g, ?_⟩
  refine (θ_run _ _ _).mono (fun r h c => ⟨(h c).1.trans ?_, (h c).2⟩) (Cert.ReferencePAIdeal.Value.run m' g')
  obtain ⟨e0, e1⟩ := hagree c
  exact (congrArg₂ result e0 e1).trans (array_eq m c).symm

end Cert.ProjA

end
-- ==== Proof.Proj.C.lean ====
/- The third column group of the combined input projection: the SSD branch's inputs, gate and state maps. -/
module

public import proofs.«01_k».proof.Proof.Proj.B
public import proofs.«01_k».proof.Proof.Gen.KernelPCIdeal.Value
public import proofs.«01_k».proof.Proof.Gen.ReferencePCIdeal.Run

@[expose] public section

set_option maxRecDepth 16384

noncomputable section

namespace Cert.ProjC

open Cert.KernelPCIdeal Cert.KernelPCIdeal.Gen Idealize.ShloMosaic Idealize.SL.Sem

variable (m : (ℓ : Loc nD τ sig) → Buf (Elt Ideal) ℓ) (c : Dev nD) (t : Fin grid0.N)

/-- A grid point is a tile of 1536 rows and one of 512 columns, in this order. -/
theorem idx : ∀ t : Fin grid0.N, win0_0.index t = ![t.val / 12, 0] ∧ win0_1.index t = ![0, t.val % 12]
    ∧ win0_2.index t = ![t.val / 12, t.val % 12] := by decide +kernel

theorem point_lt : t.val < 132 := lt_of_lt_of_eq t.isLt Gen.N_0

theorem tile_apply (x0 : Vec Ideal S1536x4096 .bf16) (x1 : Vec Ideal S4096x512 .bf16) (r : Fin 1536) (k : Fin 512) :
    out0_2 x0 x1 (ix2 r k) = ∑ d : Fin 4096, x0 (ix2 r d) * x1 (ix2 d k) := by
  exact ProjB.tile_apply x0 x1 r k

theorem rows (r : Fin 1536) (d : Fin 4096) : iblk m c 0 t (ix2 r d)
    = m ((c.tc : Thread nD τ).loc main_arg0) (ix2 ⟨t.val / 12 * 1536 + r.val, by have := point_lt t; omega⟩ d) := by
  have ht := point_lt t
  blk_point [iblk, V, idx t]

theorem cols (d : Fin 4096) (k : Fin 512) : iblk m c 1 t (ix2 d k)
    = m ((c.tc : Thread nD τ).loc main_arg1) (ix2 d ⟨8448 + (t.val % 12 * 512 + k.val), by omega⟩) := by
  have ht := point_lt t
  blk_point [iblk, V, idx t]

/-- An array that has every point's tile at its place is the output array after the run. -/
theorem array_of (G : FVec Ideal S16896x6144 .f32) (hG : ∀ (t : Fin grid0.N) (r : Fin 1536) (k : Fin 512),
    out0_2 (iblk m c 0 t) (iblk m c 1 t) (ix2 r k) = G (ix2 ⟨t.val / 12 * 1536 + r.val, by have := point_lt t; omega⟩
      ⟨t.val % 12 * 512 + k.val, by omega⟩)) : (dats m 0 c).arrAt 2 cfg0.N = G := by
  refine (dats m 0 c).arrAt_eq_of_covers 2 _ (by decide +kernel) fun t hf y => ?_
  have ht := point_lt t
  blk_simp
  rw [after0_2]
  obtain ⟨r, k, rfl⟩ := Proj.idx_matrix y
  refine (hG t r k).trans (congrArg G ?_)
  blk_ext [idx t]

/-- The reference's result. -/
def result (a0 : FVec Ideal S16896x4096 .bf16) (a1 : FVec Ideal S4096x26944 .f32) : FVec Ideal S16896x6144 .f32 :=
  extractStridedSlice S16896x6144 ![0, 8448] (Host.dotGeneral Cert.ReferencePCIdeal.dot_S16896x4096_S4096x26944_S16896x26944_1_0_0_1_n_n (φ₁ := .f32) (φ₂ := .f32) none (extf .f32 a0 Cert.ReferencePCIdeal.Facts₀.bitsLt_bf16_f32) a1) Cert.ReferencePCIdeal.Facts₀.slices_S16896x26944_S16896x6144_0_8448

theorem result_apply (a0 : FVec Ideal S16896x4096 .bf16) (a1 : FVec Ideal S4096x26944 .f32) (r : Fin 16896) (k : Fin 6144) :
    result a0 a1 (ix2 r k) = ∑ d : Fin 4096, a0 (ix2 r d) * a1 (ix2 d ⟨8448 + k.val, by omega⟩) := by
  pointwise [result]

theorem array_eq : (dats m 0 c).arrAt 2 cfg0.N = result (m ((c.tc : Thread nD τ).loc main_arg0)) (m ((c.tc : Thread nD τ).loc main_arg1)) := by
  refine array_of m c _ fun t r k => ?_
  rw [tile_apply, result_apply]
  exact Finset.sum_congr rfl fun d _ => by rw [rows, cols]

theorem frame_reference : Cert.quiescent_ReferencePCIdeal := fun m g _ =>
  (θ_run _ _ _).mono (fun r h => ⟨fun c => (h c).2, sem_eq_zero_of_no_sems (by decide) _⟩) (Cert.ReferencePCIdeal.Value.run m g)

theorem algebraic : Cert.algebraic_KernelPCIdeal_ReferencePCIdeal := by
  intro m g m' g' hpre hagree
  refine ⟨fun c => (Cert.KernelPCIdeal.Gen.dats m 0 c).arrAt 2 Cert.KernelPCIdeal.cfg0.N, Cert.KernelPCIdeal.Value.run_blocks m g, ?_⟩
  refine (θ_run _ _ _).mono (fun r h c => ⟨(h c).1.trans ?_, (h c).2⟩) (Cert.ReferencePCIdeal.Value.run m' g')
  obtain ⟨e0, e1⟩ := hagree c
  exact (congrArg₂ result e0 e1).trans (array_eq m c).symm

end Cert.ProjC

end
-- ==== Proof.Proj.G.lean ====
/- The last column group of the combined input projection: the merge's gates. -/
module

public import proofs.«01_k».proof.Proof.Proj.B
public import proofs.«01_k».proof.Proof.Gen.KernelPGIdeal.Value
public import proofs.«01_k».proof.Proof.Gen.ReferencePGIdeal.Run

@[expose] public section

set_option maxRecDepth 16384

noncomputable section

namespace Cert.ProjG

open Cert.KernelPGIdeal Cert.KernelPGIdeal.Gen Idealize.ShloMosaic Idealize.SL.Sem

variable (m : (ℓ : Loc nD τ sig) → Buf (Elt Ideal) ℓ) (c : Dev nD) (t : Fin grid0.N)

/-- A grid point is a tile of 1536 rows and one of 512 columns, in this order. -/
theorem idx : ∀ t : Fin grid0.N, win0_0.index t = ![t.val / 24, 0] ∧ win0_1.index t = ![0, t.val % 24]
    ∧ win0_2.index t = ![t.val / 24, t.val % 24] := by decide +kernel

theorem point_lt : t.val < 264 := lt_of_lt_of_eq t.isLt Gen.N_0

theorem tile_apply (x0 : Vec Ideal S1536x4096 .bf16) (x1 : Vec Ideal S4096x512 .bf16) (r : Fin 1536) (k : Fin 512) :
    out0_2 x0 x1 (ix2 r k) = ∑ d : Fin 4096, x0 (ix2 r d) * x1 (ix2 d k) := by
  exact ProjB.tile_apply x0 x1 r k

theorem rows (r : Fin 1536) (d : Fin 4096) : iblk m c 0 t (ix2 r d)
    = m ((c.tc : Thread nD τ).loc main_arg0) (ix2 ⟨t.val / 24 * 1536 + r.val, by have := point_lt t; omega⟩ d) := by
  have ht := point_lt t
  blk_point [iblk, V, idx t]

theorem cols (d : Fin 4096) (k : Fin 512) : iblk m c 1 t (ix2 d k)
    = m ((c.tc : Thread nD τ).loc main_arg1) (ix2 d ⟨14656 + (t.val % 24 * 512 + k.val), by omega⟩) := by
  have ht := point_lt t
  blk_point [iblk, V, idx t]

/-- An array that has every point's tile at its place is the output array after the run. -/
theorem array_of (G : FVec Ideal S16896x12288 .f32) (hG : ∀ (t : Fin grid0.N) (r : Fin 1536) (k : Fin 512),
    out0_2 (iblk m c 0 t) (iblk m c 1 t) (ix2 r k) = G (ix2 ⟨t.val / 24 * 1536 + r.val, by have := point_lt t; omega⟩
      ⟨t.val % 24 * 512 + k.val, by omega⟩)) : (dats m 0 c).arrAt 2 cfg0.N = G := by
  refine (dats m 0 c).arrAt_eq_of_covers 2 _ (by decide +kernel) fun t hf y => ?_
  have ht := point_lt t
  blk_simp
  rw [after0_2]
  obtain ⟨r, k, rfl⟩ := Proj.idx_matrix y
  refine (hG t r k).trans (congrArg G ?_)
  blk_ext [idx t]

/-- The reference's result. -/
def result (a0 : FVec Ideal S16896x4096 .bf16) (a1 : FVec Ideal S4096x26944 .f32) : FVec Ideal S16896x12288 .f32 :=
  extractStridedSlice S16896x12288 ![0, 14656] (Host.dotGeneral Cert.ReferencePGIdeal.dot_S16896x4096_S4096x26944_S16896x26944_1_0_0_1_n_n (φ₁ := .f32) (φ₂ := .f32) none (extf .f32 a0 Cert.ReferencePGIdeal.Facts₀.bitsLt_bf16_f32) a1) Cert.ReferencePGIdeal.Facts₀.slices_S16896x26944_S16896x12288_0_14656

theorem result_apply (a0 : FVec Ideal S16896x4096 .bf16) (a1 : FVec Ideal S4096x26944 .f32) (r : Fin 16896) (k : Fin 12288) :
    result a0 a1 (ix2 r k) = ∑ d : Fin 4096, a0 (ix2 r d) * a1 (ix2 d ⟨14656 + k.val, by omega⟩) := by
  pointwise [result]

theorem array_eq : (dats m 0 c).arrAt 2 cfg0.N = result (m ((c.tc : Thread nD τ).loc main_arg0)) (m ((c.tc : Thread nD τ).loc main_arg1)) := by
  refine array_of m c _ fun t r k => ?_
  rw [tile_apply, result_apply]
  exact Finset.sum_congr rfl fun d _ => by rw [rows, cols]

theorem frame_reference : Cert.quiescent_ReferencePGIdeal := fun m g _ =>
  (θ_run _ _ _).mono (fun r h => ⟨fun c => (h c).2, sem_eq_zero_of_no_sems (by decide) _⟩) (Cert.ReferencePGIdeal.Value.run m g)

theorem algebraic : Cert.algebraic_KernelPGIdeal_ReferencePGIdeal := by
  intro m g m' g' hpre hagree
  refine ⟨fun c => (Cert.KernelPGIdeal.Gen.dats m 0 c).arrAt 2 Cert.KernelPGIdeal.cfg0.N, Cert.KernelPGIdeal.Value.run_blocks m g, ?_⟩
  refine (θ_run _ _ _).mono (fun r h c => ⟨(h c).1.trans ?_, (h c).2⟩) (Cert.ReferencePGIdeal.Value.run m' g')
  obtain ⟨e0, e1⟩ := hagree c
  exact (congrArg₂ result e0 e1).trans (array_eq m c).symm

end Cert.ProjG

end
-- ==== Proof.Merge.Value.lean ====
/- The merge of the three branches: each point's tile, then the whole array. -/
module

public import proofs.«01_k».proof.Proof.Proj.Basic
public import proofs.«01_k».proof.Proof.Gen.KernelMIdeal.Value
public import proofs.«01_k».proof.Proof.Gen.ReferenceMIdeal.Run

@[expose] public section

set_option maxRecDepth 16384

noncomputable section

namespace Cert.Merge

open Cert.KernelMIdeal Cert.KernelMIdeal.Gen Idealize.ShloMosaic Idealize.SL.Sem

/-- A branch's gate. -/
def gate (s : EReal) : EReal := Ideal.div (Ideal.ofBits .f32 0x3F800000#32) (Ideal.ofBits .f32 0x3F800000#32 + Ideal.exp (-s))

variable (m : (ℓ : Loc nD τ sig) → Buf (Elt Ideal) ℓ) (c : Dev nD) (t : Fin grid0.N)

/-- A grid point is a tile of 768 rows and one of 512 columns, in this order. -/
theorem idx : ∀ t : Fin grid0.N, win0_0.index t = ![t.val / 8, 0] ∧ win0_1.index t = ![t.val / 8, 0] ∧ win0_2.index t = ![t.val / 8, 0]
    ∧ win0_3.index t = ![0, t.val % 8] ∧ win0_4.index t = ![0, t.val % 8] ∧ win0_5.index t = ![0, t.val % 8]
    ∧ win0_6.index t = ![t.val / 8, t.val % 8] ∧ win0_7.index t = ![t.val / 8, 8 + t.val % 8] ∧ win0_8.index t = ![t.val / 8, 16 + t.val % 8]
    ∧ win0_9.index t = ![t.val / 8, t.val % 8] := by decide +kernel

theorem point_lt : t.val < 176 := lt_of_lt_of_eq t.isLt Gen.N_0

theorem tile_apply (x0 x1 : Vec Ideal S768x1024 .bf16) (x2 : Vec Ideal S768x2048 .bf16) (x3 x4 : Vec Ideal S1024x512 .bf16)
    (x5 : Vec Ideal S2048x512 .bf16) (x6 x7 x8 : Vec Ideal S768x512 .f32) (r : Fin 768) (k : Fin 512) :
    out0_9 x0 x1 x2 x3 x4 x5 x6 x7 x8 (ix2 r k)
      = gate (x6 (ix2 r k)) * (∑ d : Fin 1024, x0 (ix2 r d) * x3 (ix2 d k)) + gate (x7 (ix2 r k)) * (∑ d : Fin 1024, x1 (ix2 r d) * x4 (ix2 d k))
        + gate (x8 (ix2 r k)) * ∑ d : Fin 2048, x2 (ix2 r d) * x5 (ix2 d k) := by
  rw [out0_9, View.canon_unit_zero (S := S768x512) Proj.whole]
  simp only [View.ld_unit_zero (S := S768x512) Proj.whole, View.ld_unit_zero (S := S768x1024) Proj.whole,
    View.ld_unit_zero (S := S768x2048) Proj.whole, View.ld_unit_zero (S := S1024x512) Proj.whole, View.ld_unit_zero (S := S2048x512) Proj.whole]
  pointwise [k0_pay1, k0_pay2, k0_pay3, gate]
  simp only [sub_eq_add_neg (0 : EReal), zero_add]

section blocks

variable (r : Fin 768) (k : Fin 512)

theorem branch_a (d : Fin 1024) : iblk m c 0 t (ix2 r d)
    = m ((c.tc : Thread nD τ).loc main_arg0) (ix2 ⟨t.val / 8 * 768 + r.val, by have := point_lt t; omega⟩ d) := by
  have ht := point_lt t
  blk_point [iblk, V, idx t]

theorem branch_b (d : Fin 1024) : iblk m c 1 t (ix2 r d)
    = m ((c.tc : Thread nD τ).loc main_arg1) (ix2 ⟨t.val / 8 * 768 + r.val, by have := point_lt t; omega⟩ d) := by
  have ht := point_lt t
  blk_point [iblk, V, idx t]

theorem branch_c (d : Fin 2048) : iblk m c 2 t (ix2 r d)
    = m ((c.tc : Thread nD τ).loc main_arg2) (ix2 ⟨t.val / 8 * 768 + r.val, by have := point_lt t; omega⟩ d) := by
  have ht := point_lt t
  blk_point [iblk, V, idx t]

theorem weight_a (d : Fin 1024) : iblk m c 3 t (ix2 d k) = m ((c.tc : Thread nD τ).loc main_arg3) (ix2 d ⟨t.val % 8 * 512 + k.val, by omega⟩) := by
  have ht := point_lt t
  blk_point [iblk, V, idx t]

theorem weight_b (d : Fin 1024) : iblk m c 4 t (ix2 d k) = m ((c.tc : Thread nD τ).loc main_arg4) (ix2 d ⟨t.val % 8 * 512 + k.val, by omega⟩) := by
  have ht := point_lt t
  blk_point [iblk, V, idx t]

theorem weight_c (d : Fin 2048) : iblk m c 5 t (ix2 d k) = m ((c.tc : Thread nD τ).loc main_arg5) (ix2 d ⟨t.val % 8 * 512 + k.val, by omega⟩) := by
  have ht := point_lt t
  blk_point [iblk, V, idx t]

theorem gate_a : iblk m c 6 t (ix2 r k) = m ((c.tc : Thread nD τ).loc main_arg6) (ix2 ⟨t.val / 8 * 768 + r.val, by have := point_lt t; omega⟩
    ⟨t.val % 8 * 512 + k.val, by omega⟩) := by
  have ht := point_lt t
  blk_point [iblk, V, idx t]

theorem gate_b : iblk m c 7 t (ix2 r k) = m ((c.tc : Thread nD τ).loc main_arg6) (ix2 ⟨t.val / 8 * 768 + r.val, by have := point_lt t; omega⟩
    ⟨4096 + (t.val % 8 * 512 + k.val), by omega⟩) := by
  have ht := point_lt t
  blk_point [iblk, V, idx t]

theorem gate_c : iblk m c 8 t (ix2 r k) = m ((c.tc : Thread nD τ).loc main_arg6) (ix2 ⟨t.val / 8 * 768 + r.val, by have := point_lt t; omega⟩
    ⟨8192 + (t.val % 8 * 512 + k.val), by omega⟩) := by
  have ht := point_lt t
  blk_point [iblk, V, idx t]

end blocks

/-- An array that has every point's tile at its place is the output array after the run. -/
theorem array_of (G : FVec Ideal S16896x4096 .bf16) (hG : ∀ (t : Fin grid0.N) (r : Fin 768) (k : Fin 512),
    out0_9 (iblk m c 0 t) (iblk m c 1 t) (iblk m c 2 t) (iblk m c 3 t) (iblk m c 4 t) (iblk m c 5 t) (iblk m c 6 t) (iblk m c 7 t)
      (iblk m c 8 t) (ix2 r k) = G (ix2 ⟨t.val / 8 * 768 + r.val, by have := point_lt t; omega⟩ ⟨t.val % 8 * 512 + k.val, by omega⟩)) :
    (dats m 0 c).arrAt 9 cfg0.N = G := by
  refine (dats m 0 c).arrAt_eq_of_covers 9 _ (by decide +kernel) fun t hf y => ?_
  have ht := point_lt t
  blk_simp
  rw [after0_9]
  obtain ⟨r, k, rfl⟩ := Proj.idx_matrix y
  refine (hG t r k).trans (congrArg G ?_)
  blk_ext [idx t]

section reference

open Cert.ReferenceMIdeal.Gen

/-- The reference's gate of the branch whose columns begin at `o`. -/
def gates (o : ℕ) (h : S16896x12288.Slices ![0, o] S16896x4096) (a6 : FVec Ideal S16896x12288 .f32) : FVec Ideal S16896x4096 .f32 :=
  Host.divf (broadcastInDim S16896x4096 ![] Cert.ReferenceMIdeal.Facts₀.bcast_S_S16896x4096 (constant (F := Ideal) Cert.ReferenceMIdeal.S_ .f32 0x3F800000#32))
    (addf (broadcastInDim S16896x4096 ![] Cert.ReferenceMIdeal.Facts₀.bcast_S_S16896x4096 (constant (F := Ideal) Cert.ReferenceMIdeal.S_ .f32 0x3F800000#32))
      (Host.exp (Host.negf (extractStridedSlice S16896x4096 ![0, o] a6 h))))

def short (a : FVec Ideal S16896x1024 .bf16) (w : FVec Ideal S1024x4096 .f32) : FVec Ideal S16896x4096 .f32 :=
  Host.dotGeneral Cert.ReferenceMIdeal.dot_S16896x1024_S1024x4096_S16896x4096_1_0_0_1_n_n (φ₁ := .f32) (φ₂ := .f32) none (extf .f32 a Cert.ReferenceMIdeal.Facts₀.bitsLt_bf16_f32) w

def long (a : FVec Ideal S16896x2048 .bf16) (w : FVec Ideal S2048x4096 .f32) : FVec Ideal S16896x4096 .f32 :=
  Host.dotGeneral Cert.ReferenceMIdeal.dot_S16896x2048_S2048x4096_S16896x4096_1_0_0_1_n_n (φ₁ := .f32) (φ₂ := .f32) none (extf .f32 a Cert.ReferenceMIdeal.Facts₀.bitsLt_bf16_f32) w

/-- The reference's result. -/
def result (a0 a1 : FVec Ideal S16896x1024 .bf16) (a2 : FVec Ideal S16896x2048 .bf16) (a3 a4 : FVec Ideal S1024x4096 .f32)
    (a5 : FVec Ideal S2048x4096 .f32) (a6 : FVec Ideal S16896x12288 .f32) : FVec Ideal S16896x4096 .bf16 :=
  truncf .bf16 (addf (addf (mulf (gates 0 Cert.ReferenceMIdeal.Facts₀.slices_S16896x12288_S16896x4096_0_0 a6) (short a0 a3))
    (mulf (gates 4096 Cert.ReferenceMIdeal.Facts₀.slices_S16896x12288_S16896x4096_0_4096 a6) (short a1 a4)))
    (mulf (gates 8192 Cert.ReferenceMIdeal.Facts₀.slices_S16896x12288_S16896x4096_0_8192 a6) (long a2 a5))) Cert.ReferenceMIdeal.Facts₀.bitsLt_bf16_f32

theorem result_apply (a0 a1 : FVec Ideal S16896x1024 .bf16) (a2 : FVec Ideal S16896x2048 .bf16) (a3 a4 : FVec Ideal S1024x4096 .f32)
    (a5 : FVec Ideal S2048x4096 .f32) (a6 : FVec Ideal S16896x12288 .f32) (r : Fin 16896) (k : Fin 4096) :
    result a0 a1 a2 a3 a4 a5 a6 (ix2 r k)
      = gate (a6 (ix2 r ⟨k.val, by omega⟩)) * (∑ d : Fin 1024, a0 (ix2 r d) * a3 (ix2 d k))
        + gate (a6 (ix2 r ⟨4096 + k.val, by omega⟩)) * (∑ d : Fin 1024, a1 (ix2 r d) * a4 (ix2 d k))
        + gate (a6 (ix2 r ⟨8192 + k.val, by omega⟩)) * ∑ d : Fin 2048, a2 (ix2 r d) * a5 (ix2 d k) := by
  pointwise [result, gates, short, long, gate]

end reference

theorem array_eq (a0 a1 : FVec Ideal S16896x1024 .bf16) (a2 : FVec Ideal S16896x2048 .bf16) (a3 a4 : FVec Ideal S1024x4096 .f32)
    (a5 : FVec Ideal S2048x4096 .f32) (a6 : FVec Ideal S16896x12288 .f32)
    (h0 : m ((c.tc : Thread nD τ).loc main_arg0) = a0) (h1 : m ((c.tc : Thread nD τ).loc main_arg1) = a1)
    (h2 : m ((c.tc : Thread nD τ).loc main_arg2) = a2) (h3 : m ((c.tc : Thread nD τ).loc main_arg3) = a3)
    (h4 : m ((c.tc : Thread nD τ).loc main_arg4) = a4) (h5 : m ((c.tc : Thread nD τ).loc main_arg5) = a5)
    (h6 : m ((c.tc : Thread nD τ).loc main_arg6) = a6) : (dats m 0 c).arrAt 9 cfg0.N = result a0 a1 a2 a3 a4 a5 a6 := by
  refine array_of m c _ fun t r k => ?_
  rw [tile_apply, result_apply, gate_a, gate_b, gate_c, h6]
  simp only [branch_a, branch_b, branch_c, weight_a, weight_b, weight_c, h0, h1, h2, h3, h4, h5]

theorem result_congr {a0 b0 a1 b1 : FVec Ideal S16896x1024 .bf16} {a2 b2 : FVec Ideal S16896x2048 .bf16} {a3 b3 a4 b4 : FVec Ideal S1024x4096 .f32}
    {a5 b5 : FVec Ideal S2048x4096 .f32} {a6 b6 : FVec Ideal S16896x12288 .f32} (h0 : a0 = b0) (h1 : a1 = b1) (h2 : a2 = b2) (h3 : a3 = b3)
    (h4 : a4 = b4) (h5 : a5 = b5) (h6 : a6 = b6) : result a0 a1 a2 a3 a4 a5 a6 = result b0 b1 b2 b3 b4 b5 b6 := by
  rw [h0, h1, h2, h3, h4, h5, h6]

theorem frame_reference : Cert.quiescent_ReferenceMIdeal := fun m g _ =>
  (θ_run _ _ _).mono (fun r h => ⟨fun c => (h c).2, sem_eq_zero_of_no_sems (by decide) _⟩) (Cert.ReferenceMIdeal.Value.run m g)

theorem algebraic : Cert.algebraic_KernelMIdeal_ReferenceMIdeal := by
  intro m g m' g' hpre hagree
  refine ⟨fun c => (Cert.KernelMIdeal.Gen.dats m 0 c).arrAt 9 Cert.KernelMIdeal.cfg0.N, Cert.KernelMIdeal.Value.run_blocks m g, ?_⟩
  refine (θ_run _ _ _).mono (fun r h c => ⟨(h c).1.trans ?_, (h c).2⟩) (Cert.ReferenceMIdeal.Value.run m' g')
  obtain ⟨e0, e1, e2, e3, e4, e5, e6⟩ := hagree c
  exact (result_congr e0 e1 e2 e3 e4 e5 e6).trans (array_eq m c _ _ _ _ _ _ _ rfl rfl rfl rfl rfl rfl rfl).symm

end Cert.Merge

end
-- ==== Proof.OutNorm.Step.lean ====
/- The output projection's grid step: what a point adds to the accumulator, and what the last point of a row tile writes. -/
module

public import proofs.«01_k».proof.Proof.Proj.Basic
public import proofs.«01_k».proof.Proof.Gen.KernelOIdeal.Value
public import Idealize.ShloMosaic.Lib.Tactic

@[expose] public section

set_option maxRecDepth 16384

noncomputable section

namespace Cert.OutNorm

open Cert.KernelOIdeal Cert.KernelOIdeal.Gen Idealize.ShloMosaic Idealize.SL.Sem

/-- A stored tile's mean square, and its inverse root. -/
def rootMean (o : Fin 4096 → EReal) : EReal :=
  Ideal.rsqrt (Ideal.div (∑ k : Fin 4096, o k * o k) (Ideal.ofBits .f32 0x45800000#32) + Ideal.ofBits .f32 0x358637BD#32)

theorem zero_apply (r : Fin 384) (k : Fin 4096) : k0_pay1 (F := Ideal) (ix2 r k) = 0 := by
  pointwise [k0_pay1]

theorem add_apply (xs : Vec Ideal S384x4096 .f32) (x0 : Vec Ideal S384x512 .bf16) (x1 : Vec Ideal S512x4096 .bf16) (r : Fin 384) (k : Fin 4096) :
    k0_pay2 xs x0 x1 (ix2 r k) = xs (ix2 r k) + ∑ d : Fin 512, x0 (ix2 r d) * x1 (ix2 d k) := by
  pointwise [k0_pay2]

theorem norm_apply (a : Vec Ideal S384x4096 .f32) (x4 : Vec Ideal S1x4096 .f32) (r : Fin 384) (k : Fin 4096) :
    k0_pay4 a x4 (ix2 r k) = a (ix2 r k) * rootMean (fun k => a (ix2 r k)) * x4 (ix2 0 k) := by
  pointwise [k0_pay4, rootMean]

/-- The rows of the table of gates. -/
theorem ld_row (x3 : Vec Ideal S3x4096 .f32) (off : Fin 2 → ℕ) (inb : ∀ a, off a + S1x4096.size a ≤ S3x4096.size a) (n : ℕ) (hn : n < 3)
    (h0 : off 0 = n) (h1 : off 1 = 0) (k : Fin 4096) : View.ld x3 (Rect.unit (s := S3x4096) off S1x4096.size inb) (ix2 0 k) = x3 (ix2 ⟨n, hn⟩ k) := by
  show x3 _ = _
  refine congrArg x3 (funext fun a => ?_)
  match a with
  | ⟨0, _⟩ => exact Fin.ext (by show off 0 + 1 * 0 = n; omega)
  | ⟨1, _⟩ => exact Fin.ext (by show off 1 + 1 * k.val = k.val; omega)

theorem gated_apply (y : Vec Ideal S384x4096 .f32) (v48 v49 : BitVec 32) (v54 : BitVec 1) (g g' : Vec Ideal S1x4096 .f32)
    (x : Vec Ideal S384x4096 .f32) (n : ℕ) (hn : n < 22) (hs : Scalar.select v54 (Scalar.addi v49 v48) v49 = BitVec.ofNat 32 n)
    (r : Fin 384) (k : Fin 4096) :
    k0_pay3 y v48 v49 v54 g g' x (ix2 r k) = x (ix2 r k) + (if n * 384 + r.val < 256 then g (ix2 0 k) else g' (ix2 0 k)) * y (ix2 r k) := by
  have hc : IntOp.cmpi CmpIPredicate.slt (IntOp.addi (Scalar.muli (BitVec.ofNat 32 n) 384#32) (BitVec.ofNat 32 r.val)) 256#32
      = if n * 384 + r.val < 256 then 1#1 else 0#1 :=
    WordCmp.cmpi_slt_mul_add_ofNat n 384 r.val 256 (by omega) (by omega)
  simp only [k0_pay3, hs]
  pointwise
  rw [hc]
  by_cases h : n * 384 + r.val < 256 <;> simp [h, Scalar.select]

/-- The kernel's row of the table and its first row within a batch row, at a tile of rows. -/
theorem batch : ∀ n : Fin 44, BitVec.toNat
              (Scalar.indexCast
                (Scalar.select
                  (Scalar.andi
                    (Scalar.cmpi CmpIPredicate.ne
                      (Scalar.subi (Scalar.extui (Scalar.cmpi CmpIPredicate.sgt (BitVec.ofNat 32 n.val) 0#32))
                        (Scalar.extui (Scalar.cmpi CmpIPredicate.slt (BitVec.ofNat 32 n.val) 0#32)))
                      (Scalar.subi (Scalar.extui (Scalar.cmpi CmpIPredicate.sgt 22#32 0#32))
                        (Scalar.extui (Scalar.cmpi CmpIPredicate.slt 22#32 0#32))))
                    (Scalar.cmpi CmpIPredicate.ne (Scalar.remsi (BitVec.ofNat 32 n.val) 22#32) 0#32))
                  (Scalar.subi (Scalar.divsi (BitVec.ofNat 32 n.val) 22#32) 1#32)
                  (Scalar.divsi (BitVec.ofNat 32 n.val) 22#32))) = n.val / 22 := by
  decide +kernel

theorem within : ∀ n : Fin 44, Scalar.select
    (Scalar.andi (Scalar.xori (Scalar.cmpi CmpIPredicate.slt (Scalar.remsi (BitVec.ofNat 32 n.val) 22#32) 0#32) 0#1)
        (Scalar.cmpi CmpIPredicate.ne (Scalar.remsi (BitVec.ofNat 32 n.val) 22#32) 0#32))
    (Scalar.addi (Scalar.remsi (BitVec.ofNat 32 n.val) 22#32) 22#32) (Scalar.remsi (BitVec.ofNat 32 n.val) 22#32) = BitVec.ofNat 32 (n.val % 22) := by
  decide +kernel

section runs

variable (c : Dev nD) (i : grid0.Coords) (arg2 : Memref sig .tc .vmem S384x512 .bf16) (harg2 : arg2.IsWhole)
  (arg3 : Memref sig .tc .vmem S512x4096 .bf16) (harg3 : arg3.IsWhole) (arg4 : Memref sig .tc .vmem S384x4096 .f32) (harg4 : arg4.IsWhole)
  (arg5 : Memref sig .tc .vmem S3x4096 .f32) (harg5 : arg5.IsWhole) (arg6 : Memref sig .tc .vmem S1x4096 .f32) (harg6 : arg6.IsWhole)
  (arg7 : Memref sig .tc .vmem S384x4096 .f32) (harg7 : arg7.IsWhole) (arg8 : Memref sig .tc .vmem S384x4096 .f32) (harg8 : arg8.IsWhole)
  (x0 : Vec Ideal S384x512 .bf16) (x1 : Vec Ideal S512x4096 .bf16) (x2 : Vec Ideal S384x4096 .f32) (x3 : Vec Ideal S3x4096 .f32)
  (x4 : Vec Ideal S1x4096 .f32) (xs : Vec Ideal S384x4096 .f32)

theorem first (hc0 : cond0_0 i) (hc1 : ¬cond0_1 i) :
    sout0_A_0 (F := Ideal) c i arg2 harg2 arg3 harg3 arg4 harg4 arg5 harg5 arg6 harg6 arg7 harg7 arg8 harg8 hc0 hc1 x0 x1 x2 x3 x4
      = k0_pay2 (k0_pay1 (F := Ideal)) x0 x1 := by
  unfold sout0_A_0
  rw [View.read_writes_junk_eq_canon]
  unfold kernelRun0_A
  dsimp only
  sl_unfold_words
  rw [View.canon_cons_unit_zero (S := S384x4096) Proj.whole, View.readCov_unit_zero (S := S384x4096) _ Proj.whole]
  simp only [View.readAt_eq_ld, harg2.read_unread, harg3.read_unread, View.ld_unit_zero (S := S384x512) Proj.whole,
    View.ld_unit_zero (S := S512x4096) Proj.whole]

theorem middle (hc0 : ¬cond0_0 i) (hc1 : ¬cond0_1 i) :
    sout0_B_0 (F := Ideal) c i arg2 harg2 arg3 harg3 arg4 harg4 arg5 harg5 arg6 harg6 arg7 harg7 arg8 harg8 hc0 hc1 x0 x1 x2 x3 x4 xs
      = k0_pay2 xs x0 x1 := by
  unfold sout0_B_0
  rw [View.read_writes_junk_eq_canon]
  unfold kernelRun0_B
  dsimp only
  sl_unfold_words
  rw [View.canon_unit_zero (S := S384x4096) Proj.whole]
  simp only [View.readAt_eq_ld, harg2.read_unread, harg3.read_unread, harg8.read_unread, View.ld_unit_zero (S := S384x512) Proj.whole,
    View.ld_unit_zero (S := S512x4096) Proj.whole, View.ld_unit_zero (S := S384x4096) Proj.whole]

theorem last (hc0 : ¬cond0_0 i) (hc1 : cond0_1 i) :
    sout0_C_0 (F := Ideal) c i arg2 harg2 arg3 harg3 arg4 harg4 arg5 harg5 arg6 harg6 arg7 harg7 arg8 harg8 hc0 hc1 x0 x1 x2 x3 x4 xs
      = k0_pay2 xs x0 x1 := by
  unfold sout0_C_0
  rw [View.read_writes_junk_eq_canon]
  unfold kernelRun0_C
  dsimp only
  sl_unfold_words
  rw [View.canon_unit_zero (S := S384x4096) Proj.whole]
  simp only [View.readAt_eq_ld, harg2.read_unread, harg3.read_unread, harg8.read_unread, View.ld_unit_zero (S := S384x512) Proj.whole,
    View.ld_unit_zero (S := S512x4096) Proj.whole, View.ld_unit_zero (S := S384x4096) Proj.whole]

theorem written (hc0 : ¬cond0_0 i) (hc1 : cond0_1 i) (n : Fin 44) (hn : (i 0).val = n.val) (r : Fin 384) (k : Fin 4096) :
    out0_C_5 (F := Ideal) c i arg2 harg2 arg3 harg3 arg4 harg4 arg5 harg5 arg6 harg6 arg7 harg7 arg8 harg8 hc0 hc1 x0 x1 x2 x3 x4 xs (ix2 r k)
      = x2 (ix2 r k) + (if n.val % 22 * 384 + r.val < 256 then x3 (ix2 2 k) else x3 (ix2 ⟨n.val / 22, by omega⟩ k))
        * (k0_pay2 xs x0 x1 (ix2 r k) * rootMean (fun k => k0_pay2 xs x0 x1 (ix2 r k)) * x4 (ix2 0 k)) := by
  unfold out0_C_5
  rw [View.read_writes_junk_eq_canon]
  unfold kernelRun0_C
  dsimp only
  sl_unfold_words
  rw [View.canon_unit_zero (S := S384x4096) Proj.whole]
  simp only [View.readAt_eq_ld, harg2.read_unread, harg3.read_unread, harg8.read_unread, harg4.read_unread, harg5.read_unread, harg6.read_unread,
    View.readCov_unit_zero (S := S384x4096) _ Proj.whole,
    View.ld_unit_zero (S := S384x512) Proj.whole, View.ld_unit_zero (S := S1x4096) Proj.whole,
    View.ld_unit_zero (S := S512x4096) Proj.whole, View.ld_unit_zero (S := S384x4096) Proj.whole]
  rw [gated_apply _ _ _ _ _ _ _ (n.val % 22) (by omega) (by rw [hn]; exact within n) r k, norm_apply]
  rw [ld_row x3 _ _ 2 (by decide) rfl rfl k]
  exact congrArg (fun z => x2 (ix2 r k) + (if n.val % 22 * 384 + r.val < 256 then x3 (ix2 2 k) else z)
    * (k0_pay2 xs x0 x1 (ix2 r k) * rootMean (fun k => k0_pay2 xs x0 x1 (ix2 r k)) * x4 (ix2 0 k)))
    (ld_row x3 (k0_off1 i) (k0_off1_inb i hc1) (n.val / 22) (by omega) (by unfold k0_off1; dsimp only; rw [hn]; exact batch n) rfl k)

end runs

end Cert.OutNorm

end
-- ==== Proof.OutNorm.Value.lean ====
/- The output projection with its norm, gates and residual: the accumulated product, each row tile's flushed point, then the whole array. -/
module

public import proofs.«01_k».proof.Proof.OutNorm.Step
public import proofs.«01_k».proof.Proof.Gen.ReferenceOIdeal.Run

@[expose] public section

set_option maxRecDepth 16384

noncomputable section

namespace Cert.OutNorm

open Cert.KernelOIdeal Cert.KernelOIdeal.Gen Idealize.ShloMosaic Idealize.SL.Sem

variable (m : (ℓ : Loc nD τ sig) → Buf (Elt Ideal) ℓ) (c : Dev nD) (t : Fin grid0.N)

/-- A grid point is a tile of 384 rows and a step of 512 along the contraction, in this order. -/
theorem idx : ∀ t : Fin grid0.N, win0_0.index t = ![t.val / 8, t.val % 8] ∧ win0_1.index t = ![t.val % 8, 0] ∧ win0_2.index t = ![t.val / 8, 0]
    ∧ win0_3.index t = ![0, 0] ∧ win0_4.index t = ![0, 0] ∧ win0_5.index t = ![t.val / 8, 0] := by decide +kernel

theorem coord : ∀ t : Fin grid0.N, (grid0.coords t 0).val = t.val / 8 := by decide +kernel

/-- Only the last step of a row tile is flushed. -/
theorem flushed : ∀ t : Fin grid0.N, (cfg0.win 5).flush t = true → t.val % 8 = 7 := by decide +kernel

theorem point_lt : t.val < 352 := lt_of_lt_of_eq t.isLt Gen.N_0

section blocks

variable (r : Fin 384) (k : Fin 4096)

theorem rows (d : Fin 512) : iblk m c 0 t (ix2 r d)
    = m ((c.tc : Thread nD τ).loc main_arg0) (ix2 ⟨t.val / 8 * 384 + r.val, by have := point_lt t; omega⟩ ⟨t.val % 8 * 512 + d.val, by omega⟩) := by
  have ht := point_lt t
  blk_point [iblk, V, idx t]

theorem weights (d : Fin 512) : iblk m c 1 t (ix2 d k)
    = m ((c.tc : Thread nD τ).loc main_arg1) (ix2 ⟨t.val % 8 * 512 + d.val, by omega⟩ k) := by
  have ht := point_lt t
  blk_point [iblk, V, idx t]

theorem residual : iblk m c 2 t (ix2 r k)
    = m ((c.tc : Thread nD τ).loc main_arg2) (ix3 ⟨(t.val / 8 * 384 + r.val) / 8448, by have := point_lt t; omega⟩
      ⟨(t.val / 8 * 384 + r.val) % 8448, by omega⟩ k) := by
  have ht := point_lt t
  blk_point [iblk, V, idx t]

/-- The table of gates: a row per batch row, then the context's. -/
def gateTable (a3 : FVec Ideal S2x4096 .f32) (a4 : FVec Ideal S4096 .f32) : FVec Ideal S3x4096 .f32 :=
  concatenate S3x4096 0 [⟨S2x4096, a3⟩, ⟨S1x4096, broadcastInDim S1x4096 ![1] Facts₀.bcast_S4096_S1x4096_1 a4⟩] Facts₀.concatenates_S2x4096_S1x4096_S3x4096_d0

theorem gateTable_apply (a3 : FVec Ideal S2x4096 .f32) (a4 : FVec Ideal S4096 .f32) (b : Fin 3) :
    gateTable a3 a4 (ix2 b k) = if h : b.val < 2 then a3 (ix2 ⟨b.val, h⟩ k) else a4 (ix1 k) := by
  pointwise [gateTable]

theorem gates (a3 : FVec Ideal S2x4096 .f32) (a4 : FVec Ideal S4096 .f32) (h3 : m ((c.tc : Thread nD τ).loc main_arg3) = a3)
    (h4 : m ((c.tc : Thread nD τ).loc main_arg4) = a4) (b : Fin 3) :
    iblk m c 3 t (ix2 b k) = if h : b.val < 2 then a3 (ix2 ⟨b.val, h⟩ k) else a4 (ix1 k) := by
  have ht := point_lt t
  have e : V m c main_v3 = gateTable a3 a4 := by
    subst h3 h4
    simp only [V, hostOps0, List.flatten_cons, List.flatten_nil, List.append_nil, List.cons_append, List.nil_append]
    after_results
    rfl
  refine Eq.trans ?_ (gateTable_apply k a3 a4 b)
  rw [← e]
  show V m c main_v3 _ = _
  refine congrArg (V m c main_v3) ?_
  blk_ext [idx t]

theorem scale : iblk m c 4 t (ix2 0 k) = m ((c.tc : Thread nD τ).loc main_arg5) (ix1 k) := by
  have ht := point_lt t
  blk_point [iblk, V, idx t]

end blocks

section accumulation

/-- A product of the contraction, and nothing past its end. -/
def term (a0 : FVec Ideal S16896x4096 .bf16) (a1 : FVec Ideal S4096x4096 .f32) (R : Fin 16896) (k : Fin 4096) (e : ℕ) : EReal :=
  if h : e < 4096 then a0 (ix2 R ⟨e, h⟩) * a1 (ix2 ⟨e, h⟩ k) else 0

theorem step_sum (a0 : FVec Ideal S16896x4096 .bf16) (a1 : FVec Ideal S4096x4096 .f32) (h0 : m ((c.tc : Thread nD τ).loc main_arg0) = a0)
    (h1 : m ((c.tc : Thread nD τ).loc main_arg1) = a1) (r : Fin 384) (k : Fin 4096) (xs : Vec Ideal S384x4096 .f32)
    (hxs : xs (ix2 r k) = ∑ e ∈ Finset.range (512 * (t.val % 8)), term a0 a1 ⟨t.val / 8 * 384 + r.val, by have := point_lt t; omega⟩ k e) :
    k0_pay2 xs (iblk m c 0 t) (iblk m c 1 t) (ix2 r k)
      = ∑ e ∈ Finset.range (512 * (t.val % 8) + 512), term a0 a1 ⟨t.val / 8 * 384 + r.val, by have := point_lt t; omega⟩ k e := by
  rw [add_apply, hxs, Finset.sum_range_add]
  refine congrArg _ ?_
  rw [Finset.sum_range]
  refine Finset.sum_congr rfl fun d _ => ?_
  rw [rows, weights, h0, h1, term, dif_pos (show 512 * (t.val % 8) + d.val < 4096 by omega)]
  have e : (⟨t.val % 8 * 512 + d.val, by omega⟩ : Fin 4096) = ⟨512 * (t.val % 8) + d.val, by omega⟩ := Fin.ext (by dsimp only; omega)
  rw [e]

/-- The accumulator after a point holds the contraction up to the point's step. -/
theorem accumulated (a0 : FVec Ideal S16896x4096 .bf16) (a1 : FVec Ideal S4096x4096 .f32) (h0 : m ((c.tc : Thread nD τ).loc main_arg0) = a0)
    (h1 : m ((c.tc : Thread nD τ).loc main_arg1) = a1) (r : Fin 384) (k : Fin 4096) : ∀ (n : ℕ) (hn : n < grid0.N),
    (outsAt0 m c n hn).2 (ix2 r k) = ∑ e ∈ Finset.range (512 * (n % 8) + 512), term a0 a1 ⟨n / 8 * 384 + r.val, by
      have := point_lt ⟨n, hn⟩; dsimp only at this; omega⟩ k e := by
  intro n
  induction n using Nat.strong_induction_on with
  | _ n ih =>
    intro hn
    by_cases c0 : n % 8 = 0
    · have c1 : ¬n % 8 = 7 := by omega
      rw [outsAt0_A m c ⟨n, hn⟩ c0 c1]
      dsimp only
      rw [first]
      refine step_sum m c ⟨n, hn⟩ a0 a1 h0 h1 r k _ ?_
      rw [zero_apply]
      dsimp only
      rw [c0]
      rfl
    · have hp : n - 1 < grid0.N := by omega
      have hxs : (outsAt0 m c (n - 1) hp).2 (ix2 r k)
          = ∑ e ∈ Finset.range (512 * (n % 8)), term a0 a1 ⟨n / 8 * 384 + r.val, by
            have := point_lt ⟨n, hn⟩; dsimp only at this; omega⟩ k e := by
        rw [ih (n - 1) (by omega) hp]
        have e1 : 512 * ((n - 1) % 8) + 512 = 512 * (n % 8) := by omega
        have e2 : (n - 1) / 8 = n / 8 := by omega
        simp only [e1, e2]
      by_cases c1 : n % 8 = 7
      · rw [outsAt0_C m c ⟨n, hn⟩ c0 c1]
        dsimp only
        rw [last]
        exact step_sum m c ⟨n, hn⟩ a0 a1 h0 h1 r k _ hxs
      · rw [outsAt0_B m c ⟨n, hn⟩ c0 c1]
        dsimp only
        rw [middle]
        exact step_sum m c ⟨n, hn⟩ a0 a1 h0 h1 r k _ hxs

/-- A row of the whole product. -/
def dot (a0 : FVec Ideal S16896x4096 .bf16) (a1 : FVec Ideal S4096x4096 .f32) (R : Fin 16896) (k : Fin 4096) : EReal :=
  ∑ d : Fin 4096, a0 (ix2 R d) * a1 (ix2 d k)

theorem sum_term (a0 : FVec Ideal S16896x4096 .bf16) (a1 : FVec Ideal S4096x4096 .f32) (R : Fin 16896) (k : Fin 4096) :
    ∑ e ∈ Finset.range 4096, term a0 a1 R k e = dot a0 a1 R k := by
  rw [Finset.sum_range]
  exact Finset.sum_congr rfl fun d _ => by rw [term, dif_pos d.isLt]

/-- An entry of the output, over the whole arrays. -/
def entry (a0 : FVec Ideal S16896x4096 .bf16) (a1 : FVec Ideal S4096x4096 .f32) (a2 : FVec Ideal S2x8448x4096 .f32) (a3 : FVec Ideal S2x4096 .f32)
    (a4 a5 : FVec Ideal S4096 .f32) (R : Fin 16896) (k : Fin 4096) : EReal :=
  a2 (ix3 ⟨R.val / 8448, by omega⟩ ⟨R.val % 8448, by omega⟩ k)
    + (if R.val % 8448 < 256 then a4 (ix1 k) else a3 (ix2 ⟨R.val / 8448, by omega⟩ k))
      * (dot a0 a1 R k * rootMean (dot a0 a1 R) * a5 (ix1 k))

theorem output (a0 : FVec Ideal S16896x4096 .bf16) (a1 : FVec Ideal S4096x4096 .f32) (a2 : FVec Ideal S2x8448x4096 .f32)
    (a3 : FVec Ideal S2x4096 .f32) (a4 a5 : FVec Ideal S4096 .f32)
    (h0 : m ((c.tc : Thread nD τ).loc main_arg0) = a0) (h1 : m ((c.tc : Thread nD τ).loc main_arg1) = a1)
    (h2 : m ((c.tc : Thread nD τ).loc main_arg2) = a2) (h3 : m ((c.tc : Thread nD τ).loc main_arg3) = a3)
    (h4 : m ((c.tc : Thread nD τ).loc main_arg4) = a4) (h5 : m ((c.tc : Thread nD τ).loc main_arg5) = a5)
    (c1 : t.val % 8 = 7) (r : Fin 384) (k : Fin 4096) : (outsAt0 m c t.val t.isLt).1 (ix2 r k)
      = entry a0 a1 a2 a3 a4 a5 ⟨t.val / 8 * 384 + r.val, by have := point_lt t; omega⟩ k := by
  have ht := point_lt t
  have c0 : ¬t.val % 8 = 0 := by omega
  have hs : ∀ k : Fin 4096, k0_pay2 (outsAt0 m c (t.val - 1) (Nat.lt_of_le_of_lt (Nat.sub_le _ _) t.isLt)).2 (iblk m c 0 t) (iblk m c 1 t) (ix2 r k)
      = dot a0 a1 ⟨t.val / 8 * 384 + r.val, by omega⟩ k := fun k => by
    have e := accumulated m c a0 a1 h0 h1 r k t.val t.isLt
    rw [outsAt0_C m c t c0 c1] at e
    dsimp only at e
    rw [last, show 512 * (t.val % 8) + 512 = 4096 by omega, sum_term] at e
    exact e
  rw [outsAt0_C m c t c0 c1]
  dsimp only
  rw [written (n := ⟨t.val / 8, by omega⟩) (hn := coord t), residual, scale, gates m c t k a3 a4 h3 h4, gates m c t k a3 a4 h3 h4]
  simp only [hs]
  rw [h2, h5, dif_neg (show ¬ (2 : Fin 3).val < 2 by decide), dif_pos (show t.val / 8 / 22 < 2 by omega), entry]
  dsimp only
  have e1 : t.val / 8 % 22 * 384 + r.val = (t.val / 8 * 384 + r.val) % 8448 := by omega
  have e2 : t.val / 8 / 22 = (t.val / 8 * 384 + r.val) / 8448 := by omega
  simp only [e1, e2]

end accumulation

/-- An array that has every row tile's flushed block at its place is the output array after the run. -/
theorem array_of (G : FVec Ideal S16896x4096 .f32) (hG : ∀ (t : Fin grid0.N) (_ : t.val % 8 = 7) (r : Fin 384) (k : Fin 4096),
    (outsAt0 m c t.val t.isLt).1 (ix2 r k) = G (ix2 ⟨t.val / 8 * 384 + r.val, by have := point_lt t; omega⟩ k)) :
    (dats m 0 c).arrAt 5 cfg0.N = G := by
  refine (dats m 0 c).arrAt_eq_of_covers 5 _ (by decide +kernel) fun t hf y => ?_
  have ht := point_lt t
  have h7 := flushed t hf
  blk_simp
  rw [after0_5]
  obtain ⟨r, k, rfl⟩ := Proj.idx_matrix y
  refine (hG t h7 r k).trans (congrArg G ?_)
  blk_ext [idx t]

end Cert.OutNorm

end
-- ==== Proof.OutNorm.Reference.lean ====
/- The reference of the output projection, stage by stage, and the claim on it. -/
module

public import proofs.«01_k».proof.Proof.OutNorm.Value

@[expose] public section

set_option maxRecDepth 16384

noncomputable section

namespace Cert.OutNorm

open Idealize.ShloMosaic Idealize.SL.Sem

section reference

open Cert.ReferenceOIdeal Cert.ReferenceOIdeal.Gen

/-- The product with the weights, its rows in batch rows. -/
def product (a0 : FVec Ideal S16896x4096 .bf16) (a1 : FVec Ideal S4096x4096 .f32) : FVec Ideal S2x8448x4096 .f32 :=
  shapeCast _ (Host.dotGeneral dot_S16896x4096_S4096x4096_S16896x4096_1_0_0_1_n_n (φ₁ := .f32) (φ₂ := .f32) none (extf .f32 a0 Cert.ReferenceOIdeal.Facts₀.bitsLt_bf16_f32) a1)
    Cert.ReferenceOIdeal.Facts₀.shapeCasts_S16896x4096_S2x8448x4096

theorem product_apply (a0 : FVec Ideal S16896x4096 .bf16) (a1 : FVec Ideal S4096x4096 .f32) (b : Fin 2) (n : Fin 8448) (k : Fin 4096) :
    product a0 a1 (ix3 b n k) = dot a0 a1 ⟨b.val * 8448 + n.val, by omega⟩ k := by
  pointwise [product, dot]

/-- The product over its root mean square, scaled. -/
def normed (p : FVec Ideal S2x8448x4096 .f32) (a5 : FVec Ideal S4096 .f32) : FVec Ideal S2x8448x4096 .f32 :=
  mulf (mulf p (broadcastInDim S2x8448x4096 ![0, 1, 2] Cert.ReferenceOIdeal.Facts₀.bcast_S2x8448x1_S2x8448x4096_0_1_2 (Host.rsqrt (addf (Host.divf (broadcastInDim S2x8448x1 ![0, 1] Cert.ReferenceOIdeal.Facts₀.bcast_S2x8448_S2x8448x1_0_1 (Host.reduceAdd (mulf p p) (constant S_ .f32 0x00000000#32) Cert.ReferenceOIdeal.Facts₀.reducesTo_S2x8448x4096_S2x8448_d2 Cert.ReferenceOIdeal.Facts₀.h_S_)) (broadcastInDim S2x8448x1 ![] Cert.ReferenceOIdeal.Facts₀.bcast_S_S2x8448x1 (constant S_ .f32 0x45800000#32))) (broadcastInDim S2x8448x1 ![] Cert.ReferenceOIdeal.Facts₀.bcast_S_S2x8448x1 (constant S_ .f32 0x358637BD#32))))))
    (broadcastInDim S2x8448x4096 ![0, 1, 2] Cert.ReferenceOIdeal.Facts₀.bcast_S1x1x4096_S2x8448x4096_0_1_2 (broadcastInDim S1x1x4096 ![2] Cert.ReferenceOIdeal.Facts₀.bcast_S4096_S1x1x4096_2 a5))

theorem normed_apply (p : FVec Ideal S2x8448x4096 .f32) (a5 : FVec Ideal S4096 .f32) (b : Fin 2) (n : Fin 8448) (k : Fin 4096) :
    normed p a5 (ix3 b n k) = p (ix3 b n k) * rootMean (fun k => p (ix3 b n k)) * a5 (ix1 k) := by
  pointwise [normed, rootMean]

/-- The residual and the gated rows, the context's then the latents'. -/
def joined (a2 : FVec Ideal S2x8448x4096 .f32) (a3 : FVec Ideal S2x4096 .f32) (a4 : FVec Ideal S4096 .f32) (y : FVec Ideal S2x8448x4096 .f32) :
    FVec Ideal S2x8448x4096 .f32 :=
  concatenate S2x8448x4096 1 [⟨S2x256x4096, (addf (extractStridedSlice S2x256x4096 ![0, 0, 0] a2 Cert.ReferenceOIdeal.Facts₀.slices_S2x8448x4096_S2x256x4096_0_0_0) (mulf (broadcastInDim S2x256x4096 ![0, 1, 2] Cert.ReferenceOIdeal.Facts₀.bcast_S1x1x4096_S2x256x4096_0_1_2 (broadcastInDim S1x1x4096 ![2] Cert.ReferenceOIdeal.Facts₀.bcast_S4096_S1x1x4096_2 a4)) (extractStridedSlice S2x256x4096 ![0, 0, 0] y Cert.ReferenceOIdeal.Facts₀.slices_S2x8448x4096_S2x256x4096_0_0_0)))⟩,
    ⟨S2x8192x4096, (addf (extractStridedSlice S2x8192x4096 ![0, 256, 0] a2 Cert.ReferenceOIdeal.Facts₀.slices_S2x8448x4096_S2x8192x4096_0_256_0) (mulf (broadcastInDim S2x8192x4096 ![0, 1, 2] Cert.ReferenceOIdeal.Facts₀.bcast_S2x1x4096_S2x8192x4096_0_1_2 (broadcastInDim S2x1x4096 ![0, 2] Cert.ReferenceOIdeal.Facts₀.bcast_S2x4096_S2x1x4096_0_2 a3)) (extractStridedSlice S2x8192x4096 ![0, 256, 0] y Cert.ReferenceOIdeal.Facts₀.slices_S2x8448x4096_S2x8192x4096_0_256_0)))⟩]
    Cert.ReferenceOIdeal.Facts₀.concatenates_S2x256x4096_S2x8192x4096_S2x8448x4096_d1

theorem joined_apply (a2 : FVec Ideal S2x8448x4096 .f32) (a3 : FVec Ideal S2x4096 .f32) (a4 : FVec Ideal S4096 .f32) (y : FVec Ideal S2x8448x4096 .f32)
    (b : Fin 2) (n : Fin 8448) (k : Fin 4096) :
    joined a2 a3 a4 y (ix3 b n k) = a2 (ix3 b n k) + (if n.val < 256 then a4 (ix1 k) else a3 (ix2 b k)) * y (ix3 b n k) := by
  have e : joined a2 a3 a4 y (ix3 b n k) = if h : n.val < 256 then a2 (ix3 b n k) + a4 (ix1 k) * y (ix3 b n k)
      else a2 (ix3 b n k) + a3 (ix2 b k) * y (ix3 b n k) := by
    pointwise [joined]
    split
    · rfl
    · rename_i h
      have en : (⟨256 + (n.val - 256), by omega⟩ : Fin 8448) = n := Fin.ext (by dsimp only; omega)
      rw [en]
  rw [e]
  split <;> rfl

/-- The reference's result. -/
def result (a0 : FVec Ideal S16896x4096 .bf16) (a1 : FVec Ideal S4096x4096 .f32) (a2 : FVec Ideal S2x8448x4096 .f32) (a3 : FVec Ideal S2x4096 .f32)
    (a4 a5 : FVec Ideal S4096 .f32) : FVec Ideal S16896x4096 .f32 :=
  shapeCast _ (joined a2 a3 a4 (normed (product a0 a1) a5)) Cert.ReferenceOIdeal.Facts₀.shapeCasts_S2x8448x4096_S16896x4096

theorem unrolled (x : FVec Ideal S2x8448x4096 .f32) (R : Fin 16896) (k : Fin 4096) :
    shapeCast S16896x4096 x Cert.ReferenceOIdeal.Facts₀.shapeCasts_S2x8448x4096_S16896x4096 (ix2 R k)
      = x (ix3 ⟨R.val / 8448, by omega⟩ ⟨R.val % 8448, by omega⟩ k) := by
  pointwise

theorem result_apply (a0 : FVec Ideal S16896x4096 .bf16) (a1 : FVec Ideal S4096x4096 .f32) (a2 : FVec Ideal S2x8448x4096 .f32)
    (a3 : FVec Ideal S2x4096 .f32) (a4 a5 : FVec Ideal S4096 .f32) (R : Fin 16896) (k : Fin 4096) :
    result a0 a1 a2 a3 a4 a5 (ix2 R k) = entry a0 a1 a2 a3 a4 a5 R k := by
  have e : (⟨R.val / 8448 * 8448 + R.val % 8448, by omega⟩ : Fin 16896) = R := Fin.ext (by dsimp only; omega)
  rw [result, unrolled, joined_apply, normed_apply]
  simp only [product_apply, e]
  rfl

end reference

section claim

open Cert.KernelOIdeal Cert.KernelOIdeal.Gen

variable (m : (ℓ : Loc nD τ sig) → Buf (Elt Ideal) ℓ) (c : Dev nD)

theorem array_eq (a0 : FVec Ideal S16896x4096 .bf16) (a1 : FVec Ideal S4096x4096 .f32) (a2 : FVec Ideal S2x8448x4096 .f32)
    (a3 : FVec Ideal S2x4096 .f32) (a4 a5 : FVec Ideal S4096 .f32)
    (h0 : m ((c.tc : Thread nD τ).loc main_arg0) = a0) (h1 : m ((c.tc : Thread nD τ).loc main_arg1) = a1)
    (h2 : m ((c.tc : Thread nD τ).loc main_arg2) = a2) (h3 : m ((c.tc : Thread nD τ).loc main_arg3) = a3)
    (h4 : m ((c.tc : Thread nD τ).loc main_arg4) = a4) (h5 : m ((c.tc : Thread nD τ).loc main_arg5) = a5) :
    (dats m 0 c).arrAt 5 cfg0.N = result a0 a1 a2 a3 a4 a5 :=
  array_of m c _ fun t h7 r k => (output m c t a0 a1 a2 a3 a4 a5 h0 h1 h2 h3 h4 h5 h7 r k).trans (result_apply ..).symm

theorem result_congr {a0 b0 : FVec Ideal S16896x4096 .bf16} {a1 b1 : FVec Ideal S4096x4096 .f32} {a2 b2 : FVec Ideal S2x8448x4096 .f32}
    {a3 b3 : FVec Ideal S2x4096 .f32} {a4 b4 a5 b5 : FVec Ideal S4096 .f32} (h0 : a0 = b0) (h1 : a1 = b1) (h2 : a2 = b2) (h3 : a3 = b3)
    (h4 : a4 = b4) (h5 : a5 = b5) : result a0 a1 a2 a3 a4 a5 = result b0 b1 b2 b3 b4 b5 := by
  rw [h0, h1, h2, h3, h4, h5]

theorem frame_reference : Cert.quiescent_ReferenceOIdeal := fun m g _ =>
  (θ_run _ _ _).mono (fun r h => ⟨fun c => (h c).2, sem_eq_zero_of_no_sems (by decide) _⟩) (Cert.ReferenceOIdeal.Value.run m g)

theorem algebraic : Cert.algebraic_KernelOIdeal_ReferenceOIdeal := by
  intro m g m' g' hpre hagree
  refine ⟨fun c => (Cert.KernelOIdeal.Gen.dats m 0 c).arrAt 5 Cert.KernelOIdeal.cfg0.N, Cert.KernelOIdeal.Value.run_blocks m g, ?_⟩
  refine (θ_run _ _ _).mono (fun r h c => ⟨(h c).1.trans ?_, (h c).2⟩) (Cert.ReferenceOIdeal.Value.run m' g')
  obtain ⟨e0, e1, e2, e3, e4, e5⟩ := hagree c
  exact (result_congr e0 e1 e2 e3 e4 e5).trans (array_eq m c _ _ _ _ _ _ rfl rfl rfl rfl rfl rfl).symm

end claim

end Cert.OutNorm

end
-- ==== Proof.Modulation.Value.lean ====
/- The modulation's product: each point's tile, then the whole array. -/
module

public import proofs.«01_k».proof.Proof.Proj.Basic
public import proofs.«01_k».proof.Proof.Gen.KernelDIdeal.Value
public import proofs.«01_k».proof.Proof.Gen.ReferenceDIdeal.Run

@[expose] public section

set_option maxRecDepth 16384

noncomputable section

namespace Cert.Modulation

open Idealize.ShloMosaic Idealize.SL.Sem

section reference

open Cert.ReferenceDIdeal Cert.ReferenceDIdeal.Gen

/-- The activation of a condition's entry. -/
def silu (s : EReal) : EReal := s * Ideal.div (Ideal.ofBits .f32 0x3F800000#32) (Ideal.ofBits .f32 0x3F800000#32 + Ideal.exp (-s))

/-- A row of the conditions: a latent's, the context's, or zero. -/
def row (a0 : FVec Ideal S2x4096 .f32) (a1 : FVec Ideal S4096 .f32) (r : Fin 8) (d : Fin 4096) : EReal :=
  if h : r.val < 3 then silu (if h : r.val < 2 then a0 (ix2 ⟨r.val, h⟩ d) else a1 (ix1 d)) else 0

/-- The layer's weights. -/
def layer (a2 : FVec Ideal S4x4096x12288 .f32) : FVec Ideal S4096x12288 .f32 :=
  shapeCast _ (extractStridedSlice S1x4096x12288 ![0, 0, 0] a2 Cert.ReferenceDIdeal.Facts₀.slices_S4x4096x12288_S1x4096x12288_0_0_0) Cert.ReferenceDIdeal.Facts₀.shapeCasts_S1x4096x12288_S4096x12288

theorem layer_apply (a2 : FVec Ideal S4x4096x12288 .f32) (d : Fin 4096) (k : Fin 12288) : layer a2 (ix2 d k) = a2 (ix3 0 d k) := by
  pointwise [layer]

def latents (a0 : FVec Ideal S2x4096 .f32) (w : FVec Ideal S4096x12288 .f32) : FVec Ideal S2x12288 .f32 :=
  Host.dotGeneral dot_S2x4096_S4096x12288_S2x12288_1_0_0_1_n_n none (mulf a0 (Host.divf (broadcastInDim S2x4096 ![] Cert.ReferenceDIdeal.Facts₀.bcast_S_S2x4096 (constant S_ .f32 0x3F800000#32)) (addf (broadcastInDim S2x4096 ![] Cert.ReferenceDIdeal.Facts₀.bcast_S_S2x4096 (constant S_ .f32 0x3F800000#32)) (Host.exp (Host.negf a0))))) w

theorem latents_apply (a0 : FVec Ideal S2x4096 .f32) (w : FVec Ideal S4096x12288 .f32) (r : Fin 2) (k : Fin 12288) :
    latents a0 w (ix2 r k) = ∑ d : Fin 4096, silu (a0 (ix2 r d)) * w (ix2 d k) := by
  pointwise [latents, silu]

def context (a1 : FVec Ideal S4096 .f32) (w : FVec Ideal S4096x12288 .f32) : FVec Ideal S1x12288 .f32 :=
  Host.dotGeneral dot_S1x4096_S4096x12288_S1x12288_1_0_0_1_n_n none (broadcastInDim S1x4096 ![1] Cert.ReferenceDIdeal.Facts₀.bcast_S4096_S1x4096_1 (mulf a1 (Host.divf (broadcastInDim S4096 ![] Cert.ReferenceDIdeal.Facts₀.bcast_S_S4096 (constant S_ .f32 0x3F800000#32)) (addf (broadcastInDim S4096 ![] Cert.ReferenceDIdeal.Facts₀.bcast_S_S4096 (constant S_ .f32 0x3F800000#32)) (Host.exp (Host.negf a1)))))) w

theorem context_apply (a1 : FVec Ideal S4096 .f32) (w : FVec Ideal S4096x12288 .f32) (r : Fin 1) (k : Fin 12288) :
    context a1 w (ix2 r k) = ∑ d : Fin 4096, silu (a1 (ix1 d)) * w (ix2 d k) := by
  pointwise [context, silu]

/-- The reference's result. -/
def result (a0 : FVec Ideal S2x4096 .f32) (a1 : FVec Ideal S4096 .f32) (a2 : FVec Ideal S4x4096x12288 .f32) : FVec Ideal S8x12288 .f32 :=
  concatenate S8x12288 0 [⟨S2x12288, latents a0 (layer a2)⟩, ⟨S1x12288, context a1 (layer a2)⟩, ⟨S5x12288, broadcastInDim S5x12288 ![] Cert.ReferenceDIdeal.Facts₀.bcast_S_S5x12288 (constant S_ .f32 0x00000000#32)⟩] Cert.ReferenceDIdeal.Facts₀.concatenates_S2x12288_S1x12288_S5x12288_S8x12288_d0

theorem result_apply (a0 : FVec Ideal S2x4096 .f32) (a1 : FVec Ideal S4096 .f32) (a2 : FVec Ideal S4x4096x12288 .f32) (r : Fin 8) (k : Fin 12288) :
    result a0 a1 a2 (ix2 r k) = ∑ d : Fin 4096, row a0 a1 r d * a2 (ix3 0 d k) := by
  have e : result a0 a1 a2 (ix2 r k) = if h : r.val < 2 then latents a0 (layer a2) (ix2 ⟨r.val, h⟩ k)
      else if h' : r.val - 2 < 1 then context a1 (layer a2) (ix2 ⟨r.val - 2, h'⟩ k) else 0 := by
    pointwise [result]
  rw [e]
  unfold row
  by_cases h2 : r.val < 2
  · have h3 : r.val < 3 := by omega
    simp only [h2, h3, dif_pos, latents_apply, layer_apply]
  · by_cases h3 : r.val < 3
    · have h1 : r.val - 2 < 1 := by omega
      simp only [h2, h3, h1, dif_pos, dif_neg, not_false_eq_true, context_apply, layer_apply]
    · have h1 : ¬r.val - 2 < 1 := by omega
      simp [h2, h3, h1]

end reference

section kernel

open Cert.KernelDIdeal Cert.KernelDIdeal.Gen

variable (m : (ℓ : Loc nD τ sig) → Buf (Elt Ideal) ℓ) (c : Dev nD) (t : Fin grid0.N)

/-- A grid point is a tile of 1024 columns. -/
theorem idx : ∀ t : Fin grid0.N, win0_0.index t = ![0, 0] ∧ win0_1.index t = ![0, 0, t.val] ∧ win0_2.index t = ![0, t.val] := by decide +kernel

theorem point_lt : t.val < 12 := lt_of_lt_of_eq t.isLt Gen.N_0

theorem tile_apply (x0 : Vec Ideal S8x4096 .f32) (x1 : Vec Ideal S1x4096x1024 .f32) (r : Fin 8) (k : Fin 1024) :
    out0_2 x0 x1 (ix2 r k) = ∑ d : Fin 4096, x0 (ix2 r d) * x1 (ix3 0 d k) := by
  rw [out0_2, View.canon_unit_zero (S := S8x1024) Proj.whole]
  simp only [View.ld_unit_zero (S := S8x4096) Proj.whole]
  rw [View.ld_unit_zero (S := S1x4096x1024) (by decide)]
  pointwise [k0_pay1]

/-- The conditions, one below the other. -/
def stacked (a0 : FVec Ideal S2x4096 .f32) (a1 : FVec Ideal S4096 .f32) : FVec Ideal S3x4096 .f32 :=
  concatenate S3x4096 0 [⟨S2x4096, a0⟩, ⟨S1x4096, broadcastInDim S1x4096 ![1] Facts₀.bcast_S4096_S1x4096_1 a1⟩] Facts₀.concatenates_S2x4096_S1x4096_S3x4096_d0

theorem stacked_apply (a0 : FVec Ideal S2x4096 .f32) (a1 : FVec Ideal S4096 .f32) (r : Fin 3) (d : Fin 4096) :
    stacked a0 a1 (ix2 r d) = if h : r.val < 2 then a0 (ix2 ⟨r.val, h⟩ d) else a1 (ix1 d) := by
  pointwise [stacked]

def active (x : FVec Ideal S3x4096 .f32) : FVec Ideal S3x4096 .f32 :=
  mulf x (Host.divf (broadcastInDim S3x4096 ![] Facts₀.bcast_S_S3x4096 (constant (F := Ideal) S_ .f32 0x3F800000#32))
    (addf (broadcastInDim S3x4096 ![] Facts₀.bcast_S_S3x4096 (constant (F := Ideal) S_ .f32 0x3F800000#32)) (Host.exp (Host.negf x))))

theorem active_apply (x : FVec Ideal S3x4096 .f32) (r : Fin 3) (d : Fin 4096) : active x (ix2 r d) = silu (x (ix2 r d)) := by
  pointwise [active, silu]

def padded (x : FVec Ideal S3x4096 .f32) : FVec Ideal S8x4096 .f32 :=
  pad S8x4096 ![0, 0] ![5, 0] ![0, 0] x (sitofp (F := Ideal) .f32 (constantI S_ 32 0#32)) Facts₀.pads_S3x4096_S8x4096_050_000 Facts₀.h_S_

theorem padded_apply (x : FVec Ideal S3x4096 .f32) (r : Fin 8) (d : Fin 4096) :
    padded x (ix2 r d) = if h : r.val < 3 then x (ix2 ⟨r.val, h⟩ d) else 0 := by
  have z : (FloatOps.sitofp FTy.f32 0#32 : Ideal .f32) = (0 : EReal) := by simp [FloatOps.sitofp]
  pointwise [padded]
  rw [z]

theorem conditions (a0 : FVec Ideal S2x4096 .f32) (a1 : FVec Ideal S4096 .f32) (h0 : m ((c.tc : Thread nD τ).loc main_arg0) = a0)
    (h1 : m ((c.tc : Thread nD τ).loc main_arg1) = a1) (r : Fin 8) (d : Fin 4096) : V m c main_v3 (ix2 r d) = row a0 a1 r d := by
  have e : V m c main_v3 = padded (active (stacked a0 a1)) := by
    subst h0 h1
    simp only [V, hostOps0, hostOps0_1, hostOps0_2, hostOps0_3, List.flatten_cons, List.flatten_nil, List.append_nil, List.cons_append, List.nil_append]
    after_results
    rfl
  rw [e, padded_apply, row]
  split
  · rw [active_apply, stacked_apply]
  · rfl

theorem rows (r : Fin 8) (d : Fin 4096) : iblk m c 0 t (ix2 r d) = V m c main_v3 (ix2 r d) := by
  have ht := point_lt t
  show V m c main_v3 _ = _
  refine congrArg (V m c main_v3) ?_
  blk_ext [idx t]

theorem weights (d : Fin 4096) (k : Fin 1024) : iblk m c 1 t (ix3 0 d k)
    = m ((c.tc : Thread nD τ).loc main_arg2) (ix3 0 d ⟨t.val * 1024 + k.val, by have := point_lt t; omega⟩) := by
  have ht := point_lt t
  blk_point [iblk, V, idx t]

/-- An array that has every point's tile at its place is the output array after the run. -/
theorem array_of (G : FVec Ideal S8x12288 .f32) (hG : ∀ (t : Fin grid0.N) (r : Fin 8) (k : Fin 1024),
    out0_2 (iblk m c 0 t) (iblk m c 1 t) (ix2 r k) = G (ix2 r ⟨t.val * 1024 + k.val, by have := point_lt t; omega⟩)) :
    (dats m 0 c).arrAt 2 cfg0.N = G := by
  refine (dats m 0 c).arrAt_eq_of_covers 2 _ (by decide +kernel) fun t hf y => ?_
  have ht := point_lt t
  blk_simp
  rw [after0_2]
  obtain ⟨r, k, rfl⟩ := Proj.idx_matrix y
  refine (hG t r k).trans (congrArg G ?_)
  blk_ext [idx t]

theorem array_eq (a0 : FVec Ideal S2x4096 .f32) (a1 : FVec Ideal S4096 .f32) (a2 : FVec Ideal S4x4096x12288 .f32)
    (h0 : m ((c.tc : Thread nD τ).loc main_arg0) = a0) (h1 : m ((c.tc : Thread nD τ).loc main_arg1) = a1)
    (h2 : m ((c.tc : Thread nD τ).loc main_arg2) = a2) : (dats m 0 c).arrAt 2 cfg0.N = result a0 a1 a2 := by
  refine array_of m c _ fun t r k => ?_
  rw [tile_apply, result_apply]
  exact Finset.sum_congr rfl fun d _ => by rw [rows, conditions m c a0 a1 h0 h1, weights, h2]

theorem result_congr {a0 b0 : FVec Ideal S2x4096 .f32} {a1 b1 : FVec Ideal S4096 .f32} {a2 b2 : FVec Ideal S4x4096x12288 .f32}
    (h0 : a0 = b0) (h1 : a1 = b1) (h2 : a2 = b2) : result a0 a1 a2 = result b0 b1 b2 := by
  rw [h0, h1, h2]

theorem frame_reference : Cert.quiescent_ReferenceDIdeal := fun m g _ =>
  (θ_run _ _ _).mono (fun r h => ⟨fun c => (h c).2, sem_eq_zero_of_no_sems (by decide) _⟩) (Cert.ReferenceDIdeal.Value.run m g)

theorem algebraic : Cert.algebraic_KernelDIdeal_ReferenceDIdeal := by
  intro m g m' g' hpre hagree
  refine ⟨fun c => (Cert.KernelDIdeal.Gen.dats m 0 c).arrAt 2 Cert.KernelDIdeal.cfg0.N, Cert.KernelDIdeal.Value.run_blocks m g, ?_⟩
  refine (θ_run _ _ _).mono (fun r h c => ⟨(h c).1.trans ?_, (h c).2⟩) (Cert.ReferenceDIdeal.Value.run m' g')
  obtain ⟨e0, e1, e2⟩ := hagree c
  exact (result_congr e0 e1 e2).trans (array_eq m c _ _ _ rfl rfl rfl).symm

end kernel

end Cert.Modulation

end
-- ==== Proof.Prenorm.Value.lean ====
/- The pre-norm with its modulation: the reference by stages, each row tile's block, then the whole array. -/
module

public import proofs.«01_k».proof.Proof.OutNorm.Reference
public import proofs.«01_k».proof.Proof.Gen.KernelNIdeal.Value
public import proofs.«01_k».proof.Proof.Gen.ReferenceNIdeal.Run

@[expose] public section

set_option maxRecDepth 16384

noncomputable section

namespace Cert.Prenorm

open Idealize.ShloMosaic Idealize.SL.Sem

section reference

open Cert.ReferenceNIdeal Cert.ReferenceNIdeal.Gen

/-- One. -/
abbrev one : EReal := Ideal.ofBits .f32 0x3F800000#32

/-- An entry of the output, over the whole arrays. -/
def entry (a0 : FVec Ideal S2x8448x4096 .f32) (a1 : FVec Ideal S4096 .f32) (a2 : FVec Ideal S2x4096 .f32) (a3 : FVec Ideal S4096 .f32)
    (a4 : FVec Ideal S2x4096 .f32) (a5 : FVec Ideal S4096 .f32) (b : Fin 2) (n : Fin 8448) (k : Fin 4096) : EReal :=
  a0 (ix3 b n k) * OutNorm.rootMean (fun k => a0 (ix3 b n k)) * a1 (ix1 k) * (one + if n.val < 256 then a5 (ix1 k) else a4 (ix2 b k))
    + if n.val < 256 then a3 (ix1 k) else a2 (ix2 b k)

/-- The normed rows, scaled and shifted: the context's, then the latents'. -/
def joined (y : FVec Ideal S2x8448x4096 .f32) (a2 : FVec Ideal S2x4096 .f32) (a3 : FVec Ideal S4096 .f32) (a4 : FVec Ideal S2x4096 .f32)
    (a5 : FVec Ideal S4096 .f32) : FVec Ideal S2x8448x4096 .f32 :=
  concatenate S2x8448x4096 1 [⟨S2x256x4096, (addf (mulf (extractStridedSlice S2x256x4096 ![0, 0, 0] y Facts₀.slices_S2x8448x4096_S2x256x4096_0_0_0) (broadcastInDim S2x256x4096 ![0, 1, 2] Facts₀.bcast_S1x1x4096_S2x256x4096_0_1_2 (broadcastInDim S1x1x4096 ![2] Facts₀.bcast_S4096_S1x1x4096_2 (addf (broadcastInDim S4096 ![] Facts₀.bcast_S_S4096 (constant S_ .f32 0x3F800000#32)) a5)))) (broadcastInDim S2x256x4096 ![0, 1, 2] Facts₀.bcast_S1x1x4096_S2x256x4096_0_1_2 (broadcastInDim S1x1x4096 ![2] Facts₀.bcast_S4096_S1x1x4096_2 a3)))⟩,
    ⟨S2x8192x4096, (addf (mulf (extractStridedSlice S2x8192x4096 ![0, 256, 0] y Facts₀.slices_S2x8448x4096_S2x8192x4096_0_256_0) (broadcastInDim S2x8192x4096 ![0, 1, 2] Facts₀.bcast_S2x1x4096_S2x8192x4096_0_1_2 (addf (broadcastInDim S2x1x4096 ![] Facts₀.bcast_S_S2x1x4096 (constant S_ .f32 0x3F800000#32)) (broadcastInDim S2x1x4096 ![0, 2] Facts₀.bcast_S2x4096_S2x1x4096_0_2 a4)))) (broadcastInDim S2x8192x4096 ![0, 1, 2] Facts₀.bcast_S2x1x4096_S2x8192x4096_0_1_2 (broadcastInDim S2x1x4096 ![0, 2] Facts₀.bcast_S2x4096_S2x1x4096_0_2 a2)))⟩]
    Facts₀.concatenates_S2x256x4096_S2x8192x4096_S2x8448x4096_d1

theorem joined_apply (y : FVec Ideal S2x8448x4096 .f32) (a2 : FVec Ideal S2x4096 .f32) (a3 : FVec Ideal S4096 .f32) (a4 : FVec Ideal S2x4096 .f32)
    (a5 : FVec Ideal S4096 .f32) (b : Fin 2) (n : Fin 8448) (k : Fin 4096) : joined y a2 a3 a4 a5 (ix3 b n k)
      = y (ix3 b n k) * (one + if n.val < 256 then a5 (ix1 k) else a4 (ix2 b k)) + if n.val < 256 then a3 (ix1 k) else a2 (ix2 b k) := by
  have e : joined y a2 a3 a4 a5 (ix3 b n k) = if h : n.val < 256 then y (ix3 b n k) * (one + a5 (ix1 k)) + a3 (ix1 k)
      else y (ix3 b n k) * (one + a4 (ix2 b k)) + a2 (ix2 b k) := by
    pointwise [joined]
    split
    · rfl
    · rename_i h
      have en : (⟨256 + (n.val - 256), by omega⟩ : Fin 8448) = n := Fin.ext (by dsimp only; omega)
      rw [en]
  rw [e]
  split <;> rfl

/-- The reference's result. -/
def result (a0 : FVec Ideal S2x8448x4096 .f32) (a1 : FVec Ideal S4096 .f32) (a2 : FVec Ideal S2x4096 .f32) (a3 : FVec Ideal S4096 .f32)
    (a4 : FVec Ideal S2x4096 .f32) (a5 : FVec Ideal S4096 .f32) : FVec Ideal S16896x4096 .bf16 :=
  truncf .bf16 (shapeCast _ (joined (OutNorm.normed a0 a1) a2 a3 a4 a5) Facts₀.shapeCasts_S2x8448x4096_S16896x4096) Facts₀.bitsLt_bf16_f32

theorem result_apply (a0 : FVec Ideal S2x8448x4096 .f32) (a1 : FVec Ideal S4096 .f32) (a2 : FVec Ideal S2x4096 .f32) (a3 : FVec Ideal S4096 .f32)
    (a4 : FVec Ideal S2x4096 .f32) (a5 : FVec Ideal S4096 .f32) (R : Fin 16896) (k : Fin 4096) :
    result a0 a1 a2 a3 a4 a5 (ix2 R k) = entry a0 a1 a2 a3 a4 a5 ⟨R.val / 8448, by omega⟩ ⟨R.val % 8448, by omega⟩ k := by
  have e : result a0 a1 a2 a3 a4 a5 (ix2 R k)
      = joined (OutNorm.normed a0 a1) a2 a3 a4 a5 (ix3 ⟨R.val / 8448, by omega⟩ ⟨R.val % 8448, by omega⟩ k) := by
    pointwise [result]
  rw [e, joined_apply, OutNorm.normed_apply, entry]

theorem result_congr {a0 b0 : FVec Ideal S2x8448x4096 .f32} {a1 b1 : FVec Ideal S4096 .f32} {a2 b2 : FVec Ideal S2x4096 .f32} {a3 b3 : FVec Ideal S4096 .f32}
    {a4 b4 : FVec Ideal S2x4096 .f32} {a5 b5 : FVec Ideal S4096 .f32} (h0 : a0 = b0) (h1 : a1 = b1) (h2 : a2 = b2) (h3 : a3 = b3)
    (h4 : a4 = b4) (h5 : a5 = b5) : result a0 a1 a2 a3 a4 a5 = result b0 b1 b2 b3 b4 b5 := by
  rw [h0, h1, h2, h3, h4, h5]

theorem frame_reference : Cert.quiescent_ReferenceNIdeal := fun m g _ =>
  (θ_run _ _ _).mono (fun r h => ⟨fun c => (h c).2, sem_eq_zero_of_no_sems (by decide) _⟩) (Cert.ReferenceNIdeal.Value.run m g)

end reference

section kernel

open Cert.KernelNIdeal Cert.KernelNIdeal.Gen

theorem normed_apply (x : Vec Ideal S384x4096 .f32) (g : Vec Ideal S1x4096 .f32) (r : Fin 384) (k : Fin 4096) :
    k0_pay2 x g (ix2 r k) = x (ix2 r k) * OutNorm.rootMean (fun k => x (ix2 r k)) * g (ix2 0 k) := by
  pointwise [k0_pay2, OutNorm.rootMean]

theorem scales_apply (v34 v35 : BitVec 32) (v36 v37 v38 : BitVec 1) (g g' : Vec Ideal S1x4096 .f32) (n : ℕ) (hn : n < 22)
    (hs : Scalar.select (Scalar.andi (Scalar.xori v37 v38) v36) (Scalar.addi v35 v34) v35 = BitVec.ofNat 32 n) (r : Fin 384) (k : Fin 4096) :
    k0_pay3 v34 v35 v36 v37 v38 g g' (ix2 r k) = if n * 384 + r.val < 256 then g (ix2 0 k) else g' (ix2 0 k) := by
  have hc : IntOp.cmpi CmpIPredicate.slt (IntOp.addi (Scalar.muli (BitVec.ofNat 32 n) 384#32) (BitVec.ofNat 32 r.val)) 256#32
      = if n * 384 + r.val < 256 then 1#1 else 0#1 :=
    WordCmp.cmpi_slt_mul_add_ofNat n 384 r.val 256 (by omega) (by omega)
  simp only [k0_pay3, hs]
  pointwise
  rw [hc]
  by_cases h : n * 384 + r.val < 256 <;> simp [h, Scalar.select]

theorem shifted_apply (y s : FVec Ideal S384x4096 .f32) (v79 v80 z : BitVec 32) (v81 : BitVec 1) (g g' : Vec Ideal S1x4096 .f32) (n : ℕ) (hn : n < 22)
    (hs : Scalar.select (Scalar.andi (Scalar.xori (Scalar.cmpi .slt v80 z) (Scalar.cmpi .slt v79 0#32)) v81) (Scalar.addi v80 v79) v80 = BitVec.ofNat 32 n)
    (r : Fin 384) (k : Fin 4096) :
    k0_pay1 y s v79 v80 v81 z g g' (ix2 r k)
      = y (ix2 r k) * (one + s (ix2 r k)) + if n * 384 + r.val < 256 then g (ix2 0 k) else g' (ix2 0 k) := by
  have hc : IntOp.cmpi CmpIPredicate.slt (IntOp.addi (Scalar.muli (BitVec.ofNat 32 n) 384#32) (BitVec.ofNat 32 r.val)) 256#32
      = if n * 384 + r.val < 256 then 1#1 else 0#1 :=
    WordCmp.cmpi_slt_mul_add_ofNat n 384 r.val 256 (by omega) (by omega)
  simp only [k0_pay1, hs]
  pointwise
  rw [hc]
  by_cases h : n * 384 + r.val < 256 <;> simp [h, Scalar.select]

/-- The kernel's row tile within a batch row. -/
theorem within : ∀ n : Fin 44, Scalar.select (Scalar.andi (Scalar.xori (Scalar.cmpi CmpIPredicate.slt
        (Scalar.remsi (BitVec.ofNat 32 n.val) (Scalar.select (Scalar.cmpi .eq 22#32 0#32) 1#32 22#32)) 0#32)
        (Scalar.cmpi CmpIPredicate.slt (Scalar.select (Scalar.cmpi .eq 22#32 0#32) 1#32 22#32) 0#32))
      (Scalar.cmpi CmpIPredicate.ne (Scalar.remsi (BitVec.ofNat 32 n.val) (Scalar.select (Scalar.cmpi .eq 22#32 0#32) 1#32 22#32)) 0#32))
    (Scalar.addi (Scalar.remsi (BitVec.ofNat 32 n.val) (Scalar.select (Scalar.cmpi .eq 22#32 0#32) 1#32 22#32)) (Scalar.select (Scalar.cmpi .eq 22#32 0#32) 1#32 22#32))
    (Scalar.remsi (BitVec.ofNat 32 n.val) (Scalar.select (Scalar.cmpi .eq 22#32 0#32) 1#32 22#32)) = BitVec.ofNat 32 (n.val % 22) := by
  decide +kernel

theorem written (c : Dev nD) (i : grid0.Coords) (arg1 : Memref sig .tc .vmem S384x4096 .f32) (harg1 : arg1.IsWhole) (arg2 : Memref sig .tc .vmem S1x4096 .f32)
    (harg2 : arg2.IsWhole) (arg3 : Memref sig .tc .vmem S3x4096 .f32) (harg3 : arg3.IsWhole) (arg4 : Memref sig .tc .vmem S3x4096 .f32)
    (harg4 : arg4.IsWhole) (arg5 : Memref sig .tc .vmem S384x4096 .bf16) (harg5 : arg5.IsWhole) (x0 : Vec Ideal S384x4096 .f32)
    (x1 : Vec Ideal S1x4096 .f32) (x2 x3 : Vec Ideal S3x4096 .f32) (n : Fin 44) (hn : (i 0).val = n.val) (r : Fin 384) (k : Fin 4096) :
    out0_A_4 (F := Ideal) c i arg1 harg1 arg2 harg2 arg3 harg3 arg4 harg4 arg5 harg5 x0 x1 x2 x3 (ix2 r k)
      = x0 (ix2 r k) * OutNorm.rootMean (fun k => x0 (ix2 r k)) * x1 (ix2 0 k)
          * (one + if n.val % 22 * 384 + r.val < 256 then x3 (ix2 2 k) else x3 (ix2 ⟨n.val / 22, by omega⟩ k))
        + if n.val % 22 * 384 + r.val < 256 then x2 (ix2 2 k) else x2 (ix2 ⟨n.val / 22, by omega⟩ k) := by
  have row : ∀ x : Vec Ideal S3x4096 .f32, View.ld x (Rect.unit (s := S3x4096) (k0_off1 i) S1x4096.size (k0_off1_inb i)) (ix2 0 k)
      = x (ix2 ⟨n.val / 22, by omega⟩ k) := fun x =>
    OutNorm.ld_row x (k0_off1 i) (k0_off1_inb i) (n.val / 22) (by omega) (by unfold k0_off1; dsimp only; rw [hn]; exact OutNorm.batch n) rfl k
  have two : ∀ x : Vec Ideal S3x4096 .f32, View.ld x (Rect.unit (s := S3x4096) ![2, 0] S1x4096.size Facts₀.inb_S3x4096_S1x4096_2_0) (ix2 0 k)
      = x (ix2 2 k) := fun x => OutNorm.ld_row x _ _ 2 (by decide) rfl rfl k
  unfold out0_A_4
  rw [View.read_writes_junk_eq_canon]
  unfold kernelRun0_A
  dsimp only
  sl_unfold_words
  rw [View.canon_unit_zero (S := S384x4096) Proj.whole]
  simp only [View.readAt_eq_ld, harg1.read_unread, harg2.read_unread, harg3.read_unread, harg4.read_unread,
    View.ld_unit_zero (S := S1x4096) Proj.whole, View.ld_unit_zero (S := S384x4096) Proj.whole]
  rw [shifted_apply _ _ _ _ _ _ _ _ (n.val % 22) (by omega) (by rw [hn]; exact within n) r k,
    scales_apply _ _ _ _ _ _ _ (n.val % 22) (by omega) (by rw [hn]; exact within n) r k, normed_apply]
  rw [two x3, two x2]
  exact congrArg₂ (fun s h => x0 (ix2 r k) * OutNorm.rootMean (fun k => x0 (ix2 r k)) * x1 (ix2 0 k)
      * (one + if n.val % 22 * 384 + r.val < 256 then x3 (ix2 2 k) else s) + if n.val % 22 * 384 + r.val < 256 then x2 (ix2 2 k) else h)
    (row x3) (row x2)

variable (m : (ℓ : Loc nD τ sig) → Buf (Elt Ideal) ℓ) (c : Dev nD) (t : Fin grid0.N)

/-- A grid point is a tile of 384 rows. -/
theorem idx : ∀ t : Fin grid0.N, win0_0.index t = ![t.val, 0] ∧ win0_1.index t = ![0, 0] ∧ win0_2.index t = ![0, 0]
    ∧ win0_3.index t = ![0, 0] ∧ win0_4.index t = ![t.val, 0] := by decide +kernel

theorem coord : ∀ t : Fin grid0.N, (grid0.coords t 0).val = t.val := by decide +kernel

theorem point_lt : t.val < 44 := lt_of_lt_of_eq t.isLt Gen.N_0

section blocks

variable (r : Fin 384) (k : Fin 4096)

theorem rows : iblk m c 0 t (ix2 r k)
    = m ((c.tc : Thread nD τ).loc main_arg0) (ix3 ⟨(t.val * 384 + r.val) / 8448, by have := point_lt t; omega⟩
      ⟨(t.val * 384 + r.val) % 8448, by omega⟩ k) := by
  have ht := point_lt t
  blk_point [iblk, V, idx t]

theorem gain : iblk m c 1 t (ix2 0 k) = m ((c.tc : Thread nD τ).loc main_arg1) (ix1 k) := by
  have ht := point_lt t
  blk_point [iblk, V, idx t]

theorem shifts (a2 : FVec Ideal S2x4096 .f32) (a3 : FVec Ideal S4096 .f32) (h2 : m ((c.tc : Thread nD τ).loc main_arg2) = a2)
    (h3 : m ((c.tc : Thread nD τ).loc main_arg3) = a3) (b : Fin 3) :
    iblk m c 2 t (ix2 b k) = if h : b.val < 2 then a2 (ix2 ⟨b.val, h⟩ k) else a3 (ix1 k) := by
  have ht := point_lt t
  have e : V m c main_v2 = OutNorm.gateTable a2 a3 := by
    subst h2 h3
    simp only [V, hostOps0, List.flatten_cons, List.flatten_nil, List.append_nil, List.cons_append, List.nil_append]
    after_results
    rfl
  refine Eq.trans ?_ (OutNorm.gateTable_apply k a2 a3 b)
  rw [← e]
  show V m c main_v2 _ = _
  refine congrArg (V m c main_v2) ?_
  blk_ext [idx t]

theorem scales (a4 : FVec Ideal S2x4096 .f32) (a5 : FVec Ideal S4096 .f32) (h4 : m ((c.tc : Thread nD τ).loc main_arg4) = a4)
    (h5 : m ((c.tc : Thread nD τ).loc main_arg5) = a5) (b : Fin 3) :
    iblk m c 3 t (ix2 b k) = if h : b.val < 2 then a4 (ix2 ⟨b.val, h⟩ k) else a5 (ix1 k) := by
  have ht := point_lt t
  have e : V m c main_v4 = OutNorm.gateTable a4 a5 := by
    subst h4 h5
    simp only [V, hostOps0, List.flatten_cons, List.flatten_nil, List.append_nil, List.cons_append, List.nil_append]
    after_results
    rfl
  refine Eq.trans ?_ (OutNorm.gateTable_apply k a4 a5 b)
  rw [← e]
  show V m c main_v4 _ = _
  refine congrArg (V m c main_v4) ?_
  blk_ext [idx t]

end blocks

/-- An array that has every row tile's block at its place is the output array after the run. -/
theorem array_of (G : FVec Ideal S16896x4096 .bf16) (hG : ∀ (t : Fin grid0.N) (r : Fin 384) (k : Fin 4096),
    outsAt0 m c t (ix2 r k) = G (ix2 ⟨t.val * 384 + r.val, by have := point_lt t; omega⟩ k)) : (dats m 0 c).arrAt 4 cfg0.N = G := by
  refine (dats m 0 c).arrAt_eq_of_covers 4 _ (by decide +kernel) fun t hf y => ?_
  have ht := point_lt t
  blk_simp
  rw [after0_4]
  obtain ⟨r, k, rfl⟩ := Proj.idx_matrix y
  refine (hG t r k).trans (congrArg G ?_)
  blk_ext [idx t]

theorem array_eq (a0 : FVec Ideal S2x8448x4096 .f32) (a1 : FVec Ideal S4096 .f32) (a2 : FVec Ideal S2x4096 .f32) (a3 : FVec Ideal S4096 .f32)
    (a4 : FVec Ideal S2x4096 .f32) (a5 : FVec Ideal S4096 .f32)
    (h0 : m ((c.tc : Thread nD τ).loc main_arg0) = a0) (h1 : m ((c.tc : Thread nD τ).loc main_arg1) = a1)
    (h2 : m ((c.tc : Thread nD τ).loc main_arg2) = a2) (h3 : m ((c.tc : Thread nD τ).loc main_arg3) = a3)
    (h4 : m ((c.tc : Thread nD τ).loc main_arg4) = a4) (h5 : m ((c.tc : Thread nD τ).loc main_arg5) = a5) :
    (dats m 0 c).arrAt 4 cfg0.N = result a0 a1 a2 a3 a4 a5 := by
  refine array_of m c _ fun t r k => ?_
  have ht := point_lt t
  have e1 : t.val % 22 * 384 + r.val = (t.val * 384 + r.val) % 8448 := by omega
  have e2 : t.val / 22 = (t.val * 384 + r.val) / 8448 := by omega
  rw [result_apply, outsAt0, written (n := ⟨t.val, ht⟩) (hn := coord t), entry]
  simp only [rows, gain, shifts m c t _ a2 a3 h2 h3, scales m c t _ a4 a5 h4 h5, h0, h1]
  rw [dif_neg (show ¬ (2 : Fin 3).val < 2 by decide), dif_neg (show ¬ (2 : Fin 3).val < 2 by decide),
    dif_pos (show t.val / 22 < 2 by omega), dif_pos (show t.val / 22 < 2 by omega)]
  simp only [e1, e2]

theorem algebraic : Cert.algebraic_KernelNIdeal_ReferenceNIdeal := by
  intro m g m' g' hpre hagree
  refine ⟨fun c => (Cert.KernelNIdeal.Gen.dats m 0 c).arrAt 4 Cert.KernelNIdeal.cfg0.N, Cert.KernelNIdeal.Value.run_blocks m g, ?_⟩
  refine (θ_run _ _ _).mono (fun r h c => ⟨(h c).1.trans ?_, (h c).2⟩) (Cert.ReferenceNIdeal.Value.run m' g')
  obtain ⟨e0, e1, e2, e3, e4, e5⟩ := hagree c
  exact (result_congr e0 e1 e2 e3 e4 e5).trans (array_eq m c _ _ _ _ _ _ rfl rfl rfl rfl rfl rfl).symm

end kernel

end Cert.Prenorm

end
-- ==== Proof.ScanEnd.Value.lean ====
/- The finishing of the state-space branch: the reference by stages, each tile's block, then the whole array. -/
module

public import proofs.«01_k».proof.Proof.Modulation.Value
public import proofs.«01_k».proof.Proof.Gen.KernelFIdeal.Value
public import proofs.«01_k».proof.Proof.Gen.ReferenceFIdeal.Run

@[expose] public section

set_option maxRecDepth 16384

noncomputable section

namespace Cert.ScanEnd

open Idealize.ShloMosaic Idealize.SL.Sem

/-- A group's mean square, and its inverse root. -/
def groupRoot (o : Fin 256 → EReal) : EReal :=
  Ideal.rsqrt (Ideal.div (∑ j : Fin 256, o j * o j) (Ideal.ofBits .f32 0x43800000#32) + Ideal.ofBits .f32 0x358637BD#32)

/-- A row over the root mean square of the group of a column. -/
def grouped {n : ℕ} (o : Fin (n * 256) → EReal) (k : Fin (n * 256)) : EReal :=
  o k * groupRoot (fun j => o ⟨k.val / 256 * 256 + j.val, by omega⟩)

section reference

open Cert.ReferenceFIdeal Cert.ReferenceFIdeal.Gen

variable (a0 : FVec Ideal S2x2x8448x2048 .f32) (a1 : FVec Ideal S2x8448x4096 .f32) (a2 : FVec Ideal S2x8448x6144 .f32)
  (a3 : FVec Ideal S32 .f32) (a4 : FVec Ideal S2048 .f32)

/-- An entry of the scan's two directions with the skip, gated. -/
def entry (b : Fin 2) (n : Fin 8448) (k : Fin 2048) : EReal :=
  (a0 (ix4 b 0 n k) + a0 (ix4 b 1 n k) + a3 (ix1 ⟨k.val / 64, by omega⟩) * a1 (ix3 b n ⟨k.val, by omega⟩)) * Modulation.silu (a2 (ix3 b n ⟨k.val, by omega⟩))

def gated : FVec Ideal S2x8448x2048 .f32 :=
  (mulf (shapeCast _ (addf (shapeCast _ (addf (shapeCast _ (extractStridedSlice S2x1x8448x2048 ![0, 0, 0, 0] a0 Facts₀.slices_S2x2x8448x2048_S2x1x8448x2048_0_0_0_0) Facts₀.shapeCasts_S2x1x8448x2048_S2x8448x2048) (shapeCast _ (extractStridedSlice S2x1x8448x2048 ![0, 1, 0, 0] a0 Facts₀.slices_S2x2x8448x2048_S2x1x8448x2048_0_1_0_0) Facts₀.shapeCasts_S2x1x8448x2048_S2x8448x2048)) Facts₀.shapeCasts_S2x8448x2048_S2x8448x32x64) (mulf (broadcastInDim S2x8448x32x64 ![0, 1, 2, 3] Facts₀.bcast_S1x1x32x1_S2x8448x32x64_0_1_2_3 (broadcastInDim S1x1x32x1 ![2, 3] Facts₀.bcast_S32x1_S1x1x32x1_2_3 (broadcastInDim S32x1 ![0] Facts₀.bcast_S32_S32x1_0 a3))) (shapeCast _ (extractStridedSlice S2x8448x2048 ![0, 0, 0] a1 Facts₀.slices_S2x8448x4096_S2x8448x2048_0_0_0) Facts₀.shapeCasts_S2x8448x2048_S2x8448x32x64))) Facts₀.shapeCasts_S2x8448x32x64_S2x8448x2048) (mulf (extractStridedSlice S2x8448x2048 ![0, 0, 0] a2 Facts₀.slices_S2x8448x6144_S2x8448x2048_0_0_0) (Host.divf (broadcastInDim S2x8448x2048 ![] Facts₀.bcast_S_S2x8448x2048 (constant S_ .f32 0x3F800000#32)) (addf (broadcastInDim S2x8448x2048 ![] Facts₀.bcast_S_S2x8448x2048 (constant S_ .f32 0x3F800000#32)) (Host.exp (Host.negf (extractStridedSlice S2x8448x2048 ![0, 0, 0] a2 Facts₀.slices_S2x8448x6144_S2x8448x2048_0_0_0)))))))

theorem gated_apply (b : Fin 2) (n : Fin 8448) (k : Fin 2048) : gated a0 a1 a2 a3 (ix3 b n k) = entry a0 a1 a2 a3 b n k := by
  pointwise [gated, entry, Modulation.silu]

def normed (y : FVec Ideal S2x8448x2048 .f32) : FVec Ideal S2x8448x2048 .bf16 :=
  truncf .bf16 (mulf (shapeCast _ (mulf (shapeCast _ y Facts₀.shapeCasts_S2x8448x2048_S2x8448x8x256) (broadcastInDim S2x8448x8x256 ![0, 1, 2, 3] Facts₀.bcast_S2x8448x8x1_S2x8448x8x256_0_1_2_3 (Host.rsqrt (addf (Host.divf (broadcastInDim S2x8448x8x1 ![0, 1, 2] Facts₀.bcast_S2x8448x8_S2x8448x8x1_0_1_2 (Host.reduceAdd (mulf (shapeCast _ y Facts₀.shapeCasts_S2x8448x2048_S2x8448x8x256) (shapeCast _ y Facts₀.shapeCasts_S2x8448x2048_S2x8448x8x256)) (constant S_ .f32 0x00000000#32) Facts₀.reducesTo_S2x8448x8x256_S2x8448x8_d3 Facts₀.h_S_)) (broadcastInDim S2x8448x8x1 ![] Facts₀.bcast_S_S2x8448x8x1 (constant S_ .f32 0x43800000#32))) (broadcastInDim S2x8448x8x1 ![] Facts₀.bcast_S_S2x8448x8x1 (constant S_ .f32 0x358637BD#32)))))) Facts₀.shapeCasts_S2x8448x8x256_S2x8448x2048) (broadcastInDim S2x8448x2048 ![0, 1, 2] Facts₀.bcast_S1x1x2048_S2x8448x2048_0_1_2 (broadcastInDim S1x1x2048 ![2] Facts₀.bcast_S2048_S1x1x2048_2 a4))) Facts₀.bitsLt_bf16_f32

theorem normed_apply (y : FVec Ideal S2x8448x2048 .f32) (b : Fin 2) (n : Fin 8448) (k : Fin 2048) :
    normed a4 y (ix3 b n k) = grouped (n := 8) (fun k => y (ix3 b n k)) k * a4 (ix1 k) := by
  pointwise [normed, grouped, groupRoot]

/-- The reference's result. -/
def result : FVec Ideal S2x8448x2048 .bf16 := normed a4 (gated a0 a1 a2 a3)

theorem result_apply (b : Fin 2) (n : Fin 8448) (k : Fin 2048) :
    result a0 a1 a2 a3 a4 (ix3 b n k) = grouped (n := 8) (entry a0 a1 a2 a3 b n) k * a4 (ix1 k) := by
  rw [result, normed_apply]
  simp only [gated_apply]

theorem frame_reference : Cert.quiescent_ReferenceFIdeal := fun m g _ =>
  (θ_run _ _ _).mono (fun r h => ⟨fun c => (h c).2, sem_eq_zero_of_no_sems (by decide) _⟩) (Cert.ReferenceFIdeal.Value.run m g)

end reference

theorem result_congr {a0 b0 : FVec Ideal Cert.ReferenceFIdeal.S2x2x8448x2048 .f32} {a1 b1 : FVec Ideal Cert.ReferenceFIdeal.S2x8448x4096 .f32}
    {a2 b2 : FVec Ideal Cert.ReferenceFIdeal.S2x8448x6144 .f32} {a3 b3 : FVec Ideal Cert.ReferenceFIdeal.S32 .f32} {a4 b4 : FVec Ideal Cert.ReferenceFIdeal.S2048 .f32}
    (h0 : a0 = b0) (h1 : a1 = b1) (h2 : a2 = b2) (h3 : a3 = b3) (h4 : a4 = b4) : result a0 a1 a2 a3 a4 = result b0 b1 b2 b3 b4 := by
  rw [h0, h1, h2, h3, h4]

section kernel

open Cert.KernelFIdeal Cert.KernelFIdeal.Gen

theorem gate_apply (x2 : Vec Ideal S1x384x1024 .f32) (p q : Vec Ideal S1x1x384x1024 .f32) (x3 : Vec Ideal S1x1024 .f32) (x1 : Vec Ideal S1x384x1024 .f32)
    (r : Fin 384) (k : Fin 1024) : k0_pay2 x2 p q x3 x1 (ix2 r k)
      = (p (ix4 0 0 r k) + q (ix4 0 0 r k) + x3 (ix2 0 k) * x1 (ix3 0 r k)) * Modulation.silu (x2 (ix3 0 r k)) := by
  pointwise [k0_pay2, Modulation.silu]
  simp only [sub_eq_add_neg (0 : EReal), zero_add]

theorem first_apply (x2 : Vec Ideal S1x384x1024 .f32) (p q : Vec Ideal S1x1x384x1024 .f32) (x3 : Vec Ideal S1x1024 .f32) (x1 : Vec Ideal S1x384x1024 .f32)
    (r : Fin 384) (k : Fin 256) : k0_pay3 x2 p q x3 x1 (ix2 r k)
      = k0_pay2 x2 p q x3 x1 (ix2 r ⟨k.val, by omega⟩) * groupRoot (fun j => k0_pay2 x2 p q x3 x1 (ix2 r ⟨j.val, by omega⟩)) := by
  pointwise [k0_pay3, groupRoot]

theorem second_apply (x2 : Vec Ideal S1x384x1024 .f32) (p q : Vec Ideal S1x1x384x1024 .f32) (x3 : Vec Ideal S1x1024 .f32) (x1 : Vec Ideal S1x384x1024 .f32)
    (r : Fin 384) (k : Fin 256) : k0_pay4 x2 p q x3 x1 (ix2 r k) = k0_pay2 x2 p q x3 x1 (ix2 r ⟨256 + k.val, by omega⟩) := by
  pointwise [k0_pay4]

theorem finish_apply (y : FVec Ideal S384x1024 .f32) (u v : FVec Ideal S384x256 .f32) (g : Vec Ideal S1x1024 .f32)
    (hu : ∀ (r : Fin 384) (k : Fin 256), u (ix2 r k) = y (ix2 r ⟨k.val, by omega⟩) * groupRoot (fun j => y (ix2 r ⟨j.val, by omega⟩)))
    (hv : ∀ (r : Fin 384) (k : Fin 256), v (ix2 r k) = y (ix2 r ⟨256 + k.val, by omega⟩)) (r : Fin 384) (k : Fin 1024) :
    k0_pay1 y u v g (ix3 0 r k) = grouped (n := 4) (fun k => y (ix2 r k)) k * g (ix2 0 k) := by
  pointwise [k0_pay1]
  refine congrArg (· * g (ix2 0 k)) ?_
  unfold grouped
  split
  · have hg : k.val / 256 = 0 := by omega
    simp only [hg, hu, zero_mul, zero_add]
  · split
    · have hg : k.val / 256 = 1 := by omega
      have e : (⟨256 + (k.val - 256), by omega⟩ : Fin 1024) = k := Fin.ext (by dsimp only; omega)
      simp only [hg, hv, e, one_mul]
      rfl
    · split
      · have hg : k.val / 256 = 2 := by omega
        have e : (⟨512 + (k.val - 256 - 256), by omega⟩ : Fin 1024) = k := Fin.ext (by dsimp only; omega)
        simp only [hg, e]
        rfl
      · have hg : k.val / 256 = 3 := by omega
        have e : (⟨768 + (k.val - 256 - 256 - 256), by omega⟩ : Fin 1024) = k := Fin.ext (by dsimp only; omega)
        simp only [hg, e]
        rfl

/-- A tile's entry before its norm. -/
def tileEntry (x0 : Vec Ideal S1x2x384x1024 .f32) (x1 x2 : Vec Ideal S1x384x1024 .f32) (x3 : Vec Ideal S1x1024 .f32) (r : Fin 384) (k : Fin 1024) : EReal :=
  (x0 (ix4 0 0 r k) + x0 (ix4 0 1 r k) + x3 (ix2 0 k) * x1 (ix3 0 r k)) * Modulation.silu (x2 (ix3 0 r k))

theorem tile_apply (x0 : Vec Ideal S1x2x384x1024 .f32) (x1 x2 : Vec Ideal S1x384x1024 .f32) (x3 x4 : Vec Ideal S1x1024 .f32) (r : Fin 384) (k : Fin 1024) :
    out0_5 x0 x1 x2 x3 x4 (ix3 0 r k) = grouped (n := 4) (tileEntry x0 x1 x2 x3 r) k * x4 (ix2 0 k) := by
  have p : ∀ (r : Fin 384) (k : Fin 1024), View.ld x0 r0_1 (ix4 0 0 r k) = x0 (ix4 0 0 r k) := fun r k => congrArg x0 (funext fun a => match a with
    | ⟨0, _⟩ => rfl
    | ⟨1, _⟩ => rfl
    | ⟨2, _⟩ => Fin.ext (by show 0 + 1 * r.val = r.val; omega)
    | ⟨3, _⟩ => Fin.ext (by show 0 + 1 * k.val = k.val; omega))
  have q : ∀ (r : Fin 384) (k : Fin 1024), View.ld x0 r0_2 (ix4 0 0 r k) = x0 (ix4 0 1 r k) := fun r k => congrArg x0 (funext fun a => match a with
    | ⟨0, _⟩ => rfl
    | ⟨1, _⟩ => rfl
    | ⟨2, _⟩ => Fin.ext (by show 0 + 1 * r.val = r.val; omega)
    | ⟨3, _⟩ => Fin.ext (by show 0 + 1 * k.val = k.val; omega))
  rw [out0_5, View.canon_unit_zero (S := S1x384x1024) (by decide)]
  simp only [View.ld_unit_zero (S := S1x1024) Proj.whole, View.ld_unit_zero (S := S1x384x1024) (show (![0, 0, 0] : Fin 3 → ℕ) = fun _ => 0 by decide)]
  rw [finish_apply _ _ _ _ (fun r k => first_apply _ _ _ _ _ r k) (fun r k => second_apply _ _ _ _ _ r k)]
  simp only [gate_apply, p, q]
  rfl

variable (m : (ℓ : Loc nD τ sig) → Buf (Elt Ideal) ℓ) (c : Dev nD) (t : Fin grid0.N)

/-- A grid point is a batch row, a tile of 384 rows and one of 1024 columns, in this order. -/
theorem idx : ∀ t : Fin grid0.N, win0_0.index t = ![t.val / 44, 0, t.val / 2 % 22, t.val % 2] ∧ win0_1.index t = ![t.val / 44, t.val / 2 % 22, t.val % 2]
    ∧ win0_2.index t = ![t.val / 44, t.val / 2 % 22, t.val % 2] ∧ win0_3.index t = ![0, t.val % 2] ∧ win0_4.index t = ![0, t.val % 2]
    ∧ win0_5.index t = ![t.val / 44, t.val / 2 % 22, t.val % 2] := by decide +kernel

theorem point_lt : t.val < 88 := lt_of_lt_of_eq t.isLt Gen.N_0

/-- A tile's batch row, row and column. -/
abbrev bat : Fin 2 := ⟨t.val / 44, by have := point_lt t; omega⟩
abbrev pos (r : Fin 384) : Fin 8448 := ⟨t.val / 2 % 22 * 384 + r.val, by omega⟩
abbrev col (k : Fin 1024) : Fin 2048 := ⟨t.val % 2 * 1024 + k.val, by omega⟩

section blocks

variable (r : Fin 384) (k : Fin 1024)

theorem scans (d : Fin 2) : iblk m c 0 t (ix4 0 d r k) = m ((c.tc : Thread nD τ).loc main_arg0) (ix4 (bat t) d (pos t r) (col t k)) := by
  have ht := point_lt t
  blk_point [iblk, V, idx t]

theorem inputs : iblk m c 1 t (ix3 0 r k) = m ((c.tc : Thread nD τ).loc main_arg1) (ix3 (bat t) (pos t r) ⟨(col t k).val, by omega⟩) := by
  have ht := point_lt t
  blk_point [iblk, V, idx t]

theorem gates : iblk m c 2 t (ix3 0 r k) = m ((c.tc : Thread nD τ).loc main_arg2) (ix3 (bat t) (pos t r) ⟨(col t k).val, by omega⟩) := by
  have ht := point_lt t
  blk_point [iblk, V, idx t]

theorem skips : iblk m c 3 t (ix2 0 k) = m ((c.tc : Thread nD τ).loc main_arg3) (ix1 ⟨(col t k).val / 64, by omega⟩) := by
  have ht := point_lt t
  blk_point [iblk, V, idx t]

theorem gains : iblk m c 4 t (ix2 0 k) = m ((c.tc : Thread nD τ).loc main_arg4) (ix1 (col t k)) := by
  have ht := point_lt t
  blk_point [iblk, V, idx t]

end blocks

theorem idx_block (j : S1x384x1024.Idx) : ∃ (r : Fin 384) (k : Fin 1024), j = ix3 0 r k :=
  ⟨j 1, j 2, funext fun x => match x with
    | ⟨0, _⟩ => Subsingleton.elim (α := Fin 1) _ _
    | ⟨1, _⟩ => rfl
    | ⟨2, _⟩ => rfl⟩

/-- An array that has every point's tile at its place is the output array after the run. -/
theorem array_of (G : FVec Ideal S2x8448x2048 .bf16) (hG : ∀ (t : Fin grid0.N) (r : Fin 384) (k : Fin 1024),
    out0_5 (iblk m c 0 t) (iblk m c 1 t) (iblk m c 2 t) (iblk m c 3 t) (iblk m c 4 t) (ix3 0 r k) = G (ix3 (bat t) (pos t r) (col t k))) :
    (dats m 0 c).arrAt 5 cfg0.N = G := by
  refine (dats m 0 c).arrAt_eq_of_covers 5 _ (by decide +kernel) fun t hf y => ?_
  have ht := point_lt t
  blk_simp
  rw [after0_5]
  obtain ⟨r, k, rfl⟩ := idx_block y
  refine (hG t r k).trans (congrArg G ?_)
  blk_ext [idx t]

theorem array_eq (a0 : FVec Ideal S2x2x8448x2048 .f32) (a1 : FVec Ideal S2x8448x4096 .f32) (a2 : FVec Ideal S2x8448x6144 .f32)
    (a3 : FVec Ideal S32 .f32) (a4 : FVec Ideal S2048 .f32)
    (h0 : m ((c.tc : Thread nD τ).loc main_arg0) = a0) (h1 : m ((c.tc : Thread nD τ).loc main_arg1) = a1)
    (h2 : m ((c.tc : Thread nD τ).loc main_arg2) = a2) (h3 : m ((c.tc : Thread nD τ).loc main_arg3) = a3)
    (h4 : m ((c.tc : Thread nD τ).loc main_arg4) = a4) : (dats m 0 c).arrAt 5 cfg0.N = result a0 a1 a2 a3 a4 := by
  refine array_of m c _ fun t r k => ?_
  have e : ∀ k : Fin 1024, tileEntry (iblk m c 0 t) (iblk m c 1 t) (iblk m c 2 t) (iblk m c 3 t) r k = entry a0 a1 a2 a3 (bat t) (pos t r) (col t k) :=
    fun k => by rw [tileEntry, entry, scans, scans, skips, inputs, gates, h0, h1, h2, h3]
  rw [result_apply, tile_apply, gains, h4]
  refine congrArg (· * a4 (ix1 (col t k))) ?_
  unfold grouped
  simp only [e]
  refine congrArg (fun f => entry a0 a1 a2 a3 (bat t) (pos t r) (col t k) * groupRoot f) (funext fun j => ?_)
  refine congrArg (entry a0 a1 a2 a3 (bat t) (pos t r)) (Fin.ext ?_)
  dsimp only
  omega

theorem algebraic : Cert.algebraic_KernelFIdeal_ReferenceFIdeal := by
  intro m g m' g' hpre hagree
  refine ⟨fun c => (Cert.KernelFIdeal.Gen.dats m 0 c).arrAt 5 Cert.KernelFIdeal.cfg0.N, Cert.KernelFIdeal.Value.run_blocks m g, ?_⟩
  refine (θ_run _ _ _).mono (fun r h c => ⟨(h c).1.trans ?_, (h c).2⟩) (Cert.ReferenceFIdeal.Value.run m' g')
  obtain ⟨e0, e1, e2, e3, e4⟩ := hagree c
  exact (result_congr e0 e1 e2 e3 e4).trans (array_eq m c _ _ _ _ _ rfl rfl rfl rfl rfl).symm

end kernel

end Cert.ScanEnd

end
-- ==== Proof.Rotary.Value.lean ====
/- The rotary preparation of queries, keys and values: the reference by stages, each tile's blocks, then the whole arrays. -/
module

public import proofs.«01_k».proof.Proof.Proj.Basic
public import proofs.«01_k».proof.Proof.Gen.KernelRIdeal.Value
public import proofs.«01_k».proof.Proof.Gen.ReferenceRIdeal.Run

@[expose] public section

set_option maxRecDepth 16384

noncomputable section

namespace Cert.Rotary

open Idealize.ShloMosaic Idealize.SL.Sem

section reference

open Cert.ReferenceRIdeal Cert.ReferenceRIdeal.Gen

/-- A row of features, each head's two halves rotated by the row's angles. -/
def turned (x : Fin 1024 → EReal) (cs sn : Fin 32 → EReal) (k : Fin 1024) : EReal :=
  if q : k.val % 64 < 32 then x k * cs ⟨k.val % 64, q⟩ - x ⟨k.val + 32, by omega⟩ * sn ⟨k.val % 64, q⟩
  else x k * cs ⟨k.val % 64 - 32, by omega⟩ + x ⟨k.val - 32, by omega⟩ * sn ⟨k.val % 64 - 32, by omega⟩

/-- A row of the context as it is, one of the latents rotated. -/
def placed (a1 a2 : FVec Ideal S8192x32 .f32) (n : Fin 8448) (x : Fin 1024 → EReal) (k : Fin 1024) : EReal :=
  if n.val < 256 then x k else turned x (fun j => a1 (ix2 ⟨n.val - 256, by omega⟩ j)) (fun j => a2 (ix2 ⟨n.val - 256, by omega⟩ j)) k

/-- The rotation of the two halves of each head's features. -/
def rotated (l : FVec Ideal S2x8192x8x2x64 .f32) (a1 a2 : FVec Ideal S8192x32 .f32) : FVec Ideal S2x8192x8x2x64 .f32 :=
  concatenate S2x8192x8x2x64 4 [⟨S2x8192x8x2x32, (subf (mulf (extractStridedSlice S2x8192x8x2x32 ![0, 0, 0, 0, 0] l Facts₀.slices_S2x8192x8x2x64_S2x8192x8x2x32_0_0_0_0_0) (broadcastInDim S2x8192x8x2x32 ![0, 1, 2, 3, 4] Facts₀.bcast_S1x8192x1x1x32_S2x8192x8x2x32_0_1_2_3_4 (broadcastInDim S1x8192x1x1x32 ![1, 4] Facts₀.bcast_S8192x32_S1x8192x1x1x32_1_4 a1))) (mulf (extractStridedSlice S2x8192x8x2x32 ![0, 0, 0, 0, 32] l Facts₀.slices_S2x8192x8x2x64_S2x8192x8x2x32_0_0_0_0_32) (broadcastInDim S2x8192x8x2x32 ![0, 1, 2, 3, 4] Facts₀.bcast_S1x8192x1x1x32_S2x8192x8x2x32_0_1_2_3_4 (broadcastInDim S1x8192x1x1x32 ![1, 4] Facts₀.bcast_S8192x32_S1x8192x1x1x32_1_4 a2))))⟩, ⟨S2x8192x8x2x32, (addf (mulf (extractStridedSlice S2x8192x8x2x32 ![0, 0, 0, 0, 32] l Facts₀.slices_S2x8192x8x2x64_S2x8192x8x2x32_0_0_0_0_32) (broadcastInDim S2x8192x8x2x32 ![0, 1, 2, 3, 4] Facts₀.bcast_S1x8192x1x1x32_S2x8192x8x2x32_0_1_2_3_4 (broadcastInDim S1x8192x1x1x32 ![1, 4] Facts₀.bcast_S8192x32_S1x8192x1x1x32_1_4 a1))) (mulf (extractStridedSlice S2x8192x8x2x32 ![0, 0, 0, 0, 0] l Facts₀.slices_S2x8192x8x2x64_S2x8192x8x2x32_0_0_0_0_0) (broadcastInDim S2x8192x8x2x32 ![0, 1, 2, 3, 4] Facts₀.bcast_S1x8192x1x1x32_S2x8192x8x2x32_0_1_2_3_4 (broadcastInDim S1x8192x1x1x32 ![1, 4] Facts₀.bcast_S8192x32_S1x8192x1x1x32_1_4 a2))))⟩] Facts₀.concatenates_S2x8192x8x2x32_S2x8192x8x2x32_S2x8192x8x2x64_d4

theorem rotated_apply (l : FVec Ideal S2x8192x8x2x64 .f32) (a1 a2 : FVec Ideal S8192x32 .f32) (b : Fin 2) (n : Fin 8192) (h : Fin 8) (s : Fin 2)
    (j : Fin 64) : rotated l a1 a2 (ix5 b n h s j) = if q : j.val < 32
      then l (ix5 b n h s ⟨j.val, by omega⟩) * a1 (ix2 n ⟨j.val, q⟩) - l (ix5 b n h s ⟨32 + j.val, by omega⟩) * a2 (ix2 n ⟨j.val, q⟩)
      else l (ix5 b n h s ⟨32 + (j.val - 32), by omega⟩) * a1 (ix2 n ⟨j.val - 32, by omega⟩) + l (ix5 b n h s ⟨j.val - 32, by omega⟩) * a2 (ix2 n ⟨j.val - 32, by omega⟩) := by
  pointwise [rotated]

/-- The latents' rows rotated, the context's as they are. -/
def positioned (t : FVec Ideal S2x8448x1024 .f32) (a1 a2 : FVec Ideal S8192x32 .f32) : FVec Ideal S2x8448x1024 .f32 :=
  shapeCast _ (concatenate S2x8448x8x2x64 1 [⟨S2x256x8x2x64, (extractStridedSlice S2x256x8x2x64 ![0, 0, 0, 0, 0] (shapeCast _ t Facts₀.shapeCasts_S2x8448x1024_S2x8448x8x2x64) Facts₀.slices_S2x8448x8x2x64_S2x256x8x2x64_0_0_0_0_0)⟩, ⟨S2x8192x8x2x64, (rotated (extractStridedSlice S2x8192x8x2x64 ![0, 256, 0, 0, 0] (shapeCast _ t Facts₀.shapeCasts_S2x8448x1024_S2x8448x8x2x64) Facts₀.slices_S2x8448x8x2x64_S2x8192x8x2x64_0_256_0_0_0) a1 a2)⟩] Facts₀.concatenates_S2x256x8x2x64_S2x8192x8x2x64_S2x8448x8x2x64_d1) Facts₀.shapeCasts_S2x8448x8x2x64_S2x8448x1024

/-- The latents' rows by heads and their halves. -/
def heads (t : FVec Ideal S2x8448x1024 .f32) : FVec Ideal S2x8192x8x2x64 .f32 :=
  extractStridedSlice S2x8192x8x2x64 ![0, 256, 0, 0, 0] (shapeCast _ t Facts₀.shapeCasts_S2x8448x1024_S2x8448x8x2x64) Facts₀.slices_S2x8448x8x2x64_S2x8192x8x2x64_0_256_0_0_0

theorem heads_apply (t : FVec Ideal S2x8448x1024 .f32) (b : Fin 2) (n : Fin 8192) (h : Fin 8) (s : Fin 2) (j : Fin 64) :
    heads t (ix5 b n h s j) = t (ix3 b ⟨256 + n.val, by omega⟩ ⟨(h.val * 2 + s.val) * 64 + j.val, by omega⟩) := by
  pointwise [heads]
  exact congrArg (fun k => t (ix3 b _ k)) (Fin.ext (by dsimp only; omega))

theorem positioned_apply (t : FVec Ideal S2x8448x1024 .f32) (a1 a2 : FVec Ideal S8192x32 .f32) (b : Fin 2) (n : Fin 8448) (k : Fin 1024) :
    positioned t a1 a2 (ix3 b n k) = placed a1 a2 n (fun k => t (ix3 b n k)) k := by
  have e : positioned t a1 a2 (ix3 b n k) = if h : n.val < 256 then t (ix3 b n k) else rotated (heads t) a1 a2
      (ix5 b ⟨n.val - 256, by omega⟩ ⟨k.val / 128, by omega⟩ ⟨k.val / 64 % 2, by omega⟩ ⟨k.val % 64, by omega⟩) := by
    pointwise [positioned]
    rfl
  rw [e, placed, turned]
  by_cases h : n.val < 256
  · rw [dif_pos h, if_pos h]
  · rw [dif_neg h, if_neg h, rotated_apply]
    have en : (⟨256 + (n.val - 256), by omega⟩ : Fin 8448) = n := Fin.ext (by dsimp only; omega)
    by_cases q : k.val % 64 < 32
    · rw [dif_pos q, dif_pos q]
      simp only [heads_apply, en]
      have e0 : (⟨(k.val / 128 * 2 + k.val / 64 % 2) * 64 + k.val % 64, by omega⟩ : Fin 1024) = k := Fin.ext (by dsimp only; omega)
      have e1 : (⟨(k.val / 128 * 2 + k.val / 64 % 2) * 64 + (32 + k.val % 64), by omega⟩ : Fin 1024) = ⟨k.val + 32, by omega⟩ := Fin.ext (by dsimp only; omega)
      rw [e0, e1]
    · rw [dif_neg q, dif_neg q]
      simp only [heads_apply, en]
      have e0 : (⟨(k.val / 128 * 2 + k.val / 64 % 2) * 64 + (32 + (k.val % 64 - 32)), by omega⟩ : Fin 1024) = k := Fin.ext (by dsimp only; omega)
      have e1 : (⟨(k.val / 128 * 2 + k.val / 64 % 2) * 64 + (k.val % 64 - 32), by omega⟩ : Fin 1024) = ⟨k.val - 32, by omega⟩ := Fin.ext (by dsimp only; omega)
      rw [e0, e1]

variable (a0 : FVec Ideal S2x8448x4096 .f32) (a1 a2 : FVec Ideal S8192x32 .f32)

/-- The reference's queries, keys and values. -/
def queries : FVec Ideal S2x1024x8448 .bf16 :=
  truncf .bf16 (transpose S2x1024x8448 [0, 2, 1] (mulf (positioned (extractStridedSlice S2x8448x1024 ![0, 0, 0] a0 Facts₀.slices_S2x8448x4096_S2x8448x1024_0_0_0) a1 a2) (broadcastInDim S2x8448x1024 ![] Facts₀.bcast_S_S2x8448x1024 (constant S_ .f32 0x3E38AA3B#32))) Facts₀.transposes_S2x8448x1024_S2x1024x8448_0_2_1) Facts₀.bitsLt_bf16_f32

theorem scaled_apply (t : FVec Ideal S2x8448x1024 .f32) (b : Fin 2) (k : Fin 1024) (n : Fin 8448) :
    truncf .bf16 (transpose S2x1024x8448 [0, 2, 1] (mulf t (broadcastInDim S2x8448x1024 ![] Facts₀.bcast_S_S2x8448x1024 (constant S_ .f32 0x3E38AA3B#32))) Facts₀.transposes_S2x8448x1024_S2x1024x8448_0_2_1) Facts₀.bitsLt_bf16_f32 (ix3 b k n)
      = t (ix3 b n k) * Ideal.ofBits .f32 0x3E38AA3B#32 := by
  pointwise

theorem queries_apply (b : Fin 2) (k : Fin 1024) (n : Fin 8448) : queries a0 a1 a2 (ix3 b k n)
    = placed a1 a2 n (fun k => a0 (ix3 b n ⟨k.val, by omega⟩)) k * Ideal.ofBits .f32 0x3E38AA3B#32 := by
  have e : ∀ k : Fin 1024, extractStridedSlice S2x8448x1024 ![0, 0, 0] a0 Facts₀.slices_S2x8448x4096_S2x8448x1024_0_0_0 (ix3 b n k) = a0 (ix3 b n ⟨k.val, by omega⟩) :=
    fun k => by pointwise
  exact (scaled_apply _ b k n).trans (congrArg (· * Ideal.ofBits .f32 0x3E38AA3B#32) ((positioned_apply _ a1 a2 b n k).trans (congrArg (fun x => placed a1 a2 n x k) (funext e))))

def keys : FVec Ideal S2x8448x1024 .bf16 :=
  truncf .bf16 (positioned (extractStridedSlice S2x8448x1024 ![0, 0, 1024] a0 Facts₀.slices_S2x8448x4096_S2x8448x1024_0_0_1024) a1 a2) Facts₀.bitsLt_bf16_f32

theorem rounded_apply (t : FVec Ideal S2x8448x1024 .f32) (b : Fin 2) (n : Fin 8448) (k : Fin 1024) :
    truncf .bf16 t Facts₀.bitsLt_bf16_f32 (ix3 b n k) = t (ix3 b n k) := by
  pointwise

theorem keys_apply (b : Fin 2) (n : Fin 8448) (k : Fin 1024) : keys a0 a1 a2 (ix3 b n k)
    = placed a1 a2 n (fun k => a0 (ix3 b n ⟨1024 + k.val, by omega⟩)) k := by
  have e : ∀ k : Fin 1024, extractStridedSlice S2x8448x1024 ![0, 0, 1024] a0 Facts₀.slices_S2x8448x4096_S2x8448x1024_0_0_1024 (ix3 b n k) = a0 (ix3 b n ⟨1024 + k.val, by omega⟩) :=
    fun k => by pointwise
  exact (rounded_apply _ b n k).trans ((positioned_apply _ a1 a2 b n k).trans (congrArg (fun x => placed a1 a2 n x k) (funext e)))

def values : FVec Ideal S2x1024x8448 .bf16 :=
  truncf .bf16 (transpose S2x1024x8448 [0, 2, 1] (extractStridedSlice S2x8448x1024 ![0, 0, 2048] a0 Facts₀.slices_S2x8448x4096_S2x8448x1024_0_0_2048) Facts₀.transposes_S2x8448x1024_S2x1024x8448_0_2_1) Facts₀.bitsLt_bf16_f32

theorem values_apply (b : Fin 2) (k : Fin 1024) (n : Fin 8448) : values a0 (ix3 b k n) = a0 (ix3 b n ⟨2048 + k.val, by omega⟩) := by
  pointwise [values]

theorem frame_reference : Cert.quiescent_ReferenceRIdeal := fun m g _ =>
  (θ_run _ _ _).mono (fun r h => ⟨fun c => (h c).2.2.2, sem_eq_zero_of_no_sems (by decide) _⟩) (Cert.ReferenceRIdeal.Value.run m g)

end reference

section kernel

open Cert.KernelRIdeal Cert.KernelRIdeal.Gen

/-- A row's entries of the tables of cosines and of signed sines: one and zero at a context row. -/
def cosAt (a1 : FVec Ideal S8192x32 .f32) (n : Fin 8448) (k : Fin 128) : EReal :=
  if h : n.val < 256 then 1 else a1 (ix2 ⟨n.val - 256, by omega⟩ ⟨k.val % 32, by omega⟩)

def sinAt (a2 : FVec Ideal S8192x32 .f32) (n : Fin 8448) (k : Fin 128) : EReal :=
  if h : n.val < 256 then 0 else if q : k.val % 64 < 32 then -a2 (ix2 ⟨n.val - 256, by omega⟩ ⟨k.val % 64, q⟩)
    else a2 (ix2 ⟨n.val - 256, by omega⟩ ⟨k.val % 64 - 32, by omega⟩)

/-- A row of a head turned by its tables' rows, its partners taken by rotations of the lanes. -/
def spun (y : Fin 128 → EReal) (cs sn : Fin 128 → EReal) (k : Fin 128) : EReal :=
  y k * cs k + (if k.val % 64 < 32 then y ⟨(k.val + 128 - 96) % 128, by omega⟩ else y ⟨(k.val + 128 - 32) % 128, by omega⟩) * sn k

theorem spun_eq (a1 a2 : FVec Ideal S8192x32 .f32) (n : Fin 8448) (x : Fin 1024 → EReal) (h : Fin 8) (k : Fin 128) :
    spun (fun k => x ⟨h.val * 128 + k.val, by omega⟩) (cosAt a1 n) (sinAt a2 n) k = placed a1 a2 n x ⟨h.val * 128 + k.val, by omega⟩ := by
  unfold spun placed turned cosAt sinAt
  dsimp only
  by_cases hn : n.val < 256
  · rw [dif_pos hn, dif_pos hn, if_pos hn, mul_one, mul_zero, add_zero]
  · rw [dif_neg hn, dif_neg hn, if_neg hn]
    have em : (h.val * 128 + k.val) % 64 = k.val % 64 := by omega
    by_cases q : k.val % 64 < 32
    · rw [if_pos q, dif_pos q, dif_pos (by omega), mul_neg, ← sub_eq_add_neg]
      have e1 : k.val % 32 = (h.val * 128 + k.val) % 64 := by omega
      have e2 : h.val * 128 + (k.val + 128 - 96) % 128 = h.val * 128 + k.val + 32 := by omega
      simp only [e1, e2, em]
    · rw [if_neg q, dif_neg q, dif_neg (by omega)]
      have e1 : k.val % 32 = k.val % 64 - 32 := by omega
      have e2 : h.val * 128 + (k.val + 128 - 32) % 128 = h.val * 128 + k.val - 32 := by omega
      simp only [e1, e2, em]

theorem lane : ∀ k : Fin 128, Scalar.select
      (IntOp.andi
        (IntOp.xori
          (IntOp.cmpi CmpIPredicate.slt
            (IntOp.remsi ArithUnit.vector (BitVec.ofNat 32 k.val)
              (Scalar.select (Scalar.cmpi CmpIPredicate.eq 64#32 0#32) 1#32 64#32))
            0#32)
          (Scalar.cmpi CmpIPredicate.slt (Scalar.select (Scalar.cmpi CmpIPredicate.eq 64#32 0#32) 1#32 64#32) 0#32))
        (IntOp.cmpi CmpIPredicate.ne
          (IntOp.remsi ArithUnit.vector (BitVec.ofNat 32 k.val)
            (Scalar.select (Scalar.cmpi CmpIPredicate.eq 64#32 0#32) 1#32 64#32))
          0#32))
      (IntOp.addi
        (IntOp.remsi ArithUnit.vector (BitVec.ofNat 32 k.val)
          (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 k.val)
        (Scalar.select (Scalar.cmpi CmpIPredicate.eq 64#32 0#32) 1#32 64#32)) = BitVec.ofNat 32 (k.val % 64) := by
  decide +kernel

theorem lane_apply (r : Fin 768) (k : Fin 128) : k0_pay6 (ix2 r k) = BitVec.ofNat 32 (k.val % 64) := by
  pointwise [k0_pay6]
  exact lane k

theorem first_half : ∀ k : Fin 128, IntOp.cmpi CmpIPredicate.slt (BitVec.ofNat 32 (k.val % 64)) 32#32 = if k.val % 64 < 32 then 1#1 else 0#1 := by
  decide +kernel

theorem key_apply (v1 v3 : FVec Ideal S768x128 .f32) (x : Vec Ideal S1x768x128 .f32) (r : Fin 768) (k : Fin 128) :
    k0_pay2 v1 v3 k0_pay6 x (ix3 0 r k) = spun (fun k => x (ix3 0 r k)) (fun k => v1 (ix2 r k)) (fun k => v3 (ix2 r k)) k := by
  pointwise [k0_pay2]
  rw [lane_apply, first_half, spun]
  by_cases q : k.val % 64 < 32 <;> simp [q, Scalar.select]

theorem query_apply (v1 v3 : Vec Ideal S768x128 .f32) (x : Vec Ideal S1x768x128 .f32) (k : Fin 128) (r : Fin 768) :
    k0_pay1 (k0_pay7 v1 v3 x) (ix3 0 k r)
      = spun (fun k => x (ix3 0 r k)) (fun k => v1 (ix2 r k)) (fun k => v3 (ix2 r k)) k * Ideal.ofBits .f32 0x3E38AA3B#32 := by
  pointwise [k0_pay1, k0_pay7, k0_pay4, k0_pay5]
  rw [lane_apply, first_half, spun]
  by_cases q : k.val % 64 < 32 <;> simp [q, Scalar.select]

theorem value_apply (x : Vec Ideal S1x768x128 .f32) (k : Fin 128) (r : Fin 768) : k0_pay3 x (ix3 0 k r) = x (ix3 0 r k) := by
  pointwise [k0_pay3]

theorem whole3 : (![0, 0, 0] : Fin 3 → ℕ) = fun _ => 0 := by decide

section tiles

variable (x0 x1 x2 : Vec Ideal S1x768x128 .f32) (x3 x4 : Vec Ideal S768x128 .f32) (r : Fin 768) (k : Fin 128)

theorem query_tile : out0_5 x0 x1 x2 x3 x4 (ix3 0 k r)
    = spun (fun k => x0 (ix3 0 r k)) (fun k => x3 (ix2 r k)) (fun k => x4 (ix2 r k)) k * Ideal.ofBits .f32 0x3E38AA3B#32 := by
  rw [out0_5, View.canon_unit_zero (S := S1x128x768) whole3]
  simp only [View.ld_unit_zero (S := S768x128) Proj.whole, View.ld_unit_zero (S := S1x768x128) whole3]
  exact query_apply ..

theorem key_tile : out0_6 x0 x1 x2 x3 x4 (ix3 0 r k)
    = spun (fun k => x1 (ix3 0 r k)) (fun k => x3 (ix2 r k)) (fun k => x4 (ix2 r k)) k := by
  have e4 : ∀ k : Fin 128, k0_pay4 x3 (ix2 r k) = x3 (ix2 r k) := fun k => by pointwise [k0_pay4]
  have e5 : ∀ k : Fin 128, k0_pay5 x4 (ix2 r k) = x4 (ix2 r k) := fun k => by pointwise [k0_pay5]
  rw [out0_6, View.canon_unit_zero (S := S1x768x128) whole3]
  simp only [View.ld_unit_zero (S := S768x128) Proj.whole, View.ld_unit_zero (S := S1x768x128) whole3]
  rw [key_apply]
  simp only [e4, e5]

theorem value_tile : out0_7 x0 x1 x2 x3 x4 (ix3 0 k r) = x2 (ix3 0 r k) := by
  rw [out0_7, View.canon_unit_zero (S := S1x128x768) whole3]
  simp only [View.ld_unit_zero (S := S1x768x128) whole3]
  exact value_apply ..

end tiles

variable (m : (ℓ : Loc nD τ sig) → Buf (Elt Ideal) ℓ) (c : Dev nD) (t : Fin grid0.N)

/-- A grid point is a batch row, a tile of 768 rows and a head, in this order. -/
theorem idx : ∀ t : Fin grid0.N, win0_0.index t = ![t.val / 88, t.val / 8 % 11, t.val % 8] ∧ win0_1.index t = ![t.val / 88, t.val / 8 % 11, 8 + t.val % 8]
    ∧ win0_2.index t = ![t.val / 88, t.val / 8 % 11, 16 + t.val % 8] ∧ win0_3.index t = ![t.val / 8 % 11, 0] ∧ win0_4.index t = ![t.val / 8 % 11, 0]
    ∧ win0_5.index t = ![t.val / 88, t.val % 8, t.val / 8 % 11] ∧ win0_6.index t = ![t.val / 88, t.val / 8 % 11, t.val % 8]
    ∧ win0_7.index t = ![t.val / 88, t.val % 8, t.val / 8 % 11] := by decide +kernel

theorem point_lt : t.val < 176 := lt_of_lt_of_eq t.isLt Gen.N_0

/-- A tile's batch row, head and row, and a feature's column. -/
abbrev bat : Fin 2 := ⟨t.val / 88, by have := point_lt t; omega⟩
abbrev head : Fin 8 := ⟨t.val % 8, by omega⟩
abbrev pos (r : Fin 768) : Fin 8448 := ⟨t.val / 8 % 11 * 768 + r.val, by omega⟩
abbrev col (k : Fin 128) : Fin 1024 := ⟨t.val % 8 * 128 + k.val, by omega⟩

/-- The host's tables. -/
def cosTable (a1 : FVec Ideal S8192x32 .f32) : FVec Ideal S8448x128 .f32 :=
  concatenate S8448x128 0 [⟨S256x128, broadcastInDim S256x128 ![] Facts₀.bcast_S_S256x128 (constant (F := Ideal) S_ .f32 0x3F800000#32)⟩,
    ⟨S8192x128, shapeCast _ (broadcastInDim S1x8192x4x32 ![0, 1, 2, 3] Facts₀.bcast_S1x8192x1x32_S1x8192x4x32_0_1_2_3 (shapeCast _ a1 Facts₀.shapeCasts_S8192x32_S1x8192x1x32)) Facts₀.shapeCasts_S1x8192x4x32_S8192x128⟩] Facts₀.concatenates_S256x128_S8192x128_S8448x128_d0

theorem cosTable_apply (a1 : FVec Ideal S8192x32 .f32) (n : Fin 8448) (k : Fin 128) : cosTable a1 (ix2 n k) = cosAt a1 n k := by
  pointwise [cosTable, cosAt]

def sinTable (a2 : FVec Ideal S8192x32 .f32) : FVec Ideal S8448x128 .f32 :=
  concatenate S8448x128 0 [⟨S256x128, broadcastInDim S256x128 ![] Facts₀.bcast_S_S256x128 (constant (F := Ideal) S_ .f32 0x00000000#32)⟩,
    ⟨S8192x128, shapeCast _ (broadcastInDim S1x8192x2x64 ![0, 1, 2, 3] Facts₀.bcast_S1x8192x1x64_S1x8192x2x64_0_1_2_3 (shapeCast _ (concatenate S8192x64 1 [⟨S8192x32, Host.negf a2⟩, ⟨S8192x32, a2⟩] Facts₀.concatenates_S8192x32_S8192x32_S8192x64_d1) Facts₀.shapeCasts_S8192x64_S1x8192x1x64)) Facts₀.shapeCasts_S1x8192x2x64_S8192x128⟩] Facts₀.concatenates_S256x128_S8192x128_S8448x128_d0

theorem sinTable_apply (a2 : FVec Ideal S8192x32 .f32) (n : Fin 8448) (k : Fin 128) : sinTable a2 (ix2 n k) = sinAt a2 n k := by
  pointwise [sinTable, sinAt]

section blocks

variable (r : Fin 768) (k : Fin 128)

theorem query_block : iblk m c 0 t (ix3 0 r k) = m ((c.tc : Thread nD τ).loc main_arg0) (ix3 (bat t) (pos t r) ⟨(col t k).val, by omega⟩) := by
  have ht := point_lt t
  blk_point [iblk, V, idx t]

theorem key_block : iblk m c 1 t (ix3 0 r k) = m ((c.tc : Thread nD τ).loc main_arg0) (ix3 (bat t) (pos t r) ⟨1024 + (col t k).val, by omega⟩) := by
  have ht := point_lt t
  blk_point [iblk, V, idx t]

theorem value_block : iblk m c 2 t (ix3 0 r k) = m ((c.tc : Thread nD τ).loc main_arg0) (ix3 (bat t) (pos t r) ⟨2048 + (col t k).val, by omega⟩) := by
  have ht := point_lt t
  blk_point [iblk, V, idx t]

theorem cos_block (a1 : FVec Ideal S8192x32 .f32) (h1 : m ((c.tc : Thread nD τ).loc main_arg1) = a1) : iblk m c 3 t (ix2 r k) = cosAt a1 (pos t r) k := by
  have ht := point_lt t
  have e : V m c main_v9 = cosTable a1 := by
    subst h1
    simp only [V, hostOps0, List.flatten_cons, List.flatten_nil, List.append_nil, List.cons_append, List.nil_append]
    after_results
    rfl
  rw [← cosTable_apply, ← e]
  show V m c main_v9 _ = _
  refine congrArg (V m c main_v9) ?_
  blk_ext [idx t]

theorem sin_block (a2 : FVec Ideal S8192x32 .f32) (h2 : m ((c.tc : Thread nD τ).loc main_arg2) = a2) : iblk m c 4 t (ix2 r k) = sinAt a2 (pos t r) k := by
  have ht := point_lt t
  have e : V m c main_v11 = sinTable a2 := by
    subst h2
    simp only [V, hostOps0, List.flatten_cons, List.flatten_nil, List.append_nil, List.cons_append, List.nil_append]
    after_results
    rfl
  rw [← sinTable_apply, ← e]
  show V m c main_v11 _ = _
  refine congrArg (V m c main_v11) ?_
  blk_ext [idx t]

end blocks

theorem idx_strip (j : S1x128x768.Idx) : ∃ (k : Fin 128) (r : Fin 768), j = ix3 0 k r :=
  ⟨j 1, j 2, funext fun x => match x with
    | ⟨0, _⟩ => Subsingleton.elim (α := Fin 1) _ _
    | ⟨1, _⟩ => rfl
    | ⟨2, _⟩ => rfl⟩

theorem idx_block (j : S1x768x128.Idx) : ∃ (r : Fin 768) (k : Fin 128), j = ix3 0 r k :=
  ⟨j 1, j 2, funext fun x => match x with
    | ⟨0, _⟩ => Subsingleton.elim (α := Fin 1) _ _
    | ⟨1, _⟩ => rfl
    | ⟨2, _⟩ => rfl⟩

section arrays

variable (a0 : FVec Ideal S2x8448x4096 .f32) (a1 a2 : FVec Ideal S8192x32 .f32) (h0 : m ((c.tc : Thread nD τ).loc main_arg0) = a0)
  (h1 : m ((c.tc : Thread nD τ).loc main_arg1) = a1) (h2 : m ((c.tc : Thread nD τ).loc main_arg2) = a2)
include h0

theorem values_eq : (dats m 0 c).arrAt 7 cfg0.N = values a0 := by
  refine (dats m 0 c).arrAt_eq_of_covers 7 _ (by decide +kernel) fun t hf y => ?_
  have ht := point_lt t
  blk_simp
  rw [after0_7]
  obtain ⟨k, r, rfl⟩ := idx_strip y
  refine (((value_tile ..).trans (value_block m c t r k)).trans ?_).trans (congrArg (values a0) (show ix3 (bat t) (col t k) (pos t r) = _ from ?_))
  · rw [values_apply, h0]
  · blk_ext [idx t]

include h1 h2

theorem queries_eq : (dats m 0 c).arrAt 5 cfg0.N = queries a0 a1 a2 := by
  refine (dats m 0 c).arrAt_eq_of_covers 5 _ (by decide +kernel) fun t hf y => ?_
  have ht := point_lt t
  blk_simp
  rw [after0_5]
  obtain ⟨k, r, rfl⟩ := idx_strip y
  refine ((query_tile ..).trans ?_).trans (congrArg (queries a0 a1 a2) (show ix3 (bat t) (col t k) (pos t r) = _ from ?_))
  · rw [queries_apply]
    simp only [query_block, cos_block m c t _ _ a1 h1, sin_block m c t _ _ a2 h2, h0]
    exact congrArg (· * Ideal.ofBits .f32 0x3E38AA3B#32) (spun_eq a1 a2 (pos t r) (fun k => a0 (ix3 (bat t) (pos t r) ⟨k.val, by omega⟩)) (head t) k)
  · blk_ext [idx t]

theorem keys_eq : (dats m 0 c).arrAt 6 cfg0.N = keys a0 a1 a2 := by
  refine (dats m 0 c).arrAt_eq_of_covers 6 _ (by decide +kernel) fun t hf y => ?_
  have ht := point_lt t
  blk_simp
  rw [after0_6]
  obtain ⟨r, k, rfl⟩ := idx_block y
  refine ((key_tile ..).trans ?_).trans (congrArg (keys a0 a1 a2) (show ix3 (bat t) (pos t r) (col t k) = _ from ?_))
  · rw [keys_apply]
    simp only [key_block, cos_block m c t _ _ a1 h1, sin_block m c t _ _ a2 h2, h0]
    exact spun_eq a1 a2 (pos t r) (fun k => a0 (ix3 (bat t) (pos t r) ⟨1024 + k.val, by omega⟩)) (head t) k
  · blk_ext [idx t]

end arrays

theorem algebraic : Cert.algebraic_KernelRIdeal_ReferenceRIdeal := by
  intro m g m' g' hpre hagree
  refine ⟨fun c => (Cert.KernelRIdeal.Gen.dats m 0 c).arrAt 5 Cert.KernelRIdeal.cfg0.N, fun c => (Cert.KernelRIdeal.Gen.dats m 0 c).arrAt 6 Cert.KernelRIdeal.cfg0.N,
    fun c => (Cert.KernelRIdeal.Gen.dats m 0 c).arrAt 7 Cert.KernelRIdeal.cfg0.N, Cert.KernelRIdeal.Value.run_blocks m g, ?_⟩
  refine (θ_run _ _ _).mono (fun r h c => ⟨(h c).1.trans ?_, (h c).2.1.trans ?_, (h c).2.2.1.trans ?_, (h c).2.2.2⟩) (Cert.ReferenceRIdeal.Value.run m' g')
  · obtain ⟨e0, e1, e2⟩ := hagree c
    exact (queries_eq m c _ _ _ e0.symm e1.symm e2.symm).symm
  · obtain ⟨e0, e1, e2⟩ := hagree c
    exact (keys_eq m c _ _ _ e0.symm e1.symm e2.symm).symm
  · obtain ⟨e0, e1, e2⟩ := hagree c
    exact (values_eq m c _ e0.symm).symm

end kernel

end Cert.Rotary

end
-- ==== Proof.Conv.Basic.lean ====
/- The depthwise convolutions: a row's neighbours within its own part of the rows, and the kernel's words and windows for them. -/
module

public import proofs.«01_k».proof.Proof.Proj.Basic

@[expose] public section

set_option maxRecDepth 16384

noncomputable section

namespace Cert.Conv

open Idealize.ShloMosaic Idealize.SL.Sem

/-- The row `o` rows before, zero when it is none of the row's part: the 256 context rows are one part, the latents the other. -/
def earlier (U : Fin 8448 → EReal) (n : Fin 8448) (o : ℕ) : EReal :=
  if h : o ≤ n.val ∧ (n.val < 256 ↔ n.val - o < 256) then U ⟨n.val - o, by omega⟩ else 0

/-- The row `o` rows after, likewise. -/
def later (U : Fin 8448 → EReal) (n : Fin 8448) (o : ℕ) : EReal :=
  if h : n.val + o < 8448 ∧ (n.val < 256 ↔ n.val + o < 256) then U ⟨n.val + o, h.1⟩ else 0

section reference

variable (U : Fin 8448 → EReal) (o : ℕ) (z : EReal) (hz : z = 0)
include hz

/-- A padded part's rows before and after are these. -/
theorem context_earlier (n : Fin 256) (s p : ℕ) (hs : s + o = p) (f : Fin 256 → EReal) (hf : ∀ n, f n = U ⟨n.val, by omega⟩) :
    (if h : p ≤ s + n.val ∧ s + n.val - p < 256 then f ⟨s + n.val - p, h.2⟩ else z) = earlier U ⟨n.val, by omega⟩ o := by
  by_cases h : p ≤ s + n.val
  · rw [dif_pos ⟨h, by omega⟩, earlier, dif_pos ⟨by dsimp only; omega, by dsimp only; omega⟩, hf]
    exact congrArg U (Fin.ext (by dsimp only; omega))
  · rw [dif_neg (by omega), earlier, dif_neg (by dsimp only; omega), hz]

theorem context_later (n : Fin 256) (s p : ℕ) (hs : s = p + o) (f : Fin 256 → EReal) (hf : ∀ n, f n = U ⟨n.val, by omega⟩) :
    (if h : p ≤ s + n.val ∧ s + n.val - p < 256 then f ⟨s + n.val - p, h.2⟩ else z) = later U ⟨n.val, by omega⟩ o := by
  by_cases h : n.val + o < 256
  · rw [dif_pos ⟨by omega, by omega⟩, later, dif_pos ⟨by dsimp only; omega, by dsimp only; omega⟩, hf]
    exact congrArg U (Fin.ext (by dsimp only; omega))
  · rw [dif_neg (by omega), later, dif_neg (by dsimp only; omega), hz]

theorem latent_earlier (n : Fin 8192) (s p : ℕ) (hs : s + o = p) (f : Fin 8192 → EReal) (hf : ∀ n, f n = U ⟨256 + n.val, by omega⟩) :
    (if h : p ≤ s + n.val ∧ s + n.val - p < 8192 then f ⟨s + n.val - p, h.2⟩ else z) = earlier U ⟨256 + n.val, by omega⟩ o := by
  by_cases h : p ≤ s + n.val
  · rw [dif_pos ⟨h, by omega⟩, earlier, dif_pos ⟨by dsimp only; omega, by dsimp only; omega⟩, hf]
    exact congrArg U (Fin.ext (by dsimp only; omega))
  · rw [dif_neg (by omega), earlier, dif_neg (by dsimp only; omega), hz]

theorem latent_later (n : Fin 8192) (s p : ℕ) (hs : s = p + o) (f : Fin 8192 → EReal) (hf : ∀ n, f n = U ⟨256 + n.val, by omega⟩) :
    (if h : p ≤ s + n.val ∧ s + n.val - p < 8192 then f ⟨s + n.val - p, h.2⟩ else z) = later U ⟨256 + n.val, by omega⟩ o := by
  by_cases h : n.val + o < 8192
  · rw [dif_pos ⟨by omega, by omega⟩, later, dif_pos ⟨by dsimp only; omega, by dsimp only; omega⟩, hf]
    exact congrArg U (Fin.ext (by dsimp only; omega))
  · rw [dif_neg (by omega), later, dif_neg (by dsimp only; omega), hz]

end reference

/-- The kernel's conditions on the words of a position and of an offset. -/
def earlierOk (x o : BitVec 32) : BitVec 1 :=
  IntOp.andi
    (IntOp.andi (IntOp.cmpi CmpIPredicate.sge (IntOp.addi x o) 0#32) (IntOp.cmpi CmpIPredicate.slt (IntOp.addi x o) 8448#32))
    (IntOp.xori (IntOp.andi (IntOp.cmpi CmpIPredicate.slt (IntOp.addi x o) 256#32) (IntOp.cmpi CmpIPredicate.sge x 256#32)) 1#1)

def laterOk (x o : BitVec 32) : BitVec 1 :=
  IntOp.andi
    (IntOp.andi (IntOp.cmpi CmpIPredicate.sge (IntOp.addi x o) 0#32) (IntOp.cmpi CmpIPredicate.slt (IntOp.addi x o) 8448#32))
    (IntOp.xori (IntOp.andi (IntOp.cmpi CmpIPredicate.slt x 256#32) (IntOp.cmpi CmpIPredicate.sge (IntOp.addi x o) 256#32)) 1#1)

theorem earlierOk_eq : ∀ (o : Fin 2) (a : Fin 88) (b : Fin 96), earlierOk (BitVec.ofNat 32 (a.val * 96 + b.val)) (BitVec.ofNat 32 (4294967295 - o.val))
    = if o.val + 1 ≤ a.val * 96 + b.val ∧ (a.val * 96 + b.val < 256 ↔ a.val * 96 + b.val - (o.val + 1) < 256) then 1#1 else 0#1 := by
  decide +kernel

theorem laterOk_eq : ∀ (o : Fin 2) (a : Fin 88) (b : Fin 96), laterOk (BitVec.ofNat 32 (a.val * 96 + b.val)) (BitVec.ofNat 32 (o.val + 1))
    = if a.val * 96 + b.val + (o.val + 1) < 8448 ∧ (a.val * 96 + b.val < 256 ↔ a.val * 96 + b.val + (o.val + 1) < 256) then 1#1 else 0#1 := by
  decide +kernel

section window

variable (U : Fin 8448 → EReal) (i : Fin 6) (E : Fin 1424 → EReal)

/-- A tile's window: the tile's rows between the eight before and the eight after, those that are rows at all. -/
def Window : Prop := ∀ (e : Fin 1424) (h : 8 ≤ i.val * 1408 + e.val ∧ i.val * 1408 + e.val - 8 < 8448), E e = U ⟨i.val * 1408 + e.val - 8, h.2⟩

theorem window_of (x1 : Fin 8 → EReal) (x0 : Fin 1408 → EReal) (x2 : Fin 8 → EReal)
    (h1 : ∀ s, x1 s = U ⟨max (i.val * 176 - 1) 0 * 8 + s.val, by omega⟩) (h0 : ∀ r, x0 r = U ⟨i.val * 1408 + r.val, by omega⟩)
    (h2 : ∀ s, x2 s = U ⟨min ((i.val + 1) * 176) 1055 * 8 + s.val, by omega⟩)
    (hE : ∀ e : Fin 1424, E e = if h : e.val < 8 then x1 ⟨e.val, h⟩ else if h : e.val - 8 < 1408 then x0 ⟨e.val - 8, h⟩ else x2 ⟨e.val - 8 - 1408, by omega⟩) :
    Window U i E := fun e h => by
  rw [hE]
  by_cases a : e.val < 8
  · rw [dif_pos a, h1]
    exact congrArg U (Fin.ext (by dsimp only; omega))
  · rw [dif_neg a]
    by_cases b : e.val - 8 < 1408
    · rw [dif_pos b, h0]
      exact congrArg U (Fin.ext (by dsimp only; omega))
    · rw [dif_neg b, h2]
      exact congrArg U (Fin.ext (by dsimp only; omega))

variable {U i E} (hE : Window U i E) (r : Fin 1408)
include hE

theorem select_earlier (o : Fin 2) : Scalar.select (earlierOk (BitVec.ofNat 32 (i.val * 1408 + r.val)) (BitVec.ofNat 32 (4294967295 - o.val))) (E ⟨7 - o.val + r.val, by omega⟩) 0
    = earlier U ⟨i.val * 1408 + r.val, by omega⟩ (o.val + 1) := by
  have e := earlierOk_eq o ⟨(i.val * 1408 + r.val) / 96, by omega⟩ ⟨(i.val * 1408 + r.val) % 96, by omega⟩
  have en : (i.val * 1408 + r.val) / 96 * 96 + (i.val * 1408 + r.val) % 96 = i.val * 1408 + r.val := by omega
  dsimp only at e
  rw [en] at e
  rw [e, earlier]
  by_cases h : o.val + 1 ≤ i.val * 1408 + r.val ∧ (i.val * 1408 + r.val < 256 ↔ i.val * 1408 + r.val - (o.val + 1) < 256)
  · rw [if_pos h, dif_pos h]
    refine (hE ⟨7 - o.val + r.val, by omega⟩ ⟨by dsimp only; omega, by dsimp only; omega⟩).trans (congrArg U (Fin.ext (by dsimp only; omega)))
  · rw [if_neg h, dif_neg h]
    rfl

theorem select_later (o : Fin 2) : Scalar.select (laterOk (BitVec.ofNat 32 (i.val * 1408 + r.val)) (BitVec.ofNat 32 (o.val + 1))) (E ⟨9 + o.val + r.val, by omega⟩) 0
    = later U ⟨i.val * 1408 + r.val, by omega⟩ (o.val + 1) := by
  have e := laterOk_eq o ⟨(i.val * 1408 + r.val) / 96, by omega⟩ ⟨(i.val * 1408 + r.val) % 96, by omega⟩
  have en : (i.val * 1408 + r.val) / 96 * 96 + (i.val * 1408 + r.val) % 96 = i.val * 1408 + r.val := by omega
  dsimp only at e
  rw [en] at e
  rw [e, later]
  by_cases h : i.val * 1408 + r.val + (o.val + 1) < 8448 ∧ (i.val * 1408 + r.val < 256 ↔ i.val * 1408 + r.val + (o.val + 1) < 256)
  · rw [if_pos h, dif_pos h]
    refine (hE ⟨9 + o.val + r.val, by omega⟩ ⟨by dsimp only; omega, by dsimp only; omega⟩).trans (congrArg U (Fin.ext (by dsimp only; omega)))
  · rw [if_neg h, dif_neg h]
    rfl

end window

/-- The word of a row's position. -/
theorem position (i : Fin 6) (r : Fin 1408) : IntOp.addi (Scalar.muli (BitVec.ofNat 32 i.val) 1408#32) (BitVec.ofNat 32 r.val) = BitVec.ofNat 32 (i.val * 1408 + r.val) := by
  show BitVec.ofNat 32 i.val * BitVec.ofNat 32 1408 + BitVec.ofNat 32 r.val = _
  rw [← BitVec.ofNat_mul, ← BitVec.ofNat_add]

theorem ofInt_zero : FloatOps.sitofp (F := Ideal) .f32 0#32 = 0 := by simp [FloatOps.sitofp]

end Cert.Conv

end
-- ==== Proof.Conv.Short.lean ====
/- The convolution of the recurrence's columns, three taps: the reference by stages, each tile's block, then the whole array. -/
module

public import proofs.«01_k».proof.Proof.Conv.Basic
public import proofs.«01_k».proof.Proof.Gen.KernelCAIdeal.Value
public import proofs.«01_k».proof.Proof.Gen.ReferenceCAIdeal.Run

@[expose] public section

set_option maxRecDepth 16384

noncomputable section

namespace Cert.ShortConv

open Idealize.ShloMosaic Idealize.SL.Sem
open Cert.Conv

section reference

open Cert.ReferenceCAIdeal Cert.ReferenceCAIdeal.Gen

def contextPart (u : FVec Ideal S2x256x3328 .f32) (a1 : FVec Ideal S3x3328 .f32) : FVec Ideal S2x256x3328 .f32 :=
  addf (addf (addf (broadcastInDim S2x256x3328 ![] Facts₀.bcast_S_S2x256x3328 (constant S_ .f32 0x00000000#32)) (mulf (extractStridedSlice S2x256x3328 ![0, 0, 0] (pad S2x258x3328 ![0, 1, 0] ![0, 1, 0] ![0, 0, 0] u (sitofp .f32 (constantI S_ 32 0#32)) Facts₀.pads_S2x256x3328_S2x258x3328_000_110_000 Facts₀.h_S_) Facts₀.slices_S2x258x3328_S2x256x3328_0_0_0) (broadcastInDim S2x256x3328 ![0, 1, 2] Facts₀.bcast_S1x1x3328_S2x256x3328_0_1_2 (broadcastInDim S1x1x3328 ![2] Facts₀.bcast_S3328_S1x1x3328_2 (shapeCast _ (extractStridedSlice S1x3328 ![0, 0] a1 Facts₀.slices_S3x3328_S1x3328_0_0) Facts₀.shapeCasts_S1x3328_S3328))))) (mulf (extractStridedSlice S2x256x3328 ![0, 1, 0] (pad S2x258x3328 ![0, 1, 0] ![0, 1, 0] ![0, 0, 0] u (sitofp .f32 (constantI S_ 32 0#32)) Facts₀.pads_S2x256x3328_S2x258x3328_000_110_000 Facts₀.h_S_) Facts₀.slices_S2x258x3328_S2x256x3328_0_1_0) (broadcastInDim S2x256x3328 ![0, 1, 2] Facts₀.bcast_S1x1x3328_S2x256x3328_0_1_2 (broadcastInDim S1x1x3328 ![2] Facts₀.bcast_S3328_S1x1x3328_2 (shapeCast _ (extractStridedSlice S1x3328 ![1, 0] a1 Facts₀.slices_S3x3328_S1x3328_1_0) Facts₀.shapeCasts_S1x3328_S3328))))) (mulf (extractStridedSlice S2x256x3328 ![0, 2, 0] (pad S2x258x3328 ![0, 1, 0] ![0, 1, 0] ![0, 0, 0] u (sitofp .f32 (constantI S_ 32 0#32)) Facts₀.pads_S2x256x3328_S2x258x3328_000_110_000 Facts₀.h_S_) Facts₀.slices_S2x258x3328_S2x256x3328_0_2_0) (broadcastInDim S2x256x3328 ![0, 1, 2] Facts₀.bcast_S1x1x3328_S2x256x3328_0_1_2 (broadcastInDim S1x1x3328 ![2] Facts₀.bcast_S3328_S1x1x3328_2 (shapeCast _ (extractStridedSlice S1x3328 ![2, 0] a1 Facts₀.slices_S3x3328_S1x3328_2_0) Facts₀.shapeCasts_S1x3328_S3328))))

def latentPart (u : FVec Ideal S2x8192x3328 .f32) (a1 : FVec Ideal S3x3328 .f32) : FVec Ideal S2x8192x3328 .f32 :=
  addf (addf (addf (broadcastInDim S2x8192x3328 ![] Facts₀.bcast_S_S2x8192x3328 (constant S_ .f32 0x00000000#32)) (mulf (extractStridedSlice S2x8192x3328 ![0, 0, 0] (pad S2x8194x3328 ![0, 1, 0] ![0, 1, 0] ![0, 0, 0] u (sitofp .f32 (constantI S_ 32 0#32)) Facts₀.pads_S2x8192x3328_S2x8194x3328_000_110_000 Facts₀.h_S_) Facts₀.slices_S2x8194x3328_S2x8192x3328_0_0_0) (broadcastInDim S2x8192x3328 ![0, 1, 2] Facts₀.bcast_S1x1x3328_S2x8192x3328_0_1_2 (broadcastInDim S1x1x3328 ![2] Facts₀.bcast_S3328_S1x1x3328_2 (shapeCast _ (extractStridedSlice S1x3328 ![0, 0] a1 Facts₀.slices_S3x3328_S1x3328_0_0) Facts₀.shapeCasts_S1x3328_S3328))))) (mulf (extractStridedSlice S2x8192x3328 ![0, 1, 0] (pad S2x8194x3328 ![0, 1, 0] ![0, 1, 0] ![0, 0, 0] u (sitofp .f32 (constantI S_ 32 0#32)) Facts₀.pads_S2x8192x3328_S2x8194x3328_000_110_000 Facts₀.h_S_) Facts₀.slices_S2x8194x3328_S2x8192x3328_0_1_0) (broadcastInDim S2x8192x3328 ![0, 1, 2] Facts₀.bcast_S1x1x3328_S2x8192x3328_0_1_2 (broadcastInDim S1x1x3328 ![2] Facts₀.bcast_S3328_S1x1x3328_2 (shapeCast _ (extractStridedSlice S1x3328 ![1, 0] a1 Facts₀.slices_S3x3328_S1x3328_1_0) Facts₀.shapeCasts_S1x3328_S3328))))) (mulf (extractStridedSlice S2x8192x3328 ![0, 2, 0] (pad S2x8194x3328 ![0, 1, 0] ![0, 1, 0] ![0, 0, 0] u (sitofp .f32 (constantI S_ 32 0#32)) Facts₀.pads_S2x8192x3328_S2x8194x3328_000_110_000 Facts₀.h_S_) Facts₀.slices_S2x8194x3328_S2x8192x3328_0_2_0) (broadcastInDim S2x8192x3328 ![0, 1, 2] Facts₀.bcast_S1x1x3328_S2x8192x3328_0_1_2 (broadcastInDim S1x1x3328 ![2] Facts₀.bcast_S3328_S1x1x3328_2 (shapeCast _ (extractStridedSlice S1x3328 ![2, 0] a1 Facts₀.slices_S3x3328_S1x3328_2_0) Facts₀.shapeCasts_S1x3328_S3328))))

/-- Three taps of a row and its neighbours. -/
def taps (U : Fin 8448 → EReal) (w : Fin 3 → EReal) (n : Fin 8448) : EReal :=
  earlier U n 1 * w 0 + U n * w 1 + later U n 1 * w 2

theorem contextPart_apply (u : FVec Ideal S2x256x3328 .f32) (a1 : FVec Ideal S3x3328 .f32) (b : Fin 2) (n : Fin 256) (k : Fin 3328)
    (U : Fin 8448 → EReal) (hu : ∀ n : Fin 256, u (ix3 b n k) = U ⟨n.val, by omega⟩) :
    contextPart u a1 (ix3 b n k) = taps U (fun d => a1 (ix2 d k)) ⟨n.val, by omega⟩ := by
  have e := context_earlier U 1 (FloatOps.sitofp (F := Ideal) .f32 0#32) ofInt_zero n 0 1 rfl (fun n => u (ix3 b n k)) hu
  have l := context_later U 1 (FloatOps.sitofp (F := Ideal) .f32 0#32) ofInt_zero n 2 1 rfl (fun n => u (ix3 b n k)) hu
  simp only [Nat.zero_add] at e
  rw [taps, ← e, ← l, ← hu]
  pointwise [contextPart]

theorem latentPart_apply (u : FVec Ideal S2x8192x3328 .f32) (a1 : FVec Ideal S3x3328 .f32) (b : Fin 2) (n : Fin 8192) (k : Fin 3328)
    (U : Fin 8448 → EReal) (hu : ∀ n : Fin 8192, u (ix3 b n k) = U ⟨256 + n.val, by omega⟩) :
    latentPart u a1 (ix3 b n k) = taps U (fun d => a1 (ix2 d k)) ⟨256 + n.val, by omega⟩ := by
  have e := latent_earlier U 1 (FloatOps.sitofp (F := Ideal) .f32 0#32) ofInt_zero n 0 1 rfl (fun n => u (ix3 b n k)) hu
  have l := latent_later U 1 (FloatOps.sitofp (F := Ideal) .f32 0#32) ofInt_zero n 2 1 rfl (fun n => u (ix3 b n k)) hu
  simp only [Nat.zero_add] at e
  rw [taps, ← e, ← l, ← hu]
  pointwise [latentPart]

def result (a0 : FVec Ideal S2x8448x4608 .f32) (a1 : FVec Ideal S3x3328 .f32) : FVec Ideal S2x8448x3328 .f32 :=
  concatenate S2x8448x3328 1 [⟨S2x256x3328, contextPart (extractStridedSlice S2x256x3328 ![0, 0, 0] (extractStridedSlice S2x8448x3328 ![0, 0, 0] a0 Facts₀.slices_S2x8448x4608_S2x8448x3328_0_0_0) Facts₀.slices_S2x8448x3328_S2x256x3328_0_0_0) a1⟩, ⟨S2x8192x3328, latentPart (extractStridedSlice S2x8192x3328 ![0, 256, 0] (extractStridedSlice S2x8448x3328 ![0, 0, 0] a0 Facts₀.slices_S2x8448x4608_S2x8448x3328_0_0_0) Facts₀.slices_S2x8448x3328_S2x8192x3328_0_256_0) a1⟩] Facts₀.concatenates_S2x256x3328_S2x8192x3328_S2x8448x3328_d1

theorem result_apply (a0 : FVec Ideal S2x8448x4608 .f32) (a1 : FVec Ideal S3x3328 .f32) (b : Fin 2) (n : Fin 8448) (k : Fin 3328) :
    result a0 a1 (ix3 b n k) = taps (fun n => a0 (ix3 b n ⟨k.val, by omega⟩)) (fun d => a1 (ix2 d k)) n := by
  have ec : ∀ n : Fin 256, extractStridedSlice S2x256x3328 ![0, 0, 0] (extractStridedSlice S2x8448x3328 ![0, 0, 0] a0 Facts₀.slices_S2x8448x4608_S2x8448x3328_0_0_0) Facts₀.slices_S2x8448x3328_S2x256x3328_0_0_0 (ix3 b n k)
      = a0 (ix3 b ⟨n.val, by omega⟩ ⟨k.val, by omega⟩) := fun n => by pointwise
  have el : ∀ n : Fin 8192, extractStridedSlice S2x8192x3328 ![0, 256, 0] (extractStridedSlice S2x8448x3328 ![0, 0, 0] a0 Facts₀.slices_S2x8448x4608_S2x8448x3328_0_0_0) Facts₀.slices_S2x8448x3328_S2x8192x3328_0_256_0 (ix3 b n k)
      = a0 (ix3 b ⟨256 + n.val, by omega⟩ ⟨k.val, by omega⟩) := fun n => by pointwise
  have e : result a0 a1 (ix3 b n k) = if h : n.val < 256 then
      contextPart (extractStridedSlice S2x256x3328 ![0, 0, 0] (extractStridedSlice S2x8448x3328 ![0, 0, 0] a0 Facts₀.slices_S2x8448x4608_S2x8448x3328_0_0_0) Facts₀.slices_S2x8448x3328_S2x256x3328_0_0_0) a1 (ix3 b ⟨n.val, h⟩ k)
      else latentPart (extractStridedSlice S2x8192x3328 ![0, 256, 0] (extractStridedSlice S2x8448x3328 ![0, 0, 0] a0 Facts₀.slices_S2x8448x4608_S2x8448x3328_0_0_0) Facts₀.slices_S2x8448x3328_S2x8192x3328_0_256_0) a1 (ix3 b ⟨n.val - 256, by omega⟩ k) := by
    pointwise [result]
  rw [e]
  by_cases h : n.val < 256
  · rw [dif_pos h]
    exact contextPart_apply _ a1 b ⟨n.val, h⟩ k (fun n => a0 (ix3 b n ⟨k.val, by omega⟩)) ec
  · rw [dif_neg h]
    refine (latentPart_apply _ a1 b ⟨n.val - 256, by omega⟩ k (fun n => a0 (ix3 b n ⟨k.val, by omega⟩)) el).trans (congrArg (taps _ _) (Fin.ext ?_))
    dsimp only
    omega

variable (m : (ℓ : Loc nD τ sig) → Buf (Elt Ideal) ℓ) (c : Dev nD)

theorem result_congr {a0 : FVec Ideal S2x8448x4608 .f32} {a1 : FVec Ideal S3x3328 .f32}
    (h0 : m ((c.tc : Thread nD τ).loc main_arg0) = a0) (h1 : m ((c.tc : Thread nD τ).loc main_arg1) = a1) :
    Cert.ReferenceCAIdeal.Value.res_main_v49 m c = result a0 a1 := by
  subst h0 h1
  rfl

theorem frame_reference : Cert.quiescent_ReferenceCAIdeal := fun m g _ =>
  (θ_run _ _ _).mono (fun r h => ⟨fun c => (h c).2, sem_eq_zero_of_no_sems (by decide) _⟩) (Cert.ReferenceCAIdeal.Value.run m g)

end reference

section kernel

open Cert.KernelCAIdeal Cert.KernelCAIdeal.Gen

theorem window_apply (x1 : Vec Ideal S1x8x256 .f32) (x0 : Vec Ideal S1x1408x256 .f32) (x2 : Vec Ideal S1x8x256 .f32) (e : Fin 1424) (k : Fin 256) :
    k0_pay2 x1 x0 x2 (ix2 e k) = if h : e.val < 8 then x1 (ix3 0 ⟨e.val, h⟩ k)
      else if h : e.val - 8 < 1408 then x0 (ix3 0 ⟨e.val - 8, h⟩ k) else x2 (ix3 0 ⟨e.val - 8 - 1408, by omega⟩ k) := by
  pointwise [k0_pay2]

theorem centre_apply (x0 : Vec Ideal S1x1408x256 .f32) (w : Vec Ideal S1x256 .f32) (r : Fin 1408) (k : Fin 256) :
    k0_pay4 x0 w (ix2 r k) = x0 (ix3 0 r k) * w (ix2 0 k) := by
  pointwise [k0_pay4]

theorem position_apply (i : grid0.Coords) (r : Fin 1408) : k0_pay3 i (ix2 r 0) = BitVec.ofNat 32 ((i 1).val * 1408 + r.val) := by
  pointwise [k0_pay3]
  exact position (i 1) r

theorem before_apply (i : grid0.Coords) (x1 : Vec Ideal S1x8x256 .f32) (x0 : Vec Ideal S1x1408x256 .f32) (x2 : Vec Ideal S1x8x256 .f32) (r : Fin 1408) (k : Fin 256) :
    k0_pay5 i x1 x0 x2 (ix2 r k) = Scalar.select (earlierOk (k0_pay3 i (ix2 r 0)) 4294967295#32) (k0_pay2 x1 x0 x2 (ix2 ⟨7 + r.val, by omega⟩ k)) 0 := by
  pointwise [k0_pay5]
  rfl

theorem sum_apply (v6 : FVec Ideal S1424x256 .f32) (v10 : IVec S1408x1 32) (v15 : FVec Ideal S1408x256 .f32) (v34 : FVec Ideal S1408x256 .f32) (v35 : Vec Ideal S1x256 .f32) (v58 : Vec Ideal S1x256 .f32) (r : Fin 1408) (k : Fin 256) :
    k0_pay1 v6 v10 v15 v34 v35 v58 (ix3 0 r k) = v15 (ix2 r k) + v34 (ix2 r k) * v35 (ix2 0 k)
      + Scalar.select (laterOk (v10 (ix2 r 0)) 1#32) (v6 (ix2 ⟨9 + r.val, by omega⟩ k)) 0 * v58 (ix2 0 k) := by
  pointwise [k0_pay1]
  rfl

theorem whole3 : (![0, 0, 0] : Fin 3 → ℕ) = fun _ => 0 := by decide

section tile

variable (i : grid0.Coords) (x0 : Vec Ideal S1x1408x256 .f32) (x1 x2 : Vec Ideal S1x8x256 .f32) (x3 : Vec Ideal S3x256 .f32) (x4 : Vec Ideal S1x256 .f32)

theorem row0 (k : Fin 256) : View.ld x3 r0_3 (ix2 0 k) = x3 (ix2 0 k) := congrArg x3 (funext fun a => match a with
  | ⟨0, _⟩ => rfl
  | ⟨1, _⟩ => Fin.ext (by show 0 + 1 * k.val = k.val; omega))

theorem row1 (k : Fin 256) : View.ld x3 r0_2 (ix2 0 k) = x3 (ix2 1 k) := congrArg x3 (funext fun a => match a with
  | ⟨0, _⟩ => rfl
  | ⟨1, _⟩ => Fin.ext (by show 0 + 1 * k.val = k.val; omega))

theorem row2 (k : Fin 256) : View.ld x3 r0_4 (ix2 0 k) = x3 (ix2 2 k) := congrArg x3 (funext fun a => match a with
  | ⟨0, _⟩ => rfl
  | ⟨1, _⟩ => Fin.ext (by show 0 + 1 * k.val = k.val; omega))

theorem tile_apply (q : Fin 6) (hq : (i 1).val = q.val) (r : Fin 1408) (k : Fin 256) (U : Fin 8448 → EReal)
    (h0 : ∀ r : Fin 1408, x0 (ix3 0 r k) = U ⟨q.val * 1408 + r.val, by omega⟩)
    (h1 : ∀ s : Fin 8, x1 (ix3 0 s k) = U ⟨max (q.val * 176 - 1) 0 * 8 + s.val, by omega⟩)
    (h2 : ∀ s : Fin 8, x2 (ix3 0 s k) = U ⟨min ((q.val + 1) * 176) 1055 * 8 + s.val, by omega⟩) :
    out0_5 i x0 x1 x2 x3 x4 (ix3 0 r k) = taps U (fun d => x3 (ix2 d k)) ⟨q.val * 1408 + r.val, by omega⟩ := by
  have hE : Window U q (fun e => k0_pay2 x1 x0 x2 (ix2 e k)) :=
    window_of U q _ (fun s => x1 (ix3 0 s k)) (fun r => x0 (ix3 0 r k)) (fun s => x2 (ix3 0 s k)) h1 h0 h2 (fun e => window_apply x1 x0 x2 e k)
  have e := select_earlier hE r 0
  have l := select_later hE r 0
  rw [out0_5, View.canon_unit_zero (S := S1x1408x256) whole3]
  simp only [View.ld_unit_zero (S := S1x1408x256) whole3, View.ld_unit_zero (S := S1x8x256) whole3]
  rw [sum_apply, centre_apply, before_apply, position_apply, hq, row0, row1, row2, h0, taps]
  exact congrArg₂ (· + ·) ((add_comm _ _).trans (congrArg (· * x3 (ix2 0 k) + _) e)) (congrArg (· * x3 (ix2 2 k)) l)

end tile

variable (m : (ℓ : Loc nD τ sig) → Buf (Elt Ideal) ℓ) (c : Dev nD) (t : Fin grid0.N)

/-- A grid point is a batch row, a tile of 1408 rows and one of 256 columns, in this order. -/
theorem idx : ∀ t : Fin grid0.N, win0_0.index t = ![t.val / 78, t.val / 13 % 6, t.val % 13]
    ∧ win0_1.index t = ![t.val / 78, max (t.val / 13 % 6 * 176 - 1) 0, t.val % 13] ∧ win0_2.index t = ![t.val / 78, min ((t.val / 13 % 6 + 1) * 176) 1055, t.val % 13]
    ∧ win0_3.index t = ![0, t.val % 13] ∧ win0_5.index t = ![t.val / 78, t.val / 13 % 6, t.val % 13] := by decide +kernel

theorem coord : ∀ t : Fin grid0.N, (grid0.coords t 1).val = t.val / 13 % 6 := by decide +kernel

theorem point_lt : t.val < 156 := lt_of_lt_of_eq t.isLt Gen.N_0

abbrev bat : Fin 2 := ⟨t.val / 78, by have := point_lt t; omega⟩
abbrev pos : Fin 6 := ⟨t.val / 13 % 6, by omega⟩
abbrev col (k : Fin 256) : Fin 3328 := ⟨t.val % 13 * 256 + k.val, by omega⟩

section blocks

variable (k : Fin 256)

theorem rows_block (r : Fin 1408) : iblk m c 0 t (ix3 0 r k) = m ((c.tc : Thread nD τ).loc main_arg0) (ix3 (bat t) ⟨(pos t).val * 1408 + r.val, by omega⟩ ⟨(col t k).val, by omega⟩) := by
  have ht := point_lt t
  blk_point [iblk, V, idx t]

theorem before_block (s : Fin 8) : iblk m c 1 t (ix3 0 s k) = m ((c.tc : Thread nD τ).loc main_arg0) (ix3 (bat t) ⟨max ((pos t).val * 176 - 1) 0 * 8 + s.val, by omega⟩ ⟨(col t k).val, by omega⟩) := by
  have ht := point_lt t
  blk_point [iblk, V, idx t]

theorem after_block (s : Fin 8) : iblk m c 2 t (ix3 0 s k) = m ((c.tc : Thread nD τ).loc main_arg0) (ix3 (bat t) ⟨min (((pos t).val + 1) * 176) 1055 * 8 + s.val, by omega⟩ ⟨(col t k).val, by omega⟩) := by
  have ht := point_lt t
  blk_point [iblk, V, idx t]

theorem weight_block (d : Fin 3) : iblk m c 3 t (ix2 d k) = m ((c.tc : Thread nD τ).loc main_arg1) (ix2 d (col t k)) := by
  have ht := point_lt t
  blk_point [iblk, V, idx t]

end blocks

theorem idx_block (j : S1x1408x256.Idx) : ∃ (r : Fin 1408) (k : Fin 256), j = ix3 0 r k :=
  ⟨j 1, j 2, funext fun x => match x with
    | ⟨0, _⟩ => Subsingleton.elim (α := Fin 1) _ _
    | ⟨1, _⟩ => rfl
    | ⟨2, _⟩ => rfl⟩

theorem array_eq {a0 : FVec Ideal S2x8448x4608 .f32} {a1 : FVec Ideal S3x3328 .f32}
    (h0 : m ((c.tc : Thread nD τ).loc main_arg0) = a0) (h1 : m ((c.tc : Thread nD τ).loc main_arg1) = a1) : (dats m 0 c).arrAt 5 cfg0.N = result a0 a1 := by
  refine (dats m 0 c).arrAt_eq_of_covers 5 _ (by decide +kernel) fun t hf y => ?_
  have ht := point_lt t
  blk_simp
  rw [after0_5]
  obtain ⟨r, k, rfl⟩ := idx_block y
  refine ((tile_apply (grid0.coords t) (iblk m c 0 t) (iblk m c 1 t) (iblk m c 2 t) (iblk m c 3 t) (iblk m c 4 t) (pos t) (coord t) r k
    (fun n => a0 (ix3 (bat t) n ⟨(col t k).val, by omega⟩)) (fun r => (rows_block m c t k r).trans (by rw [h0])) (fun s => (before_block m c t k s).trans (by rw [h0]))
    (fun s => (after_block m c t k s).trans (by rw [h0]))).trans ?_).trans
    (congrArg (result a0 a1) (show ix3 (bat t) ⟨(pos t).val * 1408 + r.val, by omega⟩ (col t k) = _ from ?_))
  · rw [result_apply]
    simp only [weight_block, h1]
  · blk_ext [idx t]

theorem algebraic : Cert.algebraic_KernelCAIdeal_ReferenceCAIdeal := by
  intro m g m' g' hpre hagree
  refine ⟨fun c => (Cert.KernelCAIdeal.Gen.dats m 0 c).arrAt 5 Cert.KernelCAIdeal.cfg0.N, Cert.KernelCAIdeal.Value.run_blocks m g, ?_⟩
  refine (θ_run _ _ _).mono (fun r h c => ⟨(h c).1.trans ?_, (h c).2⟩) (Cert.ReferenceCAIdeal.Value.run m' g')
  obtain ⟨e0, e1⟩ := hagree c
  exact (result_congr m' c e0 e1).trans (array_eq m c rfl rfl).symm

end kernel

end Cert.ShortConv

end
-- ==== Proof.Conv.Long.lean ====
/- The convolution of the scan's columns, five taps, with its bias and its silu: the reference by stages, each tile's block, then the whole array. -/
module

public import proofs.«01_k».proof.Proof.Conv.Basic
public import proofs.«01_k».proof.Proof.Modulation.Value
public import proofs.«01_k».proof.Proof.Gen.KernelCCIdeal.Value
public import proofs.«01_k».proof.Proof.Gen.ReferenceCCIdeal.Run

@[expose] public section

set_option maxRecDepth 16384

noncomputable section

namespace Cert.LongConv

open Idealize.ShloMosaic Idealize.SL.Sem
open Cert.Conv

section reference

open Cert.ReferenceCCIdeal Cert.ReferenceCCIdeal.Gen

def contextPart (u : FVec Ideal S2x256x4096 .f32) (a1 : FVec Ideal S5x4096 .f32) : FVec Ideal S2x256x4096 .f32 :=
  addf (addf (addf (addf (addf (broadcastInDim S2x256x4096 ![] Facts₀.bcast_S_S2x256x4096 (constant S_ .f32 0x00000000#32)) (mulf (extractStridedSlice S2x256x4096 ![0, 0, 0] (pad S2x260x4096 ![0, 2, 0] ![0, 2, 0] ![0, 0, 0] u (sitofp .f32 (constantI S_ 32 0#32)) Facts₀.pads_S2x256x4096_S2x260x4096_000_220_000 Facts₀.h_S_) Facts₀.slices_S2x260x4096_S2x256x4096_0_0_0) (broadcastInDim S2x256x4096 ![0, 1, 2] Facts₀.bcast_S1x1x4096_S2x256x4096_0_1_2 (broadcastInDim S1x1x4096 ![2] Facts₀.bcast_S4096_S1x1x4096_2 (shapeCast _ (extractStridedSlice S1x4096 ![0, 0] a1 Facts₀.slices_S5x4096_S1x4096_0_0) Facts₀.shapeCasts_S1x4096_S4096))))) (mulf (extractStridedSlice S2x256x4096 ![0, 1, 0] (pad S2x260x4096 ![0, 2, 0] ![0, 2, 0] ![0, 0, 0] u (sitofp .f32 (constantI S_ 32 0#32)) Facts₀.pads_S2x256x4096_S2x260x4096_000_220_000 Facts₀.h_S_) Facts₀.slices_S2x260x4096_S2x256x4096_0_1_0) (broadcastInDim S2x256x4096 ![0, 1, 2] Facts₀.bcast_S1x1x4096_S2x256x4096_0_1_2 (broadcastInDim S1x1x4096 ![2] Facts₀.bcast_S4096_S1x1x4096_2 (shapeCast _ (extractStridedSlice S1x4096 ![1, 0] a1 Facts₀.slices_S5x4096_S1x4096_1_0) Facts₀.shapeCasts_S1x4096_S4096))))) (mulf (extractStridedSlice S2x256x4096 ![0, 2, 0] (pad S2x260x4096 ![0, 2, 0] ![0, 2, 0] ![0, 0, 0] u (sitofp .f32 (constantI S_ 32 0#32)) Facts₀.pads_S2x256x4096_S2x260x4096_000_220_000 Facts₀.h_S_) Facts₀.slices_S2x260x4096_S2x256x4096_0_2_0) (broadcastInDim S2x256x4096 ![0, 1, 2] Facts₀.bcast_S1x1x4096_S2x256x4096_0_1_2 (broadcastInDim S1x1x4096 ![2] Facts₀.bcast_S4096_S1x1x4096_2 (shapeCast _ (extractStridedSlice S1x4096 ![2, 0] a1 Facts₀.slices_S5x4096_S1x4096_2_0) Facts₀.shapeCasts_S1x4096_S4096))))) (mulf (extractStridedSlice S2x256x4096 ![0, 3, 0] (pad S2x260x4096 ![0, 2, 0] ![0, 2, 0] ![0, 0, 0] u (sitofp .f32 (constantI S_ 32 0#32)) Facts₀.pads_S2x256x4096_S2x260x4096_000_220_000 Facts₀.h_S_) Facts₀.slices_S2x260x4096_S2x256x4096_0_3_0) (broadcastInDim S2x256x4096 ![0, 1, 2] Facts₀.bcast_S1x1x4096_S2x256x4096_0_1_2 (broadcastInDim S1x1x4096 ![2] Facts₀.bcast_S4096_S1x1x4096_2 (shapeCast _ (extractStridedSlice S1x4096 ![3, 0] a1 Facts₀.slices_S5x4096_S1x4096_3_0) Facts₀.shapeCasts_S1x4096_S4096))))) (mulf (extractStridedSlice S2x256x4096 ![0, 4, 0] (pad S2x260x4096 ![0, 2, 0] ![0, 2, 0] ![0, 0, 0] u (sitofp .f32 (constantI S_ 32 0#32)) Facts₀.pads_S2x256x4096_S2x260x4096_000_220_000 Facts₀.h_S_) Facts₀.slices_S2x260x4096_S2x256x4096_0_4_0) (broadcastInDim S2x256x4096 ![0, 1, 2] Facts₀.bcast_S1x1x4096_S2x256x4096_0_1_2 (broadcastInDim S1x1x4096 ![2] Facts₀.bcast_S4096_S1x1x4096_2 (shapeCast _ (extractStridedSlice S1x4096 ![4, 0] a1 Facts₀.slices_S5x4096_S1x4096_4_0) Facts₀.shapeCasts_S1x4096_S4096))))

def latentPart (u : FVec Ideal S2x8192x4096 .f32) (a1 : FVec Ideal S5x4096 .f32) : FVec Ideal S2x8192x4096 .f32 :=
  addf (addf (addf (addf (addf (broadcastInDim S2x8192x4096 ![] Facts₀.bcast_S_S2x8192x4096 (constant S_ .f32 0x00000000#32)) (mulf (extractStridedSlice S2x8192x4096 ![0, 0, 0] (pad S2x8196x4096 ![0, 2, 0] ![0, 2, 0] ![0, 0, 0] u (sitofp .f32 (constantI S_ 32 0#32)) Facts₀.pads_S2x8192x4096_S2x8196x4096_000_220_000 Facts₀.h_S_) Facts₀.slices_S2x8196x4096_S2x8192x4096_0_0_0) (broadcastInDim S2x8192x4096 ![0, 1, 2] Facts₀.bcast_S1x1x4096_S2x8192x4096_0_1_2 (broadcastInDim S1x1x4096 ![2] Facts₀.bcast_S4096_S1x1x4096_2 (shapeCast _ (extractStridedSlice S1x4096 ![0, 0] a1 Facts₀.slices_S5x4096_S1x4096_0_0) Facts₀.shapeCasts_S1x4096_S4096))))) (mulf (extractStridedSlice S2x8192x4096 ![0, 1, 0] (pad S2x8196x4096 ![0, 2, 0] ![0, 2, 0] ![0, 0, 0] u (sitofp .f32 (constantI S_ 32 0#32)) Facts₀.pads_S2x8192x4096_S2x8196x4096_000_220_000 Facts₀.h_S_) Facts₀.slices_S2x8196x4096_S2x8192x4096_0_1_0) (broadcastInDim S2x8192x4096 ![0, 1, 2] Facts₀.bcast_S1x1x4096_S2x8192x4096_0_1_2 (broadcastInDim S1x1x4096 ![2] Facts₀.bcast_S4096_S1x1x4096_2 (shapeCast _ (extractStridedSlice S1x4096 ![1, 0] a1 Facts₀.slices_S5x4096_S1x4096_1_0) Facts₀.shapeCasts_S1x4096_S4096))))) (mulf (extractStridedSlice S2x8192x4096 ![0, 2, 0] (pad S2x8196x4096 ![0, 2, 0] ![0, 2, 0] ![0, 0, 0] u (sitofp .f32 (constantI S_ 32 0#32)) Facts₀.pads_S2x8192x4096_S2x8196x4096_000_220_000 Facts₀.h_S_) Facts₀.slices_S2x8196x4096_S2x8192x4096_0_2_0) (broadcastInDim S2x8192x4096 ![0, 1, 2] Facts₀.bcast_S1x1x4096_S2x8192x4096_0_1_2 (broadcastInDim S1x1x4096 ![2] Facts₀.bcast_S4096_S1x1x4096_2 (shapeCast _ (extractStridedSlice S1x4096 ![2, 0] a1 Facts₀.slices_S5x4096_S1x4096_2_0) Facts₀.shapeCasts_S1x4096_S4096))))) (mulf (extractStridedSlice S2x8192x4096 ![0, 3, 0] (pad S2x8196x4096 ![0, 2, 0] ![0, 2, 0] ![0, 0, 0] u (sitofp .f32 (constantI S_ 32 0#32)) Facts₀.pads_S2x8192x4096_S2x8196x4096_000_220_000 Facts₀.h_S_) Facts₀.slices_S2x8196x4096_S2x8192x4096_0_3_0) (broadcastInDim S2x8192x4096 ![0, 1, 2] Facts₀.bcast_S1x1x4096_S2x8192x4096_0_1_2 (broadcastInDim S1x1x4096 ![2] Facts₀.bcast_S4096_S1x1x4096_2 (shapeCast _ (extractStridedSlice S1x4096 ![3, 0] a1 Facts₀.slices_S5x4096_S1x4096_3_0) Facts₀.shapeCasts_S1x4096_S4096))))) (mulf (extractStridedSlice S2x8192x4096 ![0, 4, 0] (pad S2x8196x4096 ![0, 2, 0] ![0, 2, 0] ![0, 0, 0] u (sitofp .f32 (constantI S_ 32 0#32)) Facts₀.pads_S2x8192x4096_S2x8196x4096_000_220_000 Facts₀.h_S_) Facts₀.slices_S2x8196x4096_S2x8192x4096_0_4_0) (broadcastInDim S2x8192x4096 ![0, 1, 2] Facts₀.bcast_S1x1x4096_S2x8192x4096_0_1_2 (broadcastInDim S1x1x4096 ![2] Facts₀.bcast_S4096_S1x1x4096_2 (shapeCast _ (extractStridedSlice S1x4096 ![4, 0] a1 Facts₀.slices_S5x4096_S1x4096_4_0) Facts₀.shapeCasts_S1x4096_S4096))))

/-- Five taps of a row and its neighbours. -/
def taps (U : Fin 8448 → EReal) (w : Fin 5 → EReal) (n : Fin 8448) : EReal :=
  earlier U n 2 * w 0 + earlier U n 1 * w 1 + U n * w 2 + later U n 1 * w 3 + later U n 2 * w 4

theorem contextPart_apply (u : FVec Ideal S2x256x4096 .f32) (a1 : FVec Ideal S5x4096 .f32) (b : Fin 2) (n : Fin 256) (k : Fin 4096)
    (U : Fin 8448 → EReal) (hu : ∀ n : Fin 256, u (ix3 b n k) = U ⟨n.val, by omega⟩) :
    contextPart u a1 (ix3 b n k) = taps U (fun d => a1 (ix2 d k)) ⟨n.val, by omega⟩ := by
  have e2 := context_earlier U 2 (FloatOps.sitofp (F := Ideal) .f32 0#32) ofInt_zero n 0 2 rfl (fun n => u (ix3 b n k)) hu
  have e1 := context_earlier U 1 (FloatOps.sitofp (F := Ideal) .f32 0#32) ofInt_zero n 1 2 rfl (fun n => u (ix3 b n k)) hu
  have l1 := context_later U 1 (FloatOps.sitofp (F := Ideal) .f32 0#32) ofInt_zero n 3 2 rfl (fun n => u (ix3 b n k)) hu
  have l2 := context_later U 2 (FloatOps.sitofp (F := Ideal) .f32 0#32) ofInt_zero n 4 2 rfl (fun n => u (ix3 b n k)) hu
  simp only [Nat.zero_add] at e2
  rw [taps, ← e2, ← e1, ← l1, ← l2, ← hu]
  pointwise [contextPart]

theorem latentPart_apply (u : FVec Ideal S2x8192x4096 .f32) (a1 : FVec Ideal S5x4096 .f32) (b : Fin 2) (n : Fin 8192) (k : Fin 4096)
    (U : Fin 8448 → EReal) (hu : ∀ n : Fin 8192, u (ix3 b n k) = U ⟨256 + n.val, by omega⟩) :
    latentPart u a1 (ix3 b n k) = taps U (fun d => a1 (ix2 d k)) ⟨256 + n.val, by omega⟩ := by
  have e2 := latent_earlier U 2 (FloatOps.sitofp (F := Ideal) .f32 0#32) ofInt_zero n 0 2 rfl (fun n => u (ix3 b n k)) hu
  have e1 := latent_earlier U 1 (FloatOps.sitofp (F := Ideal) .f32 0#32) ofInt_zero n 1 2 rfl (fun n => u (ix3 b n k)) hu
  have l1 := latent_later U 1 (FloatOps.sitofp (F := Ideal) .f32 0#32) ofInt_zero n 3 2 rfl (fun n => u (ix3 b n k)) hu
  have l2 := latent_later U 2 (FloatOps.sitofp (F := Ideal) .f32 0#32) ofInt_zero n 4 2 rfl (fun n => u (ix3 b n k)) hu
  simp only [Nat.zero_add] at e2
  rw [taps, ← e2, ← e1, ← l1, ← l2, ← hu]
  pointwise [latentPart]

def convolved (a0 : FVec Ideal S2x8448x6144 .f32) (a1 : FVec Ideal S5x4096 .f32) : FVec Ideal S2x8448x4096 .f32 :=
  concatenate S2x8448x4096 1 [⟨S2x256x4096, contextPart (extractStridedSlice S2x256x4096 ![0, 0, 0] (extractStridedSlice S2x8448x4096 ![0, 0, 2048] a0 Facts₀.slices_S2x8448x6144_S2x8448x4096_0_0_2048) Facts₀.slices_S2x8448x4096_S2x256x4096_0_0_0) a1⟩, ⟨S2x8192x4096, latentPart (extractStridedSlice S2x8192x4096 ![0, 256, 0] (extractStridedSlice S2x8448x4096 ![0, 0, 2048] a0 Facts₀.slices_S2x8448x6144_S2x8448x4096_0_0_2048) Facts₀.slices_S2x8448x4096_S2x8192x4096_0_256_0) a1⟩] Facts₀.concatenates_S2x256x4096_S2x8192x4096_S2x8448x4096_d1

theorem convolved_apply (a0 : FVec Ideal S2x8448x6144 .f32) (a1 : FVec Ideal S5x4096 .f32) (b : Fin 2) (n : Fin 8448) (k : Fin 4096) :
    convolved a0 a1 (ix3 b n k) = taps (fun n => a0 (ix3 b n ⟨2048 + k.val, by omega⟩)) (fun d => a1 (ix2 d k)) n := by
  have ec : ∀ n : Fin 256, extractStridedSlice S2x256x4096 ![0, 0, 0] (extractStridedSlice S2x8448x4096 ![0, 0, 2048] a0 Facts₀.slices_S2x8448x6144_S2x8448x4096_0_0_2048) Facts₀.slices_S2x8448x4096_S2x256x4096_0_0_0 (ix3 b n k)
      = a0 (ix3 b ⟨n.val, by omega⟩ ⟨2048 + k.val, by omega⟩) := fun n => by pointwise
  have el : ∀ n : Fin 8192, extractStridedSlice S2x8192x4096 ![0, 256, 0] (extractStridedSlice S2x8448x4096 ![0, 0, 2048] a0 Facts₀.slices_S2x8448x6144_S2x8448x4096_0_0_2048) Facts₀.slices_S2x8448x4096_S2x8192x4096_0_256_0 (ix3 b n k)
      = a0 (ix3 b ⟨256 + n.val, by omega⟩ ⟨2048 + k.val, by omega⟩) := fun n => by pointwise
  have e : convolved a0 a1 (ix3 b n k) = if h : n.val < 256 then
      contextPart (extractStridedSlice S2x256x4096 ![0, 0, 0] (extractStridedSlice S2x8448x4096 ![0, 0, 2048] a0 Facts₀.slices_S2x8448x6144_S2x8448x4096_0_0_2048) Facts₀.slices_S2x8448x4096_S2x256x4096_0_0_0) a1 (ix3 b ⟨n.val, h⟩ k)
      else latentPart (extractStridedSlice S2x8192x4096 ![0, 256, 0] (extractStridedSlice S2x8448x4096 ![0, 0, 2048] a0 Facts₀.slices_S2x8448x6144_S2x8448x4096_0_0_2048) Facts₀.slices_S2x8448x4096_S2x8192x4096_0_256_0) a1 (ix3 b ⟨n.val - 256, by omega⟩ k) := by
    pointwise [convolved]
  rw [e]
  by_cases h : n.val < 256
  · rw [dif_pos h]
    exact contextPart_apply _ a1 b ⟨n.val, h⟩ k (fun n => a0 (ix3 b n ⟨2048 + k.val, by omega⟩)) ec
  · rw [dif_neg h]
    refine (latentPart_apply _ a1 b ⟨n.val - 256, by omega⟩ k (fun n => a0 (ix3 b n ⟨2048 + k.val, by omega⟩)) el).trans (congrArg (taps _ _) (Fin.ext ?_))
    dsimp only
    omega

variable (a0 : FVec Ideal S2x8448x6144 .f32) (a1 : FVec Ideal S5x4096 .f32) (a2 : FVec Ideal S4096 .f32)

def biased : FVec Ideal S2x8448x4096 .f32 :=
  addf (convolved a0 a1) (broadcastInDim S2x8448x4096 ![0, 1, 2] Facts₀.bcast_S1x1x4096_S2x8448x4096_0_1_2 (broadcastInDim S1x1x4096 ![2] Facts₀.bcast_S4096_S1x1x4096_2 a2))

theorem biased_apply (b : Fin 2) (n : Fin 8448) (k : Fin 4096) : biased a0 a1 a2 (ix3 b n k)
    = taps (fun n => a0 (ix3 b n ⟨2048 + k.val, by omega⟩)) (fun d => a1 (ix2 d k)) n + a2 (ix1 k) := by
  rw [← convolved_apply]
  pointwise [biased]

def result : FVec Ideal S2x8448x4096 .f32 :=
  mulf (biased a0 a1 a2) (Host.divf (broadcastInDim S2x8448x4096 ![] Facts₀.bcast_S_S2x8448x4096 (constant S_ .f32 0x3F800000#32)) (addf (broadcastInDim S2x8448x4096 ![] Facts₀.bcast_S_S2x8448x4096 (constant S_ .f32 0x3F800000#32)) (Host.exp (Host.negf (biased a0 a1 a2)))))

theorem result_apply (b : Fin 2) (n : Fin 8448) (k : Fin 4096) : result a0 a1 a2 (ix3 b n k)
    = Modulation.silu (taps (fun n => a0 (ix3 b n ⟨2048 + k.val, by omega⟩)) (fun d => a1 (ix2 d k)) n + a2 (ix1 k)) := by
  rw [← biased_apply]
  pointwise [result, Modulation.silu]

variable (m : (ℓ : Loc nD τ sig) → Buf (Elt Ideal) ℓ) (c : Dev nD)

theorem result_congr (h0 : m ((c.tc : Thread nD τ).loc main_arg0) = a0) (h1 : m ((c.tc : Thread nD τ).loc main_arg1) = a1)
    (h2 : m ((c.tc : Thread nD τ).loc main_arg2) = a2) : Cert.ReferenceCCIdeal.Value.res_main_v81 m c = result a0 a1 a2 := by
  subst h0 h1 h2
  rfl

theorem frame_reference : Cert.quiescent_ReferenceCCIdeal := fun m g _ =>
  (θ_run _ _ _).mono (fun r h => ⟨fun c => (h c).2, sem_eq_zero_of_no_sems (by decide) _⟩) (Cert.ReferenceCCIdeal.Value.run m g)

end reference

section kernel

open Cert.KernelCCIdeal Cert.KernelCCIdeal.Gen

theorem window_apply (x1 : Vec Ideal S1x8x512 .f32) (x0 : Vec Ideal S1x1408x512 .f32) (x2 : Vec Ideal S1x8x512 .f32) (e : Fin 1424) (k : Fin 512) :
    k0_pay2 x1 x0 x2 (ix2 e k) = if h : e.val < 8 then x1 (ix3 0 ⟨e.val, h⟩ k)
      else if h : e.val - 8 < 1408 then x0 (ix3 0 ⟨e.val - 8, h⟩ k) else x2 (ix3 0 ⟨e.val - 8 - 1408, by omega⟩ k) := by
  pointwise [k0_pay2]

theorem centre_apply (x0 : Vec Ideal S1x1408x512 .f32) (w : Vec Ideal S1x512 .f32) (r : Fin 1408) (k : Fin 512) :
    k0_pay4 x0 w (ix2 r k) = x0 (ix3 0 r k) * w (ix2 0 k) := by
  pointwise [k0_pay4]

theorem position_apply (i : grid0.Coords) (r : Fin 1408) : k0_pay3 i (ix2 r 0) = BitVec.ofNat 32 ((i 1).val * 1408 + r.val) := by
  pointwise [k0_pay3]
  exact position (i 1) r

theorem before_apply (i : grid0.Coords) (x1 : Vec Ideal S1x8x512 .f32) (x0 : Vec Ideal S1x1408x512 .f32) (x2 : Vec Ideal S1x8x512 .f32) (r : Fin 1408) (k : Fin 512) :
    k0_pay5 i x1 x0 x2 (ix2 r k) = Scalar.select (earlierOk (k0_pay3 i (ix2 r 0)) 4294967294#32) (k0_pay2 x1 x0 x2 (ix2 ⟨6 + r.val, by omega⟩ k)) 0 := by
  pointwise [k0_pay5, earlierOk]

section sum

variable (v6 : FVec Ideal S1424x512 .f32) (v10 : IVec S1408x1 32) (r : Fin 1408) (k : Fin 512)

/-- The sum after the two taps before the centre, at any word for the second one's offset. -/
def before (w : BitVec 32) (v15 v34 : FVec Ideal S1408x512 .f32) (v35 v58 : Vec Ideal S1x512 .f32) : FVec Ideal S1408x512 .f32 :=
  have v36 : FVec Ideal S1408x512 .f32 := broadcastTo S1408x512 v35 broadcasts_S1x512_S1408x512
  have v37 : FVec Ideal S1408x512 .f32 := mulf v34 v36
  have v38 : FVec Ideal S1408x512 .f32 := addf v15 v37
  have v39 : IVec S1408x1 32 := broadcast S1408x1 w
  have v40 : IVec S1408x1 32 := addi v10 v39
  have v41 : IVec S1408x1 32 := broadcast S1408x1 256#32
  have v42 : IVec S1408x1 1 := cmpi .slt v40 v41
  have v43 : IVec S1408x1 32 := broadcast S1408x1 256#32
  have v44 : IVec S1408x1 1 := cmpi .sge v10 v43
  have v45 : IVec S1408x1 1 := andi v42 v44
  have v46 : IVec S1408x1 32 := broadcast S1408x1 0#32
  have v47 : IVec S1408x1 1 := cmpi .sge v40 v46
  have v48 : IVec S1408x1 32 := broadcast S1408x1 8448#32
  have v49 : IVec S1408x1 1 := cmpi .slt v40 v48
  have v50 : IVec S1408x1 1 := andi v47 v49
  have cst_20 : IVec S1408x1 1 := constantI S1408x1 1 1#1
  have v51 : IVec S1408x1 1 := xori v45 cst_20
  have v52 : IVec S1408x1 1 := andi v50 v51
  have v53 : FVec Ideal S1408x512 .f32 := extractStridedSlice S1408x512 ![7, 0] v6 slices_S1424x512_o7_0_S1408x512
  have cst_21 : Ideal .f32 := Scalar.ofBits .f32 0x00000000#32
  have v54 : IVec S1408x1 1 := shapeCast S1408x1 v52 shapeCasts_S1408x1_S1408x1
  have v55 : IVec S1408x512 1 := broadcastTo S1408x512 v54 broadcasts_S1408x1_S1408x512
  have v56 : FVec Ideal S1408x512 .f32 := broadcast S1408x512 cst_21
  have v57 : FVec Ideal S1408x512 .f32 := select v55 v53 v56
  have v59 : FVec Ideal S1408x512 .f32 := broadcastTo S1408x512 v58 broadcasts_S1x512_S1408x512
  have v60 : FVec Ideal S1408x512 .f32 := mulf v57 v59
  have v61 : FVec Ideal S1408x512 .f32 := addf v38 v60
  v61

theorem before_eq (w : BitVec 32) (v15 v34 : FVec Ideal S1408x512 .f32) (v35 v58 : Vec Ideal S1x512 .f32) : before v6 v10 w v15 v34 v35 v58 (ix2 r k)
    = v15 (ix2 r k) + v34 (ix2 r k) * v35 (ix2 0 k) + Scalar.select (earlierOk (v10 (ix2 r 0)) w) (v6 (ix2 ⟨7 + r.val, by omega⟩ k)) 0 * v58 (ix2 0 k) := by
  pointwise [before, earlierOk]

theorem sum_apply (v15 v34 : FVec Ideal S1408x512 .f32) (v35 v58 : Vec Ideal S1x512 .f32) : k0_pay6 v6 v10 v15 v34 v35 v58 (ix2 r k)
    = v15 (ix2 r k) + v34 (ix2 r k) * v35 (ix2 0 k) + Scalar.select (earlierOk (v10 (ix2 r 0)) 4294967295#32) (v6 (ix2 ⟨7 + r.val, by omega⟩ k)) 0 * v58 (ix2 0 k) := by
  have e : k0_pay6 v6 v10 v15 v34 v35 v58 = before v6 v10 4294967295#32 v15 v34 v35 v58 := rfl
  rw [e, before_eq]

theorem ok_apply : k0_pay7 v10 (ix2 r 0) = laterOk (v10 (ix2 r 0)) 1#32 := by
  pointwise [k0_pay7, laterOk]

theorem after_apply : k0_pay8 v6 (ix2 r k) = v6 (ix2 ⟨9 + r.val, by omega⟩ k) := by
  pointwise [k0_pay8]

theorem silu_apply (v61 : FVec Ideal S1408x512 .f32) (v75 : IVec S1408x1 1) (v76 : FVec Ideal S1408x512 .f32) (v81 v104 v108 : Vec Ideal S1x512 .f32) :
    k0_pay1 (k0_pay9 v6 v10 v61 v75 v76 (Scalar.ofBits .f32 0x00000000#32) v81 v104 v108) (ix3 0 r k)
      = Modulation.silu (v61 (ix2 r k) + Scalar.select (v75 (ix2 r 0)) (v76 (ix2 r k)) 0 * v81 (ix2 0 k)
        + Scalar.select (laterOk (v10 (ix2 r 0)) 2#32) (v6 (ix2 ⟨10 + r.val, by omega⟩ k)) 0 * v104 (ix2 0 k) + v108 (ix2 0 k)) := by
  pointwise [k0_pay1, k0_pay9, Modulation.silu, laterOk]
  simp only [sub_eq_add_neg (0 : EReal), zero_add]

end sum

theorem whole3 : (![0, 0, 0] : Fin 3 → ℕ) = fun _ => 0 := by decide

section tile

variable (i : grid0.Coords) (x0 : Vec Ideal S1x1408x512 .f32) (x1 x2 : Vec Ideal S1x8x512 .f32) (x3 : Vec Ideal S5x512 .f32) (x4 : Vec Ideal S1x512 .f32)

theorem row0 (k : Fin 512) : View.ld x3 r0_3 (ix2 0 k) = x3 (ix2 0 k) := congrArg x3 (funext fun a => match a with
  | ⟨0, _⟩ => rfl
  | ⟨1, _⟩ => Fin.ext (by show 0 + 1 * k.val = k.val; omega))

theorem row1 (k : Fin 512) : View.ld x3 r0_4 (ix2 0 k) = x3 (ix2 1 k) := congrArg x3 (funext fun a => match a with
  | ⟨0, _⟩ => rfl
  | ⟨1, _⟩ => Fin.ext (by show 0 + 1 * k.val = k.val; omega))

theorem row2 (k : Fin 512) : View.ld x3 r0_2 (ix2 0 k) = x3 (ix2 2 k) := congrArg x3 (funext fun a => match a with
  | ⟨0, _⟩ => rfl
  | ⟨1, _⟩ => Fin.ext (by show 0 + 1 * k.val = k.val; omega))

theorem row3 (k : Fin 512) : View.ld x3 r0_5 (ix2 0 k) = x3 (ix2 3 k) := congrArg x3 (funext fun a => match a with
  | ⟨0, _⟩ => rfl
  | ⟨1, _⟩ => Fin.ext (by show 0 + 1 * k.val = k.val; omega))

theorem row4 (k : Fin 512) : View.ld x3 r0_6 (ix2 0 k) = x3 (ix2 4 k) := congrArg x3 (funext fun a => match a with
  | ⟨0, _⟩ => rfl
  | ⟨1, _⟩ => Fin.ext (by show 0 + 1 * k.val = k.val; omega))

theorem centre_first (u a b d e : EReal) : u + a + b + d + e = a + b + u + d + e := by
  rw [add_comm u a, add_right_comm a u b]

theorem tile_apply (q : Fin 6) (hq : (i 1).val = q.val) (r : Fin 1408) (k : Fin 512) (U : Fin 8448 → EReal)
    (h0 : ∀ r : Fin 1408, x0 (ix3 0 r k) = U ⟨q.val * 1408 + r.val, by omega⟩)
    (h1 : ∀ s : Fin 8, x1 (ix3 0 s k) = U ⟨max (q.val * 176 - 1) 0 * 8 + s.val, by omega⟩)
    (h2 : ∀ s : Fin 8, x2 (ix3 0 s k) = U ⟨min ((q.val + 1) * 176) 1055 * 8 + s.val, by omega⟩) :
    out0_5 i x0 x1 x2 x3 x4 (ix3 0 r k) = Modulation.silu (taps U (fun d => x3 (ix2 d k)) ⟨q.val * 1408 + r.val, by omega⟩ + x4 (ix2 0 k)) := by
  have hE : Window U q (fun e => k0_pay2 x1 x0 x2 (ix2 e k)) :=
    window_of U q _ (fun s => x1 (ix3 0 s k)) (fun r => x0 (ix3 0 r k)) (fun s => x2 (ix3 0 s k)) h1 h0 h2 (fun e => window_apply x1 x0 x2 e k)
  have e1 := select_earlier hE r 0
  have e2 := select_earlier hE r 1
  have l1 := select_later hE r 0
  have l2 := select_later hE r 1
  rw [out0_5, View.canon_unit_zero (S := S1x1408x512) whole3]
  simp only [k0_pay10, k0_pay11, View.ld_unit_zero (S := S1x1408x512) whole3, View.ld_unit_zero (S := S1x8x512) whole3, View.ld_unit_zero (S := S1x512) Proj.whole]
  rw [silu_apply, ok_apply, after_apply, sum_apply, centre_apply, before_apply, position_apply, hq, row0, row1, row2, row3, row4, h0, taps]
  exact congrArg (fun s => Modulation.silu (s + x4 (ix2 0 k))) ((centre_first _ _ _ _ _).trans
    (congrArg₂ (· + ·) (congrArg₂ (· + ·) (congrArg (· + U ⟨q.val * 1408 + r.val, by omega⟩ * x3 (ix2 2 k))
      (congrArg₂ (· + ·) (congrArg (· * x3 (ix2 0 k)) e2) (congrArg (· * x3 (ix2 1 k)) e1))) (congrArg (· * x3 (ix2 3 k)) l1)) (congrArg (· * x3 (ix2 4 k)) l2)))

end tile

variable (m : (ℓ : Loc nD τ sig) → Buf (Elt Ideal) ℓ) (c : Dev nD) (t : Fin grid0.N)

/-- A grid point is a batch row, a tile of 1408 rows and one of 512 columns, in this order. -/
theorem idx : ∀ t : Fin grid0.N, win0_0.index t = ![t.val / 48, t.val / 8 % 6, 4 + t.val % 8]
    ∧ win0_1.index t = ![t.val / 48, max (t.val / 8 % 6 * 176 - 1) 0, 4 + t.val % 8] ∧ win0_2.index t = ![t.val / 48, min ((t.val / 8 % 6 + 1) * 176) 1055, 4 + t.val % 8]
    ∧ win0_3.index t = ![0, t.val % 8] ∧ win0_4.index t = ![0, t.val % 8] ∧ win0_5.index t = ![t.val / 48, t.val / 8 % 6, t.val % 8] := by decide +kernel

theorem coord : ∀ t : Fin grid0.N, (grid0.coords t 1).val = t.val / 8 % 6 := by decide +kernel

theorem point_lt : t.val < 96 := lt_of_lt_of_eq t.isLt Gen.N_0

abbrev bat : Fin 2 := ⟨t.val / 48, by have := point_lt t; omega⟩
abbrev pos : Fin 6 := ⟨t.val / 8 % 6, by omega⟩
abbrev col (k : Fin 512) : Fin 4096 := ⟨t.val % 8 * 512 + k.val, by omega⟩

section blocks

variable (k : Fin 512)

theorem rows_block (r : Fin 1408) : iblk m c 0 t (ix3 0 r k) = m ((c.tc : Thread nD τ).loc main_arg0) (ix3 (bat t) ⟨(pos t).val * 1408 + r.val, by omega⟩ ⟨2048 + (col t k).val, by omega⟩) := by
  have ht := point_lt t
  blk_point [iblk, V, idx t]

theorem before_block (s : Fin 8) : iblk m c 1 t (ix3 0 s k) = m ((c.tc : Thread nD τ).loc main_arg0) (ix3 (bat t) ⟨max ((pos t).val * 176 - 1) 0 * 8 + s.val, by omega⟩ ⟨2048 + (col t k).val, by omega⟩) := by
  have ht := point_lt t
  blk_point [iblk, V, idx t]

theorem after_block (s : Fin 8) : iblk m c 2 t (ix3 0 s k) = m ((c.tc : Thread nD τ).loc main_arg0) (ix3 (bat t) ⟨min (((pos t).val + 1) * 176) 1055 * 8 + s.val, by omega⟩ ⟨2048 + (col t k).val, by omega⟩) := by
  have ht := point_lt t
  blk_point [iblk, V, idx t]

theorem weight_block (d : Fin 5) : iblk m c 3 t (ix2 d k) = m ((c.tc : Thread nD τ).loc main_arg1) (ix2 d (col t k)) := by
  have ht := point_lt t
  blk_point [iblk, V, idx t]

theorem bias_block : iblk m c 4 t (ix2 0 k) = m ((c.tc : Thread nD τ).loc main_arg2) (ix1 (col t k)) := by
  have ht := point_lt t
  blk_point [iblk, V, hostOps0, idx t]

end blocks

theorem idx_block (j : S1x1408x512.Idx) : ∃ (r : Fin 1408) (k : Fin 512), j = ix3 0 r k :=
  ⟨j 1, j 2, funext fun x => match x with
    | ⟨0, _⟩ => Subsingleton.elim (α := Fin 1) _ _
    | ⟨1, _⟩ => rfl
    | ⟨2, _⟩ => rfl⟩

theorem array_eq {a0 : FVec Ideal S2x8448x6144 .f32} {a1 : FVec Ideal S5x4096 .f32} {a2 : FVec Ideal S4096 .f32}
    (h0 : m ((c.tc : Thread nD τ).loc main_arg0) = a0) (h1 : m ((c.tc : Thread nD τ).loc main_arg1) = a1)
    (h2 : m ((c.tc : Thread nD τ).loc main_arg2) = a2) : (dats m 0 c).arrAt 5 cfg0.N = result a0 a1 a2 := by
  refine (dats m 0 c).arrAt_eq_of_covers 5 _ (by decide +kernel) fun t hf y => ?_
  have ht := point_lt t
  blk_simp
  rw [after0_5]
  obtain ⟨r, k, rfl⟩ := idx_block y
  refine ((tile_apply (grid0.coords t) (iblk m c 0 t) (iblk m c 1 t) (iblk m c 2 t) (iblk m c 3 t) (iblk m c 4 t) (pos t) (coord t) r k
    (fun n => a0 (ix3 (bat t) n ⟨2048 + (col t k).val, by omega⟩)) (fun r => (rows_block m c t k r).trans (by rw [h0])) (fun s => (before_block m c t k s).trans (by rw [h0]))
    (fun s => (after_block m c t k s).trans (by rw [h0]))).trans ?_).trans
    (congrArg (result a0 a1 a2) (show ix3 (bat t) ⟨(pos t).val * 1408 + r.val, by omega⟩ (col t k) = _ from ?_))
  · rw [result_apply]
    simp only [weight_block, bias_block, h1, h2]
  · blk_ext [idx t]

theorem algebraic : Cert.algebraic_KernelCCIdeal_ReferenceCCIdeal := by
  intro m g m' g' hpre hagree
  refine ⟨fun c => (Cert.KernelCCIdeal.Gen.dats m 0 c).arrAt 5 Cert.KernelCCIdeal.cfg0.N, Cert.KernelCCIdeal.Value.run_blocks m g, ?_⟩
  refine (θ_run _ _ _).mono (fun r h c => ⟨(h c).1.trans ?_, (h c).2⟩) (Cert.ReferenceCCIdeal.Value.run m' g')
  obtain ⟨e0, e1, e2⟩ := hagree c
  exact (result_congr _ _ _ m' c e0 e1 e2).trans (array_eq m c rfl rfl rfl).symm

end kernel

end Cert.LongConv

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Attn.Final
public import proofs.«01_k».proof.Proof.Proj.A
public import proofs.«01_k».proof.Proof.Proj.B
public import proofs.«01_k».proof.Proof.Proj.C
public import proofs.«01_k».proof.Proof.Proj.G
public import proofs.«01_k».proof.Proof.Merge.Value
public import proofs.«01_k».proof.Proof.OutNorm.Reference
public import proofs.«01_k».proof.Proof.Modulation.Value
public import proofs.«01_k».proof.Proof.Prenorm.Value
public import proofs.«01_k».proof.Proof.ScanEnd.Value
public import proofs.«01_k».proof.Proof.Rotary.Value
public import proofs.«01_k».proof.Proof.Conv.Short
public import proofs.«01_k».proof.Proof.Conv.Long
public import proofs.«01_k».proof.Proof.Gen.KernelPAIdeal.Value
public import proofs.«01_k».proof.Proof.Gen.ReferencePAIdeal.Run
public import proofs.«01_k».proof.Proof.Gen.KernelPBIdeal.Value
public import proofs.«01_k».proof.Proof.Gen.ReferencePBIdeal.Run
public import proofs.«01_k».proof.Proof.Gen.KernelPCIdeal.Value
public import proofs.«01_k».proof.Proof.Gen.ReferencePCIdeal.Run
public import proofs.«01_k».proof.Proof.Gen.KernelPGIdeal.Value
public import proofs.«01_k».proof.Proof.Gen.ReferencePGIdeal.Run
public import proofs.«01_k».proof.Proof.Gen.KernelMIdeal.Value
public import proofs.«01_k».proof.Proof.Gen.ReferenceMIdeal.Run
public import proofs.«01_k».proof.Proof.Gen.KernelOIdeal.Value
public import proofs.«01_k».proof.Proof.Gen.ReferenceOIdeal.Run
public import proofs.«01_k».proof.Proof.Gen.KernelPA
public import proofs.«01_k».proof.Proof.Gen.KernelPA.Frame
public import proofs.«01_k».proof.Proof.Gen.KernelPAIdeal
public import proofs.«01_k».proof.Proof.Gen.KernelPAIdeal.Frame
public import proofs.«01_k».proof.Proof.Gen.ReferencePAIdeal
public import proofs.«01_k».proof.Proof.Gen.KernelPB
public import proofs.«01_k».proof.Proof.Gen.KernelPB.Frame
public import proofs.«01_k».proof.Proof.Gen.KernelPBIdeal
public import proofs.«01_k».proof.Proof.Gen.KernelPBIdeal.Frame
public import proofs.«01_k».proof.Proof.Gen.ReferencePBIdeal
public import proofs.«01_k».proof.Proof.Gen.KernelPC
public import proofs.«01_k».proof.Proof.Gen.KernelPC.Frame
public import proofs.«01_k».proof.Proof.Gen.KernelPCIdeal
public import proofs.«01_k».proof.Proof.Gen.KernelPCIdeal.Frame
public import proofs.«01_k».proof.Proof.Gen.ReferencePCIdeal
public import proofs.«01_k».proof.Proof.Gen.KernelPG
public import proofs.«01_k».proof.Proof.Gen.KernelPG.Frame
public import proofs.«01_k».proof.Proof.Gen.KernelPGIdeal
public import proofs.«01_k».proof.Proof.Gen.KernelPGIdeal.Frame
public import proofs.«01_k».proof.Proof.Gen.ReferencePGIdeal
public import proofs.«01_k».proof.Proof.Gen.KernelM
public import proofs.«01_k».proof.Proof.Gen.KernelM.Frame
public import proofs.«01_k».proof.Proof.Gen.KernelMIdeal
public import proofs.«01_k».proof.Proof.Gen.KernelMIdeal.Frame
public import proofs.«01_k».proof.Proof.Gen.ReferenceMIdeal
public import proofs.«01_k».proof.Proof.Gen.KernelO
public import proofs.«01_k».proof.Proof.Gen.KernelO.Frame
public import proofs.«01_k».proof.Proof.Gen.KernelOIdeal
public import proofs.«01_k».proof.Proof.Gen.KernelOIdeal.Frame
public import proofs.«01_k».proof.Proof.Gen.ReferenceOIdeal
public import proofs.«01_k».proof.Proof.Gen.KernelD
public import proofs.«01_k».proof.Proof.Gen.KernelD.Frame
public import proofs.«01_k».proof.Proof.Gen.KernelDIdeal
public import proofs.«01_k».proof.Proof.Gen.KernelDIdeal.Frame
public import proofs.«01_k».proof.Proof.Gen.KernelDIdeal.Value
public import proofs.«01_k».proof.Proof.Gen.ReferenceDIdeal
public import proofs.«01_k».proof.Proof.Gen.ReferenceDIdeal.Run
public import proofs.«01_k».proof.Proof.Gen.KernelN
public import proofs.«01_k».proof.Proof.Gen.KernelN.Frame
public import proofs.«01_k».proof.Proof.Gen.KernelNIdeal
public import proofs.«01_k».proof.Proof.Gen.KernelNIdeal.Frame
public import proofs.«01_k».proof.Proof.Gen.KernelNIdeal.Value
public import proofs.«01_k».proof.Proof.Gen.ReferenceNIdeal
public import proofs.«01_k».proof.Proof.Gen.ReferenceNIdeal.Run
public import proofs.«01_k».proof.Proof.Gen.KernelF
public import proofs.«01_k».proof.Proof.Gen.KernelF.Frame
public import proofs.«01_k».proof.Proof.Gen.KernelFIdeal
public import proofs.«01_k».proof.Proof.Gen.KernelFIdeal.Frame
public import proofs.«01_k».proof.Proof.Gen.KernelFIdeal.Value
public import proofs.«01_k».proof.Proof.Gen.ReferenceFIdeal
public import proofs.«01_k».proof.Proof.Gen.ReferenceFIdeal.Run
public import proofs.«01_k».proof.Proof.Gen.KernelR
public import proofs.«01_k».proof.Proof.Gen.KernelR.Frame
public import proofs.«01_k».proof.Proof.Gen.KernelRIdeal
public import proofs.«01_k».proof.Proof.Gen.KernelRIdeal.Frame
public import proofs.«01_k».proof.Proof.Gen.KernelRIdeal.Value
public import proofs.«01_k».proof.Proof.Gen.ReferenceRIdeal
public import proofs.«01_k».proof.Proof.Gen.ReferenceRIdeal.Run
public import proofs.«01_k».proof.Proof.Gen.KernelCA
public import proofs.«01_k».proof.Proof.Gen.KernelCA.Frame
public import proofs.«01_k».proof.Proof.Gen.KernelCAIdeal
public import proofs.«01_k».proof.Proof.Gen.KernelCAIdeal.Frame
public import proofs.«01_k».proof.Proof.Gen.KernelCAIdeal.Value
public import proofs.«01_k».proof.Proof.Gen.ReferenceCAIdeal
public import proofs.«01_k».proof.Proof.Gen.ReferenceCAIdeal.Run
public import proofs.«01_k».proof.Proof.Gen.KernelCC
public import proofs.«01_k».proof.Proof.Gen.KernelCC.Frame
public import proofs.«01_k».proof.Proof.Gen.KernelCCIdeal
public import proofs.«01_k».proof.Proof.Gen.KernelCCIdeal.Frame
public import proofs.«01_k».proof.Proof.Gen.KernelCCIdeal.Value
public import proofs.«01_k».proof.Proof.Gen.ReferenceCCIdeal
public import proofs.«01_k».proof.Proof.Gen.ReferenceCCIdeal.Run
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.KernelPA.Gen.facts, Cert.KernelPAIdeal.Gen.facts, Cert.ReferencePAIdeal.Gen.facts,
  Cert.KernelPB.Gen.facts, Cert.KernelPBIdeal.Gen.facts, Cert.ReferencePBIdeal.Gen.facts,
  Cert.KernelPC.Gen.facts, Cert.KernelPCIdeal.Gen.facts, Cert.ReferencePCIdeal.Gen.facts,
  Cert.KernelPG.Gen.facts, Cert.KernelPGIdeal.Gen.facts, Cert.ReferencePGIdeal.Gen.facts,
  Cert.KernelM.Gen.facts, Cert.KernelMIdeal.Gen.facts, Cert.ReferenceMIdeal.Gen.facts,
  Cert.KernelO.Gen.facts, Cert.KernelOIdeal.Gen.facts, Cert.ReferenceOIdeal.Gen.facts,
  Cert.KernelD.Gen.facts, Cert.KernelDIdeal.Gen.facts, Cert.ReferenceDIdeal.Gen.facts,
  Cert.KernelN.Gen.facts, Cert.KernelNIdeal.Gen.facts, Cert.ReferenceNIdeal.Gen.facts,
  Cert.KernelF.Gen.facts, Cert.KernelFIdeal.Gen.facts, Cert.ReferenceFIdeal.Gen.facts,
  Cert.KernelR.Gen.facts, Cert.KernelRIdeal.Gen.facts, Cert.ReferenceRIdeal.Gen.facts,
  Cert.KernelCA.Gen.facts, Cert.KernelCAIdeal.Gen.facts, Cert.ReferenceCAIdeal.Gen.facts,
  Cert.KernelCC.Gen.facts, Cert.KernelCCIdeal.Gen.facts, Cert.ReferenceCCIdeal.Gen.facts,
  Cert.Pre_finite.Gen.facts,
  fun m g _ => Cert.Kernel.Gen.frame m g, fun m g _ => Cert.KernelIdeal.Gen.frame m g, fun m g _ => Cert.KernelIdeal.Gen.frame m g,
  frame_reference, fun m g _ => frame_reference m g trivial,
  fun m g _ => Cert.KernelPA.Gen.frame m g, fun m g _ => Cert.KernelPAIdeal.Gen.frame m g, Cert.ProjA.frame_reference,
  fun m g _ => Cert.KernelPB.Gen.frame m g, fun m g _ => Cert.KernelPBIdeal.Gen.frame m g, Cert.ProjB.frame_reference,
  fun m g _ => Cert.KernelPC.Gen.frame m g, fun m g _ => Cert.KernelPCIdeal.Gen.frame m g, Cert.ProjC.frame_reference,
  fun m g _ => Cert.KernelPG.Gen.frame m g, fun m g _ => Cert.KernelPGIdeal.Gen.frame m g, Cert.ProjG.frame_reference,
  fun m g _ => Cert.KernelM.Gen.frame m g, fun m g _ => Cert.KernelMIdeal.Gen.frame m g, Cert.Merge.frame_reference,
  fun m g _ => Cert.KernelO.Gen.frame m g, fun m g _ => Cert.KernelOIdeal.Gen.frame m g, Cert.OutNorm.frame_reference,
  fun m g _ => Cert.KernelD.Gen.frame m g, fun m g _ => Cert.KernelDIdeal.Gen.frame m g, Cert.Modulation.frame_reference,
  fun m g _ => Cert.KernelN.Gen.frame m g, fun m g _ => Cert.KernelNIdeal.Gen.frame m g, Cert.Prenorm.frame_reference,
  fun m g _ => Cert.KernelF.Gen.frame m g, fun m g _ => Cert.KernelFIdeal.Gen.frame m g, Cert.ScanEnd.frame_reference,
  fun m g _ => Cert.KernelR.Gen.frame m g, fun m g _ => Cert.KernelRIdeal.Gen.frame m g, Cert.Rotary.frame_reference,
  fun m g _ => Cert.KernelCA.Gen.frame m g, fun m g _ => Cert.KernelCAIdeal.Gen.frame m g, Cert.ShortConv.frame_reference,
  fun m g _ => Cert.KernelCC.Gen.frame m g, fun m g _ => Cert.KernelCCIdeal.Gen.frame m g, Cert.LongConv.frame_reference,
  trivial, algebraic, trivial, Cert.ProjA.algebraic, trivial, Cert.ProjB.algebraic, trivial, Cert.ProjC.algebraic, trivial, Cert.ProjG.algebraic, trivial, Cert.Merge.algebraic, trivial, Cert.OutNorm.algebraic,
  trivial, Cert.Modulation.algebraic, trivial, Cert.Prenorm.algebraic, trivial, Cert.ScanEnd.algebraic, trivial, Cert.Rotary.algebraic, trivial, Cert.ShortConv.algebraic, trivial, Cert.LongConv.algebraic⟩

end Cert.Proof

end
